-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v81)) (v2 : (c : Dev Cert.KernelIdeal.nD) → Buf (Elt Ideal) ((c.tc : Thread Cert.KernelIdeal.nD Cert.KernelIdeal.τ).loc Cert.KernelIdeal.main_v82)) (v3 : (c : Dev Cert.KernelIdeal.nD) → Buf (Elt Ideal) ((c.tc : Thread Cert.KernelIdeal.nD Cert.KernelIdeal.τ).loc Cert.KernelIdeal.main_v84)) (v4 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_v84) = v3 c
          ∧ r.2.mem ((c.tc : Thread Cert.KernelIdeal.nD Cert.KernelIdeal.τ).loc Cert.KernelIdeal.main_v85) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)) (v3 : (c : Dev Cert.Kernel3Ideal.nD) → Buf (Elt Ideal) ((c.tc : Thread Cert.Kernel3Ideal.nD Cert.Kernel3Ideal.τ).loc Cert.Kernel3Ideal.main_v38_3)) (v4 : (c : Dev Cert.Kernel3Ideal.nD) → Buf (Elt Ideal) ((c.tc : Thread Cert.Kernel3Ideal.nD Cert.Kernel3Ideal.τ).loc Cert.Kernel3Ideal.main_v38_4)) (v5 : (c : Dev Cert.Kernel3Ideal.nD) → Buf (Elt Ideal) ((c.tc : Thread Cert.Kernel3Ideal.nD Cert.Kernel3Ideal.τ).loc Cert.Kernel3Ideal.main_v38_5)) (v6 : (c : Dev Cert.Kernel3Ideal.nD) → Buf (Elt Ideal) ((c.tc : Thread Cert.Kernel3Ideal.nD Cert.Kernel3Ideal.τ).loc Cert.Kernel3Ideal.main_v38_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_v38_3) = v3 c
          ∧ r.2.mem ((c.tc : Thread Cert.Kernel3Ideal.nD Cert.Kernel3Ideal.τ).loc Cert.Kernel3Ideal.main_v38_4) = v4 c
          ∧ r.2.mem ((c.tc : Thread Cert.Kernel3Ideal.nD Cert.Kernel3Ideal.τ).loc Cert.Kernel3Ideal.main_v38_5) = v5 c
          ∧ r.2.mem ((c.tc : Thread Cert.Kernel3Ideal.nD Cert.Kernel3Ideal.τ).loc Cert.Kernel3Ideal.main_v38_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v110) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_v111) = v2 c
          ∧ r.2.mem ((c.tc : Thread Cert.Reference3Ideal.nD Cert.Reference3Ideal.τ).loc Cert.Reference3Ideal.main_v112) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v116) = v5 c
          ∧ r.2.mem ((c.tc : Thread Cert.Reference3Ideal.nD Cert.Reference3Ideal.τ).loc Cert.Reference3Ideal.main_v117) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v32) = v0 c
          ∧ r.2.mem ((c.tc : Thread Cert.Reference6Ideal.nD Cert.Reference6Ideal.τ).loc Cert.Reference6Ideal.main_v75) = v1 c
          ∧ r.2.mem ((c.tc : Thread Cert.Reference6Ideal.nD Cert.Reference6Ideal.τ).loc Cert.Reference6Ideal.main_v68) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_v12) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_v12) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel3 : Cert.Kernel3.Facts) (hKernel3Ideal : Cert.Kernel3Ideal.Facts) (hReference3Ideal : Cert.Reference3Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel3_Kernel3Ideal
    ∧ algebraic_Kernel3Ideal_Reference3Ideal (hKernel3Ideal := hKernel3Ideal) (hReference3Ideal := hReference3Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8448x4x128 : Shape := ⟨3, ![8448, 4, 128]⟩
abbrev S8448x4x64 : Shape := ⟨3, ![8448, 4, 64]⟩
abbrev S8448x64 : Shape := ⟨2, ![8448, 64]⟩
abbrev S_ : Shape := ⟨0, ![]⟩

class Facts : Prop where
  bcast_S_S8448x4x128 : S_.BroadcastsInDim S8448x4x128 (![] : Fin 0 → Fin S8448x4x128.rank)
  bcast_S_S8448x4x64 : S_.BroadcastsInDim S8448x4x64 (![] : Fin 0 → Fin S8448x4x64.rank)
  bcast_S_S8448x64 : S_.BroadcastsInDim S8448x64 (![] : Fin 0 → Fin S8448x64.rank)

variable [Facts]

def fn_part1 {F : FTy → Type} [FloatOps F] (main_arg3 : FVec F S8448x64 .f32) (main_arg4 : FVec F S8448x4x128 .f32) (main_arg5 : FVec F S8448x4x128 .f32) (main_v4 : IVec S8448x4x128 1) (main_v9 : IVec S8448x4x64 1) (main_v14 : IVec S8448x4x128 1) (main_v16 : IVec S8448x64 1) : IVec S8448x4x128 1 × IVec S8448x4x64 1 × IVec S8448x4x128 1 × IVec S8448x64 1 × IVec S8448x4x128 1 × IVec S8448x4x128 1 :=
  let main_cst_6 : FVec F S_ .f32 := constant S_ .f32 0x7F800000#32
  let main_v17 : FVec F S8448x64 .f32 := broadcastInDim S8448x64 ![] bcast_S_S8448x64 main_cst_6
  let main_v18 : IVec S8448x64 1 := cmpf .olt main_arg3 main_v17
  let main_v19 : IVec S8448x64 1 := andi main_v16 main_v18
  let main_cst_7 : FVec F S_ .f32 := constant S_ .f32 0xFF800000#32
  let main_v20 : FVec F S8448x4x128 .f32 := broadcastInDim S8448x4x128 ![] bcast_S_S8448x4x128 main_cst_7
  let main_v21 : IVec S8448x4x128 1 := cmpf .ogt main_arg4 main_v20
  let main_cst_8 : FVec F S_ .f32 := constant S_ .f32 0x7F800000#32
  let main_v22 : FVec F S8448x4x128 .f32 := broadcastInDim S8448x4x128 ![] bcast_S_S8448x4x128 main_cst_8
  let main_v23 : IVec S8448x4x128 1 := cmpf .olt main_arg4 main_v22
  let main_v24 : IVec S8448x4x128 1 := andi main_v21 main_v23
  let main_cst_9 : FVec F S_ .f32 := constant S_ .f32 0xFF800000#32
  let main_v25 : FVec F S8448x4x128 .f32 := broadcastInDim S8448x4x128 ![] bcast_S_S8448x4x128 main_cst_9
  let main_v26 : IVec S8448x4x128 1 := cmpf .ogt main_arg5 main_v25
  let main_cst_10 : FVec F S_ .f32 := constant S_ .f32 0x7F800000#32
  let main_v27 : FVec F S8448x4x128 .f32 := broadcastInDim S8448x4x128 ![] bcast_S_S8448x4x128 main_cst_10
  let main_v28 : IVec S8448x4x128 1 := cmpf .olt main_arg5 main_v27
  let main_v29 : IVec S8448x4x128 1 := andi main_v26 main_v28
  (main_v4, main_v9, main_v14, main_v19, main_v24, main_v29)

def fn {F : FTy → Type} [FloatOps F] (main_arg0 : FVec F S8448x4x128 .f32) (main_arg1 : FVec F S8448x4x64 .f32) (main_arg2 : FVec F S8448x4x128 .f32) (main_arg3 : FVec F S8448x64 .f32) (main_arg4 : FVec F S8448x4x128 .f32) (main_arg5 : FVec F S8448x4x128 .f32) : IVec S8448x4x128 1 × IVec S8448x4x64 1 × IVec S8448x4x128 1 × IVec S8448x64 1 × IVec S8448x4x128 1 × IVec S8448x4x128 1 :=
  let main_cst : FVec F S_ .f32 := constant S_ .f32 0xFF800000#32
  let main_v0 : FVec F S8448x4x128 .f32 := broadcastInDim S8448x4x128 ![] bcast_S_S8448x4x128 main_cst
  let main_v1 : IVec S8448x4x128 1 := cmpf .ogt main_arg0 main_v0
  let main_cst_0 : FVec F S_ .f32 := constant S_ .f32 0x7F800000#32
  let main_v2 : FVec F S8448x4x128 .f32 := broadcastInDim S8448x4x128 ![] bcast_S_S8448x4x128 main_cst_0
  let main_v3 : IVec S8448x4x128 1 := cmpf .olt main_arg0 main_v2
  let main_v4 : IVec S8448x4x128 1 := andi main_v1 main_v3
  let main_cst_1 : FVec F S_ .f32 := constant S_ .f32 0xFF800000#32
  let main_v5 : FVec F S8448x4x64 .f32 := broadcastInDim S8448x4x64 ![] bcast_S_S8448x4x64 main_cst_1
  let main_v6 : IVec S8448x4x64 1 := cmpf .ogt main_arg1 main_v5
  let main_cst_2 : FVec F S_ .f32 := constant S_ .f32 0x7F800000#32
  let main_v7 : FVec F S8448x4x64 .f32 := broadcastInDim S8448x4x64 ![] bcast_S_S8448x4x64 main_cst_2
  let main_v8 : IVec S8448x4x64 1 := cmpf .olt main_arg1 main_v7
  let main_v9 : IVec S8448x4x64 1 := andi main_v6 main_v8
  let main_cst_3 : FVec F S_ .f32 := constant S_ .f32 0xFF800000#32
  let main_v10 : FVec F S8448x4x128 .f32 := broadcastInDim S8448x4x128 ![] bcast_S_S8448x4x128 main_cst_3
  let main_v11 : IVec S8448x4x128 1 := cmpf .ogt main_arg2 main_v10
  let main_cst_4 : FVec F S_ .f32 := constant S_ .f32 0x7F800000#32
  let main_v12 : FVec F S8448x4x128 .f32 := broadcastInDim S8448x4x128 ![] bcast_S_S8448x4x128 main_cst_4
  let main_v13 : IVec S8448x4x128 1 := cmpf .olt main_arg2 main_v12
  let main_v14 : IVec S8448x4x128 1 := andi main_v11 main_v13
  let main_cst_5 : FVec F S_ .f32 := constant S_ .f32 0xFF800000#32
  let main_v15 : FVec F S8448x64 .f32 := broadcastInDim S8448x64 ![] bcast_S_S8448x64 main_cst_5
  let main_v16 : IVec S8448x64 1 := cmpf .ogt main_arg3 main_v15
  fn_part1 (F := F) main_arg3 main_arg4 main_arg5 main_v4 main_v9 main_v14 main_v16
-- ==== Kernel.lean ====
abbrev S8448x4x128 : Shape := ⟨3, ![8448, 4, 128]⟩
abbrev S8448x4x64 : Shape := ⟨3, ![8448, 4, 64]⟩
abbrev S8448x64 : Shape := ⟨2, ![8448, 64]⟩
abbrev S_ : Shape := ⟨0, ![]⟩
abbrev S8448x4x256 : Shape := ⟨3, ![8448, 4, 256]⟩
abbrev S8448x1024 : Shape := ⟨2, ![8448, 1024]⟩
abbrev S8448x1x64 : Shape := ⟨3, ![8448, 1, 64]⟩
abbrev S256x4x128 : Shape := ⟨3, ![256, 4, 128]⟩
abbrev S256x4x64 : Shape := ⟨3, ![256, 4, 64]⟩
abbrev S256x64 : Shape := ⟨2, ![256, 64]⟩
abbrev S4x256x256 : Shape := ⟨3, ![4, 256, 256]⟩
abbrev S256x256x4 : Shape := ⟨3, ![256, 256, 4]⟩
abbrev S4x256 : Shape := ⟨2, ![4, 256]⟩
abbrev S4x256x1 : Shape := ⟨3, ![4, 256, 1]⟩
abbrev S4x128x256 : Shape := ⟨3, ![4, 128, 256]⟩
abbrev S8192x4x128 : Shape := ⟨3, ![8192, 4, 128]⟩
abbrev S8192x4x64 : Shape := ⟨3, ![8192, 4, 64]⟩
abbrev S4x8192x8448 : Shape := ⟨3, ![4, 8192, 8448]⟩
abbrev S8448x8192x4 : Shape := ⟨3, ![8448, 8192, 4]⟩
abbrev S4x8192 : Shape := ⟨2, ![4, 8192]⟩
abbrev S4x8192x1 : Shape := ⟨3, ![4, 8192, 1]⟩
abbrev S4x128x8192 : Shape := ⟨3, ![4, 128, 8192]⟩
abbrev S4x8448 : Shape := ⟨2, ![4, 8448]⟩
abbrev S8448x4 : Shape := ⟨2, ![8448, 4]⟩
abbrev S8448x512 : Shape := ⟨2, ![8448, 512]⟩
abbrev S8x8448 : Shape := ⟨2, ![8, 8448]⟩
abbrev S768x256 : Shape := ⟨2, ![768, 256]⟩
abbrev S768x128 : Shape := ⟨2, ![768, 128]⟩
abbrev S8448x256 : Shape := ⟨2, ![8448, 256]⟩
abbrev S8448x128 : Shape := ⟨2, ![8448, 128]⟩
abbrev S2 : Shape := ⟨1, ![2]⟩
abbrev S1 : Shape := ⟨1, ![1]⟩
abbrev S256x256 : Shape := ⟨2, ![256, 256]⟩
abbrev S256x128 : Shape := ⟨2, ![256, 128]⟩
abbrev S1x256 : Shape := ⟨2, ![1, 256]⟩
abbrev S768x1 : Shape := ⟨2, ![768, 1]⟩
abbrev S1024x256 : Shape := ⟨2, ![1024, 256]⟩
abbrev S1024x128 : Shape := ⟨2, ![1024, 128]⟩
abbrev S768x1024 : Shape := ⟨2, ![768, 1024]⟩
abbrev S1x1024 : Shape := ⟨2, ![1, 1024]⟩

abbrev nBuf : Space → Nat
  | .hbm => 107
  | .vmem => 16
  | .smem => 0
  | _ => 0

abbrev bufTy : (tb : Table) → Fin (tcTables nBuf tb) → BufTy
  | .hbm, ⟨0, _⟩ => ⟨S8448x4x128, .f32⟩
  | .hbm, ⟨1, _⟩ => ⟨S8448x4x64, .f32⟩
  | .hbm, ⟨2, _⟩ => ⟨S8448x4x128, .f32⟩
  | .hbm, ⟨3, _⟩ => ⟨S8448x64, .f32⟩
  | .hbm, ⟨4, _⟩ => ⟨S8448x4x128, .f32⟩
  | .hbm, ⟨5, _⟩ => ⟨S8448x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8448x4x64, .f32⟩
  | .hbm, ⟨14, _⟩ => ⟨S8448x4x256, .f32⟩
  | .hbm, ⟨15, _⟩ => ⟨S8448x1024, .f32⟩
  | .hbm, ⟨16, _⟩ => ⟨S8448x1024, .f32⟩
  | .hbm, ⟨17, _⟩ => ⟨S8448x1024, .f32⟩
  | .hbm, ⟨18, _⟩ => ⟨S8448x1024, .bf16⟩
  | .hbm, ⟨19, _⟩ => ⟨S8448x1x64, .f32⟩
  | .hbm, ⟨20, _⟩ => ⟨S8448x4x64, .f32⟩
  | .hbm, ⟨21, _⟩ => ⟨S8448x4x256, .f32⟩
  | .hbm, ⟨22, _⟩ => ⟨S8448x1024, .f32⟩
  | .hbm, ⟨23, _⟩ => ⟨S8448x1024, .bf16⟩
  | .hbm, ⟨24, _⟩ => ⟨S256x4x128, .f32⟩
  | .hbm, ⟨25, _⟩ => ⟨S256x4x64, .f32⟩
  | .hbm, ⟨26, _⟩ => ⟨S256x4x128, .f32⟩
  | .hbm, ⟨27, _⟩ => ⟨S256x64, .f32⟩
  | .hbm, ⟨28, _⟩ => ⟨S256x4x128, .f32⟩
  | .hbm, ⟨29, _⟩ => ⟨S4x256x256, .f32⟩
  | .hbm, ⟨30, _⟩ => ⟨S256x256x4, .f32⟩
  | .hbm, ⟨31, _⟩ => ⟨S4x256x256, .f32⟩
  | .hbm, ⟨32, _⟩ => ⟨S4x256x256, .f32⟩
  | .hbm, ⟨33, _⟩ => ⟨S_, .f32⟩
  | .hbm, ⟨34, _⟩ => ⟨S4x256x256, .f32⟩
  | .hbm, ⟨35, _⟩ => ⟨S4x256x256, .f32⟩
  | .hbm, ⟨36, _⟩ => ⟨S_, .f32⟩
  | .hbm, ⟨37, _⟩ => ⟨S4x256, .f32⟩
  | .hbm, ⟨38, _⟩ => ⟨S4x256x1, .f32⟩
  | .hbm, ⟨39, _⟩ => ⟨S4x256x256, .f32⟩
  | .hbm, ⟨40, _⟩ => ⟨S4x256x256, .f32⟩
  | .hbm, ⟨41, _⟩ => ⟨S4x256x256, .f32⟩
  | .hbm, ⟨42, _⟩ => ⟨S_, .f32⟩
  | .hbm, ⟨43, _⟩ => ⟨S4x256, .f32⟩
  | .hbm, ⟨44, _⟩ => ⟨S4x256x1, .f32⟩
  | .hbm, ⟨45, _⟩ => ⟨S4x256x256, .f32⟩
  | .hbm, ⟨46, _⟩ => ⟨S4x256x256, .f32⟩
  | .hbm, ⟨47, _⟩ => ⟨S4x128x256, .f32⟩
  | .hbm, ⟨48, _⟩ => ⟨S256x4x128, .f32⟩
  | .hbm, ⟨49, _⟩ => ⟨S4x256x1, .f32⟩
  | .hbm, ⟨50, _⟩ => ⟨S4x256x1, .f32⟩
  | .hbm, ⟨51, _⟩ => ⟨S4x256, .f32⟩
  | .hbm, ⟨52, _⟩ => ⟨S8192x4x128, .f32⟩
  | .hbm, ⟨53, _⟩ => ⟨S8192x4x64, .f32⟩
  | .hbm, ⟨54, _⟩ => ⟨S4x8192x8448, .f32⟩
  | .hbm, ⟨55, _⟩ => ⟨S8448x8192x4, .f32⟩
  | .hbm, ⟨56, _⟩ => ⟨S4x8192x8448, .f32⟩
  | .hbm, ⟨57, _⟩ => ⟨S4x8192x8448, .f32⟩
  | .hbm, ⟨58, _⟩ => ⟨S_, .f32⟩
  | .hbm, ⟨59, _⟩ => ⟨S4x8192x8448, .f32⟩
  | .hbm, ⟨60, _⟩ => ⟨S4x8192x8448, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S4x8192x8448, .f32⟩
  | .hbm, ⟨65, _⟩ => ⟨S4x8192x8448, .f32⟩
  | .hbm, ⟨66, _⟩ => ⟨S4x8192x8448, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S4x8192x8448, .f32⟩
  | .hbm, ⟨71, _⟩ => ⟨S4x8192x8448, .f32⟩
  | .hbm, ⟨72, _⟩ => ⟨S4x128x8192, .f32⟩
  | .hbm, ⟨73, _⟩ => ⟨S8192x4x128, .f32⟩
  | .hbm, ⟨74, _⟩ => ⟨S4x8192x1, .f32⟩
  | .hbm, ⟨75, _⟩ => ⟨S4x8192x1, .f32⟩
  | .hbm, ⟨76, _⟩ => ⟨S4x8192, .f32⟩
  | .hbm, ⟨77, _⟩ => ⟨S4x8448, .f32⟩
  | .hbm, ⟨78, _⟩ => ⟨S4x8448, .f32⟩
  | .hbm, ⟨79, _⟩ => ⟨S4x8448, .f32⟩
  | .hbm, ⟨80, _⟩ => ⟨S8448x4x128, .f32⟩
  | .hbm, ⟨81, _⟩ => ⟨S8448x4x128, .f32⟩
  | .hbm, ⟨82, _⟩ => ⟨S_, .f32⟩
  | .hbm, ⟨83, _⟩ => ⟨S8448x4, .f32⟩
  | .hbm, ⟨84, _⟩ => ⟨S4x8448, .f32⟩
  | .hbm, ⟨85, _⟩ => ⟨S_, .f32⟩
  | .hbm, ⟨86, _⟩ => ⟨S4x8448, .f32⟩
  | .hbm, ⟨87, _⟩ => ⟨S8448x512, .f32⟩
  | .hbm, ⟨88, _⟩ => ⟨S8448x512, .bf16⟩
  | .hbm, ⟨89, _⟩ => ⟨S8x8448, .f32⟩
  | .hbm, ⟨90, _⟩ => ⟨S8x8448, .f32⟩
  | .hbm, ⟨91, _⟩ => ⟨S8448x512, .f32⟩
  | .hbm, ⟨92, _⟩ => ⟨S8448x512, .bf16⟩
  | .hbm, ⟨93, _⟩ => ⟨S8448x1024, .f32⟩
  | .hbm, ⟨94, _⟩ => ⟨S8448x1024, .f32⟩
  | .hbm, ⟨95, _⟩ => ⟨S8448x512, .f32⟩
  | .hbm, ⟨96, _⟩ => ⟨S8448x4x256, .f32⟩
  | .hbm, ⟨97, _⟩ => ⟨S8448x4x256, .f32⟩
  | .hbm, ⟨98, _⟩ => ⟨S8448x4x256, .f32⟩
  | .hbm, ⟨99, _⟩ => ⟨S8448x4x256, .f32⟩
  | .hbm, ⟨100, _⟩ => ⟨S8448x4x128, .f32⟩
  | .hbm, ⟨101, _⟩ => ⟨S8448x4x64, .f32⟩
  | .hbm, ⟨102, _⟩ => ⟨S8448x4x128, .f32⟩
  | .hbm, ⟨103, _⟩ => ⟨S8448x4x64, .f32⟩
  | .hbm, ⟨104, _⟩ => ⟨S_, .f32⟩
  | .hbm, ⟨105, _⟩ => ⟨S8448x64, .f32⟩
  | .hbm, ⟨106, _⟩ => ⟨S8448x4x128, .f32⟩
  | .local _ .vmem, ⟨0, _⟩ => ⟨S768x256, .bf16⟩
  | .local _ .vmem, ⟨1, _⟩ => ⟨S768x256, .bf16⟩
  | .local _ .vmem, ⟨2, _⟩ => ⟨S768x128, .bf16⟩
  | .local _ .vmem, ⟨3, _⟩ => ⟨S768x128, .bf16⟩
  | .local _ .vmem, ⟨4, _⟩ => ⟨S8x8448, .f32⟩
  | .local _ .vmem, ⟨5, _⟩ => ⟨S8x8448, .f32⟩
  | .local _ .vmem, ⟨6, _⟩ => ⟨S8448x256, .f32⟩
  | .local _ .vmem, ⟨7, _⟩ => ⟨S8448x256, .f32⟩
  | .local _ .vmem, ⟨8, _⟩ => ⟨S768x256, .f32⟩
  | .local _ .vmem, ⟨9, _⟩ => ⟨S768x256, .f32⟩
  | .local _ .vmem, ⟨10, _⟩ => ⟨S768x128, .f32⟩
  | .local _ .vmem, ⟨11, _⟩ => ⟨S768x128, .f32⟩
  | .local _ .vmem, ⟨12, _⟩ => ⟨S8448x256, .bf16⟩
  | .local _ .vmem, ⟨13, _⟩ => ⟨S8448x128, .bf16⟩
  | .local _ .vmem, ⟨14, _⟩ => ⟨S768x256, .f32⟩
  | .local _ .vmem, ⟨15, _⟩ => ⟨S768x128, .f32⟩
  | _, _ => ⟨S8448x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_cst_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75_0 : Ref sig .tc := ⟨.hbm, 93, rfl⟩
abbrev main_v75_1 : Ref sig .tc := ⟨.hbm, 94, rfl⟩
abbrev main_v75_2 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c256_i32 : BitVec 32 := 256#32
  let v28 : BitVec 32 := Scalar.muli arg0 c256_i32
  v28
def k0_off1 (i : grid0.Coords) : Fin 2 → Nat :=
  let c0_i32_24 : BitVec 32 := 0#32
  let arg0 : BitVec 32 := BitVec.ofNat 32 (i 0).val
  let c256_i32 : BitVec 32 := 256#32
  let v28 : BitVec 32 := Scalar.muli arg0 c256_i32
  let v29 : BitVec 32 := v28
  ![0, v29.toNat]
def k0_mult2 (i : grid0.Coords) : BitVec 32 :=
  let arg0 : BitVec 32 := BitVec.ofNat 32 (i 0).val
  let c128_i32 : BitVec 32 := 128#32
  let v36 : BitVec 32 := Scalar.muli arg0 c128_i32
  v36
def k0_off2 (i : grid0.Coords) : Fin 2 → Nat :=
  let c0_i32_28 : BitVec 32 := 0#32
  let arg0 : BitVec 32 := BitVec.ofNat 32 (i 0).val
  let c128_i32 : BitVec 32 := 128#32
  let v36 : BitVec 32 := Scalar.muli arg0 c128_i32
  let v37 : BitVec 32 := v36
  ![0, v37.toNat]
def k0_cond2 (i : grid0.Coords) : BitVec 1 :=
  let arg1 : BitVec 32 := BitVec.ofNat 32 (i 1).val
  let c0_i32_9 : BitVec 32 := 0#32
  let v15 : BitVec 1 := Scalar.cmpi .eq arg1 c0_i32_9
  let v16 : BitVec 32 := Scalar.extui v15
  let c0_i32_10 : BitVec 32 := 0#32
  let v17 : BitVec 1 := Scalar.cmpi .ne v16 c0_i32_10
  v17

def k0_off3 (i : grid0.Coords) : Fin 2 → Nat :=
  let arg0 : BitVec 32 := BitVec.ofNat 32 (i 0).val
  let v31 : Index := Scalar.indexCast arg0
  let c0_28 : Index := 0#32
  ![v31.toNat, 0]
@[reducible] def k0_t1_loop : Scf.Loop 32 :=
  let c0_i32_11 : BitVec 32 := 0#32
  let c8_i32 : BitVec 32 := 8#32
  let v18 : BitVec 32 := Scalar.addi c0_i32_11 c8_i32
  let c1_i32 : BitVec 32 := 1#32
  ⟨c0_i32_11, v18, c1_i32⟩
def k0_mult3 (k0_t1 : Fin k0_t1_loop.trips) : BitVec 32 :=
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  v29
def k0_off4 (k0_t1 : Fin k0_t1_loop.trips) : Fin 2 → Nat :=
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  let v30 : BitVec 32 := v29
  let v31 : Index := Scalar.indexCast v30
  let c0_23 : Index := 0#32
  ![v31.toNat, 0]
def k0_off5 (k0_t1 : Fin k0_t1_loop.trips) : Fin 2 → Nat :=
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  let v30 : BitVec 32 := v29
  let v33 : Index := Scalar.indexCast v30
  let c0_24 : Index := 0#32
  ![v33.toNat, 0]
def k0_off6 (i : grid0.Coords) (k0_t1 : Fin k0_t1_loop.trips) : Fin 2 → Nat :=
  let arg0 : BitVec 32 := BitVec.ofNat 32 (i 0).val
  let v36 : Index := Scalar.indexCast arg0
  let c256_i32 : BitVec 32 := 256#32
  let c0_i32_11 : BitVec 32 := 0#32
  let c1_i32 : BitVec 32 := 1#32
  let arg16 : BitVec 32 := Scf.iv c0_i32_11 c1_i32 k0_t1
  let c1024_i32 : BitVec 32 := 1024#32
  let v28 : BitVec 32 := Scalar.muli arg16 c1024_i32
  let v29 : BitVec 32 := Scalar.addi c256_i32 v28
  let v30 : BitVec 32 := v29
  let v37 : Index := Scalar.indexCast v30
  ![v36.toNat, v37.toNat]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x8448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x8448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8448x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8448x4x128 : Shape := ⟨3, ![8448, 4, 128]⟩
abbrev S8448x4x64 : Shape := ⟨3, ![8448, 4, 64]⟩
abbrev S8448x64 : Shape := ⟨2, ![8448, 64]⟩
abbrev S256x4x128 : Shape := ⟨3, ![256, 4, 128]⟩
abbrev S256x4x64 : Shape := ⟨3, ![256, 4, 64]⟩
abbrev S256x64 : Shape := ⟨2, ![256, 64]⟩
abbrev S4x256x256 : Shape := ⟨3, ![4, 256, 256]⟩
abbrev S256x256x4 : Shape := ⟨3, ![256, 256, 4]⟩
abbrev S_ : Shape := ⟨0, ![]⟩
abbrev S4x256 : Shape := ⟨2, ![4, 256]⟩
abbrev S4x256x1 : Shape := ⟨3, ![4, 256, 1]⟩
abbrev S4x128x256 : Shape := ⟨3, ![4, 128, 256]⟩
abbrev S8192x4x128 : Shape := ⟨3, ![8192, 4, 128]⟩
abbrev S8192x4x64 : Shape := ⟨3, ![8192, 4, 64]⟩
abbrev S4x8192x8448 : Shape := ⟨3, ![4, 8192, 8448]⟩
abbrev S8448x8192x4 : Shape := ⟨3, ![8448, 8192, 4]⟩
abbrev S4x8192 : Shape := ⟨2, ![4, 8192]⟩
abbrev S4x8192x1 : Shape := ⟨3, ![4, 8192, 1]⟩
abbrev S4x128x8192 : Shape := ⟨3, ![4, 128, 8192]⟩
abbrev S4x128x8448 : Shape := ⟨3, ![4, 128, 8448]⟩
abbrev S4x8448x128 : Shape := ⟨3, ![4, 8448, 128]⟩
abbrev S4x8192x128 : Shape := ⟨3, ![4, 8192, 128]⟩
abbrev S4x256x128 : Shape := ⟨3, ![4, 256, 128]⟩

abbrev nBuf : Space → Nat
  | .hbm => 185
  | .vmem => 0
  | .smem => 0
  | _ => 0

abbrev hbmTy0_0 (i : Nat) : BufTy := match i % 128 with
  | 0 => ⟨S8448x4x128, .f32⟩
  | 1 => ⟨S8448x4x64, .f32⟩
  | 2 => ⟨S8448x4x128, .f32⟩
  | 3 => ⟨S8448x64, .f32⟩
  | 4 => ⟨S8448x4x128, .f32⟩
  | 5 => ⟨S8448x4x128, .f32⟩
  | 6 => ⟨S256x4x128, .f32⟩
  | 7 => ⟨S256x4x64, .f32⟩
  | 8 => ⟨S256x4x128, .f32⟩
  | 9 => ⟨S256x64, .f32⟩
  | 10 => ⟨S256x4x128, .f32⟩
  | 11 => ⟨S4x256x256, .f32⟩
  | 12 => ⟨S256x256x4, .f32⟩
  | 13 => ⟨S4x256x256, .f32⟩
  | 14 => ⟨S4x256x256, .f32⟩
  | 15 => ⟨S_, .f32⟩
  | 16 => ⟨S4x256x256, .f32⟩
  | 17 => ⟨S4x256x256, .f32⟩
  | 18 => ⟨S_, .f32⟩
  | 19 => ⟨S4x256, .f32⟩
  | 20 => ⟨S4x256x1, .f32⟩
  | 21 => ⟨S4x256x256, .f32⟩
  | 22 => ⟨S4x256x256, .i1⟩
  | 23 => ⟨S4x256x256, .f32⟩
  | 24 => ⟨S_, .f32⟩
  | 25 => ⟨S4x256, .f32⟩
  | 26 => ⟨S_, .f32⟩
  | 27 => ⟨S4x256, .f32⟩
  | 28 => ⟨S4x256, .f32⟩
  | 29 => ⟨S_, .f32⟩
  | 30 => ⟨S4x256, .f32⟩
  | 31 => ⟨S4x256, .i1⟩
  | 32 => ⟨S_, .f32⟩
  | 33 => ⟨S4x256, .f32⟩
  | 34 => ⟨S4x256, .i1⟩
  | 35 => ⟨S_, .f32⟩
  | 36 => ⟨S4x256, .f32⟩
  | 37 => ⟨S_, .f32⟩
  | 38 => ⟨S4x256, .f32⟩
  | 39 => ⟨S_, .f32⟩
  | 40 => ⟨S4x256, .f32⟩
  | 41 => ⟨S4x256, .f32⟩
  | 42 => ⟨S4x256, .f32⟩
  | 43 => ⟨S4x256x1, .f32⟩
  | 44 => ⟨S4x256x256, .f32⟩
  | 45 => ⟨S4x256x256, .f32⟩
  | 46 => ⟨S4x256x256, .f32⟩
  | 47 => ⟨S_, .f32⟩
  | 48 => ⟨S4x256, .f32⟩
  | 49 => ⟨S4x256x1, .f32⟩
  | 50 => ⟨S4x256x256, .f32⟩
  | 51 => ⟨S4x256x256, .f32⟩
  | 52 => ⟨S4x256x1, .f32⟩
  | 53 => ⟨S_, .f32⟩
  | 54 => ⟨S4x256x1, .f32⟩
  | 55 => ⟨S4x256x1, .f32⟩
  | 56 => ⟨S4x128x256, .f32⟩
  | 57 => ⟨S256x4x128, .f32⟩
  | 58 => ⟨S8192x4x128, .f32⟩
  | 59 => ⟨S8192x4x64, .f32⟩
  | 60 => ⟨S4x8192x8448, .f32⟩
  | 61 => ⟨S8448x8192x4, .f32⟩
  | 62 => ⟨S4x8192x8448, .f32⟩
  | 63 => ⟨S4x8192x8448, .f32⟩
  | 64 => ⟨S_, .f32⟩
  | 65 => ⟨S4x8192x8448, .f32⟩
  | 66 => ⟨S4x8192x8448, .f32⟩
  | 67 => ⟨S_, .f32⟩
  | 68 => ⟨S4x8192, .f32⟩
  | 69 => ⟨S4x8192x1, .f32⟩
  | 70 => ⟨S4x8192x8448, .f32⟩
  | 71 => ⟨S4x8192x8448, .i1⟩
  | 72 => ⟨S4x8192x8448, .f32⟩
  | 73 => ⟨S_, .f32⟩
  | 74 => ⟨S4x8192, .f32⟩
  | 75 => ⟨S_, .f32⟩
  | 76 => ⟨S4x8192, .f32⟩
  | 77 => ⟨S4x8192, .f32⟩
  | 78 => ⟨S_, .f32⟩
  | 79 => ⟨S4x8192, .f32⟩
  | 80 => ⟨S4x8192, .i1⟩
  | 81 => ⟨S_, .f32⟩
  | 82 => ⟨S4x8192, .f32⟩
  | 83 => ⟨S4x8192, .i1⟩
  | 84 => ⟨S_, .f32⟩
  | 85 => ⟨S4x8192, .f32⟩
  | 86 => ⟨S_, .f32⟩
  | 87 => ⟨S4x8192, .f32⟩
  | 88 => ⟨S_, .f32⟩
  | 89 => ⟨S4x8192, .f32⟩
  | 90 => ⟨S4x8192, .f32⟩
  | 91 => ⟨S4x8192, .f32⟩
  | 92 => ⟨S4x8192x1, .f32⟩
  | 93 => ⟨S4x8192x8448, .f32⟩
  | 94 => ⟨S4x8192x8448, .f32⟩
  | 95 => ⟨S4x8192x8448, .f32⟩
  | 96 => ⟨S_, .f32⟩
  | 97 => ⟨S4x8192, .f32⟩
  | 98 => ⟨S4x8192x1, .f32⟩
  | 99 => ⟨S4x8192x8448, .f32⟩
  | 100 => ⟨S4x8192x8448, .f32⟩
  | 101 => ⟨S4x8192x1, .f32⟩
  | 102 => ⟨S_, .f32⟩
  | 103 => ⟨S4x8192x1, .f32⟩
  | 104 => ⟨S4x8192x1, .f32⟩
  | 105 => ⟨S4x128x8192, .f32⟩
  | 106 => ⟨S8192x4x128, .f32⟩
  | 107 => ⟨S8448x4x128, .f32⟩
  | 108 => ⟨S256x4x128, .f32⟩
  | 109 => ⟨S8192x4x128, .f32⟩
  | 110 => ⟨S4x128x8192, .f32⟩
  | 111 => ⟨S4x8192x8448, .f32⟩
  | 112 => ⟨S4x128x8448, .f32⟩
  | 113 => ⟨S8448x4x128, .f32⟩
  | 114 => ⟨S4x8192x8448, .f32⟩
  | 115 => ⟨S4x8192x8448, .f32⟩
  | 116 => ⟨S4x8192x8448, .f32⟩
  | 117 => ⟨S_, .f32⟩
  | 118 => ⟨S4x8192, .f32⟩
  | 119 => ⟨S4x8192x1, .f32⟩
  | 120 => ⟨S4x8192x1, .f32⟩
  | 121 => ⟨S4x8192x8448, .f32⟩
  | 122 => ⟨S4x8192x8448, .f32⟩
  | 123 => ⟨S_, .f32⟩
  | 124 => ⟨S4x8192, .f32⟩
  | 125 => ⟨S4x8192x8448, .f32⟩
  | 126 => ⟨S4x8192x8448, .f32⟩
  | 127 => ⟨S4x8192x8448, .f32⟩
  | _ => ⟨S8448x4x128, .f32⟩

abbrev hbmTy0_1 (i : Nat) : BufTy := match i % 128 with
  | 0 => ⟨S_, .f32⟩
  | 1 => ⟨S4x8192x8448, .f32⟩
  | 2 => ⟨S4x8192x8448, .f32⟩
  | 3 => ⟨S8448x8192x4, .f32⟩
  | 4 => ⟨S8192x4x64, .f32⟩
  | 5 => ⟨S8448x64, .f32⟩
  | 6 => ⟨S4x8448x128, .f32⟩
  | 7 => ⟨S8448x4x128, .f32⟩
  | 8 => ⟨S4x8192x128, .f32⟩
  | 9 => ⟨S8192x4x128, .f32⟩
  | 10 => ⟨S_, .f32⟩
  | 11 => ⟨S8448x4x64, .f32⟩
  | 12 => ⟨S_, .f32⟩
  | 13 => ⟨S8448x4x128, .f32⟩
  | 14 => ⟨S4x128x256, .f32⟩
  | 15 => ⟨S4x256x256, .f32⟩
  | 16 => ⟨S4x128x256, .f32⟩
  | 17 => ⟨S256x4x128, .f32⟩
  | 18 => ⟨S4x256x256, .f32⟩
  | 19 => ⟨S4x256x256, .f32⟩
  | 20 => ⟨S4x256x256, .f32⟩
  | 21 => ⟨S_, .f32⟩
  | 22 => ⟨S4x256, .f32⟩
  | 23 => ⟨S4x256x1, .f32⟩
  | 24 => ⟨S4x256x1, .f32⟩
  | 25 => ⟨S4x256x256, .f32⟩
  | 26 => ⟨S4x256x256, .f32⟩
  | 27 => ⟨S_, .f32⟩
  | 28 => ⟨S4x256, .f32⟩
  | 29 => ⟨S4x256x256, .f32⟩
  | 30 => ⟨S4x256x256, .f32⟩
  | 31 => ⟨S4x256x256, .f32⟩
  | 32 => ⟨S_, .f32⟩
  | 33 => ⟨S4x256x256, .f32⟩
  | 34 => ⟨S4x256x256, .f32⟩
  | 35 => ⟨S256x256x4, .f32⟩
  | 36 => ⟨S256x4x64, .f32⟩
  | 37 => ⟨S256x64, .f32⟩
  | 38 => ⟨S4x256x128, .f32⟩
  | 39 => ⟨S256x4x128, .f32⟩
  | 40 => ⟨S4x256x128, .f32⟩
  | 41 => ⟨S256x4x128, .f32⟩
  | 42 => ⟨S_, .f32⟩
  | 43 => ⟨S8448x4x128, .f32⟩
  | 44 => ⟨S8448x4x128, .f32⟩
  | 45 => ⟨S_, .f32⟩
  | 46 => ⟨S8448x64, .f32⟩
  | 47 => ⟨S8448x64, .f32⟩
  | 48 => ⟨S_, .f32⟩
  | 49 => ⟨S8448x4x128, .f32⟩
  | 50 => ⟨S8448x4x128, .f32⟩
  | 51 => ⟨S_, .f32⟩
  | 52 => ⟨S8448x4x64, .f32⟩
  | 53 => ⟨S8448x4x64, .f32⟩
  | 54 => ⟨S_, .f32⟩
  | 55 => ⟨S8448x4x128, .f32⟩
  | 56 => ⟨S8448x4x128, .f32⟩
  | _ => ⟨S8448x4x128, .f32⟩

abbrev hbmTy (i : Nat) : BufTy := match i / 128 with
  | 0 => hbmTy0_0 i
  | 1 => hbmTy0_1 i
  | _ => ⟨S8448x4x128, .f32⟩

abbrev bufTy : (tb : Table) → Fin (tcTables nBuf tb) → BufTy
  | .hbm, ⟨i, _⟩ => hbmTy i
  | _, _ => ⟨S8448x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_cst_15 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_cst_17 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_19 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_20 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_21 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_22 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_23 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_cst_25 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_26 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_27 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_28 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_29 : Ref sig .tc := ⟨.hbm, 170, rfl⟩
abbrev main_v134 : Ref sig .tc := ⟨.hbm, 171, rfl⟩
abbrev main_v135 : Ref sig .tc := ⟨.hbm, 172, rfl⟩
abbrev main_cst_30 : Ref sig .tc := ⟨.hbm, 173, rfl⟩
abbrev main_v136 : Ref sig .tc := ⟨.hbm, 174, rfl⟩
abbrev main_v137 : Ref sig .tc := ⟨.hbm, 175, rfl⟩
abbrev main_cst_31 : Ref sig .tc := ⟨.hbm, 176, rfl⟩
abbrev main_v138 : Ref sig .tc := ⟨.hbm, 177, rfl⟩
abbrev main_v139 : Ref sig .tc := ⟨.hbm, 178, rfl⟩
abbrev main_cst_32 : Ref sig .tc := ⟨.hbm, 179, rfl⟩
abbrev main_v140 : Ref sig .tc := ⟨.hbm, 180, rfl⟩
abbrev main_v141 : Ref sig .tc := ⟨.hbm, 181, rfl⟩
abbrev main_cst_33 : Ref sig .tc := ⟨.hbm, 182, rfl⟩
abbrev main_v142 : Ref sig .tc := ⟨.hbm, 183, rfl⟩
abbrev main_v143 : Ref sig .tc := ⟨.hbm, 184, rfl⟩

abbrev nD : Nat := 1
abbrev τ : Topo := Topo.v7x

variable {F : FTy → Type} [FloatOps F]
-- ==== Kernel2.lean ====
abbrev S8448x1024 : Shape := ⟨2, ![8448, 1024]⟩
abbrev S8448x4096 : Shape := ⟨2, ![8448, 4096]⟩
abbrev S1024x8448 : Shape := ⟨2, ![1024, 8448]⟩
abbrev S1024x4096 : Shape := ⟨2, ![1024, 4096]⟩
abbrev S1024x768 : Shape := ⟨2, ![1024, 768]⟩
abbrev S768x1024 : Shape := ⟨2, ![768, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8448x1024, .f32⟩
  | .hbm, ⟨1, _⟩ => ⟨S8448x4096, .f32⟩
  | .hbm, ⟨2, _⟩ => ⟨S1024x8448, .f32⟩
  | .hbm, ⟨3, _⟩ => ⟨S1024x8448, .bf16⟩
  | .hbm, ⟨4, _⟩ => ⟨S8448x4096, .bf16⟩
  | .hbm, ⟨5, _⟩ => ⟨S1024x4096, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x4096, .f32⟩
  | .hbm, ⟨2, _⟩ => ⟨S_, .f32⟩
  | .hbm, ⟨3, _⟩ => ⟨S1024x4096, .f32⟩
  | .hbm, ⟨4, _⟩ => ⟨S8448x4096, .f32⟩
  | .hbm, ⟨5, _⟩ => ⟨S4096x1024, .f32⟩
  | .hbm, ⟨6, _⟩ => ⟨S1024x4096, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8448x1024 : Shape := ⟨2, ![8448, 1024]⟩
abbrev S8448x2176 : Shape := ⟨2, ![8448, 2176]⟩
abbrev S1024x8448 : Shape := ⟨2, ![1024, 8448]⟩
abbrev S1024x2176 : Shape := ⟨2, ![1024, 2176]⟩
abbrev S1024x768 : Shape := ⟨2, ![1024, 768]⟩
abbrev S768x2176 : Shape := ⟨2, ![768, 2176]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x2176, .f32⟩
  | .hbm, ⟨2, _⟩ => ⟨S1024x8448, .f32⟩
  | .hbm, ⟨3, _⟩ => ⟨S1024x8448, .bf16⟩
  | .hbm, ⟨4, _⟩ => ⟨S8448x2176, .bf16⟩
  | .hbm, ⟨5, _⟩ => ⟨S1024x2176, .f32⟩
  | .local _ .vmem, ⟨0, _⟩ => ⟨S1024x768, .bf16⟩
  | .local _ .vmem, ⟨1, _⟩ => ⟨S1024x768, .bf16⟩
  | .local _ .vmem, ⟨2, _⟩ => ⟨S768x2176, .bf16⟩
  | .local _ .vmem, ⟨3, _⟩ => ⟨S768x2176, .bf16⟩
  | .local _ .vmem, ⟨4, _⟩ => ⟨S1024x2176, .f32⟩
  | .local _ .vmem, ⟨5, _⟩ => ⟨S1024x2176, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8448x1024 : Shape := ⟨2, ![8448, 1024]⟩
abbrev S8448x2176 : Shape := ⟨2, ![8448, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2176, .f32⟩
  | .hbm, ⟨2, _⟩ => ⟨S_, .f32⟩
  | .hbm, ⟨3, _⟩ => ⟨S1024x2176, .f32⟩
  | .hbm, ⟨4, _⟩ => ⟨S8448x2176, .f32⟩
  | .hbm, ⟨5, _⟩ => ⟨S2176x1024, .f32⟩
  | .hbm, ⟨6, _⟩ => ⟨S1024x2176, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8448x1024 : Shape := ⟨2, ![8448, 1024]⟩
abbrev S1024x8448 : Shape := ⟨2, ![1024, 8448]⟩
abbrev S1024x1024 : Shape := ⟨2, ![1024, 1024]⟩
abbrev S1024x768 : Shape := ⟨2, ![1024, 768]⟩
abbrev S768x1024 : Shape := ⟨2, ![768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S1024x8448, .f32⟩
  | .hbm, ⟨3, _⟩ => ⟨S1024x8448, .bf16⟩
  | .hbm, ⟨4, _⟩ => ⟨S8448x1024, .bf16⟩
  | .hbm, ⟨5, _⟩ => ⟨S1024x1024, .f32⟩
  | .local _ .vmem, ⟨0, _⟩ => ⟨S1024x768, .bf16⟩
  | .local _ .vmem, ⟨1, _⟩ => ⟨S1024x768, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S1024x1024, .f32⟩
  | .hbm, ⟨6, _⟩ => ⟨S1024x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8448x1024 : Shape := ⟨2, ![8448, 1024]⟩
abbrev S2x8x1024 : Shape := ⟨3, ![2, 8, 1024]⟩
abbrev S1x1024 : Shape := ⟨2, ![1, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1x1024 : Shape := ⟨3, ![1, 1, 1024]⟩
abbrev S8448x4096 : Shape := ⟨2, ![8448, 4096]⟩
abbrev S1024x8448 : Shape := ⟨2, ![1024, 8448]⟩
abbrev S256x1024 : Shape := ⟨2, ![256, 1024]⟩
abbrev S1x8x1024 : Shape := ⟨3, ![1, 8, 1024]⟩
abbrev S256x4096 : Shape := ⟨2, ![256, 4096]⟩
abbrev S1024x256 : Shape := ⟨2, ![1024, 256]⟩
abbrev S8x1024 : Shape := ⟨2, ![8, 1024]⟩
abbrev S256 : Shape := ⟨1, ![256]⟩
abbrev S256x1 : Shape := ⟨2, ![256, 1]⟩
abbrev S1024x1024 : Shape := ⟨2, ![1024, 1024]⟩
abbrev S3x1024 : Shape := ⟨2, ![3, 1024]⟩
abbrev S4x1024 : Shape := ⟨2, ![4, 1024]⟩
abbrev S5x1024 : Shape := ⟨2, ![5, 1024]⟩

abbrev nBuf : Space → Nat
  | .hbm => 64
  | .vmem => 24
  | .smem => 0
  | _ => 0

abbrev bufTy : (tb : Table) → Fin (tcTables nBuf tb) → BufTy
  | .hbm, ⟨0, _⟩ => ⟨S8448x1024, .f32⟩
  | .hbm, ⟨1, _⟩ => ⟨S2x8x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8448x1024, .f32⟩
  | .hbm, ⟨6, _⟩ => ⟨S1024, .f32⟩
  | .hbm, ⟨7, _⟩ => ⟨S8448x1024, .f32⟩
  | .hbm, ⟨8, _⟩ => ⟨S_, .f32⟩
  | .hbm, ⟨9, _⟩ => ⟨S8448, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S_, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S8448x1024, .f32⟩
  | .hbm, ⟨19, _⟩ => ⟨S8448x1024, .f32⟩
  | .hbm, ⟨20, _⟩ => ⟨S1x1024, .f32⟩
  | .hbm, ⟨21, _⟩ => ⟨S8448x1024, .f32⟩
  | .hbm, ⟨22, _⟩ => ⟨S8448x1024, .f32⟩
  | .hbm, ⟨23, _⟩ => ⟨S8448, .i32⟩
  | .hbm, ⟨24, _⟩ => ⟨S8448x1, .i32⟩
  | .hbm, ⟨25, _⟩ => ⟨S_, .i32⟩
  | .hbm, ⟨26, _⟩ => ⟨S8448x1, .i32⟩
  | .hbm, ⟨27, _⟩ => ⟨S8448x1, .i1⟩
  | .hbm, ⟨28, _⟩ => ⟨S1x1x1024, .f32⟩
  | .hbm, ⟨29, _⟩ => ⟨S1024, .f32⟩
  | .hbm, ⟨30, _⟩ => ⟨S1x1x1024, .f32⟩
  | .hbm, ⟨31, _⟩ => ⟨S1024, .f32⟩
  | .hbm, ⟨32, _⟩ => ⟨S8448x1024, .i1⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S_, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S1x1x1024, .f32⟩
  | .hbm, ⟨41, _⟩ => ⟨S1024, .f32⟩
  | .hbm, ⟨42, _⟩ => ⟨S1x1x1024, .f32⟩
  | .hbm, ⟨43, _⟩ => ⟨S1024, .f32⟩
  | .hbm, ⟨44, _⟩ => ⟨S8448x1024, .i1⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x4096, .f32⟩
  | .hbm, ⟨50, _⟩ => ⟨S_, .f32⟩
  | .hbm, ⟨51, _⟩ => ⟨S8448x4096, .f32⟩
  | .hbm, ⟨52, _⟩ => ⟨S8448x4096, .f32⟩
  | .hbm, ⟨53, _⟩ => ⟨S8448x4096, .f32⟩
  | .hbm, ⟨54, _⟩ => ⟨S8448x1024, .f32⟩
  | .hbm, ⟨55, _⟩ => ⟨S1024x4096, .bf16⟩
  | .hbm, ⟨56, _⟩ => ⟨S4096x1024, .bf16⟩
  | .hbm, ⟨57, _⟩ => ⟨S8448x1024, .f32⟩
  | .hbm, ⟨58, _⟩ => ⟨S2x8x1024, .f32⟩
  | .hbm, ⟨59, _⟩ => ⟨S1x1024, .f32⟩
  | .hbm, ⟨60, _⟩ => ⟨S8448x4096, .bf16⟩
  | .hbm, ⟨61, _⟩ => ⟨S1024x8448, .bf16⟩
  | .hbm, ⟨62, _⟩ => ⟨S1024x8448, .bf16⟩
  | .hbm, ⟨63, _⟩ => ⟨S8448x4096, .bf16⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x1024, .f32⟩
  | .local _ .vmem, ⟨16, _⟩ => ⟨S256x4096, .bf16⟩
  | .local _ .vmem, ⟨17, _⟩ => ⟨S256x4096, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S256x4096, .bf16⟩
  | .local _ .vmem, ⟨23, _⟩ => ⟨S256x4096, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v38_2 : Ref sig .tc := ⟨.hbm, 59, rfl⟩
abbrev main_v38_3 : Ref sig .tc := ⟨.hbm, 60, rfl⟩
abbrev main_v38_4 : Ref sig .tc := ⟨.hbm, 61, rfl⟩
abbrev main_v38_5 : Ref sig .tc := ⟨.hbm, 62, rfl⟩
abbrev main_v38_6 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v174 : BitVec 1 := Scalar.cmpi .eq arg0 c0_i32
  let c1_i32 : BitVec 32 := 1#32
  let v175 : BitVec 1 := Scalar.cmpi .eq arg0 c1_i32
  let v176 : BitVec 1 := Scalar.ori v174 v175
  let v177 : BitVec 32 := Scalar.extui v176
  let c0_i32_88 : BitVec 32 := 0#32
  let v178 : BitVec 1 := Scalar.cmpi .ne v177 c0_i32_88
  v178

def k0_cond2 (i : grid0.Coords) : BitVec 1 :=
  let arg0 : BitVec 32 := BitVec.ofNat 32 (i 0).val
  let c0_i32 : BitVec 32 := 0#32
  let v174 : BitVec 1 := Scalar.cmpi .eq arg0 c0_i32
  let c1_i32 : BitVec 32 := 1#32
  let v175 : BitVec 1 := Scalar.cmpi .eq arg0 c1_i32
  let v176 : BitVec 1 := Scalar.ori v174 v175
  let v_true : BitVec 1 := 1#1
  let v179 : BitVec 1 := Scalar.xori v176 v_true
  let v180 : BitVec 32 := Scalar.extui v179
  let c0_i32_89 : BitVec 32 := 0#32
  let v181 : BitVec 1 := Scalar.cmpi .ne v180 c0_i32_89
  v181

def k0_cond3 (i : grid0.Coords) : BitVec 1 :=
  let arg0 : BitVec 32 := BitVec.ofNat 32 (i 0).val
  let c0_i32_90 : BitVec 32 := 0#32
  let v182 : BitVec 1 := Scalar.cmpi .eq arg0 c0_i32_90
  let v183 : BitVec 32 := Scalar.extui v182
  let c0_i32_91 : BitVec 32 := 0#32
  let v184 : BitVec 1 := Scalar.cmpi .ne v183 c0_i32_91
  v184

def k0_cond4 (i : grid0.Coords) : BitVec 1 :=
  let arg0 : BitVec 32 := BitVec.ofNat 32 (i 0).val
  let c0_i32_92 : BitVec 32 := 0#32
  let v185 : BitVec 1 := Scalar.cmpi .sgt arg0 c0_i32_92
  let v186 : BitVec 32 := Scalar.extui v185
  let c0_i32_93 : BitVec 32 := 0#32
  let v187 : BitVec 1 := Scalar.cmpi .ne v186 c0_i32_93
  v187

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S8448x1024 : Shape := ⟨2, ![8448, 1024]⟩
abbrev S2x8x1024 : Shape := ⟨3, ![2, 8, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8448x4096 : Shape := ⟨2, ![8448, 4096]⟩
abbrev S1024 : Shape := ⟨1, ![1024]⟩
abbrev S8448 : Shape := ⟨1, ![8448]⟩
abbrev S8448x1 : Shape := ⟨2, ![8448, 1]⟩
abbrev S1x1x1024 : Shape := ⟨3, ![1, 1, 1024]⟩
abbrev S1024x8448 : Shape := ⟨2, ![1024, 8448]⟩

abbrev nBuf : Space → Nat
  | .hbm => 179
  | .vmem => 0
  | .smem => 0
  | _ => 0

abbrev hbmTy0_0 (i : Nat) : BufTy := match i % 128 with
  | 0 => ⟨S8448x1024, .f32⟩
  | 1 => ⟨S2x8x1024, .f32⟩
  | 2 => ⟨S1x1024, .f32⟩
  | 3 => ⟨S1024x4096, .f32⟩
  | 4 => ⟨S4096x1024, .f32⟩
  | 5 => ⟨S8448x1024, .f32⟩
  | 6 => ⟨S_, .f32⟩
  | 7 => ⟨S8448x4096, .f32⟩
  | 8 => ⟨S_, .f32⟩
  | 9 => ⟨S8448x1024, .f32⟩
  | 10 => ⟨S1024, .f32⟩
  | 11 => ⟨S8448x1024, .f32⟩
  | 12 => ⟨S_, .f32⟩
  | 13 => ⟨S8448, .f32⟩
  | 14 => ⟨S8448x1, .f32⟩
  | 15 => ⟨S_, .f32⟩
  | 16 => ⟨S8448x1, .f32⟩
  | 17 => ⟨S8448x1, .f32⟩
  | 18 => ⟨S_, .f32⟩
  | 19 => ⟨S8448x1, .f32⟩
  | 20 => ⟨S8448x1, .f32⟩
  | 21 => ⟨S8448x1, .f32⟩
  | 22 => ⟨S8448x1, .f32⟩
  | 23 => ⟨S_, .f32⟩
  | 24 => ⟨S8448x1, .f32⟩
  | 25 => ⟨S8448x1, .f32⟩
  | 26 => ⟨S8448x1024, .f32⟩
  | 27 => ⟨S8448x1024, .f32⟩
  | 28 => ⟨S1x1024, .f32⟩
  | 29 => ⟨S8448x1024, .f32⟩
  | 30 => ⟨S8448x1024, .f32⟩
  | 31 => ⟨S8448, .i32⟩
  | 32 => ⟨S8448x1, .i32⟩
  | 33 => ⟨S_, .i32⟩
  | 34 => ⟨S8448x1, .i32⟩
  | 35 => ⟨S8448x1, .i1⟩
  | 36 => ⟨S1x1x1024, .f32⟩
  | 37 => ⟨S1024, .f32⟩
  | 38 => ⟨S1x1x1024, .f32⟩
  | 39 => ⟨S1024, .f32⟩
  | 40 => ⟨S8448x1024, .i1⟩
  | 41 => ⟨S8448x1024, .f32⟩
  | 42 => ⟨S8448x1024, .f32⟩
  | 43 => ⟨S8448x1024, .f32⟩
  | 44 => ⟨S_, .f32⟩
  | 45 => ⟨S8448x1024, .f32⟩
  | 46 => ⟨S8448x1024, .f32⟩
  | 47 => ⟨S8448x1024, .f32⟩
  | 48 => ⟨S1x1x1024, .f32⟩
  | 49 => ⟨S1024, .f32⟩
  | 50 => ⟨S1x1x1024, .f32⟩
  | 51 => ⟨S1024, .f32⟩
  | 52 => ⟨S8448x1024, .i1⟩
  | 53 => ⟨S8448x1024, .f32⟩
  | 54 => ⟨S8448x1024, .f32⟩
  | 55 => ⟨S8448x1024, .f32⟩
  | 56 => ⟨S8448x1024, .f32⟩
  | 57 => ⟨S8448x4096, .f32⟩
  | 58 => ⟨S8448x4096, .f32⟩
  | 59 => ⟨S_, .f32⟩
  | 60 => ⟨S8448x4096, .f32⟩
  | 61 => ⟨S8448x4096, .f32⟩
  | 62 => ⟨S_, .f32⟩
  | 63 => ⟨S8448x4096, .f32⟩
  | 64 => ⟨S8448x4096, .i1⟩
  | 65 => ⟨S_, .f32⟩
  | 66 => ⟨S8448x4096, .f32⟩
  | 67 => ⟨S8448x4096, .f32⟩
  | 68 => ⟨S8448x1024, .f32⟩
  | 69 => ⟨S8448x1024, .f32⟩
  | 70 => ⟨S8448, .i32⟩
  | 71 => ⟨S8448x1, .i32⟩
  | 72 => ⟨S_, .i32⟩
  | 73 => ⟨S8448x1, .i32⟩
  | 74 => ⟨S8448x1, .i1⟩
  | 75 => ⟨S1x1x1024, .f32⟩
  | 76 => ⟨S1024, .f32⟩
  | 77 => ⟨S1x1x1024, .f32⟩
  | 78 => ⟨S1024, .f32⟩
  | 79 => ⟨S8448x1024, .i1⟩
  | 80 => ⟨S8448x1024, .f32⟩
  | 81 => ⟨S8448x1024, .f32⟩
  | 82 => ⟨S8448x1024, .f32⟩
  | 83 => ⟨S8448x1024, .f32⟩
  | 84 => ⟨S8448x1024, .f32⟩
  | 85 => ⟨S8448x4096, .f32⟩
  | 86 => ⟨S8448x1024, .f32⟩
  | 87 => ⟨S8448x1024, .f32⟩
  | 88 => ⟨S8448x1024, .f32⟩
  | 89 => ⟨S_, .f32⟩
  | 90 => ⟨S8448x1024, .f32⟩
  | 91 => ⟨S8448x1024, .f32⟩
  | 92 => ⟨S8448x1024, .f32⟩
  | 93 => ⟨S_, .f32⟩
  | 94 => ⟨S1024, .f32⟩
  | 95 => ⟨S_, .f32⟩
  | 96 => ⟨S1024, .f32⟩
  | 97 => ⟨S1x1x1024, .f32⟩
  | 98 => ⟨S_, .f32⟩
  | 99 => ⟨S2x8x1024, .f32⟩
  | 100 => ⟨S1x1x1024, .f32⟩
  | 101 => ⟨S_, .f32⟩
  | 102 => ⟨S2x8x1024, .f32⟩
  | 103 => ⟨S2x8x1024, .f32⟩
  | 104 => ⟨S8448x4096, .f32⟩
  | 105 => ⟨S8448x4096, .f32⟩
  | 106 => ⟨S8448x4096, .f32⟩
  | 107 => ⟨S8448x4096, .f32⟩
  | 108 => ⟨S_, .f32⟩
  | 109 => ⟨S8448x4096, .f32⟩
  | 110 => ⟨S8448x4096, .f32⟩
  | 111 => ⟨S8448x1024, .f32⟩
  | 112 => ⟨S_, .f32⟩
  | 113 => ⟨S8448x1024, .f32⟩
  | 114 => ⟨S8448x1024, .f32⟩
  | 115 => ⟨S8448x1024, .f32⟩
  | 116 => ⟨S_, .f32⟩
  | 117 => ⟨S1024, .f32⟩
  | 118 => ⟨S_, .f32⟩
  | 119 => ⟨S1024, .f32⟩
  | 120 => ⟨S1x1x1024, .f32⟩
  | 121 => ⟨S_, .f32⟩
  | 122 => ⟨S2x8x1024, .f32⟩
  | 123 => ⟨S2x8x1024, .f32⟩
  | 124 => ⟨S1x1x1024, .f32⟩
  | 125 => ⟨S_, .f32⟩
  | 126 => ⟨S2x8x1024, .f32⟩
  | 127 => ⟨S2x8x1024, .f32⟩
  | _ => ⟨S8448x1024, .f32⟩

abbrev hbmTy0_1 (i : Nat) : BufTy := match i % 128 with
  | 0 => ⟨S8448x1024, .f32⟩
  | 1 => ⟨S8448x1024, .f32⟩
  | 2 => ⟨S_, .f32⟩
  | 3 => ⟨S8448x1024, .f32⟩
  | 4 => ⟨S8448x1024, .f32⟩
  | 5 => ⟨S8448x1024, .f32⟩
  | 6 => ⟨S_, .f32⟩
  | 7 => ⟨S1024, .f32⟩
  | 8 => ⟨S_, .f32⟩
  | 9 => ⟨S1024, .f32⟩
  | 10 => ⟨S1x1x1024, .f32⟩
  | 11 => ⟨S_, .f32⟩
  | 12 => ⟨S2x8x1024, .f32⟩
  | 13 => ⟨S2x8x1024, .f32⟩
  | 14 => ⟨S1x1x1024, .f32⟩
  | 15 => ⟨S_, .f32⟩
  | 16 => ⟨S2x8x1024, .f32⟩
  | 17 => ⟨S2x8x1024, .f32⟩
  | 18 => ⟨S8448x1024, .f32⟩
  | 19 => ⟨S_, .f32⟩
  | 20 => ⟨S1024, .f32⟩
  | 21 => ⟨S1x1024, .f32⟩
  | 22 => ⟨S8448x1024, .f32⟩
  | 23 => ⟨S8448x1024, .f32⟩
  | 24 => ⟨S_, .f32⟩
  | 25 => ⟨S1024, .f32⟩
  | 26 => ⟨S8448x1024, .f32⟩
  | 27 => ⟨S_, .f32⟩
  | 28 => ⟨S8448, .f32⟩
  | 29 => ⟨S8448x1, .f32⟩
  | 30 => ⟨S8448x1024, .f32⟩
  | 31 => ⟨S8448x1024, .f32⟩
  | 32 => ⟨S8448x1024, .f32⟩
  | 33 => ⟨S8448x1, .f32⟩
  | 34 => ⟨S_, .f32⟩
  | 35 => ⟨S8448x1, .f32⟩
  | 36 => ⟨S8448x1, .f32⟩
  | 37 => ⟨S_, .f32⟩
  | 38 => ⟨S8448, .f32⟩
  | 39 => ⟨S8448x1024, .f32⟩
  | 40 => ⟨S8448x1024, .f32⟩
  | 41 => ⟨S8448x1024, .f32⟩
  | 42 => ⟨S8448x1024, .f32⟩
  | 43 => ⟨S8448x1024, .f32⟩
  | 44 => ⟨S1x1024, .f32⟩
  | 45 => ⟨S8448x4096, .bf16⟩
  | 46 => ⟨S1024x8448, .f32⟩
  | 47 => ⟨S1024x8448, .bf16⟩
  | 48 => ⟨S1024x8448, .f32⟩
  | 49 => ⟨S1024x8448, .bf16⟩
  | 50 => ⟨S8448x4096, .bf16⟩
  | _ => ⟨S8448x1024, .f32⟩

abbrev hbmTy (i : Nat) : BufTy := match i / 128 with
  | 0 => hbmTy0_0 i
  | 1 => hbmTy0_1 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_1 : Ref sig .tc := ⟨.hbm, 40, rfl⟩
abbrev main_call0_v1 : Ref sig .tc := ⟨.hbm, 41, rfl⟩
abbrev main_call0_v2 : Ref sig .tc := ⟨.hbm, 42, rfl⟩
abbrev main_v27_0 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35_1 : Ref sig .tc := ⟨.hbm, 52, rfl⟩
abbrev main_call1_v1 : Ref sig .tc := ⟨.hbm, 53, rfl⟩
abbrev main_call1_v2 : Ref sig .tc := ⟨.hbm, 54, rfl⟩
abbrev main_v35_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call2_cst : Ref sig .tc := ⟨.hbm, 59, rfl⟩
abbrev main_call2_v0 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_1 : Ref sig .tc := ⟨.hbm, 79, rfl⟩
abbrev main_call3_v1 : Ref sig .tc := ⟨.hbm, 80, rfl⟩
abbrev main_call3_v2 : Ref sig .tc := ⟨.hbm, 81, rfl⟩
abbrev main_v54_0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call4_cst : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_cst_0 : Ref sig .tc := ⟨.hbm, 93, rfl⟩
abbrev main_v61_1 : Ref sig .tc := ⟨.hbm, 94, rfl⟩
abbrev main_call4_cst_1 : Ref sig .tc := ⟨.hbm, 95, rfl⟩
abbrev main_v61_0 : Ref sig .tc := ⟨.hbm, 96, rfl⟩
abbrev main_v62 : Ref sig .tc := ⟨.hbm, 97, rfl⟩
abbrev main_cst_9 : Ref sig .tc := ⟨.hbm, 98, rfl⟩
abbrev main_v63 : Ref sig .tc := ⟨.hbm, 99, rfl⟩
abbrev main_v64 : Ref sig .tc := ⟨.hbm, 100, rfl⟩
abbrev main_cst_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_11 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call5_cst : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_cst_0 : Ref sig .tc := ⟨.hbm, 116, rfl⟩
abbrev main_v74_1 : Ref sig .tc := ⟨.hbm, 117, rfl⟩
abbrev main_call5_cst_1 : Ref sig .tc := ⟨.hbm, 118, rfl⟩
abbrev main_v74_0 : Ref sig .tc := ⟨.hbm, 119, rfl⟩
abbrev main_v75 : Ref sig .tc := ⟨.hbm, 120, rfl⟩
abbrev main_cst_12 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_13 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_call6_cst : Ref sig .tc := ⟨.hbm, 130, rfl⟩
abbrev main_call6_v0 : Ref sig .tc := ⟨.hbm, 131, rfl⟩
abbrev main_call6_v1 : Ref sig .tc := ⟨.hbm, 132, rfl⟩
abbrev main_call6_v2 : Ref sig .tc := ⟨.hbm, 133, rfl⟩
abbrev main_call6_cst_0 : Ref sig .tc := ⟨.hbm, 134, rfl⟩
abbrev main_v83_1 : Ref sig .tc := ⟨.hbm, 135, rfl⟩
abbrev main_call6_cst_1 : Ref sig .tc := ⟨.hbm, 136, rfl⟩
abbrev main_v83_0 : Ref sig .tc := ⟨.hbm, 137, rfl⟩
abbrev main_v84 : Ref sig .tc := ⟨.hbm, 138, rfl⟩
abbrev main_cst_14 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_15 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_cst_16 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_17 : Ref sig .tc := ⟨.hbm, 152, rfl⟩
abbrev main_v95 : Ref sig .tc := ⟨.hbm, 153, rfl⟩
abbrev main_v96 : Ref sig .tc := ⟨.hbm, 154, rfl⟩
abbrev main_cst_18 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_cst_19 : Ref sig .tc := ⟨.hbm, 162, rfl⟩
abbrev main_v103 : Ref sig .tc := ⟨.hbm, 163, rfl⟩
abbrev main_v104 : Ref sig .tc := ⟨.hbm, 164, rfl⟩
abbrev main_cst_20 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩

abbrev nD : Nat := 1
abbrev τ : Topo := Topo.v7x

variable {F : FTy → Type} [FloatOps F]
-- ==== Kernel6.lean ====
abbrev S8448x1024 : Shape := ⟨2, ![8448, 1024]⟩
abbrev S2x8x1024 : Shape := ⟨3, ![2, 8, 1024]⟩
abbrev S8448x256 : Shape := ⟨2, ![8448, 256]⟩
abbrev S8448x512 : Shape := ⟨2, ![8448, 512]⟩
abbrev S1x64 : Shape := ⟨2, ![1, 64]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S1x1x1x64 : Shape := ⟨4, ![1, 1, 1, 64]⟩
abbrev S1x1x4x64 : Shape := ⟨4, ![1, 1, 4, 64]⟩
abbrev S1x256 : Shape := ⟨2, ![1, 256]⟩
abbrev S256x1024 : Shape := ⟨2, ![256, 1024]⟩
abbrev S1x8x1024 : Shape := ⟨3, ![1, 8, 1024]⟩
abbrev S256x256 : Shape := ⟨2, ![256, 256]⟩
abbrev S256x512 : Shape := ⟨2, ![256, 512]⟩
abbrev S8x1024 : Shape := ⟨2, ![8, 1024]⟩
abbrev S256 : Shape := ⟨1, ![256]⟩
abbrev S256x1 : Shape := ⟨2, ![256, 1]⟩

abbrev nBuf : Space → Nat
  | .hbm => 21
  | .vmem => 25
  | .smem => 0
  | _ => 0

abbrev bufTy : (tb : Table) → Fin (tcTables nBuf tb) → BufTy
  | .hbm, ⟨0, _⟩ => ⟨S8448x1024, .f32⟩
  | .hbm, ⟨1, _⟩ => ⟨S2x8x1024, .f32⟩
  | .hbm, ⟨2, _⟩ => ⟨S8448x256, .f32⟩
  | .hbm, ⟨3, _⟩ => ⟨S8448x256, .f32⟩
  | .hbm, ⟨4, _⟩ => ⟨S8448x256, .f32⟩
  | .hbm, ⟨5, _⟩ => ⟨S8448x256, .f32⟩
  | .hbm, ⟨6, _⟩ => ⟨S8448x512, .f32⟩
  | .hbm, ⟨7, _⟩ => ⟨S1x64, .f32⟩
  | .hbm, ⟨8, _⟩ => ⟨S1024x1024, .f32⟩
  | .hbm, ⟨9, _⟩ => ⟨S1x1024, .f32⟩
  | .hbm, ⟨10, _⟩ => ⟨S1024x4096, .f32⟩
  | .hbm, ⟨11, _⟩ => ⟨S4096x1024, .f32⟩
  | .hbm, ⟨12, _⟩ => ⟨S1x1x1x64, .f32⟩
  | .hbm, ⟨13, _⟩ => ⟨S1x1x4x64, .f32⟩
  | .hbm, ⟨14, _⟩ => ⟨S1x256, .f32⟩
  | .hbm, ⟨15, _⟩ => ⟨S1024x1024, .bf16⟩
  | .hbm, ⟨16, _⟩ => ⟨S1024x4096, .bf16⟩
  | .hbm, ⟨17, _⟩ => ⟨S4096x1024, .bf16⟩
  | .hbm, ⟨18, _⟩ => ⟨S8448x1024, .f32⟩
  | .hbm, ⟨19, _⟩ => ⟨S8448x1024, .f32⟩
  | .hbm, ⟨20, _⟩ => ⟨S8448x1024, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S1x256, .f32⟩
  | .local _ .vmem, ⟨15, _⟩ => ⟨S1024x1024, .bf16⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8448x1024 : Shape := ⟨2, ![8448, 1024]⟩
abbrev S2x8x1024 : Shape := ⟨3, ![2, 8, 1024]⟩
abbrev S8448x256 : Shape := ⟨2, ![8448, 256]⟩
abbrev S8448x512 : Shape := ⟨2, ![8448, 512]⟩
abbrev S1x64 : Shape := ⟨2, ![1, 64]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S8448 : Shape := ⟨1, ![8448]⟩
abbrev S8448x1 : Shape := ⟨2, ![8448, 1]⟩
abbrev S_ : Shape := ⟨0, ![]⟩
abbrev S8448x4x64 : Shape := ⟨3, ![8448, 4, 64]⟩
abbrev S64 : Shape := ⟨1, ![64]⟩
abbrev S8448x4 : Shape := ⟨2, ![8448, 4]⟩
abbrev S8448x4x1 : Shape := ⟨3, ![8448, 4, 1]⟩
abbrev S1x1x64 : Shape := ⟨3, ![1, 1, 64]⟩
abbrev S1x1x1024 : Shape := ⟨3, ![1, 1, 1024]⟩
abbrev S1024 : Shape := ⟨1, ![1024]⟩
abbrev S8448x4096 : Shape := ⟨2, ![8448, 4096]⟩

abbrev nBuf : Space → Nat
  | .hbm => 119
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2x8x1024, .f32⟩
  | .hbm, ⟨2, _⟩ => ⟨S8448x256, .f32⟩
  | .hbm, ⟨3, _⟩ => ⟨S8448x256, .f32⟩
  | .hbm, ⟨4, _⟩ => ⟨S8448x256, .f32⟩
  | .hbm, ⟨5, _⟩ => ⟨S8448x256, .f32⟩
  | .hbm, ⟨6, _⟩ => ⟨S8448x512, .f32⟩
  | .hbm, ⟨7, _⟩ => ⟨S1x64, .f32⟩
  | .hbm, ⟨8, _⟩ => ⟨S1024x1024, .f32⟩
  | .hbm, ⟨9, _⟩ => ⟨S1x1024, .f32⟩
  | .hbm, ⟨10, _⟩ => ⟨S1024x4096, .f32⟩
  | .hbm, ⟨11, _⟩ => ⟨S4096x1024, .f32⟩
  | .hbm, ⟨12, _⟩ => ⟨S8448, .i32⟩
  | .hbm, ⟨13, _⟩ => ⟨S8448x1, .i32⟩
  | .hbm, ⟨14, _⟩ => ⟨S_, .i32⟩
  | .hbm, ⟨15, _⟩ => ⟨S8448x1, .i32⟩
  | .hbm, ⟨16, _⟩ => ⟨S8448x1, .i1⟩
  | .hbm, ⟨17, _⟩ => ⟨S8448x256, .f32⟩
  | .hbm, ⟨18, _⟩ => ⟨S8448x4x64, .f32⟩
  | .hbm, ⟨19, _⟩ => ⟨S64, .f32⟩
  | .hbm, ⟨20, _⟩ => ⟨S8448x4x64, .f32⟩
  | .hbm, ⟨21, _⟩ => ⟨S_, .f32⟩
  | .hbm, ⟨22, _⟩ => ⟨S8448x4, .f32⟩
  | .hbm, ⟨23, _⟩ => ⟨S8448x4x1, .f32⟩
  | .hbm, ⟨24, _⟩ => ⟨S_, .f32⟩
  | .hbm, ⟨25, _⟩ => ⟨S8448x4x1, .f32⟩
  | .hbm, ⟨26, _⟩ => ⟨S8448x4x1, .f32⟩
  | .hbm, ⟨27, _⟩ => ⟨S_, .f32⟩
  | .hbm, ⟨28, _⟩ => ⟨S8448x4x1, .f32⟩
  | .hbm, ⟨29, _⟩ => ⟨S8448x4x1, .f32⟩
  | .hbm, ⟨30, _⟩ => ⟨S8448x4x1, .f32⟩
  | .hbm, ⟨31, _⟩ => ⟨S8448x4x64, .f32⟩
  | .hbm, ⟨32, _⟩ => ⟨S8448x4x64, .f32⟩
  | .hbm, ⟨33, _⟩ => ⟨S1x1x64, .f32⟩
  | .hbm, ⟨34, _⟩ => ⟨S8448x4x64, .f32⟩
  | .hbm, ⟨35, _⟩ => ⟨S8448x4x64, .f32⟩
  | .hbm, ⟨36, _⟩ => ⟨S8448x4x64, .f32⟩
  | .hbm, ⟨37, _⟩ => ⟨S8448x4x64, .f32⟩
  | .hbm, ⟨38, _⟩ => ⟨S8448x4x64, .f32⟩
  | .hbm, ⟨39, _⟩ => ⟨S_, .f32⟩
  | .hbm, ⟨40, _⟩ => ⟨S8448x4x64, .f32⟩
  | .hbm, ⟨41, _⟩ => ⟨S8448x4x64, .f32⟩
  | .hbm, ⟨42, _⟩ => ⟨S_, .f32⟩
  | .hbm, ⟨43, _⟩ => ⟨S8448x4x64, .f32⟩
  | .hbm, ⟨44, _⟩ => ⟨S8448x4x64, .f32⟩
  | .hbm, ⟨45, _⟩ => ⟨S8448x4x64, .f32⟩
  | .hbm, ⟨46, _⟩ => ⟨S8448x4x64, .f32⟩
  | .hbm, ⟨47, _⟩ => ⟨S8448x256, .f32⟩
  | .hbm, ⟨48, _⟩ => ⟨S8448x1024, .f32⟩
  | .hbm, ⟨49, _⟩ => ⟨S1x1x1024, .f32⟩
  | .hbm, ⟨50, _⟩ => ⟨S1024, .f32⟩
  | .hbm, ⟨51, _⟩ => ⟨S1x1x1024, .f32⟩
  | .hbm, ⟨52, _⟩ => ⟨S1024, .f32⟩
  | .hbm, ⟨53, _⟩ => ⟨S8448x1024, .i1⟩
  | .hbm, ⟨54, _⟩ => ⟨S8448x1024, .f32⟩
  | .hbm, ⟨55, _⟩ => ⟨S8448x1024, .f32⟩
  | .hbm, ⟨56, _⟩ => ⟨S8448x1024, .f32⟩
  | .hbm, ⟨57, _⟩ => ⟨S8448x1024, .f32⟩
  | .hbm, ⟨58, _⟩ => ⟨S8448x1024, .f32⟩
  | .hbm, ⟨59, _⟩ => ⟨S8448x1024, .f32⟩
  | .hbm, ⟨60, _⟩ => ⟨S1024, .f32⟩
  | .hbm, ⟨61, _⟩ => ⟨S8448x1024, .f32⟩
  | .hbm, ⟨62, _⟩ => ⟨S_, .f32⟩
  | .hbm, ⟨63, _⟩ => ⟨S8448, .f32⟩
  | .hbm, ⟨64, _⟩ => ⟨S8448x1, .f32⟩
  | .hbm, ⟨65, _⟩ => ⟨S_, .f32⟩
  | .hbm, ⟨66, _⟩ => ⟨S8448x1, .f32⟩
  | .hbm, ⟨67, _⟩ => ⟨S8448x1, .f32⟩
  | .hbm, ⟨68, _⟩ => ⟨S_, .f32⟩
  | .hbm, ⟨69, _⟩ => ⟨S8448x1, .f32⟩
  | .hbm, ⟨70, _⟩ => ⟨S8448x1, .f32⟩
  | .hbm, ⟨71, _⟩ => ⟨S8448x1, .f32⟩
  | .hbm, ⟨72, _⟩ => ⟨S8448x1024, .f32⟩
  | .hbm, ⟨73, _⟩ => ⟨S8448x1024, .f32⟩
  | .hbm, ⟨74, _⟩ => ⟨S1x1024, .f32⟩
  | .hbm, ⟨75, _⟩ => ⟨S8448x1024, .f32⟩
  | .hbm, ⟨76, _⟩ => ⟨S8448x1024, .f32⟩
  | .hbm, ⟨77, _⟩ => ⟨S8448, .i32⟩
  | .hbm, ⟨78, _⟩ => ⟨S8448x1, .i32⟩
  | .hbm, ⟨79, _⟩ => ⟨S_, .i32⟩
  | .hbm, ⟨80, _⟩ => ⟨S8448x1, .i32⟩
  | .hbm, ⟨81, _⟩ => ⟨S8448x1, .i1⟩
  | .hbm, ⟨82, _⟩ => ⟨S1x1x1024, .f32⟩
  | .hbm, ⟨83, _⟩ => ⟨S1024, .f32⟩
  | .hbm, ⟨84, _⟩ => ⟨S1x1x1024, .f32⟩
  | .hbm, ⟨85, _⟩ => ⟨S1024, .f32⟩
  | .hbm, ⟨86, _⟩ => ⟨S8448x1024, .i1⟩
  | .hbm, ⟨87, _⟩ => ⟨S8448x1024, .f32⟩
  | .hbm, ⟨88, _⟩ => ⟨S8448x1024, .f32⟩
  | .hbm, ⟨89, _⟩ => ⟨S8448x1024, .f32⟩
  | .hbm, ⟨90, _⟩ => ⟨S_, .f32⟩
  | .hbm, ⟨91, _⟩ => ⟨S8448x1024, .f32⟩
  | .hbm, ⟨92, _⟩ => ⟨S8448x1024, .f32⟩
  | .hbm, ⟨93, _⟩ => ⟨S8448x1024, .f32⟩
  | .hbm, ⟨94, _⟩ => ⟨S1x1x1024, .f32⟩
  | .hbm, ⟨95, _⟩ => ⟨S1024, .f32⟩
  | .hbm, ⟨96, _⟩ => ⟨S1x1x1024, .f32⟩
  | .hbm, ⟨97, _⟩ => ⟨S1024, .f32⟩
  | .hbm, ⟨98, _⟩ => ⟨S8448x1024, .i1⟩
  | .hbm, ⟨99, _⟩ => ⟨S8448x1024, .f32⟩
  | .hbm, ⟨100, _⟩ => ⟨S8448x1024, .f32⟩
  | .hbm, ⟨101, _⟩ => ⟨S8448x1024, .f32⟩
  | .hbm, ⟨102, _⟩ => ⟨S8448x1024, .f32⟩
  | .hbm, ⟨103, _⟩ => ⟨S8448x4096, .f32⟩
  | .hbm, ⟨104, _⟩ => ⟨S_, .f32⟩
  | .hbm, ⟨105, _⟩ => ⟨S8448x4096, .f32⟩
  | .hbm, ⟨106, _⟩ => ⟨S8448x4096, .f32⟩
  | .hbm, ⟨107, _⟩ => ⟨S8448x4096, .f32⟩
  | .hbm, ⟨108, _⟩ => ⟨S8448x1024, .f32⟩
  | .hbm, ⟨109, _⟩ => ⟨S1x1x1024, .f32⟩
  | .hbm, ⟨110, _⟩ => ⟨S1024, .f32⟩
  | .hbm, ⟨111, _⟩ => ⟨S1x1x1024, .f32⟩
  | .hbm, ⟨112, _⟩ => ⟨S1024, .f32⟩
  | .hbm, ⟨113, _⟩ => ⟨S8448x1024, .i1⟩
  | .hbm, ⟨114, _⟩ => ⟨S8448x1024, .f32⟩
  | .hbm, ⟨115, _⟩ => ⟨S8448x1024, .f32⟩
  | .hbm, ⟨116, _⟩ => ⟨S8448x1024, .f32⟩
  | .hbm, ⟨117, _⟩ => ⟨S8448x1024, .f32⟩
  | .hbm, ⟨118, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v55 : Ref sig .tc := ⟨.hbm, 89, rfl⟩
abbrev main_cst_6 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call4_cst : Ref sig .tc := ⟨.hbm, 104, rfl⟩
abbrev main_call4_v0 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩

abbrev nD : Nat := 1
abbrev τ : Topo := Topo.v7x

variable {F : FTy → Type} [FloatOps F]
-- ==== Kernel7.lean ====
abbrev S4x2048x512 : Shape := ⟨3, ![4, 2048, 512]⟩
abbrev S2048x512 : Shape := ⟨2, ![2048, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S4x512x512, .bf16⟩
  | .local _ .vmem, ⟨1, _⟩ => ⟨S4x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S4x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4x2048x512 : Shape := ⟨3, ![4, 2048, 512]⟩
abbrev S2048x512 : Shape := ⟨2, ![2048, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S4x2048x512, .f32⟩
  | .hbm, ⟨5, _⟩ => ⟨S_, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S_, .f32⟩
  | .hbm, ⟨38, _⟩ => ⟨S2048x512, .f32⟩
  | .hbm, ⟨39, _⟩ => ⟨S2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel8.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S4x1024x1024 : Shape := ⟨3, ![4, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x1024x1024, .f32⟩
  | .hbm, ⟨5, _⟩ => ⟨S_, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S4x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S4x256x1024 : Shape := ⟨3, ![4, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S4x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S4x2048x236 : Shape := ⟨3, ![4, 2048, 236]⟩
abbrev S2048x236 : Shape := ⟨2, ![2048, 236]⟩
abbrev S4x1024x236 : Shape := ⟨3, ![4, 1024, 236]⟩
abbrev S1024x236 : Shape := ⟨2, ![1024, 236]⟩
abbrev S1x1024x236 : Shape := ⟨3, ![1, 1024, 236]⟩

abbrev nBuf : Space → Nat
  | .hbm => 8
  | .vmem => 16
  | .smem => 0
  | _ => 0

abbrev bufTy : (tb : Table) → Fin (tcTables nBuf tb) → BufTy
  | .hbm, ⟨0, _⟩ => ⟨S4x2048x236, .bf16⟩
  | .hbm, ⟨1, _⟩ => ⟨S2048x236, .f32⟩
  | .hbm, ⟨2, _⟩ => ⟨S2048x236, .f32⟩
  | .hbm, ⟨3, _⟩ => ⟨S2048x236, .f32⟩
  | .hbm, ⟨4, _⟩ => ⟨S2048x236, .f32⟩
  | .hbm, ⟨5, _⟩ => ⟨S2048x236, .f32⟩
  | .hbm, ⟨6, _⟩ => ⟨S2048x236, .f32⟩
  | .hbm, ⟨7, _⟩ => ⟨S2048x236, .f32⟩
  | .local _ .vmem, ⟨0, _⟩ => ⟨S4x1024x236, .bf16⟩
  | .local _ .vmem, ⟨1, _⟩ => ⟨S4x1024x236, .bf16⟩
  | .local _ .vmem, ⟨2, _⟩ => ⟨S1024x236, .f32⟩
  | .local _ .vmem, ⟨3, _⟩ => ⟨S1024x236, .f32⟩
  | .local _ .vmem, ⟨4, _⟩ => ⟨S1024x236, .f32⟩
  | .local _ .vmem, ⟨5, _⟩ => ⟨S1024x236, .f32⟩
  | .local _ .vmem, ⟨6, _⟩ => ⟨S1024x236, .f32⟩
  | .local _ .vmem, ⟨7, _⟩ => ⟨S1024x236, .f32⟩
  | .local _ .vmem, ⟨8, _⟩ => ⟨S1024x236, .f32⟩
  | .local _ .vmem, ⟨9, _⟩ => ⟨S1024x236, .f32⟩
  | .local _ .vmem, ⟨10, _⟩ => ⟨S1024x236, .f32⟩
  | .local _ .vmem, ⟨11, _⟩ => ⟨S1024x236, .f32⟩
  | .local _ .vmem, ⟨12, _⟩ => ⟨S1024x236, .f32⟩
  | .local _ .vmem, ⟨13, _⟩ => ⟨S1024x236, .f32⟩
  | .local _ .vmem, ⟨14, _⟩ => ⟨S1024x236, .f32⟩
  | .local _ .vmem, ⟨15, _⟩ => ⟨S1024x236, .f32⟩
  | _, _ => ⟨S4x2048x236, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x236 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x236 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x236 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x236 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x236 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x236 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x236 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x236 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4x2048x236 : Shape := ⟨3, ![4, 2048, 236]⟩
abbrev S2048x236 : Shape := ⟨2, ![2048, 236]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x236, .bf16⟩
  | .hbm, ⟨1, _⟩ => ⟨S2048x236, .f32⟩
  | .hbm, ⟨2, _⟩ => ⟨S2048x236, .f32⟩
  | .hbm, ⟨3, _⟩ => ⟨S2048x236, .f32⟩
  | .hbm, ⟨4, _⟩ => ⟨S4x2048x236, .f32⟩
  | .hbm, ⟨5, _⟩ => ⟨S_, .f32⟩
  | .hbm, ⟨6, _⟩ => ⟨S2048x236, .f32⟩
  | .hbm, ⟨7, _⟩ => ⟨S_, .f32⟩
  | .hbm, ⟨8, _⟩ => ⟨S2048x236, .f32⟩
  | .hbm, ⟨9, _⟩ => ⟨S2048x236, .f32⟩
  | .hbm, ⟨10, _⟩ => ⟨S_, .f32⟩
  | .hbm, ⟨11, _⟩ => ⟨S2048x236, .f32⟩
  | .hbm, ⟨12, _⟩ => ⟨S2048x236, .f32⟩
  | .hbm, ⟨13, _⟩ => ⟨S2048x236, .f32⟩
  | .hbm, ⟨14, _⟩ => ⟨S_, .f32⟩
  | .hbm, ⟨15, _⟩ => ⟨S2048x236, .f32⟩
  | .hbm, ⟨16, _⟩ => ⟨S2048x236, .f32⟩
  | .hbm, ⟨17, _⟩ => ⟨S2048x236, .f32⟩
  | .hbm, ⟨18, _⟩ => ⟨S_, .f32⟩
  | .hbm, ⟨19, _⟩ => ⟨S2048x236, .f32⟩
  | .hbm, ⟨20, _⟩ => ⟨S2048x236, .f32⟩
  | .hbm, ⟨21, _⟩ => ⟨S2048x236, .f32⟩
  | .hbm, ⟨22, _⟩ => ⟨S_, .f32⟩
  | .hbm, ⟨23, _⟩ => ⟨S2048x236, .f32⟩
  | .hbm, ⟨24, _⟩ => ⟨S2048x236, .f32⟩
  | .hbm, ⟨25, _⟩ => ⟨S_, .f32⟩
  | .hbm, ⟨26, _⟩ => ⟨S2048x236, .f32⟩
  | .hbm, ⟨27, _⟩ => ⟨S2048x236, .f32⟩
  | .hbm, ⟨28, _⟩ => ⟨S2048x236, .f32⟩
  | .hbm, ⟨29, _⟩ => ⟨S_, .f32⟩
  | .hbm, ⟨30, _⟩ => ⟨S2048x236, .f32⟩
  | .hbm, ⟨31, _⟩ => ⟨S2048x236, .f32⟩
  | .hbm, ⟨32, _⟩ => ⟨S2048x236, .f32⟩
  | .hbm, ⟨33, _⟩ => ⟨S_, .f32⟩
  | .hbm, ⟨34, _⟩ => ⟨S2048x236, .f32⟩
  | .hbm, ⟨35, _⟩ => ⟨S2048x236, .f32⟩
  | .hbm, ⟨36, _⟩ => ⟨S2048x236, .f32⟩
  | .hbm, ⟨37, _⟩ => ⟨S_, .f32⟩
  | .hbm, ⟨38, _⟩ => ⟨S2048x236, .f32⟩
  | .hbm, ⟨39, _⟩ => ⟨S2048x236, .f32⟩
  | _, _ => ⟨S4x2048x236, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S4x512x96 : Shape := ⟨3, ![4, 512, 96]⟩
abbrev S512x96 : Shape := ⟨2, ![512, 96]⟩
abbrev S1x512x96 : Shape := ⟨3, ![1, 512, 96]⟩

abbrev nBuf : Space → Nat
  | .hbm => 8
  | .vmem => 8
  | .smem => 0
  | _ => 0

abbrev bufTy : (tb : Table) → Fin (tcTables nBuf tb) → BufTy
  | .hbm, ⟨0, _⟩ => ⟨S4x512x96, .bf16⟩
  | .hbm, ⟨1, _⟩ => ⟨S512x96, .f32⟩
  | .hbm, ⟨2, _⟩ => ⟨S512x96, .f32⟩
  | .hbm, ⟨3, _⟩ => ⟨S512x96, .f32⟩
  | .hbm, ⟨4, _⟩ => ⟨S512x96, .f32⟩
  | .hbm, ⟨5, _⟩ => ⟨S512x96, .f32⟩
  | .hbm, ⟨6, _⟩ => ⟨S512x96, .f32⟩
  | .hbm, ⟨7, _⟩ => ⟨S512x96, .f32⟩
  | .local _ .vmem, ⟨0, _⟩ => ⟨S4x512x96, .bf16⟩
  | .local _ .vmem, ⟨1, _⟩ => ⟨S512x96, .f32⟩
  | .local _ .vmem, ⟨2, _⟩ => ⟨S512x96, .f32⟩
  | .local _ .vmem, ⟨3, _⟩ => ⟨S512x96, .f32⟩
  | .local _ .vmem, ⟨4, _⟩ => ⟨S512x96, .f32⟩
  | .local _ .vmem, ⟨5, _⟩ => ⟨S512x96, .f32⟩
  | .local _ .vmem, ⟨6, _⟩ => ⟨S512x96, .f32⟩
  | .local _ .vmem, ⟨7, _⟩ => ⟨S512x96, .f32⟩
  | _, _ => ⟨S4x512x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S4x512x96 : Shape := ⟨3, ![4, 512, 96]⟩
abbrev S512x96 : Shape := ⟨2, ![512, 96]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x96, .bf16⟩
  | .hbm, ⟨1, _⟩ => ⟨S512x96, .f32⟩
  | .hbm, ⟨2, _⟩ => ⟨S512x96, .f32⟩
  | .hbm, ⟨3, _⟩ => ⟨S512x96, .f32⟩
  | .hbm, ⟨4, _⟩ => ⟨S4x512x96, .f32⟩
  | .hbm, ⟨5, _⟩ => ⟨S_, .f32⟩
  | .hbm, ⟨6, _⟩ => ⟨S512x96, .f32⟩
  | .hbm, ⟨7, _⟩ => ⟨S_, .f32⟩
  | .hbm, ⟨8, _⟩ => ⟨S512x96, .f32⟩
  | .hbm, ⟨9, _⟩ => ⟨S512x96, .f32⟩
  | .hbm, ⟨10, _⟩ => ⟨S_, .f32⟩
  | .hbm, ⟨11, _⟩ => ⟨S512x96, .f32⟩
  | .hbm, ⟨12, _⟩ => ⟨S512x96, .f32⟩
  | .hbm, ⟨13, _⟩ => ⟨S512x96, .f32⟩
  | .hbm, ⟨14, _⟩ => ⟨S_, .f32⟩
  | .hbm, ⟨15, _⟩ => ⟨S512x96, .f32⟩
  | .hbm, ⟨16, _⟩ => ⟨S512x96, .f32⟩
  | .hbm, ⟨17, _⟩ => ⟨S512x96, .f32⟩
  | .hbm, ⟨18, _⟩ => ⟨S_, .f32⟩
  | .hbm, ⟨19, _⟩ => ⟨S512x96, .f32⟩
  | .hbm, ⟨20, _⟩ => ⟨S512x96, .f32⟩
  | .hbm, ⟨21, _⟩ => ⟨S512x96, .f32⟩
  | .hbm, ⟨22, _⟩ => ⟨S_, .f32⟩
  | .hbm, ⟨23, _⟩ => ⟨S512x96, .f32⟩
  | .hbm, ⟨24, _⟩ => ⟨S512x96, .f32⟩
  | .hbm, ⟨25, _⟩ => ⟨S_, .f32⟩
  | .hbm, ⟨26, _⟩ => ⟨S512x96, .f32⟩
  | .hbm, ⟨27, _⟩ => ⟨S512x96, .f32⟩
  | .hbm, ⟨28, _⟩ => ⟨S512x96, .f32⟩
  | .hbm, ⟨29, _⟩ => ⟨S_, .f32⟩
  | .hbm, ⟨30, _⟩ => ⟨S512x96, .f32⟩
  | .hbm, ⟨31, _⟩ => ⟨S512x96, .f32⟩
  | .hbm, ⟨32, _⟩ => ⟨S512x96, .f32⟩
  | .hbm, ⟨33, _⟩ => ⟨S_, .f32⟩
  | .hbm, ⟨34, _⟩ => ⟨S512x96, .f32⟩
  | .hbm, ⟨35, _⟩ => ⟨S512x96, .f32⟩
  | .hbm, ⟨36, _⟩ => ⟨S512x96, .f32⟩
  | .hbm, ⟨37, _⟩ => ⟨S_, .f32⟩
  | .hbm, ⟨38, _⟩ => ⟨S512x96, .f32⟩
  | .hbm, ⟨39, _⟩ => ⟨S512x96, .f32⟩
  | _, _ => ⟨S4x512x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel12.lean ====
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S4x512x128, .bf16⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S4x512x128 : Shape := ⟨3, ![4, 512, 128]⟩
abbrev S512x128 : Shape := ⟨2, ![512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S4x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S1x2048x768 : Shape := ⟨3, ![1, 2048, 768]⟩
abbrev S2048x768 : Shape := ⟨2, ![2048, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S1x256x768, .f32⟩
  | .local _ .vmem, ⟨1, _⟩ => ⟨S1x256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1x2048x768 : Shape := ⟨3, ![1, 2048, 768]⟩
abbrev S2048x768 : Shape := ⟨2, ![2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Run.Loop.lean ====
/- The counted loop over the query rows inside one grid point of the attention gradient: what one trip does to the three
   buffers it accumulates into, as plain functions of arrays, and the loop's invariant. -/
module

public import proofs.«01_k».proof.Proof.Gen.KernelIdeal.Skeleton
public import Idealize.ShloMosaic.Lib.Exec
public import Idealize.ShloMosaic.Lib.Tactic
public import Idealize.ShloMosaic.Lib.VecWindow
public import Idealize.ShloMosaic.Lib.Pipeline.Kit
public import Idealize.ShloMosaic.Lib.Pipeline.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (Pipeline.UD sig nD τ) ℕ

/-- The three accumulators: the rows of dq, and this block's dk and dv. -/
abbrev Acc (F : FTy → Type) : Type := Vec F S8448x256 .f32 × Vec F S768x256 .f32 × Vec F S768x128 .f32

/-- One trip over the rows `256 + 1024 k, …`: the block's dk and dv gain the chunk's terms, and those rows of dq gain the
    block's. `kh`, `vh` are the block of keys and values, `q`, `g` the head's queries and output gradients, `ls` and `dl`
    the rows' log-sums and deltas of every head. -/
def trip (i : grid0.Coords) (kh : Vec F S768x256 .bf16) (vh : Vec F S768x128 .bf16) (ls dl : Vec F S8x8448 .f32)
    (q : Vec F S8448x256 .bf16) (g : Vec F S8448x128 .bf16) (k : Fin k0_t1_loop.trips) (s : Acc F) : Acc F :=
  let qh : Vec F S1024x256 .bf16 := VecWindow.window q (k0_off4 k) S1024x256.size (k0_off4_inb k)
  let gh : Vec F S1024x128 .bf16 := VecWindow.window g (k0_off5 k) S1024x128.size (k0_off5_inb k)
  let l : Vec F S1x1024 .f32 := VecWindow.window ls (k0_off6 i k) S1x1024.size (k0_off6_inb i k)
  let d : Vec F S1x1024 .f32 := VecWindow.window dl (k0_off6 i k) S1x1024.size (k0_off6_inb i k)
  (VecWindow.put s.1 (k0_off4 k) S1024x256.size
      (k0_pay17 kh (k0_pay7 (k0_pay14 kh) (k0_pay15 vh) qh gh l d)
        (k0_pay10 (VecWindow.window s.1 (k0_off4 k) S1024x256.size (k0_off4_inb k)))),
    k0_pay9 (k0_pay14 kh) (k0_pay15 vh) qh gh l d s.2.1,
    k0_pay8 (k0_pay14 kh) qh gh l s.2.2)

/-- The accumulators after the first `n` trips. -/
def trips (i : grid0.Coords) (kh : Vec F S768x256 .bf16) (vh : Vec F S768x128 .bf16) (ls dl : Vec F S8x8448 .f32)
    (q : Vec F S8448x256 .bf16) (g : Vec F S8448x128 .bf16) (s : Acc F) : ℕ → Acc F
  | 0 => s
  | n + 1 => if h : n < k0_t1_loop.trips then trip i kh vh ls dl q g ⟨n, h⟩ (trips i kh vh ls dl q g s n) else trips i kh vh ls dl q g s n

theorem trips_succ (i : grid0.Coords) (kh : Vec F S768x256 .bf16) (vh : Vec F S768x128 .bf16) (ls dl : Vec F S8x8448 .f32)
    (q : Vec F S8448x256 .bf16) (g : Vec F S8448x128 .bf16) (s : Acc F) (k : Fin k0_t1_loop.trips) :
    trips i kh vh ls dl q g s (k.val + 1) = trip i kh vh ls dl q g k (trips i kh vh ls dl q g s k.val) := by
  rw [trips.eq_2]; exact dif_pos k.isLt

section
variable (c : Dev nD) (i : grid0.Coords) (arg2 : Memref sig .tc .hbm S8448x1024 .bf16) (harg2 : arg2.IsWhole) (arg3 : Memref sig .tc .hbm S8448x512 .bf16) (harg3 : arg3.IsWhole) (arg4 : Memref sig .tc .vmem S768x256 .bf16) (harg4 : arg4.IsWhole) (arg5 : Memref sig .tc .vmem S768x128 .bf16) (harg5 : arg5.IsWhole) (arg6 : Memref sig .tc .vmem S8x8448 .f32) (harg6 : arg6.IsWhole) (arg7 : Memref sig .tc .vmem S8x8448 .f32) (harg7 : arg7.IsWhole)
  (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (arg11 : Memref sig .tc .vmem S8448x256 .bf16) (harg11 : arg11.IsWhole) (arg12 : Memref sig .tc .vmem S8448x128 .bf16) (harg12 : arg12.IsWhole) (arg13 : Memref sig .tc .vmem S768x256 .f32) (harg13 : arg13.IsWhole) (arg14 : Memref sig .tc .vmem S768x128 .f32) (harg14 : arg14.IsWhole) (arg15 : DmaSems sig S2)

/-- What the loop holds before trip `k`: the buffers it reads, and each accumulator at the values of the trips before. -/
abbrev inv (arg0 : BitVec 32) (kh : Vec F S768x256 .bf16) (vh : Vec F S768x128 .bf16)
    (f6 : BufTy.Contents (Elt F) arg6.view.ty) (f7 : BufTy.Contents (Elt F) arg7.view.ty)
    (f11 : BufTy.Contents (Elt F) arg11.view.ty) (f12 : BufTy.Contents (Elt F) arg12.view.ty)
    (a8 : Vec F S8448x256 .f32) (a13 : Vec F S768x256 .f32) (a14 : Vec F S768x128 .f32) (k : ℕ) (_u : PUnit) : sProp 𝕄 :=
  iprop((arg6.view.loc (c : Thread nD τ) ↦[arg6.view.set]{fullShare} f6) ∗ (arg7.view.loc (c : Thread nD τ) ↦[arg7.view.set]{fullShare} f7)
    ∗ (arg11.view.loc (c : Thread nD τ) ↦[arg11.view.set]{fullShare} f11) ∗ (arg12.view.loc (c : Thread nD τ) ↦[arg12.view.set]{fullShare} f12)
    ∗ (∃ f, (arg8.view.loc (c : Thread nD τ) ↦[arg8.view.set]{fullShare} f)
        ∗ ⌜arg8.view.read (Elt F) f = (trips i kh vh (arg6.view.read (Elt F) f6) (arg7.view.read (Elt F) f7) (arg11.view.read (Elt F) f11) (arg12.view.read (Elt F) f12) (a8, a13, a14) k).1⌝)
    ∗ (∃ f, (arg13.view.loc (c : Thread nD τ) ↦[arg13.view.set]{fullShare} f)
        ∗ ⌜arg13.view.read (Elt F) f = (trips i kh vh (arg6.view.read (Elt F) f6) (arg7.view.read (Elt F) f7) (arg11.view.read (Elt F) f11) (arg12.view.read (Elt F) f12) (a8, a13, a14) k).2.1⌝)
    ∗ (∃ f, (arg14.view.loc (c : Thread nD τ) ↦[arg14.view.set]{fullShare} f)
        ∗ ⌜arg14.view.read (Elt F) f = (trips i kh vh (arg6.view.read (Elt F) f6) (arg7.view.read (Elt F) f7) (arg11.view.read (Elt F) f11) (arg12.view.read (Elt F) f12) (a8, a13, a14) k).2.2⌝))

set_option maxHeartbeats 4000000 in
set_option warn.classDefReducibility false in
/-- The loop by that invariant. -/
@[sl_loop] def loopInv (bd : Option Variants.none.V) (E : Set ℕ) (arg0 : BitVec 32) (kh : Vec F S768x256 .bf16) (vh : Vec F S768x128 .bf16)
    (f6 : BufTy.Contents (Elt F) arg6.view.ty) (f7 : BufTy.Contents (Elt F) arg7.view.ty)
    (f11 : BufTy.Contents (Elt F) arg11.view.ty) (f12 : BufTy.Contents (Elt F) arg12.view.ty)
    (a8 : Vec F S8448x256 .f32) (a13 : Vec F S768x256 .f32) (a14 : Vec F S768x128 .f32) :
    Idealize.ShloMosaic.LoopInv (M := 𝕄) Idealize.ShloMosaic.frame (wpE (defs₀ (F := F)) Variants.none (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 arg0 kh vh) where
  inv := inv c i arg6 arg7 arg8 arg11 arg12 arg13 arg14 arg0 kh vh f6 f7 f11 f12 a8 a13 a14
  step k acc := by
    have hk : k.val < 8 := Nat.lt_of_lt_of_le k.isLt k0_t1_abs.2.1
    unfold k0_t1_body
    iintro ⟨H6, H7, H11, H12, ⟨%f8, H8, %h8⟩, ⟨%f13, H13, %h13⟩, ⟨%f14, H14, %h14⟩⟩
    sl_exec
    sl_step
    isplitl [H6]; · iexact H6
    isplitl [H7]; · iexact H7
    isplitl [H11]; · iexact H11
    isplitl [H12]; · iexact H12
    rw [trips_succ]
    isplitl [H8]
    · iexists _; isplitl [H8]; · iexact H8
      ipureintro
      rw [View.read_writes_cons_put _ _ _ _ _ rfl, View.writes_nil, h8]
      sl_unfold_run_names
      rw [View.readAt_unit arg8.view f8 _ rfl (k0_off4_inb k), h8]
      rfl
    isplitl [H13]
    · iexists _; isplitl [H13]; · iexact H13
      ipureintro
      rw [View.read_writes_full]
      sl_unfold_run_names
      rw [View.readAt_full arg13.view f13, h13]
      rfl
    iexists _; isplitl [H14]; · iexact H14
    ipureintro
    rw [View.read_writes_full]
    sl_unfold_run_names
    rw [View.readAt_full arg14.view f14, h14]
    rfl

end

end Cert.KernelIdeal.Run

end
-- ==== Proof.Run.Point.lean ====
/- One grid point of the attention gradient, as a function of arrays: what the body leaves in the rows of dq, in the
   block's dk and dv, and in the two scratch buffers that keep a head's queries and output gradients. -/
module

public import proofs.«01_k».proof.Proof.Run.Loop
public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (Pipeline.UD sig nD τ) ℕ

/-- The chunk of the 256 context rows, which only the first block of keys takes: the keys past the context weigh nothing. -/
def context (i : grid0.Coords) (hj : k0_cond2 i = 1#1) (kh : Vec F S768x256 .bf16) (vh : Vec F S768x128 .bf16) (ls dl : Vec F S8x8448 .f32)
    (q : Vec F S8448x256 .bf16) (g : Vec F S8448x128 .bf16) (s : Acc F) : Acc F :=
  let qh : Vec F S256x256 .bf16 := VecWindow.window q ![0, 0] S256x256.size inb_S8448x256_S256x256_0_0
  let gh : Vec F S256x128 .bf16 := VecWindow.window g ![0, 0] S256x128.size inb_S8448x128_S256x128_0_0
  let l : Vec F S1x256 .f32 := VecWindow.window ls (k0_off3 i) S1x256.size (k0_off3_inb i hj)
  let d : Vec F S1x256 .f32 := VecWindow.window dl (k0_off3 i) S1x256.size (k0_off3_inb i hj)
  (VecWindow.put s.1 ![0, 0] S256x256.size
      (k0_pay16 kh (k0_pay3 (k0_pay14 kh) (k0_pay15 vh) qh gh l d)
        (VecWindow.window s.1 ![0, 0] S256x256.size inb_S8448x256_S256x256_0_0)),
    k0_pay5 (k0_pay14 kh) (k0_pay15 vh) qh gh l d s.2.1,
    k0_pay4 (k0_pay14 kh) qh gh l s.2.2)

/-- The accumulators after the point's loop, from what they hold when it starts. -/
abbrev loopAcc (i : grid0.Coords) (kh : Vec F S768x256 .bf16) (vh : Vec F S768x128 .bf16) (ls dl : Vec F S8x8448 .f32)
    (q : Vec F S8448x256 .bf16) (g : Vec F S8448x128 .bf16) (s : Acc F) : Acc F :=
  trips i kh vh ls dl q g s k0_t1_loop.trips

/-- The loop's results depend on the arrays alone. -/
theorem trips_congr (i : grid0.Coords) {kh kh' : Vec F S768x256 .bf16} {vh vh' : Vec F S768x128 .bf16} {ls ls' dl dl' : Vec F S8x8448 .f32}
    {q q' : Vec F S8448x256 .bf16} {g g' : Vec F S8448x128 .bf16} {s : Acc F} (s' : Acc F) (n : ℕ) (ek : kh = kh') (ev : vh = vh') (el : ls = ls')
    (ed : dl = dl') (eq : q = q') (eg : g = g') (e1 : s.1 = s'.1) (e2 : s.2.1 = s'.2.1) (e3 : s.2.2 = s'.2.2) :
    trips i kh vh ls dl q g s n = trips i kh' vh' ls' dl' q' g' s' n := by
  subst ek ev el ed eq eg
  rw [show s = s' from Prod.ext e1 (Prod.ext e2 e3)]

/-- The queries and the output gradients, left in HBM. -/
abbrev opQ : Memref sig .tc .hbm S8448x1024 .bf16 := Memref.whole main_v8
abbrev opG : Memref sig .tc .hbm S8448x512 .bf16 := Memref.whole main_v74
abbrev OpBuf (c : Dev nD) {sp : Space} {S : Shape} {e : EltTy} (M : Memref sig .tc sp S e) : Type := Buf (Elt F) (M.view.loc (c : Thread nD τ))
abbrev opPt (c : Dev nD) {sp : Space} {S : Shape} {e : EltTy} (M : Memref sig .tc sp S e) (f : OpBuf (F := F) c M) : sProp 𝕄 :=
  M.view.loc (c : Thread nD τ) ↦{fullShare} f

/-- The head's columns of the queries. -/
def headQ (i : grid0.Coords) (hj : k0_cond1 i = 1#1) (x : Vec F S8448x1024 .bf16) : Vec F S8448x256 .bf16 :=
  VecWindow.window x (k0_off1 i) S8448x256.size (k0_off1_inb i hj)
/-- The head's columns of the output gradients. -/
def headG (i : grid0.Coords) (hj : k0_cond1 i = 1#1) (x : Vec F S8448x512 .bf16) : Vec F S8448x128 .bf16 :=
  VecWindow.window x (k0_off2 i) S8448x128.size (k0_off2_inb i hj)

/-- The last block of keys. -/
abbrev lastBlock (i : grid0.Coords) : Prop := (Scalar.cmpi .ne (Scalar.extui (Scalar.cmpi .eq (BitVec.ofNat 32 (i 1).val) 10#32)) 0#32) = 1#1

section
variable (c : Dev nD) (i : grid0.Coords) (arg4 : Memref sig .tc .vmem S768x256 .bf16) (harg4 : arg4.IsWhole) (arg5 : Memref sig .tc .vmem S768x128 .bf16) (harg5 : arg5.IsWhole) (arg6 : Memref sig .tc .vmem S8x8448 .f32) (harg6 : arg6.IsWhole) (arg7 : Memref sig .tc .vmem S8x8448 .f32) (harg7 : arg7.IsWhole)
  (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (arg11 : Memref sig .tc .vmem S8448x256 .bf16) (harg11 : arg11.IsWhole) (arg12 : Memref sig .tc .vmem S8448x128 .bf16) (harg12 : arg12.IsWhole) (arg13 : Memref sig .tc .vmem S768x256 .f32) (harg13 : arg13.IsWhole) (arg14 : Memref sig .tc .vmem S768x128 .f32) (harg14 : arg14.IsWhole)

set_option maxHeartbeats 4000000 in
/-- A point whose block of keys is neither the first nor the last. -/
theorem point_mid (hc1 : ¬k0_cond1 i = 1#1) (hc2 : ¬k0_cond2 i = 1#1) (hc3 : ¬lastBlock i)
    (kh : Vec F S768x256 .bf16) (vh : Vec F S768x128 .bf16) (ls dl : Vec F S8x8448 .f32) (x : Vec F S8448x256 .f32) (q : Vec F S8448x256 .bf16) (g : Vec F S8448x128 .bf16)
    (fq : OpBuf (F := F) c opQ) (fg : OpBuf (F := F) c opG) (W : Waits sig Unit) (K : PUnit → sProp 𝕄) :
    iprop(owns (c : Thread nD τ) arg4 fullShare (kh) ∗ owns (c : Thread nD τ) arg5 fullShare (vh) ∗ owns (c : Thread nD τ) arg6 fullShare (ls) ∗ owns (c : Thread nD τ) arg7 fullShare (dl) ∗ owns (c : Thread nD τ) arg8 fullShare (x) ∗ (∃ d, owns (c : Thread nD τ) arg9 fullShare d) ∗ (∃ d, owns (c : Thread nD τ) arg10 fullShare d) ∗ owns (c : Thread nD τ) arg11 fullShare (q) ∗ owns (c : Thread nD τ) arg12 fullShare (g) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ opPt c opQ fq ∗ opPt c opG fg ∗ owes (c : Thread nD τ) 0 W
      ∗ (iprop(owns (c : Thread nD τ) arg4 fullShare (kh) ∗ owns (c : Thread nD τ) arg5 fullShare (vh) ∗ owns (c : Thread nD τ) arg6 fullShare (ls) ∗ owns (c : Thread nD τ) arg7 fullShare (dl) ∗ owns (c : Thread nD τ) arg8 fullShare ((loopAcc i kh vh ls dl q g (x, k0_pay12, k0_pay13)).1) ∗ owns (c : Thread nD τ) arg9 fullShare (k0_pay18 (loopAcc i kh vh ls dl q g (x, k0_pay12, k0_pay13)).2.1) ∗ owns (c : Thread nD τ) arg10 fullShare ((loopAcc i kh vh ls dl q g (x, k0_pay12, k0_pay13)).2.2) ∗ owns (c : Thread nD τ) arg11 fullShare (q) ∗ owns (c : Thread nD τ) arg12 fullShare (g) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ opPt c opQ fq ∗ opPt c opG fg ∗ (∃ W', owes (c : Thread nD τ) 0 W')) -∗ K ⟨⟩))
    ⊢ wp frame (wpE (defs₀ (F := F)) Variants.none (c : Thread nD τ) none) Set.univ
        (cc0_mla_bwd0 i opQ (Memref.isWhole_whole _) opG (Memref.isWhole_whole _) arg4 harg4 arg5 harg5 arg6 harg6 arg7 harg7 arg8 harg8 arg9 harg9 arg10 harg10 arg11 harg11 arg12 harg12 arg13 harg13 arg14 harg14 cc0_scratch4) K := by
  simp only [cc0_mla_bwd0_eq_skeleton]; unfold cc0_mla_bwd0_skel
  simp only [k0_part3_eq_skeleton]
  unfold owns
  iintro ⟨⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%f11, %h11, H11⟩, ⟨%f12, %h12, H12⟩, ⟨%d13, %f13, -, H13⟩, ⟨%d14, %f14, -, H14⟩, Hs0, Hs1, Hq, Hg, HW, Hk⟩
  sl_exec (disch := first | sl_exact hc1 | sl_exact hc2 | sl_exact hc3)
  sl_step
  replace hL5 := hL5.trans (congrArg (fun a : Acc F => a.1) (trips_congr i (x, k0_pay12, k0_pay13) _ (View.readAt_full arg4.view f4 _ |>.trans h4) (View.readAt_full arg5.view f5 _ |>.trans h5) h6 h7 h11 h12 h8 (by sl_unfold_run_names; exact View.read_writes_full _ _ _ _ _) (by sl_unfold_run_names; exact View.read_writes_full _ _ _ _ _)))
  replace hL7 := hL7.trans (congrArg (fun a : Acc F => a.2.1) (trips_congr i (x, k0_pay12, k0_pay13) _ (View.readAt_full arg4.view f4 _ |>.trans h4) (View.readAt_full arg5.view f5 _ |>.trans h5) h6 h7 h11 h12 h8 (by sl_unfold_run_names; exact View.read_writes_full _ _ _ _ _) (by sl_unfold_run_names; exact View.read_writes_full _ _ _ _ _)))
  replace hL9 := hL9.trans (congrArg (fun a : Acc F => a.2.2) (trips_congr i (x, k0_pay12, k0_pay13) _ (View.readAt_full arg4.view f4 _ |>.trans h4) (View.readAt_full arg5.view f5 _ |>.trans h5) h6 h7 h11 h12 h8 (by sl_unfold_run_names; exact View.read_writes_full _ _ _ _ _) (by sl_unfold_run_names; exact View.read_writes_full _ _ _ _ _)))
  iapply Hk
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    exact hL5
  isplitl [H9]
  · iexists _; isplitr; swap; · iexact H9
    ipureintro
    rw [View.read_writes_full, View.readAt_full, hL7]
  isplitl [H10]
  · iexists _; isplitr; swap; · iexact H10
    ipureintro
    sl_unfold_run_names
    rw [View.readAt_full, hL9]; exact View.read_writes_full _ _ _ _ _
  isplitl [H11]
  · iexists _; isplitr; swap; · iexact H11
    ipureintro
    exact h11
  isplitl [H12]
  · iexists _; isplitr; swap; · iexact H12
    ipureintro
    exact h12
  isplitl [H13]
  · iexists _, _; isplitr; swap; · iexact H13
    ipureintro; rfl
  isplitl [H14]
  · iexists _, _; isplitr; swap; · iexact H14
    ipureintro; rfl
  isplitl [Hs0]; · iexact Hs0
  isplitl [Hs1]; · iexact Hs1
  isplitl [Hq]; · iexact Hq
  isplitl [Hg]; · iexact Hg
  iexists _; iexact HW

set_option maxHeartbeats 4000000 in
/-- A point whose block of keys is the last: the head's dq is scaled. -/
theorem point_last (hc1 : ¬k0_cond1 i = 1#1) (hc2 : ¬k0_cond2 i = 1#1) (hc3 : lastBlock i)
    (kh : Vec F S768x256 .bf16) (vh : Vec F S768x128 .bf16) (ls dl : Vec F S8x8448 .f32) (x : Vec F S8448x256 .f32) (q : Vec F S8448x256 .bf16) (g : Vec F S8448x128 .bf16)
    (fq : OpBuf (F := F) c opQ) (fg : OpBuf (F := F) c opG) (W : Waits sig Unit) (K : PUnit → sProp 𝕄) :
    iprop(owns (c : Thread nD τ) arg4 fullShare (kh) ∗ owns (c : Thread nD τ) arg5 fullShare (vh) ∗ owns (c : Thread nD τ) arg6 fullShare (ls) ∗ owns (c : Thread nD τ) arg7 fullShare (dl) ∗ owns (c : Thread nD τ) arg8 fullShare (x) ∗ (∃ d, owns (c : Thread nD τ) arg9 fullShare d) ∗ (∃ d, owns (c : Thread nD τ) arg10 fullShare d) ∗ owns (c : Thread nD τ) arg11 fullShare (q) ∗ owns (c : Thread nD τ) arg12 fullShare (g) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ opPt c opQ fq ∗ opPt c opG fg ∗ owes (c : Thread nD τ) 0 W
      ∗ (iprop(owns (c : Thread nD τ) arg4 fullShare (kh) ∗ owns (c : Thread nD τ) arg5 fullShare (vh) ∗ owns (c : Thread nD τ) arg6 fullShare (ls) ∗ owns (c : Thread nD τ) arg7 fullShare (dl) ∗ owns (c : Thread nD τ) arg8 fullShare (k0_pay1 (loopAcc i kh vh ls dl q g (x, k0_pay12, k0_pay13)).1) ∗ owns (c : Thread nD τ) arg9 fullShare (k0_pay18 (loopAcc i kh vh ls dl q g (x, k0_pay12, k0_pay13)).2.1) ∗ owns (c : Thread nD τ) arg10 fullShare ((loopAcc i kh vh ls dl q g (x, k0_pay12, k0_pay13)).2.2) ∗ owns (c : Thread nD τ) arg11 fullShare (q) ∗ owns (c : Thread nD τ) arg12 fullShare (g) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ opPt c opQ fq ∗ opPt c opG fg ∗ (∃ W', owes (c : Thread nD τ) 0 W')) -∗ K ⟨⟩))
    ⊢ wp frame (wpE (defs₀ (F := F)) Variants.none (c : Thread nD τ) none) Set.univ
        (cc0_mla_bwd0 i opQ (Memref.isWhole_whole _) opG (Memref.isWhole_whole _) arg4 harg4 arg5 harg5 arg6 harg6 arg7 harg7 arg8 harg8 arg9 harg9 arg10 harg10 arg11 harg11 arg12 harg12 arg13 harg13 arg14 harg14 cc0_scratch4) K := by
  simp only [cc0_mla_bwd0_eq_skeleton]; unfold cc0_mla_bwd0_skel
  simp only [k0_part3_eq_skeleton]
  unfold owns
  iintro ⟨⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%f11, %h11, H11⟩, ⟨%f12, %h12, H12⟩, ⟨%d13, %f13, -, H13⟩, ⟨%d14, %f14, -, H14⟩, Hs0, Hs1, Hq, Hg, HW, Hk⟩
  sl_exec (disch := first | sl_exact hc1 | sl_exact hc2 | sl_exact hc3)
  sl_step
  replace hL5 := hL5.trans (congrArg (fun a : Acc F => a.1) (trips_congr i (x, k0_pay12, k0_pay13) _ (View.readAt_full arg4.view f4 _ |>.trans h4) (View.readAt_full arg5.view f5 _ |>.trans h5) h6 h7 h11 h12 h8 (by sl_unfold_run_names; exact View.read_writes_full _ _ _ _ _) (by sl_unfold_run_names; exact View.read_writes_full _ _ _ _ _)))
  replace hL7 := hL7.trans (congrArg (fun a : Acc F => a.2.1) (trips_congr i (x, k0_pay12, k0_pay13) _ (View.readAt_full arg4.view f4 _ |>.trans h4) (View.readAt_full arg5.view f5 _ |>.trans h5) h6 h7 h11 h12 h8 (by sl_unfold_run_names; exact View.read_writes_full _ _ _ _ _) (by sl_unfold_run_names; exact View.read_writes_full _ _ _ _ _)))
  replace hL9 := hL9.trans (congrArg (fun a : Acc F => a.2.2) (trips_congr i (x, k0_pay12, k0_pay13) _ (View.readAt_full arg4.view f4 _ |>.trans h4) (View.readAt_full arg5.view f5 _ |>.trans h5) h6 h7 h11 h12 h8 (by sl_unfold_run_names; exact View.read_writes_full _ _ _ _ _) (by sl_unfold_run_names; exact View.read_writes_full _ _ _ _ _)))
  iapply Hk
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    rw [View.readAt_full, hL5]; exact View.read_writes_full _ _ _ _ _
  isplitl [H9]
  · iexists _; isplitr; swap; · iexact H9
    ipureintro
    rw [View.read_writes_full, View.readAt_full, hL7]
  isplitl [H10]
  · iexists _; isplitr; swap; · iexact H10
    ipureintro
    sl_unfold_run_names
    rw [View.readAt_full, hL9]; exact View.read_writes_full _ _ _ _ _
  isplitl [H11]
  · iexists _; isplitr; swap; · iexact H11
    ipureintro
    exact h11
  isplitl [H12]
  · iexists _; isplitr; swap; · iexact H12
    ipureintro
    exact h12
  isplitl [H13]
  · iexists _, _; isplitr; swap; · iexact H13
    ipureintro; rfl
  isplitl [H14]
  · iexists _, _; isplitr; swap; · iexact H14
    ipureintro; rfl
  isplitl [Hs0]; · iexact Hs0
  isplitl [Hs1]; · iexact Hs1
  isplitl [Hq]; · iexact Hq
  isplitl [Hg]; · iexact Hg
  iexists _; iexact HW

set_option maxHeartbeats 4000000 in
/-- A point whose block of keys is the first: it fetches the head's queries and output gradients, and starts dq from zero. -/
theorem point_first (hc1 : k0_cond1 i = 1#1) (hc2 : k0_cond2 i = 1#1) (hc3 : ¬lastBlock i)
    (kh : Vec F S768x256 .bf16) (vh : Vec F S768x128 .bf16) (ls dl : Vec F S8x8448 .f32)
    (fq : OpBuf (F := F) c opQ) (fg : OpBuf (F := F) c opG) (W : Waits sig Unit) (K : PUnit → sProp 𝕄) :
    iprop(owns (c : Thread nD τ) arg4 fullShare (kh) ∗ owns (c : Thread nD τ) arg5 fullShare (vh) ∗ owns (c : Thread nD τ) arg6 fullShare (ls) ∗ owns (c : Thread nD τ) arg7 fullShare (dl) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ opPt c opQ fq ∗ opPt c opG fg ∗ owes (c : Thread nD τ) 0 W
      ∗ (iprop(owns (c : Thread nD τ) arg4 fullShare (kh) ∗ owns (c : Thread nD τ) arg5 fullShare (vh) ∗ owns (c : Thread nD τ) arg6 fullShare (ls) ∗ owns (c : Thread nD τ) arg7 fullShare (dl) ∗ owns (c : Thread nD τ) arg8 fullShare ((loopAcc i kh vh ls dl (headQ i hc1 (opQ.view.read (Elt F) fq)) (headG i hc1 (opG.view.read (Elt F) fg)) (context i hc2 kh vh ls dl (headQ i hc1 (opQ.view.read (Elt F) fq)) (headG i hc1 (opG.view.read (Elt F) fg)) (k0_pay11, k0_pay12, k0_pay13))).1) ∗ owns (c : Thread nD τ) arg9 fullShare (k0_pay18 (loopAcc i kh vh ls dl (headQ i hc1 (opQ.view.read (Elt F) fq)) (headG i hc1 (opG.view.read (Elt F) fg)) (context i hc2 kh vh ls dl (headQ i hc1 (opQ.view.read (Elt F) fq)) (headG i hc1 (opG.view.read (Elt F) fg)) (k0_pay11, k0_pay12, k0_pay13))).2.1) ∗ owns (c : Thread nD τ) arg10 fullShare ((loopAcc i kh vh ls dl (headQ i hc1 (opQ.view.read (Elt F) fq)) (headG i hc1 (opG.view.read (Elt F) fg)) (context i hc2 kh vh ls dl (headQ i hc1 (opQ.view.read (Elt F) fq)) (headG i hc1 (opG.view.read (Elt F) fg)) (k0_pay11, k0_pay12, k0_pay13))).2.2) ∗ owns (c : Thread nD τ) arg11 fullShare (headQ i hc1 (opQ.view.read (Elt F) fq)) ∗ owns (c : Thread nD τ) arg12 fullShare (headG i hc1 (opG.view.read (Elt F) fg)) ∗ (∃ d, owns (c : Thread nD τ) arg13 fullShare d) ∗ (∃ d, owns (c : Thread nD τ) arg14 fullShare d) ∗ semVal ((c : Thread nD τ), SemLoc.dma 12) 0 ∗ semVal ((c : Thread nD τ), SemLoc.dma 13) 0 ∗ opPt c opQ fq ∗ opPt c opG fg ∗ (∃ W', owes (c : Thread nD τ) 0 W')) -∗ K ⟨⟩))
    ⊢ wp frame (wpE (defs₀ (F := F)) Variants.none (c : Thread nD τ) none) Set.univ
        (cc0_mla_bwd0 i opQ (Memref.isWhole_whole _) opG (Memref.isWhole_whole _) arg4 harg4 arg5 harg5 arg6 harg6 arg7 harg7 arg8 harg8 arg9 harg9 arg10 harg10 arg11 harg11 arg12 harg12 arg13 harg13 arg14 harg14 cc0_scratch4) K := by
  simp only [cc0_mla_bwd0_eq_skeleton]; unfold cc0_mla_bwd0_skel
  simp only [k0_part3_eq_skeleton, k0_part1_eq_skeleton]
  unfold owns
  iintro ⟨⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hs0, Hs1, Hq, Hg, HW, Hk⟩
  sl_exec (disch := first | sl_exact hc1 | sl_exact hc2 | sl_exact hc3)
  sl_step
  have z0 : arg8.view.readCov (Val := Elt F) [⟨Rect.unit ![0, 0] S8448x256.size inb_S8448x256_S8448x256_0_0, (k0_pay11 : Vec F S8448x256 .f32)⟩] (Rect.unit (s := S8448x256) ![0, 0] S256x256.size inb_S8448x256_S256x256_0_0).toLoadRect = VecWindow.window (k0_pay11 : Vec F S8448x256 .f32) ![0, 0] S256x256.size inb_S8448x256_S256x256_0_0 :=
    (View.readAt_unit arg8.view _ _ rfl _).trans (congrArg (fun x => VecWindow.window x _ _ _) (View.read_writes_full arg8.view arg8.view.junk inb_S8448x256_S8448x256_0_0 _ []))
  have e11 : arg11.view.read (Elt F) (arg11.view.writes (Elt F) arg11.view.junk [⟨Rect.whole S8448x256, ReadAs.same.apply (View.read (Elt F) (opQ.slice (Rect.unit (k0_off1 i) S8448x256.size (k0_off1_inb i hc1)) (fun _ => rfl)).view fq)⟩]) = headQ i hc1 (opQ.view.read (Elt F) fq) :=
    (View.read_writes_full _ _ _ _ _).trans rfl
  have e12 : arg12.view.read (Elt F) (arg12.view.writes (Elt F) arg12.view.junk [⟨Rect.whole S8448x128, ReadAs.same.apply (View.read (Elt F) (opG.slice (Rect.unit (k0_off2 i) S8448x128.size (k0_off2_inb i hc1)) (fun _ => rfl)).view fg)⟩]) = headG i hc1 (opG.view.read (Elt F) fg) :=
    (View.read_writes_full _ _ _ _ _).trans rfl
  have q0 : arg11.view.readCov [⟨Rect.whole S8448x256, ReadAs.same.apply (View.read (Elt F) (opQ.slice (Rect.unit (k0_off1 i) S8448x256.size (k0_off1_inb i hc1)) (fun _ => rfl)).view fq)⟩] (Rect.unit (s := S8448x256) ![0, 0] S256x256.size inb_S8448x256_S256x256_0_0).toLoadRect = VecWindow.window (headQ i hc1 (opQ.view.read (Elt F) fq)) ![0, 0] S256x256.size inb_S8448x256_S256x256_0_0 :=
    (View.readAt_unit arg11.view _ _ rfl _).trans (congrArg (fun x => VecWindow.window x _ _ _) e11)
  have g0 : arg12.view.readCov [⟨Rect.whole S8448x128, ReadAs.same.apply (View.read (Elt F) (opG.slice (Rect.unit (k0_off2 i) S8448x128.size (k0_off2_inb i hc1)) (fun _ => rfl)).view fg)⟩] (Rect.unit (s := S8448x128) ![0, 0] S256x128.size inb_S8448x128_S256x128_0_0).toLoadRect = VecWindow.window (headG i hc1 (opG.view.read (Elt F) fg)) ![0, 0] S256x128.size inb_S8448x128_S256x128_0_0 :=
    (View.readAt_unit arg12.view _ _ rfl _).trans (congrArg (fun x => VecWindow.window x _ _ _) e12)
  have l0 : arg6.view.readAt (Elt F) (Rect.unit (s := S8x8448) (k0_off3 i) S1x256.size (k0_off3_inb i hc2)).toLoadRect f6 = VecWindow.window ls (k0_off3 i) S1x256.size (k0_off3_inb i hc2) :=
    (View.readAt_unit arg6.view f6 _ rfl _).trans (congrArg (fun x => VecWindow.window x _ _ _) h6)
  have d0 : arg7.view.readAt (Elt F) (Rect.unit (s := S8x8448) (k0_off3 i) S1x256.size (k0_off3_inb i hc2)).toLoadRect f7 = VecWindow.window dl (k0_off3 i) S1x256.size (k0_off3_inb i hc2) :=
    (View.readAt_unit arg7.view f7 _ rfl _).trans (congrArg (fun x => VecWindow.window x _ _ _) h7)
  have k0 : arg4.view.readAt (Elt F) (Rect.unit (s := S768x256) ![0, 0] S768x256.size inb_S768x256_S768x256_0_0).toLoadRect f4 = kh := (View.readAt_full arg4.view f4 _).trans h4
  have v0 : arg5.view.readAt (Elt F) (Rect.unit (s := S768x128) ![0, 0] S768x128.size inb_S768x128_S768x128_0_0).toLoadRect f5 = vh := (View.readAt_full arg5.view f5 _).trans h5
  replace hL5 := hL5.trans (congrArg (fun a : Acc F => a.1) (trips_congr i (context i hc2 kh vh ls dl (headQ i hc1 (opQ.view.read (Elt F) fq)) (headG i hc1 (opG.view.read (Elt F) fg)) (k0_pay11, k0_pay12, k0_pay13)) _ (View.readAt_full arg4.view f4 _ |>.trans h4) (View.readAt_full arg5.view f5 _ |>.trans h5) h6 h7 e11 e12 (by sl_unfold_run_names; refine (View.read_writes_cons_put _ _ _ _ _ rfl).trans ?_; rw [View.read_writes_full, q0, g0, l0, d0, k0, v0, z0]; rfl) (by sl_unfold_run_names; refine (View.read_writes_full _ _ _ _ _).trans ?_; rw [View.readCov_full, q0, g0, l0, d0, k0, v0]; rfl) (by sl_unfold_run_names; refine (View.read_writes_full _ _ _ _ _).trans ?_; rw [View.readCov_full, q0, g0, l0, k0]; rfl)))
  replace hL7 := hL7.trans (congrArg (fun a : Acc F => a.2.1) (trips_congr i (context i hc2 kh vh ls dl (headQ i hc1 (opQ.view.read (Elt F) fq)) (headG i hc1 (opG.view.read (Elt F) fg)) (k0_pay11, k0_pay12, k0_pay13)) _ (View.readAt_full arg4.view f4 _ |>.trans h4) (View.readAt_full arg5.view f5 _ |>.trans h5) h6 h7 e11 e12 (by sl_unfold_run_names; refine (View.read_writes_cons_put _ _ _ _ _ rfl).trans ?_; rw [View.read_writes_full, q0, g0, l0, d0, k0, v0, z0]; rfl) (by sl_unfold_run_names; refine (View.read_writes_full _ _ _ _ _).trans ?_; rw [View.readCov_full, q0, g0, l0, d0, k0, v0]; rfl) (by sl_unfold_run_names; refine (View.read_writes_full _ _ _ _ _).trans ?_; rw [View.readCov_full, q0, g0, l0, k0]; rfl)))
  replace hL9 := hL9.trans (congrArg (fun a : Acc F => a.2.2) (trips_congr i (context i hc2 kh vh ls dl (headQ i hc1 (opQ.view.read (Elt F) fq)) (headG i hc1 (opG.view.read (Elt F) fg)) (k0_pay11, k0_pay12, k0_pay13)) _ (View.readAt_full arg4.view f4 _ |>.trans h4) (View.readAt_full arg5.view f5 _ |>.trans h5) h6 h7 e11 e12 (by sl_unfold_run_names; refine (View.read_writes_cons_put _ _ _ _ _ rfl).trans ?_; rw [View.read_writes_full, q0, g0, l0, d0, k0, v0, z0]; rfl) (by sl_unfold_run_names; refine (View.read_writes_full _ _ _ _ _).trans ?_; rw [View.readCov_full, q0, g0, l0, d0, k0, v0]; rfl) (by sl_unfold_run_names; refine (View.read_writes_full _ _ _ _ _).trans ?_; rw [View.readCov_full, q0, g0, l0, k0]; rfl)))
  iapply Hk
  isplitl [H4]
  · iexists _; isplitr; swap; · iexact H4
    ipureintro
    exact h4
  isplitl [H5]
  · iexists _; isplitr; swap; · iexact H5
    ipureintro
    exact h5
  isplitl [H6]
  · iexists _; isplitr; swap; · iexact H6
    ipureintro
    exact h6
  isplitl [H7]
  · iexists _; isplitr; swap; · iexact H7
    ipureintro
    exact h7
  isplitl [H8]
  · iexists _; isplitr; swap; · iexact H8
    ipureintro
    exact hL5
  isplitl [H9]
  · iexists _; isplitr; swap; · iexact H9
    ipureintro
    rw [View.read_writes_full, View.readAt_full, hL7]
  isplitl [H10]
  · iexists _; isplitr; swap; · iexact H10
    ipureintro
    sl_unfold_run_names
    rw [View.readAt_full, hL9]; exact View.read_writes_full _ _ _ _ _
  isplitl [H11]
  · iexists _; isplitr; swap; · iexact H11
    ipureintro
    exact e11
  isplitl [H12]
  · iexists _; isplitr; swap; · iexact H12
    ipureintro
    exact e12
  isplitl [H13]
  · iexists _, _; isplitr; swap; · iexact H13
    ipureintro; rfl
  isplitl [H14]
  · iexists _, _; isplitr; swap; · iexact H14
    ipureintro; rfl
  isplitl [Hs0]; · iexact Hs0
  isplitl [Hs1]; · iexact Hs1
  isplitl [Hq]; · iexact Hq
  isplitl [Hg]; · iexact Hg
  iexists _; iexact HW

end

end Cert.KernelIdeal.Run

end
-- ==== Proof.Run.Launch.lean ====
/- The launch of the attention gradient: what each window and each scratch buffer holds after every point of the grid, the body's
   triple at a point from the three runs, and the run of the whole program, whose final memory the frame and the values read. -/
module

public import proofs.«01_k».proof.Proof.Run.Point
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The branch conditions, by the point -/

theorem cond1_iff (t : Fin cfg0.N) : k0_cond1 (grid0.coords t) = 1#1 ↔ t.val % 11 = 0 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond1, e0, e1]
    word_cmp : ∀ t : Fin grid0.N, k0_cond1 (grid0.coords t) = 1#1 ↔ t.val % 11 = 0) t
theorem cond2_iff (t : Fin cfg0.N) : k0_cond2 (grid0.coords t) = 1#1 ↔ t.val % 11 = 0 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [k0_cond2, e0, e1]
    word_cmp : ∀ t : Fin grid0.N, k0_cond2 (grid0.coords t) = 1#1 ↔ t.val % 11 = 0) t
theorem last_iff (t : Fin cfg0.N) : lastBlock (grid0.coords t) ↔ t.val % 11 = 10 :=
  (fun t => by
    have ht : t.val < 44 := Nat.lt_of_lt_of_eq t.isLt N_0
    have e0 : (grid0.coords t 0).val = t.val / 11 % 4 := Pipeline.Grid.coords_val t 0 (by decide) rfl
    have e1 : (grid0.coords t 1).val = t.val / 1 % 11 := Pipeline.Grid.coords_val t 1 (by decide) rfl
    simp only [lastBlock, e0, e1]
    word_cmp : ∀ t : Fin grid0.N, lastBlock (grid0.coords t) ↔ t.val % 11 = 10) t

/-! ## What the buffers hold after each point -/

/-- The first point of `t`'s head. -/
def start (t : Fin cfg0.N) : Fin cfg0.N := ⟨t.val - t.val % 11, Nat.lt_of_le_of_lt (Nat.sub_le _ _) t.isLt⟩
theorem start_mod (t : Fin cfg0.N) : (start t).val % 11 = 0 := by simp only [start]; omega
theorem start_of_mod (t : Fin cfg0.N) (h : t.val % 11 = 0) : start t = t := Fin.ext (by simp only [start]; omega)
theorem start_succ (t u : Fin cfg0.N) (h : t.val % 11 ≠ 0) (hu : u.val = t.val - 1) : start u = start t := Fin.ext (by simp only [start]; omega)

/-- The queries and the output gradients of `t`'s head. -/
def qAt (c : Dev nD) (t : Fin cfg0.N) : Vec F S8448x256 .bf16 :=
  headQ (grid0.coords (start t)) ((cond1_iff _).mpr (start_mod t)) (opQ.view.read (Elt F) (V m c main_v8))
def gAt (c : Dev nD) (t : Fin cfg0.N) : Vec F S8448x128 .bf16 :=
  headG (grid0.coords (start t)) ((cond1_iff _).mpr (start_mod t)) (opG.view.read (Elt F) (V m c main_v74))

theorem qAt_first (c : Dev nD) (t : Fin cfg0.N) (h : t.val % 11 = 0) :
    qAt m c t = headQ (grid0.coords t) ((cond1_iff _).mpr h) (opQ.view.read (Elt F) (V m c main_v8)) := by
  have key : ∀ (u : Fin cfg0.N) (hu : k0_cond1 (grid0.coords u) = 1#1), u = t → headQ (grid0.coords u) hu (opQ.view.read (Elt F) (V m c main_v8))
      = headQ (grid0.coords t) ((cond1_iff _).mpr h) (opQ.view.read (Elt F) (V m c main_v8)) := by
    rintro u hu rfl; rfl
  exact key _ _ (start_of_mod t h)
theorem gAt_first (c : Dev nD) (t : Fin cfg0.N) (h : t.val % 11 = 0) :
    gAt m c t = headG (grid0.coords t) ((cond1_iff _).mpr h) (opG.view.read (Elt F) (V m c main_v74)) := by
  have key : ∀ (u : Fin cfg0.N) (hu : k0_cond1 (grid0.coords u) = 1#1), u = t → headG (grid0.coords u) hu (opG.view.read (Elt F) (V m c main_v74))
      = headG (grid0.coords t) ((cond1_iff _).mpr h) (opG.view.read (Elt F) (V m c main_v74)) := by
    rintro u hu rfl; rfl
  exact key _ _ (start_of_mod t h)
theorem qAt_start (c : Dev nD) (t : Fin cfg0.N) : qAt m c t = qAt m c (start t) := by
  rw [qAt_first m c (start t) (start_mod t)]; rfl
theorem gAt_start (c : Dev nD) (t : Fin cfg0.N) : gAt m c t = gAt m c (start t) := by
  rw [gAt_first m c (start t) (start_mod t)]; rfl
theorem qAt_succ (c : Dev nD) (t u : Fin cfg0.N) (h : t.val % 11 ≠ 0) (hu : u.val = t.val - 1) : qAt m c u = qAt m c t := by
  rw [qAt_start m c u, qAt_start m c t, start_succ t u h hu]
theorem gAt_succ (c : Dev nD) (t u : Fin cfg0.N) (h : t.val % 11 ≠ 0) (hu : u.val = t.val - 1) : gAt m c u = gAt m c t := by
  rw [gAt_start m c u, gAt_start m c t, start_succ t u h hu]

/-- The accumulators after a head's first point, and after a later one from the dq of the point before. -/
def accFirst (c : Dev nD) (t : Fin cfg0.N) (h : t.val % 11 = 0) : Acc F :=
  loopAcc (grid0.coords t) (iblk m c 0 t) (iblk m c 1 t) (iblk m c 2 t) (iblk m c 3 t) (qAt m c t) (gAt m c t)
    (context (grid0.coords t) ((cond2_iff t).mpr h) (iblk m c 0 t) (iblk m c 1 t) (iblk m c 2 t) (iblk m c 3 t) (qAt m c t) (gAt m c t) (k0_pay11, k0_pay12, k0_pay13))
def accNext (c : Dev nD) (t : Fin cfg0.N) (x : Vec F S8448x256 .f32) : Acc F :=
  loopAcc (grid0.coords t) (iblk m c 0 t) (iblk m c 1 t) (iblk m c 2 t) (iblk m c 3 t) (qAt m c t) (gAt m c t) (x, k0_pay12, k0_pay13)

/-- The accumulators after point `n`. -/
def accAt (c : Dev nD) : (n : ℕ) → n < cfg0.N → Acc F
  | 0, hn => accFirst m c ⟨0, hn⟩ rfl
  | n + 1, hn => if h : (n + 1) % 11 = 0 then accFirst m c ⟨n + 1, hn⟩ h else accNext m c ⟨n + 1, hn⟩ (accAt c n (by omega)).1

theorem accAt_first (c : Dev nD) (t : Fin cfg0.N) (h : t.val % 11 = 0) : accAt m c t.val t.isLt = accFirst m c t h := by
  obtain ⟨n, hn⟩ := t
  cases n with
  | zero => rfl
  | succ n => exact dif_pos h
theorem accAt_next (c : Dev nD) (t : Fin cfg0.N) (h : t.val % 11 ≠ 0) (hp : t.val - 1 < cfg0.N) :
    accAt m c t.val t.isLt = accNext m c t (accAt m c (t.val - 1) hp).1 := by
  obtain ⟨n, hn⟩ := t
  cases n with
  | zero => exact absurd rfl h
  | succ n => exact dif_neg h

/-- The rows of dq after a point: scaled at the head's last. -/
def dqAt (c : Dev nD) (t : Fin cfg0.N) : Vec F S8448x256 .f32 :=
  if t.val % 11 = 10 then k0_pay1 (accAt m c t.val t.isLt).1 else (accAt m c t.val t.isLt).1

/-! ## The kernel's memrefs at a point -/

abbrev ms0_0 (t : Fin cfg0.N) : Memref sig .tc .vmem S768x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x8448 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x8448 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8448x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x128 .f32 := win0_6.stage (cfg0.slots t 6)
abbrev hs0_6 (t : Fin cfg0.N) : (ms0_6 t).IsWhole := hstage0_6 ((cfg0.slots t 6).cast nbuf0_6)
abbrev scM0_0 : Memref sig .tc .vmem S8448x256 .bf16 := Memref.whole cc0_scratch0
abbrev scM0_1 : Memref sig .tc .vmem S8448x128 .bf16 := Memref.whole cc0_scratch1
abbrev scM0_2 : Memref sig .tc .vmem S768x256 .f32 := Memref.whole cc0_scratch2
abbrev scM0_3 : Memref sig .tc .vmem S768x128 .f32 := Memref.whole cc0_scratch3

/-- The body's own DMA semaphores. -/
abbrev osem0 : Fin 2 → SemLoc sig := fun j => (![SemLoc.dma 12, SemLoc.dma 13] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0) := by
  rw [Pipeline.ownSems0_eq_of_list c osem0 [0, 1] (by decide) (by decide)]; rfl
/-- The operands the body copies itself. -/
def H0 : Finset (Ref sig .tc) := {main_v8, main_v74}
theorem H0_sub : H0 ⊆ Pipeline.restRefs sig spec0 := by decide
theorem hbmPts0_eq (c : Dev nD) :
    (bigSep H0 (fun b => ((c : Thread nD τ).loc b) ↦{fullShare} V m c b) : sProp 𝕄) = iprop(opPt c opQ (V m c main_v8) ∗ opPt c opG (V m c main_v74)) := by
  rw [BI.bigSep_eq_bigSepL_of_eq [main_v8, main_v74] (by decide) (by decide)]; rfl

/-- The region's invariant at the launch, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 12) 0 ∗ semVal ((c : Thread nD τ), SemLoc.dma 13) 0) ∗ iprop(opPt c opQ (V m c main_v8) ∗ opPt c opG (V m c main_v74))) := by
  rw [Pipeline.ΦD_eq, scopedRest0_eq, ownSems00_eq, hbmPts0_eq]; simp only [scM0_0, scM0_1, scM0_2, scM0_3, owns_whole]; try rfl

/-! ## The pipeline's proof data -/

/-- The invariant before point `n`: after the first point the two scratch buffers hold the queries and output gradients of the head of the
    point before. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (qAt m c ⟨n, hn⟩) ∗ owns (c : Thread nD τ) scM0_1 fullShare (gAt m c ⟨n, hn⟩) ∗ (∃ d, owns (c : Thread nD τ) scM0_2 fullShare d) ∗ (∃ d, owns (c : Thread nD τ) scM0_3 fullShare d)) ∗ (∃ r, prngReg c r) ∗ iprop(semVal ((c : Thread nD τ), SemLoc.dma 12) 0 ∗ semVal ((c : Thread nD τ), SemLoc.dma 13) 0) ∗ iprop(opPt c opQ (V m c main_v8) ∗ opPt c opG (V m c main_v74)))

theorem PhiS_zero (c : Dev nD) (n : ℕ) (h : n ≤ cfg0.N) (hz : n = 0) : PhiS m c n h = Pipeline.ΦD osem0 spec0 H0 (V m) c := by
  subst hz; rfl
theorem PhiS_succ (c : Dev nD) (t : Fin cfg0.N) (h : t.val + 1 ≤ cfg0.N) :
    PhiS m c (t.val + 1) h = iprop(iprop(owns (c : Thread nD τ) scM0_0 fullShare (qAt m c t) ∗ owns (c : Thread nD τ) scM0_1 fullShare (gAt m c t) ∗ (∃ d, owns (c : Thread nD τ) scM0_2 fullShare d) ∗ (∃ d, owns (c : Thread nD τ) scM0_3 fullShare d)) ∗ (∃ r, prngReg c r) ∗ iprop(semVal ((c : Thread nD τ), SemLoc.dma 12) 0 ∗ semVal ((c : Thread nD τ), SemLoc.dma 13) 0) ∗ iprop(opPt c opQ (V m c main_v8) ∗ opPt c opG (V m c main_v74))) := rfl
theorem PhiS_pos (c : Dev nD) (n : ℕ) (h : n ≤ cfg0.N) (hz : n ≠ 0) (u : Fin cfg0.N) (hu : u.val = n - 1) :
    PhiS m c n h = iprop(iprop(owns (c : Thread nD τ) scM0_0 fullShare (qAt m c u) ∗ owns (c : Thread nD τ) scM0_1 fullShare (gAt m c u) ∗ (∃ d, owns (c : Thread nD τ) scM0_2 fullShare d) ∗ (∃ d, owns (c : Thread nD τ) scM0_3 fullShare d)) ∗ (∃ r, prngReg c r) ∗ iprop(semVal ((c : Thread nD τ), SemLoc.dma 12) 0 ∗ semVal ((c : Thread nD τ), SemLoc.dma 13) 0) ∗ iprop(opPt c opQ (V m c main_v8) ∗ opPt c opG (V m c main_v74))) := by
  cases n with
  | zero => exact absurd rfl hz
  | succ n => obtain rfl : u = ⟨n, h⟩ := Fin.ext hu; rfl

/-- The proof data of the pipeline: each input's buffer at its block, the outputs at the accumulators. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
    | ⟨5, _⟩ => k0_pay18 (accAt m c t.val t.isLt).2.1
    | ⟨6, _⟩ => (accAt m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dqAt m c t := by dsimp only [dats]
theorem after0_5 (c : Dev nD) (t : Fin cfg0.N) : (dats m 0 c).after 5 t = k0_pay18 (accAt m c t.val t.isLt).2.1 := by dsimp only [dats]
theorem after0_6 (c : Dev nD) (t : Fin cfg0.N) : (dats m 0 c).after 6 t = (accAt m c t.val t.isLt).2.2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Past a head's first block the rows of dq are what the point before left. -/
theorem before0_4 (c : Dev nD) (t u : Fin cfg0.N) (h : t.val % 11 ≠ 0) (hu : u.val = t.val - 1) (d) :
    (dats m 0 c).before 4 t d = (accAt m c u.val u.isLt).1 := by
  obtain rfl : u = ⟨t.val - 1, Nat.lt_of_le_of_lt (Nat.sub_le _ _) t.isLt⟩ := Fin.ext hu
  have ht : t.val < 44 := lt_of_lt_of_eq t.isLt (show cfg0.N = 44 from N_0)
  rw [(dats m 0 c).before_out_kept 4 rfl t (by omega) (by
      rw [← Bool.not_eq_true, flush0_4]; dsimp only; omega) (fun _ => rfl) (fun _ _ => rfl), after0_4]
  unfold dqAt
  rw [if_neg (by dsimp only; omega)]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) )
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) )

/-- Before any point the invariant gives the launch's back. -/
theorem Phi_out (c : Dev nD) (n : ℕ) (h : n ≤ cfg0.N) : PhiS m c n h ⊢ Pipeline.ΦD osem0 spec0 H0 (V m) c := by
  cases n with
  | zero => exact .rfl
  | succ n =>
    rw [PhiS_pos m c (n + 1) h (Nat.succ_ne_zero n) ⟨n, h⟩ rfl, PhiD0_eq]
    iintro ⟨⟨HS0, HS1, HS2, HS3⟩, Hg, ⟨Hq0, Hq1⟩, ⟨Hh0, Hh1⟩⟩
    isplitl [HS0 HS1 HS2 HS3]
    · isplitl [HS0]
      · iexists _; iexact HS0
      isplitl [HS1]
      · iexists _; iexact HS1
      isplitl [HS2]
      · iexact HS2
      iexact HS3
    isplitl [Hg]; · iexact Hg
    isplitl [Hq0 Hq1]
    · isplitl [Hq0]; · iexact Hq0
      iexact Hq1
    isplitl [Hh0]; · iexact Hh0
    iexact Hh1

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, PhiS_castSucc m c t]
  unfold Dat.owesAt Pipeline.owesWithin
  rw [show (dats m 0 c).owed t.castSucc = 0 from rfl, show (dats m 0 c).owed t.succ = 0 from rfl]
  have hN : t.val < 44 := lt_of_lt_of_eq t.isLt (show cfg0.N = 44 from N_0)
  by_cases h0 : t.val % 11 = 0
  · refine (sep_mono_left (Phi_out m c _ _)).trans ?_
    rw [PhiD0_eq]
    unfold dqAt
    rw [if_neg (by omega : ¬ t.val % 11 = 10), accAt_first m c t h0]
    unfold accFirst
    rw [qAt_first m c t h0, gAt_first m c t h0]
    iintro ⟨⟨⟨HS0, HS1, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (point_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((cond1_iff t).mpr h0) ((cond2_iff t).mpr h0) (fun h => absurd ((last_iff t).mp h) (by omega)) (iblk m c 0 t) (iblk m c 1 t) (iblk m c 2 t) (iblk m c 3 t) (V m c main_v8) (V m c main_v74) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, HS0, HS1, HS2, HS3, Hq0, Hq1, Hh0, Hh1, ⟨%W', HW'⟩⟩
    isplitl [HS0 HS1 HS2 HS3 Hg Hq0 Hq1 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  have hp : t.val - 1 < cfg0.N := Nat.lt_of_le_of_lt (Nat.sub_le _ _) t.isLt
  have hz : t.val ≠ 0 := fun h => h0 (by rw [h])
  rw [PhiS_pos m c t.val _ hz ⟨t.val - 1, hp⟩ rfl, qAt_succ m c t ⟨t.val - 1, hp⟩ h0 rfl, gAt_succ m c t ⟨t.val - 1, hp⟩ h0 rfl]
  simp only [before0_4 m c t ⟨t.val - 1, hp⟩ h0 rfl]
  unfold dqAt
  rw [accAt_next m c t h0 hp]
  unfold accNext
  by_cases h1 : t.val % 11 = 10
  · rw [if_pos h1]
    iintro ⟨⟨⟨HS0, HS1, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (point_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((cond1_iff t).mp h)) (fun h => h0 ((cond2_iff t).mp h)) ((last_iff t).mpr h1) (iblk m c 0 t) (iblk m c 1 t) (iblk m c 2 t) (iblk m c 3 t) (accAt m c (t.val - 1) hp).1 (qAt m c t) (gAt m c t) (V m c main_v8) (V m c main_v74) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, HS0, HS1, HS2, HS3, Hq0, Hq1, Hh0, Hh1, ⟨%W', HW'⟩⟩
    isplitl [HS0 HS1 HS2 HS3 Hg Hq0 Hq1 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · rw [if_neg h1]
    iintro ⟨⟨⟨HS0, HS1, HS2, HS3⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (point_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((cond1_iff t).mp h)) (fun h => h0 ((cond2_iff t).mp h)) (fun h => h1 ((last_iff t).mp h)) (iblk m c 0 t) (iblk m c 1 t) (iblk m c 2 t) (iblk m c 3 t) (accAt m c (t.val - 1) hp).1 (qAt m c t) (gAt m c t) (V m c main_v8) (V m c main_v74) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, H6, HS0, HS1, HS2, HS3, Hq0, Hq1, Hh0, Hh1, ⟨%W', HW'⟩⟩
    isplitl [HS0 HS1 HS2 HS3 Hg Hq0 Hq1 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
theorem hout (c : Dev nD) : (dats m 0 c).Φ (Fin.last cfg0.N) ⊢ Pipeline.ΦD osem0 spec0 H0 (V m) c := by
  rw [show (dats m 0 c).Φ (Fin.last cfg0.N) = PhiS m c (Fin.last cfg0.N).val (Nat.le_of_lt_succ (Fin.last cfg0.N).isLt) from rfl]
  exact Phi_out m c _ _

/-- @main around the region. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch neither of the operands the body copies. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  intro b hb
  simp only [H0, Finset.mem_insert, Finset.mem_singleton] at hb
  rcases hb with rfl | rfl
  all_goals rcases hop with rfl | rfl | rfl | rfl | rfl | rfl | rfl | rfl | rfl | rfl | rfl
  all_goals
    simp only [StableHlo.nullary_bufs, StableHlo.unary_bufs, StableHlo.binary_bufs, StableHlo.reshape_bufs, Finset.mem_insert, Finset.mem_singleton, not_or]
    repeat' apply And.intro
    all_goals exact StableHlo.devRef_ne_of_ne (by decide)

set_option backward.isDefEq.respectTransparency.types false in
/-- Every execution of @main ends, with the arrays the pipeline writes at their computed contents, every other unscoped buffer as the lines
    after the region leave it, and every semaphore at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmain m Variants.none) (hA := A_eq m) (hin := hin m) (hout := hout m)

/-- A buffer that no line after the region writes and no window stages ends as the region found it. -/
theorem tail_kept (c : Dev nD) (b : Ref sig .tc) (hw : ∀ op ∈ (hostOps1 : List (HloOp τ sig (Elt F))), Proc.devRef .tc b ∉ op.writes)
    (hb : ∀ w, Pipeline.arrRef spec0 w ≠ b) : Pipeline.afterTail₀ cfgs (dats m) 0 (V0 m) [hostOps1] c b = V m c b := by
  unfold Pipeline.afterTail₀
  rw [StableHlo.after_of_forall_not_mem (b := Proc.devRef .tc b) _ _ (by simpa using hw),
    Pipeline.withArrays_of_ne _ c (V0 m c) _ b hb]

theorem tail_arg0 (c : Dev nD) : Pipeline.afterTail₀ cfgs (dats m) 0 (V0 m) [hostOps1] c main_arg0 = V m c main_arg0 :=
  tail_kept m c main_arg0 (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))) (by decide)
theorem tail_arg1 (c : Dev nD) : Pipeline.afterTail₀ cfgs (dats m) 0 (V0 m) [hostOps1] c main_arg1 = V m c main_arg1 :=
  tail_kept m c main_arg1 (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))) (by decide)
theorem tail_arg2 (c : Dev nD) : Pipeline.afterTail₀ cfgs (dats m) 0 (V0 m) [hostOps1] c main_arg2 = V m c main_arg2 :=
  tail_kept m c main_arg2 (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))) (by decide)
theorem tail_arg3 (c : Dev nD) : Pipeline.afterTail₀ cfgs (dats m) 0 (V0 m) [hostOps1] c main_arg3 = V m c main_arg3 :=
  tail_kept m c main_arg3 (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))) (by decide)
theorem tail_arg4 (c : Dev nD) : Pipeline.afterTail₀ cfgs (dats m) 0 (V0 m) [hostOps1] c main_arg4 = V m c main_arg4 :=
  tail_kept m c main_arg4 (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))) (by decide)
theorem tail_arg5 (c : Dev nD) : Pipeline.afterTail₀ cfgs (dats m) 0 (V0 m) [hostOps1] c main_arg5 = V m c main_arg5 :=
  tail_kept m c main_arg5 (List.forall_iff_forall_mem.mp (by
    simp only [hostOps1, List.Forall, StableHlo.nullary_writes, StableHlo.unary_writes, StableHlo.binary_writes, StableHlo.reshape_writes, Finset.mem_singleton]
    repeat' apply And.intro
    all_goals exact StableHlo.devRef_ne_of_ne (by decide))) (by decide)

/-- The frame: the arguments end unchanged and every semaphore at zero. -/
theorem frame : θ_run defs (onTc (τ := τ) (main (F := F))) (s₀ m ρ) (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans ((tail_arg0 m c).trans (V_main_arg0 m c)), ((h.1 c).2 main_arg1 (Pipeline.mem_restRefs_of main_arg1 (by decide) (by decide))).trans ((tail_arg1 m c).trans (V_main_arg1 m c)), ((h.1 c).2 main_arg2 (Pipeline.mem_restRefs_of main_arg2 (by decide) (by decide))).trans ((tail_arg2 m c).trans (V_main_arg2 m c)), ((h.1 c).2 main_arg3 (Pipeline.mem_restRefs_of main_arg3 (by decide) (by decide))).trans ((tail_arg3 m c).trans (V_main_arg3 m c)), ((h.1 c).2 main_arg4 (Pipeline.mem_restRefs_of main_arg4 (by decide) (by decide))).trans ((tail_arg4 m c).trans (V_main_arg4 m c)), ((h.1 c).2 main_arg5 (Pipeline.mem_restRefs_of main_arg5 (by decide) (by decide))).trans ((tail_arg5 m c).trans (V_main_arg5 m c))⟩, h.2⟩) (run_main_quiescent m ρ)

end Cert.KernelIdeal.Run

end
-- ==== Proof.Value.Latent.lean ====
/- The reference's results in stages, each read at an index: the latent rows. -/
module

public import proofs.«01_k».proof.ReferenceIdeal
public import proofs.«01_k».proof.Proof.Gen.ReferenceIdeal
public import Idealize.ShloMosaic.Lib.Pointwise

@[expose] public section
set_option maxRecDepth 16384

noncomputable section

namespace Cert.ReferenceIdeal.Value

open Cert.ReferenceIdeal Cert.ReferenceIdeal.Gen Idealize.ShloMosaic

/-- The scaled scores. -/
def scoreL (q : FVec Ideal S8192x4x128 .f32) (qr : FVec Ideal S8192x4x64 .f32) (k : FVec Ideal S8448x4x128 .f32) (kr : FVec Ideal S8448x64 .f32) : FVec Ideal S4x8192x8448 .f32 :=
  mulf (addf (Host.dotGeneral dot_S8192x4x128_S8448x4x128_S4x8192x8448_2_2_0_0_1_1 none q k)
      (transpose S4x8192x8448 [2, 1, 0] (Host.dotGeneral dot_S8448x64_S8192x4x64_S8448x8192x4_1_2_0_01_n_n none kr qr) transposes_S8448x8192x4_S4x8192x8448_2_1_0))
    (broadcastInDim S4x8192x8448 ![] bcast_S_S4x8192x8448 (constant S_ .f32 0x3D93CD3A#32))
/-- A row's greatest score. -/
def maxL (s : FVec Ideal S4x8192x8448 .f32) : FVec Ideal S4x8192 .f32 :=
  Host.reduce FloatOps.maximumf s (constant S_ .f32 0xFF800000#32) reducesTo_S4x8192x8448_S4x8192_d2 h_S_
def topL (t : FVec Ideal S4x8192 .f32) : FVec Ideal S4x8192 .f32 :=
  maximumf (broadcastInDim S4x8192 ![] bcast_S_S4x8192 (constant S_ .f32 0xFF800000#32)) t
/-- The exponentials, over a row's greatest score. -/
def expL (s : FVec Ideal S4x8192x8448 .f32) (t : FVec Ideal S4x8192 .f32) : FVec Ideal S4x8192x8448 .f32 :=
  Host.exp (subf s (broadcastInDim S4x8192x8448 ![0, 1, 2] bcast_S4x8192x1_S4x8192x8448_0_1_2 (broadcastInDim S4x8192x1 ![0, 1] bcast_S4x8192_S4x8192x1_0_1 t)))
/-- A row's sum. -/
def totL (e : FVec Ideal S4x8192x8448 .f32) : FVec Ideal S4x8192x1 .f32 :=
  broadcastInDim S4x8192x1 ![0, 1] bcast_S4x8192_S4x8192x1_0_1 (Host.reduceAdd e (constant S_ .f32 0x00000000#32) reducesTo_S4x8192x8448_S4x8192_d2 h_S_)
/-- The weights. -/
def probL (e : FVec Ideal S4x8192x8448 .f32) (z : FVec Ideal S4x8192x1 .f32) : FVec Ideal S4x8192x8448 .f32 :=
  Host.divf e (broadcastInDim S4x8192x8448 ![0, 1, 2] bcast_S4x8192x1_S4x8192x8448_0_1_2 z)
/-- The weights' gradients. -/
def dprobL (g : FVec Ideal S8192x4x128 .f32) (v : FVec Ideal S8448x4x128 .f32) : FVec Ideal S4x8192x8448 .f32 :=
  Host.dotGeneral dot_S4x128x8192_S8448x4x128_S4x8192x8448_1_2_2_0_0_1 none (transpose S4x128x8192 [1, 2, 0] g transposes_S8192x4x128_S4x128x8192_1_2_0) v
/-- The gradient of a row's sum. -/
def dtotL (e d : FVec Ideal S4x8192x8448 .f32) (z : FVec Ideal S4x8192x1 .f32) : FVec Ideal S4x8192 .f32 :=
  Host.reduceAdd (Host.negf (shapeCast S4x8192x1 (Host.reduceAdd (mulf (mulf d (broadcastInDim S4x8192x8448 ![0, 1, 2] bcast_S4x8192x1_S4x8192x8448_0_1_2
      (Host.divf (broadcastInDim S4x8192x1 ![] bcast_S_S4x8192x1 (constant S_ .f32 0x3F800000#32)) (mulf z z)))) e)
    (constant S_ .f32 0x00000000#32) reducesTo_S4x8192x8448_S4x8192_d2 h_S_) shapeCasts_S4x8192_S4x8192x1))
    (constant S_ .f32 0x00000000#32) reducesTo_S4x8192x1_S4x8192_d2 h_S_
/-- The scores' gradients. -/
def dscoreL (e d : FVec Ideal S4x8192x8448 .f32) (z : FVec Ideal S4x8192x1 .f32) (y : FVec Ideal S4x8192 .f32) : FVec Ideal S4x8192x8448 .f32 :=
  mulf (mulf (addf (Host.divf d (broadcastInDim S4x8192x8448 ![0, 1, 2] bcast_S4x8192x1_S4x8192x8448_0_1_2 z))
      (broadcastInDim S4x8192x8448 ![0, 1] bcast_S4x8192_S4x8192x8448_0_1 y)) e)
    (broadcastInDim S4x8192x8448 ![] bcast_S_S4x8192x8448 (constant S_ .f32 0x3D93CD3A#32))
def dqrL (d : FVec Ideal S4x8192x8448 .f32) (kr : FVec Ideal S8448x64 .f32) : FVec Ideal S8192x4x64 .f32 :=
  Host.dotGeneral dot_S8448x8192x4_S8448x64_S8192x4x64_0_0_12_1_n_n none (transpose S8448x8192x4 [2, 1, 0] d transposes_S4x8192x8448_S8448x8192x4_2_1_0) kr
def dkrL (d : FVec Ideal S4x8192x8448 .f32) (qr : FVec Ideal S8192x4x64 .f32) : FVec Ideal S8448x64 .f32 :=
  Host.dotGeneral dot_S8448x8192x4_S8192x4x64_S8448x64_12_01_0_2_n_n none (transpose S8448x8192x4 [2, 1, 0] d transposes_S4x8192x8448_S8448x8192x4_2_1_0) qr
def dkL (d : FVec Ideal S4x8192x8448 .f32) (q : FVec Ideal S8192x4x128 .f32) : FVec Ideal S8448x4x128 .f32 :=
  transpose S8448x4x128 [1, 0, 2] (Host.dotGeneral dot_S4x8192x8448_S8192x4x128_S4x8448x128_1_0_2_2_0_1 none d q) transposes_S4x8448x128_S8448x4x128_1_0_2
def dqL (d : FVec Ideal S4x8192x8448 .f32) (k : FVec Ideal S8448x4x128 .f32) : FVec Ideal S8192x4x128 .f32 :=
  transpose S8192x4x128 [1, 0, 2] (Host.dotGeneral dot_S4x8192x8448_S8448x4x128_S4x8192x128_2_0_1_2_0_1 none d k) transposes_S4x8192x128_S8192x4x128_1_0_2
def dvL (p : FVec Ideal S4x8192x8448 .f32) (g : FVec Ideal S8192x4x128 .f32) : FVec Ideal S8448x4x128 .f32 :=
  transpose S8448x4x128 [2, 0, 1] (Host.dotGeneral dot_S4x128x8192_S4x8192x8448_S4x128x8448_2_1_1_2_0_0 none
    (transpose S4x128x8192 [1, 2, 0] g transposes_S8192x4x128_S4x128x8192_1_2_0) p) transposes_S4x128x8448_S8448x4x128_2_0_1

section
variable (h : Fin 4) (r : Fin 8192) (κ : Fin 8448)

theorem scoreL_apply (q qr k kr) : scoreL q qr k kr (ix3 h r κ)
    = (∑ x, q (ix3 r h x) * k (ix3 κ h x) + ∑ x, kr (ix2 κ x) * qr (ix3 r h x)) * Ideal.ofBits .f32 0x3D93CD3A#32 := by pointwise [scoreL]
theorem reduceL_apply (s : FVec Ideal S4x8192x8448 .f32) (x : FVec Ideal S_ .f32) :
    Host.reduce FloatOps.maximumf s x reducesTo_S4x8192x8448_S4x8192_d2 h_S_ (ix2 h r)
      = Finset.fold max (x (Shape.Idx.first h_S_)) (fun κ => s (ix3 h r κ)) Finset.univ := by
  rw [Host.reduce_eq_fold]
  pointwise
theorem maxL_apply (s) : maxL s (ix2 h r) = Finset.fold max (Ideal.ofBits .f32 0xFF800000#32) (fun κ => s (ix3 h r κ)) Finset.univ := reduceL_apply h r s _
theorem topL_apply (t) : topL t (ix2 h r) = max (Ideal.ofBits .f32 0xFF800000#32) (t (ix2 h r)) := by pointwise [topL]
theorem expL_apply (s t) : expL s t (ix3 h r κ) = Ideal.exp (s (ix3 h r κ) - t (ix2 h r)) := by pointwise [expL]
theorem totL_apply (e) : totL e (ix3 h r 0) = ∑ κ, e (ix3 h r κ) := by pointwise [totL]
theorem probL_apply (e z) : probL e z (ix3 h r κ) = Ideal.div (e (ix3 h r κ)) (z (ix3 h r 0)) := by pointwise [probL]
theorem dprobL_apply (g v) : dprobL g v (ix3 h r κ) = ∑ x, g (ix3 r h x) * v (ix3 κ h x) := by pointwise [dprobL]
theorem dtotL_apply (e d z) : dtotL e d z (ix2 h r)
    = ∑ _ : Fin 1, -∑ κ, d (ix3 h r κ) * Ideal.div 1 (z (ix3 h r 0) * z (ix3 h r 0)) * e (ix3 h r κ) := by pointwise [dtotL]
theorem dscoreL_apply (e d z y) : dscoreL e d z y (ix3 h r κ)
    = (Ideal.div (d (ix3 h r κ)) (z (ix3 h r 0)) + y (ix2 h r)) * e (ix3 h r κ) * Ideal.ofBits .f32 0x3D93CD3A#32 := by pointwise [dscoreL]
theorem dqrL_apply (d k) (x : Fin 64) : dqrL d k (ix3 r h x) = ∑ κ, d (ix3 h r κ) * k (ix2 κ x) := by pointwise [dqrL]
theorem dkrL_apply (d q) (x : Fin 64) : dkrL d q (ix2 κ x) = ∑ r, ∑ h, d (ix3 h r κ) * q (ix3 r h x) := by pointwise [dkrL]
theorem dkL_apply (d q) (x : Fin 128) : dkL d q (ix3 κ h x) = ∑ r, d (ix3 h r κ) * q (ix3 r h x) := by pointwise [dkL]
theorem dqL_apply (d k) (x : Fin 128) : dqL d k (ix3 r h x) = ∑ κ, d (ix3 h r κ) * k (ix3 κ h x) := by pointwise [dqL]
theorem dvL_apply (p g) (x : Fin 128) : dvL p g (ix3 κ h x) = ∑ r, g (ix3 r h x) * p (ix3 h r κ) := by pointwise [dvL]
end

end Cert.ReferenceIdeal.Value

end
-- ==== Proof.Value.Context.lean ====
/- The reference's results in stages, each read at an index: the context's rows. -/
module

public import proofs.«01_k».proof.ReferenceIdeal
public import proofs.«01_k».proof.Proof.Gen.ReferenceIdeal
public import Idealize.ShloMosaic.Lib.Pointwise

@[expose] public section
set_option maxRecDepth 16384

noncomputable section

namespace Cert.ReferenceIdeal.Value

open Cert.ReferenceIdeal Cert.ReferenceIdeal.Gen Idealize.ShloMosaic

/-- The scaled scores. -/
def scoreC (q : FVec Ideal S256x4x128 .f32) (qr : FVec Ideal S256x4x64 .f32) (k : FVec Ideal S256x4x128 .f32) (kr : FVec Ideal S256x64 .f32) : FVec Ideal S4x256x256 .f32 :=
  mulf (addf (Host.dotGeneral dot_S256x4x128_S256x4x128_S4x256x256_2_2_0_0_1_1 none q k)
      (transpose S4x256x256 [2, 1, 0] (Host.dotGeneral dot_S256x64_S256x4x64_S256x256x4_1_2_0_01_n_n none kr qr) transposes_S256x256x4_S4x256x256_2_1_0))
    (broadcastInDim S4x256x256 ![] bcast_S_S4x256x256 (constant S_ .f32 0x3D93CD3A#32))
/-- A row's greatest score. -/
def maxC (s : FVec Ideal S4x256x256 .f32) : FVec Ideal S4x256 .f32 :=
  Host.reduce FloatOps.maximumf s (constant S_ .f32 0xFF800000#32) reducesTo_S4x256x256_S4x256_d2 h_S_
def topC (t : FVec Ideal S4x256 .f32) : FVec Ideal S4x256 .f32 :=
  maximumf (broadcastInDim S4x256 ![] bcast_S_S4x256 (constant S_ .f32 0xFF800000#32)) t
/-- The exponentials, over a row's greatest score. -/
def expC (s : FVec Ideal S4x256x256 .f32) (t : FVec Ideal S4x256 .f32) : FVec Ideal S4x256x256 .f32 :=
  Host.exp (subf s (broadcastInDim S4x256x256 ![0, 1, 2] bcast_S4x256x1_S4x256x256_0_1_2 (broadcastInDim S4x256x1 ![0, 1] bcast_S4x256_S4x256x1_0_1 t)))
/-- A row's sum. -/
def totC (e : FVec Ideal S4x256x256 .f32) : FVec Ideal S4x256x1 .f32 :=
  broadcastInDim S4x256x1 ![0, 1] bcast_S4x256_S4x256x1_0_1 (Host.reduceAdd e (constant S_ .f32 0x00000000#32) reducesTo_S4x256x256_S4x256_d2 h_S_)
/-- The weights. -/
def probC (e : FVec Ideal S4x256x256 .f32) (z : FVec Ideal S4x256x1 .f32) : FVec Ideal S4x256x256 .f32 :=
  Host.divf e (broadcastInDim S4x256x256 ![0, 1, 2] bcast_S4x256x1_S4x256x256_0_1_2 z)
/-- The weights' gradients. -/
def dprobC (g : FVec Ideal S256x4x128 .f32) (v : FVec Ideal S256x4x128 .f32) : FVec Ideal S4x256x256 .f32 :=
  Host.dotGeneral dot_S4x128x256_S256x4x128_S4x256x256_1_2_2_0_0_1 none (transpose S4x128x256 [1, 2, 0] g transposes_S256x4x128_S4x128x256_1_2_0) v
/-- The gradient of a row's sum. -/
def dtotC (e d : FVec Ideal S4x256x256 .f32) (z : FVec Ideal S4x256x1 .f32) : FVec Ideal S4x256 .f32 :=
  Host.reduceAdd (Host.negf (shapeCast S4x256x1 (Host.reduceAdd (mulf (mulf d (broadcastInDim S4x256x256 ![0, 1, 2] bcast_S4x256x1_S4x256x256_0_1_2
      (Host.divf (broadcastInDim S4x256x1 ![] bcast_S_S4x256x1 (constant S_ .f32 0x3F800000#32)) (mulf z z)))) e)
    (constant S_ .f32 0x00000000#32) reducesTo_S4x256x256_S4x256_d2 h_S_) shapeCasts_S4x256_S4x256x1))
    (constant S_ .f32 0x00000000#32) reducesTo_S4x256x1_S4x256_d2 h_S_
/-- The scores' gradients. -/
def dscoreC (e d : FVec Ideal S4x256x256 .f32) (z : FVec Ideal S4x256x1 .f32) (y : FVec Ideal S4x256 .f32) : FVec Ideal S4x256x256 .f32 :=
  mulf (mulf (addf (Host.divf d (broadcastInDim S4x256x256 ![0, 1, 2] bcast_S4x256x1_S4x256x256_0_1_2 z))
      (broadcastInDim S4x256x256 ![0, 1] bcast_S4x256_S4x256x256_0_1 y)) e)
    (broadcastInDim S4x256x256 ![] bcast_S_S4x256x256 (constant S_ .f32 0x3D93CD3A#32))
def dqrC (d : FVec Ideal S4x256x256 .f32) (kr : FVec Ideal S256x64 .f32) : FVec Ideal S256x4x64 .f32 :=
  Host.dotGeneral dot_S256x256x4_S256x64_S256x4x64_0_0_12_1_n_n none (transpose S256x256x4 [2, 1, 0] d transposes_S4x256x256_S256x256x4_2_1_0) kr
def dkrC (d : FVec Ideal S4x256x256 .f32) (qr : FVec Ideal S256x4x64 .f32) : FVec Ideal S256x64 .f32 :=
  Host.dotGeneral dot_S256x256x4_S256x4x64_S256x64_12_01_0_2_n_n none (transpose S256x256x4 [2, 1, 0] d transposes_S4x256x256_S256x256x4_2_1_0) qr
def dkC (d : FVec Ideal S4x256x256 .f32) (q : FVec Ideal S256x4x128 .f32) : FVec Ideal S256x4x128 .f32 :=
  transpose S256x4x128 [1, 0, 2] (Host.dotGeneral dot_S4x256x256_S256x4x128_S4x256x128_1_0_2_2_0_1 none d q) transposes_S4x256x128_S256x4x128_1_0_2
def dqC (d : FVec Ideal S4x256x256 .f32) (k : FVec Ideal S256x4x128 .f32) : FVec Ideal S256x4x128 .f32 :=
  transpose S256x4x128 [1, 0, 2] (Host.dotGeneral dot_S4x256x256_S256x4x128_S4x256x128_2_0_1_2_0_1 none d k) transposes_S4x256x128_S256x4x128_1_0_2
def dvC (p : FVec Ideal S4x256x256 .f32) (g : FVec Ideal S256x4x128 .f32) : FVec Ideal S256x4x128 .f32 :=
  transpose S256x4x128 [2, 0, 1] (Host.dotGeneral dot_S4x128x256_S4x256x256_S4x128x256_2_1_1_2_0_0 none
    (transpose S4x128x256 [1, 2, 0] g transposes_S256x4x128_S4x128x256_1_2_0) p) transposes_S4x128x256_S256x4x128_2_0_1

section
variable (h : Fin 4) (r : Fin 256) (κ : Fin 256)

theorem scoreC_apply (q qr k kr) : scoreC q qr k kr (ix3 h r κ)
    = (∑ x, q (ix3 r h x) * k (ix3 κ h x) + ∑ x, kr (ix2 κ x) * qr (ix3 r h x)) * Ideal.ofBits .f32 0x3D93CD3A#32 := by pointwise [scoreC]
theorem reduceC_apply (s : FVec Ideal S4x256x256 .f32) (x : FVec Ideal S_ .f32) :
    Host.reduce FloatOps.maximumf s x reducesTo_S4x256x256_S4x256_d2 h_S_ (ix2 h r)
      = Finset.fold max (x (Shape.Idx.first h_S_)) (fun κ => s (ix3 h r κ)) Finset.univ := by
  rw [Host.reduce_eq_fold]
  pointwise
theorem maxC_apply (s) : maxC s (ix2 h r) = Finset.fold max (Ideal.ofBits .f32 0xFF800000#32) (fun κ => s (ix3 h r κ)) Finset.univ := reduceC_apply h r s _
theorem topC_apply (t) : topC t (ix2 h r) = max (Ideal.ofBits .f32 0xFF800000#32) (t (ix2 h r)) := by pointwise [topC]
theorem expC_apply (s t) : expC s t (ix3 h r κ) = Ideal.exp (s (ix3 h r κ) - t (ix2 h r)) := by pointwise [expC]
theorem totC_apply (e) : totC e (ix3 h r 0) = ∑ κ, e (ix3 h r κ) := by pointwise [totC]
theorem probC_apply (e z) : probC e z (ix3 h r κ) = Ideal.div (e (ix3 h r κ)) (z (ix3 h r 0)) := by pointwise [probC]
theorem dprobC_apply (g v) : dprobC g v (ix3 h r κ) = ∑ x, g (ix3 r h x) * v (ix3 κ h x) := by pointwise [dprobC]
theorem dtotC_apply (e d z) : dtotC e d z (ix2 h r)
    = ∑ _ : Fin 1, -∑ κ, d (ix3 h r κ) * Ideal.div 1 (z (ix3 h r 0) * z (ix3 h r 0)) * e (ix3 h r κ) := by pointwise [dtotC]
theorem dscoreC_apply (e d z y) : dscoreC e d z y (ix3 h r κ)
    = (Ideal.div (d (ix3 h r κ)) (z (ix3 h r 0)) + y (ix2 h r)) * e (ix3 h r κ) * Ideal.ofBits .f32 0x3D93CD3A#32 := by pointwise [dscoreC]
theorem dqrC_apply (d k) (x : Fin 64) : dqrC d k (ix3 r h x) = ∑ κ, d (ix3 h r κ) * k (ix2 κ x) := by pointwise [dqrC]
theorem dkrC_apply (d q) (x : Fin 64) : dkrC d q (ix2 κ x) = ∑ r, ∑ h, d (ix3 h r κ) * q (ix3 r h x) := by pointwise [dkrC]
theorem dkC_apply (d q) (x : Fin 128) : dkC d q (ix3 κ h x) = ∑ r, d (ix3 h r κ) * q (ix3 r h x) := by pointwise [dkC]
theorem dqC_apply (d k) (x : Fin 128) : dqC d k (ix3 r h x) = ∑ κ, d (ix3 h r κ) * k (ix3 κ h x) := by pointwise [dqC]
theorem dvC_apply (p g) (x : Fin 128) : dvC p g (ix3 κ h x) = ∑ r, g (ix3 r h x) * p (ix3 h r κ) := by pointwise [dvC]
end

end Cert.ReferenceIdeal.Value

end
-- ==== Proof.Value.Softmax.lean ====
/- One row of attention over the reals: its weights, its log-sum and the gradient of its scores. -/
module

public import Idealize.ShloMosaic.Lib.Pointwise

@[expose] public section

noncomputable section

namespace Cert.Attention

open Idealize.ShloMosaic

/-! ## Sums and constants -/

theorem coe_sum {ι : Type} (t : Finset ι) (f : ι → ℝ) : (∑ i ∈ t, (f i : EReal)) = ((∑ i ∈ t, f i : ℝ) : EReal) := by
  classical
  induction t using Finset.induction_on with
  | empty => rfl
  | insert a t ha ih => rw [Finset.sum_insert ha, Finset.sum_insert ha, ih, EReal.coe_add]

/-- A sum of reals is real. -/
theorem sum_real {ι : Type} [Fintype ι] {F : ι → EReal} {f : ι → ℝ} (h : ∀ i, F i = (f i : EReal)) : ∑ i, F i = ((∑ i, f i : ℝ) : EReal) := by
  rw [← coe_sum]
  exact Finset.sum_congr rfl fun i _ => h i

theorem neg_inf : Ideal.ofBits .f32 0xFF800000#32 = (⊥ : EReal) := by simp [Ideal.ofBits, Ideal.ieee]
theorem pos_inf : Ideal.ofBits .f32 0x7F800000#32 = (⊤ : EReal) := by simp [Ideal.ofBits, Ideal.ieee]
theorem two : Ideal.ofBits .f32 0x40000000#32 = ((2 : ℝ) : EReal) := by
  simp [Ideal.ofBits, Ideal.ieee, -EReal.coe_mul]
  norm_num

/-- The scale of the scores. -/
def rho : ℝ := EReal.toReal (Ideal.ofBits .f32 0x3D93CD3A#32)
theorem rho_coe : Ideal.ofBits .f32 0x3D93CD3A#32 = (rho : EReal) := by
  unfold rho
  simp [Ideal.ofBits, Ideal.ieee, -EReal.coe_mul]

/-- The reciprocal of the natural logarithm of 2. -/
theorem log2e : Ideal.div 1 (Ideal.log (Ideal.ofBits .f32 0x40000000#32)) = ((1 / Real.log 2 : ℝ) : EReal) := by
  rw [two, Ideal.log_coe, if_neg (by norm_num), Ideal.div_coe (Real.log_pos (by norm_num)).ne', one_mul]

theorem exp2_scaled (x : ℝ) : Ideal.exp2 ((x * (1 / Real.log 2) : ℝ) : EReal) = (Real.exp x : EReal) := by
  rw [Ideal.exp2_coe]
  have h : Real.log 2 ≠ 0 := (Real.log_pos (by norm_num)).ne'
  have : Real.rpow 2 (x * (1 / Real.log 2)) = Real.exp x := by
    show (2 : ℝ) ^ (x * (1 / Real.log 2)) = _
    rw [Real.rpow_def_of_pos (by norm_num)]
    congr 1
    field_simp
  rw [this]

/-! ## A row -/

section
variable {n : ℕ} [NeZero n] {s : Fin n → EReal} {σ : Fin n → ℝ} (hs : ∀ κ, s κ = (σ κ : EReal))

include hs in
/-- The greatest of a row of reals is real. -/
theorem fold_real : ∃ M : ℝ, Finset.fold max (Ideal.ofBits .f32 0xFF800000#32) s Finset.univ = (M : EReal) := by
  rw [neg_inf]
  obtain ⟨i, _, hi⟩ := Finset.exists_mem_eq_sup (Finset.univ : Finset (Fin n)) ⟨0, Finset.mem_univ 0⟩ s
  exact ⟨σ i, hi.trans (hs i)⟩

/-- The row's sum of exponentials. -/
def total {n : ℕ} (σ : Fin n → ℝ) : ℝ := ∑ κ, Real.exp (σ κ)

omit [NeZero n] in
theorem exp_shift (M : ℝ) (κ : Fin n) : Real.exp (σ κ - M) = Real.exp (σ κ) / Real.exp M := Real.exp_sub _ _
omit [NeZero n] in
theorem total_shift (M : ℝ) : ∑ κ, Real.exp (σ κ - M) = total σ / Real.exp M := by
  unfold total
  rw [Finset.sum_div]
  exact Finset.sum_congr rfl fun κ _ => exp_shift M κ
theorem total_pos (σ : Fin n → ℝ) : 0 < total σ :=
  Finset.sum_pos (fun κ _ => Real.exp_pos _) ⟨0, Finset.mem_univ 0⟩

variable {M : ℝ} {e : Fin n → EReal} {z : EReal} (he : ∀ κ, e κ = Ideal.exp (s κ - (M : EReal))) (hz : z = ∑ κ, e κ)

include hs he in
omit [NeZero n] in
theorem exp_real (κ : Fin n) : e κ = ((Real.exp (σ κ) / Real.exp M : ℝ) : EReal) := by
  rw [he, hs, ← EReal.coe_sub, Ideal.exp_coe, exp_shift]
include hs he hz in
omit [NeZero n] in
theorem total_real : z = ((total σ / Real.exp M : ℝ) : EReal) := by
  rw [hz, sum_real (exp_real hs he), ← total_shift]
  exact congrArg _ (Finset.sum_congr rfl fun κ _ => (exp_shift M κ).symm)

include hs he hz in
/-- The weights do not see the shift. -/
theorem weight_real (κ : Fin n) : Ideal.div (e κ) z = ((Real.exp (σ κ) / total σ : ℝ) : EReal) := by
  have hM := Real.exp_pos M
  have hT := total_pos σ
  rw [exp_real hs he, total_real hs he hz, Ideal.div_coe (by positivity), ← EReal.coe_mul]
  congr 1
  field_simp

include hs he hz in
/-- Nor does the log-sum. -/
theorem lse_real : (M : EReal) + Ideal.log z = (Real.log (total σ) : EReal) := by
  have hM := Real.exp_pos M
  have hT := total_pos σ
  rw [total_real hs he hz, Ideal.log_coe, if_neg (not_le.mpr (by positivity)), ← EReal.coe_add, Real.log_div hT.ne' hM.ne', Real.log_exp]
  congr 1
  ring

include hs he hz in
/-- The gradient of the scores, through the quotient. -/
theorem dscore_real {d : Fin n → EReal} {δ : Fin n → ℝ} (hd : ∀ κ, d κ = (δ κ : EReal)) (κ : Fin n) :
    (Ideal.div (d κ) z + ∑ _ : Fin 1, -∑ j, d j * Ideal.div 1 (z * z) * e j) * e κ * (rho : EReal)
      = ((Real.exp (σ κ) / total σ * (δ κ - ∑ j, Real.exp (σ j) / total σ * δ j) * rho : ℝ) : EReal) := by
  have hM := Real.exp_pos M
  have hT := total_pos σ
  have hz' := total_real hs he hz
  have h1 : Ideal.div (d κ) z = ((δ κ * (Real.exp M / total σ) : ℝ) : EReal) := by
    rw [hd, hz', Ideal.div_coe (by positivity), ← EReal.coe_mul]
    congr 1
    field_simp
  have h2 : Ideal.div 1 (z * z) = ((Real.exp M * Real.exp M / (total σ * total σ) : ℝ) : EReal) := by
    rw [hz', ← EReal.coe_mul, Ideal.div_coe (by positivity), one_mul]
    congr 1
    field_simp
  have h3 : ∀ j, d j * Ideal.div 1 (z * z) * e j = ((Real.exp M / total σ * (Real.exp (σ j) / total σ * δ j) : ℝ) : EReal) := fun j => by
    rw [hd, h2, exp_real hs he, ← EReal.coe_mul, ← EReal.coe_mul]
    congr 1
    field_simp
  rw [Fin.sum_univ_one, h1, sum_real h3, exp_real hs he, ← EReal.coe_neg, ← EReal.coe_add, ← EReal.coe_mul, ← EReal.coe_mul, ← Finset.mul_sum]
  congr 1
  field_simp
  ring

end

end Cert.Attention

end
-- ==== Proof.Value.Sums.lean ====
/- Sums over an interval of rows or keys, cut at a block. -/
module

public import Idealize.ShloMosaic.Lib.Pointwise

@[expose] public section

noncomputable section

namespace Cert.Attention

/-- The sum over `a ≤ r < b + s` is the sum over `a ≤ r < b` and the block of `s` from `b`. -/
theorem sum_extend {M : Type} [AddCommMonoid M] {N : ℕ} (f : Fin N → M) (a b s : ℕ) (hab : a ≤ b) (hs : b + s ≤ N) :
    ∑ r ∈ Finset.univ.filter (fun r : Fin N => a ≤ r.val ∧ r.val < b + s), f r
      = ∑ r ∈ Finset.univ.filter (fun r : Fin N => a ≤ r.val ∧ r.val < b), f r + ∑ x : Fin s, f ⟨b + x.val, by omega⟩ := by
  have e : ∑ x : Fin s, f ⟨b + x.val, by omega⟩ = ∑ r ∈ Finset.univ.filter (fun r : Fin N => b ≤ r.val ∧ r.val < b + s), f r := by
    refine Finset.sum_bij (fun x _ => ⟨b + x.val, by omega⟩) ?_ ?_ ?_ ?_
    · intro x _; simp only [Finset.mem_filter, Finset.mem_univ, true_and]; omega
    · intro x _ y _ h; have := congrArg Fin.val h; exact Fin.ext (by simpa using this)
    · intro r hr
      simp only [Finset.mem_filter, Finset.mem_univ, true_and] at hr
      exact ⟨⟨r.val - b, by omega⟩, Finset.mem_univ _, Fin.ext (by simp only []; omega)⟩
    · intro x _; rfl
  rw [e, ← Finset.sum_union]
  · refine Finset.sum_congr ?_ fun _ _ => rfl
    ext r
    simp only [Finset.mem_union, Finset.mem_filter, Finset.mem_univ, true_and]
    omega
  · rw [Finset.disjoint_left]
    intro r h1 h2
    simp only [Finset.mem_filter, Finset.mem_univ, true_and] at h1 h2
    omega

theorem sum_interval_empty {M : Type} [AddCommMonoid M] {N : ℕ} (f : Fin N → M) (a : ℕ) :
    ∑ r ∈ Finset.univ.filter (fun r : Fin N => a ≤ r.val ∧ r.val < a), f r = 0 := by
  rw [Finset.filter_false_of_mem, Finset.sum_empty]
  intro r _; omega

theorem sum_interval_all {M : Type} [AddCommMonoid M] {N : ℕ} (f : Fin N → M) (b : ℕ) (hb : N ≤ b) :
    ∑ r ∈ Finset.univ.filter (fun r : Fin N => 0 ≤ r.val ∧ r.val < b), f r = ∑ r, f r := by
  rw [Finset.filter_true_of_mem]
  intro r _; omega

/-- The sum over all rows, cut behind the first `a`. -/
theorem sum_cut {M : Type} [AddCommMonoid M] {N : ℕ} (f : Fin N → M) (a s : ℕ) (h : a + s = N) :
    ∑ r, f r = ∑ x : Fin a, f ⟨x.val, by omega⟩ + ∑ x : Fin s, f ⟨a + x.val, by omega⟩ := by
  have h1 := sum_extend f 0 a s (by omega) (by omega)
  have h2 := sum_extend f 0 0 a le_rfl (by omega)
  rw [sum_interval_all f (a + s) (by omega)] at h1
  simp only [sum_interval_empty, zero_add] at h2
  rw [h1, h2]

end Cert.Attention

end
-- ==== Proof.Value.Spec.lean ====
/- Attention's gradients over the reals: what both programs compute. -/
module

public import proofs.«01_k».proof.Proof.Value.Softmax
public import proofs.«01_k».proof.Proof.Value.Sums

@[expose] public section

noncomputable section

namespace Cert.Attention

/-- The six arguments: each head's queries, keys, values and output gradients, and the keys' shared part. -/
structure Reals where
  q : Fin 8448 → Fin 4 → Fin 128 → ℝ
  qr : Fin 8448 → Fin 4 → Fin 64 → ℝ
  k : Fin 8448 → Fin 4 → Fin 128 → ℝ
  kr : Fin 8448 → Fin 64 → ℝ
  v : Fin 8448 → Fin 4 → Fin 128 → ℝ
  g : Fin 8448 → Fin 4 → Fin 128 → ℝ

/-- A row or key of the context. -/
def ctx (x : Fin 256) : Fin 8448 := ⟨x.val, by omega⟩
/-- A latent row. -/
def lat (x : Fin 8192) : Fin 8448 := ⟨256 + x.val, by omega⟩

/-- A term of key `κ` and row `r`, where the row sees the key. -/
def maskR (κ r : Fin 8448) (y : ℝ) : ℝ := if r.val < 256 ∧ ¬κ.val < 256 then 0 else y

namespace Reals
variable (A : Reals) (h : Fin 4) (r κ : Fin 8448)

/-- The scaled score. -/
def score : ℝ := (∑ x, A.q r h x * A.k κ h x + ∑ x, A.kr κ x * A.qr r h x) * rho
/-- The row's sum of exponentials. -/
def sum : ℝ := if r.val < 256 then total (fun κ => A.score h r (ctx κ)) else total (fun κ => A.score h r κ)
/-- The weight. -/
def weight : ℝ := Real.exp (A.score h r κ) / A.sum h r
/-- The weight's gradient. -/
def dweight : ℝ := ∑ x, A.g r h x * A.v κ h x
/-- The row's mean of the weights' gradients. -/
def delta : ℝ := if r.val < 256 then ∑ κ, A.weight h r (ctx κ) * A.dweight h r (ctx κ) else ∑ κ, A.weight h r κ * A.dweight h r κ
/-- The score's gradient, before the scale. -/
def dscore : ℝ := A.weight h r κ * (A.dweight h r κ - A.delta h r)

/-- The gradients. -/
def dq (x : Fin 128) : ℝ := rho * ∑ κ, maskR κ r (A.dscore h r κ * A.k κ h x)
def dqr (x : Fin 64) : ℝ := rho * ∑ κ, maskR κ r (A.dscore h r κ * A.kr κ x)
def dk (x : Fin 128) : ℝ := rho * ∑ r, maskR κ r (A.dscore h r κ * A.q r h x)
def dkr (x : Fin 64) : ℝ := ∑ h, rho * ∑ r, maskR κ r (A.dscore h r κ * A.qr r h x)
def dv (x : Fin 128) : ℝ := ∑ r, maskR κ r (A.weight h r κ * A.g r h x)

theorem sum_ctx (r : Fin 256) : A.sum h (ctx r) = total (fun κ => A.score h (ctx r) (ctx κ)) := if_pos r.isLt
theorem sum_lat (r : Fin 8192) : A.sum h (lat r) = total (fun κ => A.score h (lat r) κ) := if_neg (by simp only [lat]; omega)
theorem delta_ctx (r : Fin 256) : A.delta h (ctx r) = ∑ κ, A.weight h (ctx r) (ctx κ) * A.dweight h (ctx r) (ctx κ) := if_pos r.isLt
theorem delta_lat (r : Fin 8192) : A.delta h (lat r) = ∑ κ, A.weight h (lat r) κ * A.dweight h (lat r) κ := if_neg (by simp only [lat]; omega)
theorem sum_pos : 0 < A.sum h r := by
  unfold sum
  split
  · exact total_pos _
  · exact total_pos _
end Reals

/-- Every row is of the context or latent. -/
theorem row_cases (r : Fin 8448) : (∃ x, r = ctx x) ∨ ∃ x, r = lat x := by
  by_cases h : r.val < 256
  · exact .inl ⟨⟨r.val, h⟩, rfl⟩
  · exact .inr ⟨⟨r.val - 256, by omega⟩, Fin.ext (by simp only [lat]; omega)⟩

theorem maskR_ctx (κ r : Fin 256) (y : ℝ) : maskR (ctx κ) (ctx r) y = y := if_neg (by simp only [ctx]; omega)
theorem maskR_blind (κ : Fin 8192) (r : Fin 256) (y : ℝ) : maskR (lat κ) (ctx r) y = 0 := if_pos (by simp only [ctx, lat]; omega)
theorem maskR_lat (κ : Fin 8448) (r : Fin 8192) (y : ℝ) : maskR κ (lat r) y = y := if_neg (by simp only [lat]; omega)

theorem sum_parts (f : Fin 8448 → ℝ) : ∑ r, f r = ∑ r, f (ctx r) + ∑ r, f (lat r) := sum_cut f 256 8192 (by norm_num)

/-- A row of the context: the keys of the context. -/
theorem keys_ctx (r : Fin 256) (f : Fin 8448 → ℝ) : ∑ κ, maskR κ (ctx r) (f κ) = ∑ κ, f (ctx κ) := by
  rw [sum_parts, Finset.sum_eq_zero (s := (Finset.univ : Finset (Fin 8192))) (fun κ _ => maskR_blind κ r _), add_zero]
  exact Finset.sum_congr rfl fun κ _ => maskR_ctx κ r _
/-- A latent row: all keys. -/
theorem keys_lat (r : Fin 8192) (f : Fin 8448 → ℝ) : ∑ κ, maskR κ (lat r) (f κ) = ∑ κ, f κ :=
  Finset.sum_congr rfl fun κ _ => maskR_lat κ r _
/-- A key of the context: all rows. -/
theorem rows_ctx (κ : Fin 256) (f : Fin 8448 → ℝ) : ∑ r, maskR (ctx κ) r (f r) = ∑ r, f (lat r) + ∑ r, f (ctx r) := by
  rw [sum_parts, add_comm]
  exact congrArg₂ (· + ·) (Finset.sum_congr rfl fun r _ => maskR_lat _ r _) (Finset.sum_congr rfl fun r _ => maskR_ctx κ r _)
/-- A latent key: the latent rows. -/
theorem rows_lat (κ : Fin 8192) (f : Fin 8448 → ℝ) : ∑ r, maskR (lat κ) r (f r) = ∑ r, f (lat r) := by
  rw [sum_parts, Finset.sum_eq_zero (s := (Finset.univ : Finset (Fin 256))) (fun r _ => maskR_blind κ r _), zero_add]
  exact Finset.sum_congr rfl fun r _ => maskR_lat _ r _

end Cert.Attention

end
-- ==== Proof.Value.Reference.lean ====
/- The reference's five results: attention's gradients. -/
module

public import proofs.«01_k».proof.Proof.Value.Latent
public import proofs.«01_k».proof.Proof.Value.Context
public import proofs.«01_k».proof.Proof.Value.Spec
public import proofs.«01_k».proof.Proof.Gen.ReferenceIdeal.Run

@[expose] public section
set_option maxRecDepth 16384

noncomputable section

namespace Cert.ReferenceIdeal.Value

open Cert.ReferenceIdeal Cert.ReferenceIdeal.Gen Cert.Attention Idealize.ShloMosaic Idealize.ShloMosaic.TcCoe

/-! ## The cut rows -/

def cut128L (a : FVec Ideal S8448x4x128 .f32) : FVec Ideal S8192x4x128 .f32 := extractStridedSlice S8192x4x128 ![256, 0, 0] a slices_S8448x4x128_S8192x4x128_256_0_0
def cut64L (a : FVec Ideal S8448x4x64 .f32) : FVec Ideal S8192x4x64 .f32 := extractStridedSlice S8192x4x64 ![256, 0, 0] a slices_S8448x4x64_S8192x4x64_256_0_0
def cut128C (a : FVec Ideal S8448x4x128 .f32) : FVec Ideal S256x4x128 .f32 := extractStridedSlice S256x4x128 ![0, 0, 0] a slices_S8448x4x128_S256x4x128_0_0_0
def cut64C (a : FVec Ideal S8448x4x64 .f32) : FVec Ideal S256x4x64 .f32 := extractStridedSlice S256x4x64 ![0, 0, 0] a slices_S8448x4x64_S256x4x64_0_0_0
def cutC (a : FVec Ideal S8448x64 .f32) : FVec Ideal S256x64 .f32 := extractStridedSlice S256x64 ![0, 0] a slices_S8448x64_S256x64_0_0

theorem cut128L_apply (a r h x) : cut128L a (ix3 r h x) = a (ix3 (lat r) h x) := by
  unfold lat
  pointwise [cut128L]
theorem cut64L_apply (a r h x) : cut64L a (ix3 r h x) = a (ix3 (lat r) h x) := by
  unfold lat
  pointwise [cut64L]
theorem cut128C_apply (a r h x) : cut128C a (ix3 r h x) = a (ix3 (ctx r) h x) := by
  unfold ctx
  pointwise [cut128C]
theorem cut64C_apply (a r h x) : cut64C a (ix3 r h x) = a (ix3 (ctx r) h x) := by
  unfold ctx
  pointwise [cut64C]
theorem cutC_apply (a r x) : cutC a (ix2 r x) = a (ix2 (ctx r) x) := by
  unfold ctx
  pointwise [cutC]

/-! ## The results -/

section
variable (a0 : FVec Ideal S8448x4x128 .f32) (a1 : FVec Ideal S8448x4x64 .f32) (a2 : FVec Ideal S8448x4x128 .f32) (a3 : FVec Ideal S8448x64 .f32)
  (a4 a5 : FVec Ideal S8448x4x128 .f32)

def sL := scoreL (cut128L a0) (cut64L a1) a2 a3
def eL := expL (sL a0 a1 a2 a3) (topL (maxL (sL a0 a1 a2 a3)))
def zL := totL (eL a0 a1 a2 a3)
def dL := dprobL (cut128L a5) a4
def dsL := dscoreL (eL a0 a1 a2 a3) (dL a4 a5) (zL a0 a1 a2 a3) (dtotL (eL a0 a1 a2 a3) (dL a4 a5) (zL a0 a1 a2 a3))
def pL := probL (eL a0 a1 a2 a3) (zL a0 a1 a2 a3)

def sC := scoreC (cut128C a0) (cut64C a1) (cut128C a2) (cutC a3)
def eC := expC (sC a0 a1 a2 a3) (topC (maxC (sC a0 a1 a2 a3)))
def zC := totC (eC a0 a1 a2 a3)
def dC := dprobC (cut128C a5) (cut128C a4)
def dsC := dscoreC (eC a0 a1 a2 a3) (dC a4 a5) (zC a0 a1 a2 a3) (dtotC (eC a0 a1 a2 a3) (dC a4 a5) (zC a0 a1 a2 a3))
def pC := probC (eC a0 a1 a2 a3) (zC a0 a1 a2 a3)

def low128 (a : FVec Ideal S8192x4x128 .f32) : FVec Ideal S8448x4x128 .f32 :=
  pad S8448x4x128 ![256, 0, 0] ![0, 0, 0] ![0, 0, 0] a (constant S_ .f32 0x00000000#32) pads_S8192x4x128_S8448x4x128_25600_000_000 h_S_
def low64 (a : FVec Ideal S8192x4x64 .f32) : FVec Ideal S8448x4x64 .f32 :=
  pad S8448x4x64 ![256, 0, 0] ![0, 0, 0] ![0, 0, 0] a (constant S_ .f32 0x00000000#32) pads_S8192x4x64_S8448x4x64_25600_000_000 h_S_
def high128 (a : FVec Ideal S256x4x128 .f32) : FVec Ideal S8448x4x128 .f32 :=
  pad S8448x4x128 ![0, 0, 0] ![8192, 0, 0] ![0, 0, 0] a (constant S_ .f32 0x00000000#32) pads_S256x4x128_S8448x4x128_081920_000_000 h_S_
def high64 (a : FVec Ideal S256x4x64 .f32) : FVec Ideal S8448x4x64 .f32 :=
  pad S8448x4x64 ![0, 0, 0] ![8192, 0, 0] ![0, 0, 0] a (constant S_ .f32 0x00000000#32) pads_S256x4x64_S8448x4x64_081920_000_000 h_S_
def high (a : FVec Ideal S256x64 .f32) : FVec Ideal S8448x64 .f32 :=
  pad S8448x64 ![0, 0] ![8192, 0] ![0, 0] a (constant S_ .f32 0x00000000#32) pads_S256x64_S8448x64_081920_000 h_S_

def out0 := addf (low128 (dqL (dsL a0 a1 a2 a3 a4 a5) a2)) (high128 (dqC (dsC a0 a1 a2 a3 a4 a5) (cut128C a2)))
def out1 := addf (low64 (dqrL (dsL a0 a1 a2 a3 a4 a5) a3)) (high64 (dqrC (dsC a0 a1 a2 a3 a4 a5) (cutC a3)))
def out2 := addf (dkL (dsL a0 a1 a2 a3 a4 a5) (cut128L a0)) (high128 (dkC (dsC a0 a1 a2 a3 a4 a5) (cut128C a0)))
def out3 := addf (dkrL (dsL a0 a1 a2 a3 a4 a5) (cut64L a1)) (high (dkrC (dsC a0 a1 a2 a3 a4 a5) (cut64C a1)))
def out4 := addf (dvL (pL a0 a1 a2 a3) (cut128L a5)) (high128 (dvC (pC a0 a1 a2 a3) (cut128C a5)))
end

section
variable (m : (ℓ : Loc nD τ sig) → Buf (Elt Ideal) ℓ) (c : Dev nD)
theorem res0 : res_main_v143 m c = out0 (m (c.tc.loc main_arg0)) (m (c.tc.loc main_arg1)) (m (c.tc.loc main_arg2)) (m (c.tc.loc main_arg3)) (m (c.tc.loc main_arg4)) (m (c.tc.loc main_arg5)) := rfl
theorem res1 : res_main_v141 m c = out1 (m (c.tc.loc main_arg0)) (m (c.tc.loc main_arg1)) (m (c.tc.loc main_arg2)) (m (c.tc.loc main_arg3)) (m (c.tc.loc main_arg4)) (m (c.tc.loc main_arg5)) := rfl
theorem res2 : res_main_v139 m c = out2 (m (c.tc.loc main_arg0)) (m (c.tc.loc main_arg1)) (m (c.tc.loc main_arg2)) (m (c.tc.loc main_arg3)) (m (c.tc.loc main_arg4)) (m (c.tc.loc main_arg5)) := rfl
theorem res3 : res_main_v137 m c = out3 (m (c.tc.loc main_arg0)) (m (c.tc.loc main_arg1)) (m (c.tc.loc main_arg2)) (m (c.tc.loc main_arg3)) (m (c.tc.loc main_arg4)) (m (c.tc.loc main_arg5)) := rfl
theorem res4 : res_main_v135 m c = out4 (m (c.tc.loc main_arg0)) (m (c.tc.loc main_arg1)) (m (c.tc.loc main_arg2)) (m (c.tc.loc main_arg3)) (m (c.tc.loc main_arg5)) := rfl
end

/-! ## The padded rows -/

theorem low128_ctx (a r h x) : low128 a (ix3 (ctx r) h x) = 0 := by
  unfold ctx
  pointwise [low128]
  exact dif_neg fun h => h.1
theorem low128_lat (a r h x) : low128 a (ix3 (lat r) h x) = a (ix3 r h x) := by
  unfold lat
  pointwise [low128]
theorem low64_ctx (a r h x) : low64 a (ix3 (ctx r) h x) = 0 := by
  unfold ctx
  pointwise [low64]
  exact dif_neg fun h => h.1
theorem low64_lat (a r h x) : low64 a (ix3 (lat r) h x) = a (ix3 r h x) := by
  unfold lat
  pointwise [low64]
theorem high128_ctx (a r h x) : high128 a (ix3 (ctx r) h x) = a (ix3 r h x) := by
  unfold ctx
  pointwise [high128]
theorem high128_lat (a r h x) : high128 a (ix3 (lat r) h x) = 0 := by
  unfold lat
  pointwise [high128]
theorem high64_ctx (a r h x) : high64 a (ix3 (ctx r) h x) = a (ix3 r h x) := by
  unfold ctx
  pointwise [high64]
theorem high64_lat (a r h x) : high64 a (ix3 (lat r) h x) = 0 := by
  unfold lat
  pointwise [high64]
theorem high_ctx (a r x) : high a (ix2 (ctx r) x) = a (ix2 r x) := by
  unfold ctx
  pointwise [high]
theorem high_lat (a r x) : high a (ix2 (lat r) x) = 0 := by
  unfold lat
  pointwise [high]

/-! ## The rows over the reals -/

/-- The arguments are the reals `A`. -/
structure IsReal (A : Reals) (a0 : FVec Ideal S8448x4x128 .f32) (a1 : FVec Ideal S8448x4x64 .f32) (a2 : FVec Ideal S8448x4x128 .f32) (a3 : FVec Ideal S8448x64 .f32)
    (a4 a5 : FVec Ideal S8448x4x128 .f32) : Prop where
  q : ∀ r h x, a0 (ix3 r h x) = (A.q r h x : EReal)
  qr : ∀ r h x, a1 (ix3 r h x) = (A.qr r h x : EReal)
  k : ∀ r h x, a2 (ix3 r h x) = (A.k r h x : EReal)
  kr : ∀ r x, a3 (ix2 r x) = (A.kr r x : EReal)
  v : ∀ r h x, a4 (ix3 r h x) = (A.v r h x : EReal)
  g : ∀ r h x, a5 (ix3 r h x) = (A.g r h x : EReal)

/-- A sum of products of reals. -/
theorem sum_mul_real {ι : Type} [Fintype ι] {F G : ι → EReal} {f g : ι → ℝ} (hF : ∀ i, F i = (f i : EReal)) (hG : ∀ i, G i = (g i : EReal)) :
    ∑ i, F i * G i = ((∑ i, f i * g i : ℝ) : EReal) := sum_real fun i => by rw [hF, hG, EReal.coe_mul]

section
variable {A : Reals} {a0 : FVec Ideal S8448x4x128 .f32} {a1 : FVec Ideal S8448x4x64 .f32} {a2 : FVec Ideal S8448x4x128 .f32} {a3 : FVec Ideal S8448x64 .f32}
  {a4 a5 : FVec Ideal S8448x4x128 .f32} (hA : IsReal A a0 a1 a2 a3 a4 a5)
include hA

theorem sL_real (h : Fin 4) (r : Fin 8192) (κ : Fin 8448) : sL a0 a1 a2 a3 (ix3 h r κ) = (A.score h (lat r) κ : EReal) := by
  unfold sL
  rw [scoreL_apply, sum_mul_real (fun x => (cut128L_apply a0 r h x).trans (hA.q _ h x)) (fun x => hA.k κ h x),
    sum_mul_real (fun x => hA.kr κ x) (fun x => (cut64L_apply a1 r h x).trans (hA.qr _ h x)), rho_coe, ← EReal.coe_add, ← EReal.coe_mul]
  rfl
/-- A row's exponentials, over a real. -/
theorem eL_real (h : Fin 4) (r : Fin 8192) : ∃ M : ℝ, ∀ κ, eL a0 a1 a2 a3 (ix3 h r κ) = Ideal.exp (sL a0 a1 a2 a3 (ix3 h r κ) - (M : EReal)) := by
  obtain ⟨M, hM⟩ := fold_real (sL_real hA h r)
  refine ⟨M, fun κ => ?_⟩
  unfold eL
  rw [expL_apply, topL_apply, maxL_apply, hM, neg_inf, max_eq_right bot_le]
theorem pL_real (h : Fin 4) (r : Fin 8192) (κ : Fin 8448) : pL a0 a1 a2 a3 (ix3 h r κ) = (A.weight h (lat r) κ : EReal) := by
  obtain ⟨M, hM⟩ := eL_real hA h r
  unfold pL
  rw [probL_apply]
  refine (weight_real (sL_real hA h r) hM (totL_apply h r _) κ).trans ?_
  rw [← A.sum_lat]
  rfl
theorem dL_real (h : Fin 4) (r : Fin 8192) (κ : Fin 8448) : dL a4 a5 (ix3 h r κ) = (A.dweight h (lat r) κ : EReal) := by
  unfold dL
  rw [dprobL_apply]
  exact sum_mul_real (fun x => (cut128L_apply a5 r h x).trans (hA.g _ h x)) (fun x => hA.v κ h x)
theorem dsL_real (h : Fin 4) (r : Fin 8192) (κ : Fin 8448) : dsL a0 a1 a2 a3 a4 a5 (ix3 h r κ) = ((A.dscore h (lat r) κ * rho : ℝ) : EReal) := by
  obtain ⟨M, hM⟩ := eL_real hA h r
  unfold dsL
  rw [dscoreL_apply, dtotL_apply, rho_coe]
  refine (dscore_real (sL_real hA h r) hM (totL_apply h r _) (dL_real hA h r) κ).trans ?_
  unfold Reals.dscore
  rw [A.delta_lat]
  unfold Reals.weight
  rw [A.sum_lat]

theorem sC_real (h : Fin 4) (r : Fin 256) (κ : Fin 256) : sC a0 a1 a2 a3 (ix3 h r κ) = (A.score h (ctx r) (ctx κ) : EReal) := by
  unfold sC
  rw [scoreC_apply, sum_mul_real (fun x => (cut128C_apply a0 r h x).trans (hA.q _ h x)) (fun x => (cut128C_apply a2 κ h x).trans (hA.k _ h x)),
    sum_mul_real (fun x => (cutC_apply a3 κ x).trans (hA.kr _ x)) (fun x => (cut64C_apply a1 r h x).trans (hA.qr _ h x)), rho_coe, ← EReal.coe_add, ← EReal.coe_mul]
  rfl
/-- A row's exponentials, over a real. -/
theorem eC_real (h : Fin 4) (r : Fin 256) : ∃ M : ℝ, ∀ κ, eC a0 a1 a2 a3 (ix3 h r κ) = Ideal.exp (sC a0 a1 a2 a3 (ix3 h r κ) - (M : EReal)) := by
  obtain ⟨M, hM⟩ := fold_real (sC_real hA h r)
  refine ⟨M, fun κ => ?_⟩
  unfold eC
  rw [expC_apply, topC_apply, maxC_apply, hM, neg_inf, max_eq_right bot_le]
theorem pC_real (h : Fin 4) (r : Fin 256) (κ : Fin 256) : pC a0 a1 a2 a3 (ix3 h r κ) = (A.weight h (ctx r) (ctx κ) : EReal) := by
  obtain ⟨M, hM⟩ := eC_real hA h r
  unfold pC
  rw [probC_apply]
  refine (weight_real (sC_real hA h r) hM (totC_apply h r _) κ).trans ?_
  rw [← A.sum_ctx]
  rfl
theorem dC_real (h : Fin 4) (r : Fin 256) (κ : Fin 256) : dC a4 a5 (ix3 h r κ) = (A.dweight h (ctx r) (ctx κ) : EReal) := by
  unfold dC
  rw [dprobC_apply]
  exact sum_mul_real (fun x => (cut128C_apply a5 r h x).trans (hA.g _ h x)) (fun x => (cut128C_apply a4 κ h x).trans (hA.v _ h x))
theorem dsC_real (h : Fin 4) (r : Fin 256) (κ : Fin 256) : dsC a0 a1 a2 a3 a4 a5 (ix3 h r κ) = ((A.dscore h (ctx r) (ctx κ) * rho : ℝ) : EReal) := by
  obtain ⟨M, hM⟩ := eC_real hA h r
  unfold dsC
  rw [dscoreC_apply, dtotC_apply, rho_coe]
  refine (dscore_real (sC_real hA h r) hM (totC_apply h r _) (dC_real hA h r) κ).trans ?_
  unfold Reals.dscore
  rw [A.delta_ctx]
  unfold Reals.weight
  rw [A.sum_ctx]

/-! ## The results over the reals -/

theorem out0_real (r : Fin 8448) (h : Fin 4) (x : Fin 128) : out0 a0 a1 a2 a3 a4 a5 (ix3 r h x) = (A.dq h r x : EReal) := by
  show low128 _ (ix3 r h x) + high128 _ (ix3 r h x) = _
  obtain ⟨y, rfl⟩ | ⟨y, rfl⟩ := row_cases r
  · rw [low128_ctx, high128_ctx, zero_add, dqC_apply, sum_mul_real (dsC_real hA h y) (fun κ => (cut128C_apply a2 κ h x).trans (hA.k _ h x))]
    unfold Reals.dq
    rw [keys_ctx, Finset.mul_sum]
    exact congrArg _ (Finset.sum_congr rfl fun κ _ => by ring)
  · rw [low128_lat, high128_lat, add_zero, dqL_apply, sum_mul_real (dsL_real hA h y) (fun κ => hA.k κ h x)]
    unfold Reals.dq
    rw [keys_lat, Finset.mul_sum]
    exact congrArg _ (Finset.sum_congr rfl fun κ _ => by ring)
theorem out1_real (r : Fin 8448) (h : Fin 4) (x : Fin 64) : out1 a0 a1 a2 a3 a4 a5 (ix3 r h x) = (A.dqr h r x : EReal) := by
  show low64 _ (ix3 r h x) + high64 _ (ix3 r h x) = _
  obtain ⟨y, rfl⟩ | ⟨y, rfl⟩ := row_cases r
  · rw [low64_ctx, high64_ctx, zero_add, dqrC_apply, sum_mul_real (dsC_real hA h y) (fun κ => (cutC_apply a3 κ x).trans (hA.kr _ x))]
    unfold Reals.dqr
    rw [keys_ctx, Finset.mul_sum]
    exact congrArg _ (Finset.sum_congr rfl fun κ _ => by ring)
  · rw [low64_lat, high64_lat, add_zero, dqrL_apply, sum_mul_real (dsL_real hA h y) (fun κ => hA.kr κ x)]
    unfold Reals.dqr
    rw [keys_lat, Finset.mul_sum]
    exact congrArg _ (Finset.sum_congr rfl fun κ _ => by ring)
theorem out2_real (κ : Fin 8448) (h : Fin 4) (x : Fin 128) : out2 a0 a1 a2 a3 a4 a5 (ix3 κ h x) = (A.dk h κ x : EReal) := by
  show dkL _ _ (ix3 κ h x) + high128 _ (ix3 κ h x) = _
  rw [dkL_apply, sum_mul_real (fun r => dsL_real hA h r κ) (fun r => (cut128L_apply a0 r h x).trans (hA.q _ h x))]
  unfold Reals.dk
  obtain ⟨y, rfl⟩ | ⟨y, rfl⟩ := row_cases κ
  · rw [high128_ctx, dkC_apply, sum_mul_real (fun r => dsC_real hA h r y) (fun r => (cut128C_apply a0 r h x).trans (hA.q _ h x)), ← EReal.coe_add, rows_ctx,
      mul_add, Finset.mul_sum, Finset.mul_sum]
    exact congrArg _ (congrArg₂ (· + ·) (Finset.sum_congr rfl fun κ _ => by ring) (Finset.sum_congr rfl fun κ _ => by ring))
  · rw [high128_lat, add_zero, rows_lat, Finset.mul_sum]
    exact congrArg _ (Finset.sum_congr rfl fun κ _ => by ring)
theorem out3_real (κ : Fin 8448) (x : Fin 64) : out3 a0 a1 a2 a3 a4 a5 (ix2 κ x) = (A.dkr κ x : EReal) := by
  show dkrL _ _ (ix2 κ x) + high _ (ix2 κ x) = _
  rw [dkrL_apply, Finset.sum_comm, sum_real fun h => sum_mul_real (fun r => dsL_real hA h r κ) (fun r => (cut64L_apply a1 r h x).trans (hA.qr _ h x))]
  unfold Reals.dkr
  obtain ⟨y, rfl⟩ | ⟨y, rfl⟩ := row_cases κ
  · have e : ∑ r, ∑ h, dsC a0 a1 a2 a3 a4 a5 (ix3 h r y) * cut64C a1 (ix3 r h x)
        = ((∑ h, ∑ r, A.dscore h (ctx r) (ctx y) * rho * A.qr (ctx r) h x : ℝ) : EReal) := by
      rw [Finset.sum_comm]
      exact sum_real fun h => sum_mul_real (fun r => dsC_real hA h r y) (fun r => (cut64C_apply a1 r h x).trans (hA.qr _ h x))
    rw [high_ctx, dkrC_apply, e, ← EReal.coe_add, ← Finset.sum_add_distrib]
    refine congrArg _ (Finset.sum_congr rfl fun h _ => ?_)
    rw [rows_ctx, mul_add, Finset.mul_sum, Finset.mul_sum]
    exact congrArg₂ (· + ·) (Finset.sum_congr rfl fun κ _ => by ring) (Finset.sum_congr rfl fun κ _ => by ring)
  · rw [high_lat, add_zero]
    refine congrArg _ (Finset.sum_congr rfl fun h _ => ?_)
    rw [rows_lat, Finset.mul_sum]
    exact Finset.sum_congr rfl fun κ _ => by ring
theorem out4_real (κ : Fin 8448) (h : Fin 4) (x : Fin 128) : out4 a0 a1 a2 a3 a5 (ix3 κ h x) = (A.dv h κ x : EReal) := by
  show dvL _ _ (ix3 κ h x) + high128 _ (ix3 κ h x) = _
  rw [dvL_apply, sum_mul_real (fun r => (cut128L_apply a5 r h x).trans (hA.g _ h x)) (fun r => pL_real hA h r κ)]
  unfold Reals.dv
  obtain ⟨y, rfl⟩ | ⟨y, rfl⟩ := row_cases κ
  · rw [high128_ctx, dvC_apply, sum_mul_real (fun r => (cut128C_apply a5 r h x).trans (hA.g _ h x)) (fun r => pC_real hA h r y), ← EReal.coe_add, rows_ctx]
    exact congrArg _ (congrArg₂ (· + ·) (Finset.sum_congr rfl fun κ _ => mul_comm _ _) (Finset.sum_congr rfl fun κ _ => mul_comm _ _))
  · rw [high128_lat, add_zero, rows_lat]
    exact congrArg _ (Finset.sum_congr rfl fun κ _ => mul_comm _ _)
end

end Cert.ReferenceIdeal.Value

end
-- ==== Proof.Value.Window.lean ====
/- A window of a rank-2 array, and an array with a window of its rows replaced, read at an index. -/
module

public import Idealize.ShloMosaic.Lib.VecWindow
public import Idealize.ShloMosaic.Lib.Pointwise

@[expose] public section

noncomputable section

namespace Cert.Attention

open Idealize.ShloMosaic

/-- A window at an index is the array at the window's offsets beyond it. -/
theorem window_ix2 {α : Type} {n m a b : ℕ} (x : (⟨2, ![n, m]⟩ : Shape).Idx → α) (off : Fin 2 → ℕ)
    (inb : ∀ i, off i + (⟨2, ![a, b]⟩ : Shape).size i ≤ (⟨2, ![n, m]⟩ : Shape).size i) (i : Fin a) (j : Fin b) (i' : Fin n) (j' : Fin m)
    (hi : i'.val = off 0 + i.val) (hj : j'.val = off 1 + j.val) :
    VecWindow.window x off (⟨2, ![a, b]⟩ : Shape).size inb (ix2 i j) = x (ix2 i' j') := by
  unfold VecWindow.window
  congr 1
  funext d
  apply Fin.ext
  fin_cases d
  · show off 0 + 1 * i.val = i'.val; omega
  · show off 1 + 1 * j.val = j'.val; omega

/-- An array with the rows `o, …, o + a - 1` replaced, at an index. -/
theorem put_ix2 {α : Type} {n m a : ℕ} (x : (⟨2, ![n, m]⟩ : Shape).Idx → α) (off : Fin 2 → ℕ) (o : ℕ) (h0 : off 0 = o) (h1 : off 1 = 0)
    (w : (⟨2, ![a, m]⟩ : Shape).Idx → α) (r : Fin n) (c : Fin m) :
    VecWindow.put x off (⟨2, ![a, m]⟩ : Shape).size w (ix2 r c)
      = if h : o ≤ r.val ∧ r.val < o + a then w (ix2 ⟨r.val - o, by omega⟩ c) else x (ix2 r c) := by
  unfold VecWindow.put
  by_cases h : o ≤ r.val ∧ r.val < o + a
  · have h' : ∀ d : Fin 2, off d ≤ ((ix2 r c : (⟨2, ![n, m]⟩ : Shape).Idx) d).val
        ∧ ((ix2 r c : (⟨2, ![n, m]⟩ : Shape).Idx) d).val < off d + (⟨2, ![a, m]⟩ : Shape).size d := by
      intro d
      fin_cases d
      · show off 0 ≤ r.val ∧ r.val < off 0 + a; omega
      · show off 1 ≤ c.val ∧ c.val < off 1 + m; omega
    rw [dif_pos h, dif_pos h']
    congr 1
    funext d
    apply Fin.ext
    fin_cases d
    · show r.val - off 0 = r.val - o; omega
    · show c.val - off 1 = c.val; omega
  · rw [dif_neg h, dif_neg]
    intro h'
    have := h' (0 : Fin 2)
    exact h (by have : off 0 ≤ r.val ∧ r.val < off 0 + a := this; omega)

end Cert.Attention

end
-- ==== Proof.Value.Trip.lean ====
/- One trip and the first block's context rows at an index: each adds to the accumulators the terms of its rows. -/
module

public import proofs.«01_k».proof.Proof.Run.Point
public import proofs.«01_k».proof.Proof.Value.Window

@[expose] public section
set_option maxRecDepth 16384

noncomputable section

namespace Cert.KernelIdeal.Value

open Cert.KernelIdeal Cert.KernelIdeal.Gen Cert.KernelIdeal.Run Cert.Attention Idealize.ShloMosaic

/-- The row of the log-sums and deltas that belongs to the point's head. -/
def head (i : grid0.Coords) : Fin 8 := ⟨(i 0).val, lt_of_lt_of_le (i 0).isLt (by decide)⟩

theorem off3_0 : ∀ i : grid0.Coords, k0_off3 i 0 = (i 0).val := by decide +kernel
theorem off3_1 : ∀ i : grid0.Coords, k0_off3 i 1 = 0 := by decide +kernel
theorem off4_0 : ∀ k : Fin k0_t1_loop.trips, k0_off4 k 0 = 256 + 1024 * k.val := by decide +kernel
theorem off4_1 : ∀ k : Fin k0_t1_loop.trips, k0_off4 k 1 = 0 := by decide +kernel
theorem off5_0 : ∀ k : Fin k0_t1_loop.trips, k0_off5 k 0 = 256 + 1024 * k.val := by decide +kernel
theorem off5_1 : ∀ k : Fin k0_t1_loop.trips, k0_off5 k 1 = 0 := by decide +kernel
theorem off6_0 : ∀ (i : grid0.Coords) (k : Fin k0_t1_loop.trips), k0_off6 i k 0 = (i 0).val := by decide +kernel
theorem off6_1 : ∀ (i : grid0.Coords) (k : Fin k0_t1_loop.trips), k0_off6 i k 1 = 256 + 1024 * k.val := by decide +kernel

theorem trips_eq : k0_t1_loop.trips = 8 := by decide +kernel

/-- Row `x` of the trip's chunk. -/
def chunkRow (k : Fin k0_t1_loop.trips) (x : Fin 1024) : Fin 8448 := ⟨256 + 1024 * k.val + x.val, by have := lt_of_lt_of_eq k.isLt trips_eq; omega⟩

/-- Row `x` of the context. -/
def contextRow (x : Fin 256) : Fin 8448 := ⟨x.val, by omega⟩

/-- The weight of key `κ` of the block in row `r`, from the row's log-sum. -/
def weight (kh : S768x256.Idx → EReal) (q : S8448x256.Idx → EReal) (L : Fin 8448 → EReal) (κ : Fin 768) (r : Fin 8448) : EReal :=
  Ideal.exp2 (∑ x : Fin 256, kh (ix2 κ x) * q (ix2 r x) - L r)

/-- The gradient of key `κ`'s score in row `r`. -/
def dscore (kh : S768x256.Idx → EReal) (vh : S768x128.Idx → EReal) (q : S8448x256.Idx → EReal) (g : S8448x128.Idx → EReal)
    (L D : Fin 8448 → EReal) (κ : Fin 768) (r : Fin 8448) : EReal :=
  weight kh q L κ r * (∑ x : Fin 128, vh (ix2 κ x) * g (ix2 r x) - D r)

/-- `dscore`'s or `weight`'s term where the first block's context rows see it: the keys of the context alone. -/
def seen (κ : Fin 768) (y : EReal) : EReal := if κ.val < 256 then y else 0

theorem select_eq (κ : Fin 768) (y : EReal) :
    Scalar.select (IntOp.cmpi CmpIPredicate.slt (BitVec.ofNat 32 κ.val) 256#32) y 0 = seen κ y := by
  have h : ∀ κ : Fin 768, IntOp.cmpi CmpIPredicate.slt (BitVec.ofNat 32 κ.val) 256#32 = if κ.val < 256 then 1#1 else 0#1 := by decide +kernel
  rw [h κ]
  unfold seen
  split <;> rfl

variable (i : grid0.Coords) (kh : Vec Ideal S768x256 .bf16) (vh : Vec Ideal S768x128 .bf16) (ls dl : Vec Ideal S8x8448 .f32)
  (q : Vec Ideal S8448x256 .bf16) (g : Vec Ideal S8448x128 .bf16)

theorem window_q (k : Fin k0_t1_loop.trips) (x : Fin 1024) (c : Fin 256) :
    VecWindow.window q (k0_off4 k) S1024x256.size (k0_off4_inb k) (ix2 x c) = q (ix2 (chunkRow k x) c) :=
  window_ix2 q _ _ x c (chunkRow k x) c (by rw [off4_0]; rfl) (by rw [off4_1]; omega)
theorem window_acc (s : Vec Ideal S8448x256 .f32) (k : Fin k0_t1_loop.trips) (x : Fin 1024) (c : Fin 256) :
    VecWindow.window s (k0_off4 k) S1024x256.size (k0_off4_inb k) (ix2 x c) = s (ix2 (chunkRow k x) c) :=
  window_ix2 s _ _ x c (chunkRow k x) c (by rw [off4_0]; rfl) (by rw [off4_1]; omega)
theorem window_g (k : Fin k0_t1_loop.trips) (x : Fin 1024) (c : Fin 128) :
    VecWindow.window g (k0_off5 k) S1024x128.size (k0_off5_inb k) (ix2 x c) = g (ix2 (chunkRow k x) c) :=
  window_ix2 g _ _ x c (chunkRow k x) c (by rw [off5_0]; rfl) (by rw [off5_1]; omega)
theorem window_rows (k : Fin k0_t1_loop.trips) (x : Fin 1024) :
    VecWindow.window ls (k0_off6 i k) S1x1024.size (k0_off6_inb i k) (ix2 0 x) = ls (ix2 (head i) (chunkRow k x)) :=
  window_ix2 ls _ _ 0 x (head i) (chunkRow k x) (by rw [off6_0]; rfl) (by rw [off6_1]; rfl)

section
variable (k : Fin k0_t1_loop.trips) (L D : Fin 8448 → EReal)
  (qh : Vec Ideal S1024x256 .bf16) (gh : Vec Ideal S1024x128 .bf16) (l d : Vec Ideal S1x1024 .f32)
  (hq : ∀ x c, qh (ix2 x c) = q (ix2 (chunkRow k x) c)) (hg : ∀ x c, gh (ix2 x c) = g (ix2 (chunkRow k x) c))
  (hl : ∀ x, l (ix2 0 x) = L (chunkRow k x)) (hd : ∀ x, d (ix2 0 x) = D (chunkRow k x))
include hq hg hl

/-- The chunk's dv at an index. -/
theorem chunk_dv (s : Vec Ideal S768x128 .f32) (κ : Fin 768) (c : Fin 128) :
    k0_pay8 (F := Ideal) (k0_pay14 kh) qh gh l s (ix2 κ c)
      = s (ix2 κ c) + ∑ x : Fin 1024, weight kh q L κ (chunkRow k x) * g (ix2 (chunkRow k x) c) := by
  pointwise [k0_pay8, k0_pay6, k0_pay14]
  simp only [hq, hg, hl]
  rfl

include hd

/-- The chunk's dk at an index. -/
theorem chunk_dk (s : Vec Ideal S768x256 .f32) (κ : Fin 768) (c : Fin 256) :
    k0_pay9 (F := Ideal) (k0_pay14 kh) (k0_pay15 vh) qh gh l d s (ix2 κ c)
      = s (ix2 κ c) + ∑ x : Fin 1024, dscore kh vh q g L D κ (chunkRow k x) * q (ix2 (chunkRow k x) c) := by
  pointwise [k0_pay9, k0_pay7, k0_pay6, k0_pay14, k0_pay15]
  simp only [hq, hg, hl, hd]
  rfl

/-- The chunk's rows of dq at an index. -/
theorem chunk_dq (s : Vec Ideal S1024x256 .f32) (x : Fin 1024) (c : Fin 256) :
    k0_pay17 (F := Ideal) kh (k0_pay7 (k0_pay14 kh) (k0_pay15 vh) qh gh l d) (k0_pay10 s) (ix2 x c)
      = s (ix2 x c) + ∑ κ : Fin 768, dscore kh vh q g L D κ (chunkRow k x) * kh (ix2 κ c) := by
  pointwise [k0_pay17, k0_pay7, k0_pay6, k0_pay14, k0_pay15, k0_pay10]
  simp only [hq, hg, hl, hd]
  rfl
end

/-- A trip's rows of dq. -/
theorem trip_dq (k : Fin k0_t1_loop.trips) (s : Acc Ideal) (r : Fin 8448) (c : Fin 256) :
    (trip i kh vh ls dl q g k s).1 (ix2 r c)
      = if 256 + 1024 * k.val ≤ r.val ∧ r.val < 256 + 1024 * k.val + 1024 then
          s.1 (ix2 r c) + ∑ κ : Fin 768, dscore kh vh q g (fun r => ls (ix2 (head i) r)) (fun r => dl (ix2 (head i) r)) κ r * kh (ix2 κ c)
        else s.1 (ix2 r c) := by
  unfold trip
  dsimp only
  rw [put_ix2 s.1 (k0_off4 k) _ (off4_0 k) (off4_1 k)]
  split
  · rename_i h
    have hr : chunkRow k ⟨r.val - (256 + 1024 * k.val), by omega⟩ = r := Fin.ext (by simp only [chunkRow]; omega)
    refine (chunk_dq kh vh q g k (fun r => ls (ix2 (head i) r)) (fun r => dl (ix2 (head i) r)) _ _ _ _ (window_q q k) (window_g g k) (window_rows i ls k) (window_rows i dl k) _ _ c).trans ?_
    rw [hr]
    exact congrArg (· + _) ((window_acc s.1 k _ c).trans (by rw [hr]))
  · rfl

/-- A trip's dk. -/
theorem trip_dk (k : Fin k0_t1_loop.trips) (s : Acc Ideal) (κ : Fin 768) (c : Fin 256) :
    (trip i kh vh ls dl q g k s).2.1 (ix2 κ c)
      = s.2.1 (ix2 κ c) + ∑ x : Fin 1024, dscore kh vh q g (fun r => ls (ix2 (head i) r)) (fun r => dl (ix2 (head i) r)) κ (chunkRow k x) * q (ix2 (chunkRow k x) c) := by
  exact chunk_dk kh vh q g k _ _ _ _ _ _ (window_q q k) (window_g g k) (window_rows i ls k) (window_rows i dl k) s.2.1 κ c

/-- A trip's dv. -/
theorem trip_dv (k : Fin k0_t1_loop.trips) (s : Acc Ideal) (κ : Fin 768) (c : Fin 128) :
    (trip i kh vh ls dl q g k s).2.2 (ix2 κ c)
      = s.2.2 (ix2 κ c) + ∑ x : Fin 1024, weight kh q (fun r => ls (ix2 (head i) r)) κ (chunkRow k x) * g (ix2 (chunkRow k x) c) := by
  exact chunk_dv kh q g k _ _ _ _ (window_q q k) (window_g g k) (window_rows i ls k) s.2.2 κ c

theorem context_q (x : Fin 256) (c : Fin 256) :
    VecWindow.window q ![0, 0] S256x256.size inb_S8448x256_S256x256_0_0 (ix2 x c) = q (ix2 (contextRow x) c) :=
  window_ix2 q _ _ x c (contextRow x) c (Nat.zero_add _).symm (Nat.zero_add _).symm
theorem context_acc (s : Vec Ideal S8448x256 .f32) (x : Fin 256) (c : Fin 256) :
    VecWindow.window s ![0, 0] S256x256.size inb_S8448x256_S256x256_0_0 (ix2 x c) = s (ix2 (contextRow x) c) :=
  window_ix2 s _ _ x c (contextRow x) c (Nat.zero_add _).symm (Nat.zero_add _).symm
theorem context_g (x : Fin 256) (c : Fin 128) :
    VecWindow.window g ![0, 0] S256x128.size inb_S8448x128_S256x128_0_0 (ix2 x c) = g (ix2 (contextRow x) c) :=
  window_ix2 g _ _ x c (contextRow x) c (Nat.zero_add _).symm (Nat.zero_add _).symm
theorem context_rows (hj : k0_cond2 i = 1#1) (x : Fin 256) :
    VecWindow.window ls (k0_off3 i) S1x256.size (k0_off3_inb i hj) (ix2 0 x) = ls (ix2 (head i) (contextRow x)) :=
  window_ix2 ls _ _ 0 x (head i) (contextRow x) (by rw [off3_0]; rfl) (by rw [off3_1]; exact (Nat.zero_add _).symm)

section
variable (L D : Fin 8448 → EReal)
  (qh : Vec Ideal S256x256 .bf16) (gh : Vec Ideal S256x128 .bf16) (l d : Vec Ideal S1x256 .f32)
  (hq : ∀ x c, qh (ix2 x c) = q (ix2 (contextRow x) c)) (hg : ∀ x c, gh (ix2 x c) = g (ix2 (contextRow x) c))
  (hl : ∀ x, l (ix2 0 x) = L (contextRow x)) (hd : ∀ x, d (ix2 0 x) = D (contextRow x))
include hq hg hl

/-- The context rows' dv at an index. -/
theorem contextRows_dv (s : Vec Ideal S768x128 .f32) (κ : Fin 768) (c : Fin 128) :
    k0_pay4 (F := Ideal) (k0_pay14 kh) qh gh l s (ix2 κ c)
      = s (ix2 κ c) + ∑ x : Fin 256, seen κ (weight kh q L κ (contextRow x) * g (ix2 (contextRow x) c)) := by
  pointwise [k0_pay4, k0_pay2, k0_pay14]
  simp only [select_eq]
  simp only [hq, hg, hl]
  rfl

include hd

/-- The context rows' dk at an index. -/
theorem contextRows_dk (s : Vec Ideal S768x256 .f32) (κ : Fin 768) (c : Fin 256) :
    k0_pay5 (F := Ideal) (k0_pay14 kh) (k0_pay15 vh) qh gh l d s (ix2 κ c)
      = s (ix2 κ c) + ∑ x : Fin 256, seen κ (dscore kh vh q g L D κ (contextRow x) * q (ix2 (contextRow x) c)) := by
  pointwise [k0_pay5, k0_pay3, k0_pay2, k0_pay14, k0_pay15]
  simp only [select_eq]
  simp only [hq, hg, hl, hd]
  rfl

/-- The context rows' rows of dq at an index. -/
theorem contextRows_dq (s : Vec Ideal S256x256 .f32) (x : Fin 256) (c : Fin 256) :
    k0_pay16 (F := Ideal) kh (k0_pay3 (k0_pay14 kh) (k0_pay15 vh) qh gh l d) s (ix2 x c)
      = s (ix2 x c) + ∑ κ : Fin 768, seen κ (dscore kh vh q g L D κ (contextRow x) * kh (ix2 κ c)) := by
  pointwise [k0_pay16, k0_pay3, k0_pay2, k0_pay14, k0_pay15]
  simp only [select_eq]
  simp only [hq, hg, hl, hd]
  rfl
end

/-- The context rows of dq from the first block. -/
theorem context_dq (hj : k0_cond2 i = 1#1) (s : Acc Ideal) (r : Fin 8448) (c : Fin 256) :
    (context i hj kh vh ls dl q g s).1 (ix2 r c)
      = if r.val < 256 then
          s.1 (ix2 r c) + ∑ κ : Fin 768, seen κ (dscore kh vh q g (fun r => ls (ix2 (head i) r)) (fun r => dl (ix2 (head i) r)) κ r * kh (ix2 κ c))
        else s.1 (ix2 r c) := by
  unfold context
  dsimp only
  rw [put_ix2 s.1 ![0, 0] 0 rfl rfl]
  by_cases h : r.val < 256
  · rw [dif_pos (by omega), if_pos h]
    have hr : contextRow ⟨r.val - 0, by omega⟩ = r := Fin.ext rfl
    refine (contextRows_dq kh vh q g (fun r => ls (ix2 (head i) r)) (fun r => dl (ix2 (head i) r)) _ _ _ _ (context_q q) (context_g g) (context_rows i ls hj) (context_rows i dl hj) _ _ c).trans ?_
    rw [hr]
    exact congrArg (· + _) ((context_acc s.1 _ c).trans (by rw [hr]))
  · rw [dif_neg (by omega), if_neg h]

/-- The first block's dk from the context rows. -/
theorem context_dk (hj : k0_cond2 i = 1#1) (s : Acc Ideal) (κ : Fin 768) (c : Fin 256) :
    (context i hj kh vh ls dl q g s).2.1 (ix2 κ c)
      = s.2.1 (ix2 κ c) + ∑ x : Fin 256, seen κ (dscore kh vh q g (fun r => ls (ix2 (head i) r)) (fun r => dl (ix2 (head i) r)) κ (contextRow x) * q (ix2 (contextRow x) c)) := by
  exact contextRows_dk kh vh q g _ _ _ _ _ _ (context_q q) (context_g g) (context_rows i ls hj) (context_rows i dl hj) s.2.1 κ c

/-- The first block's dv from the context rows. -/
theorem context_dv (hj : k0_cond2 i = 1#1) (s : Acc Ideal) (κ : Fin 768) (c : Fin 128) :
    (context i hj kh vh ls dl q g s).2.2 (ix2 κ c)
      = s.2.2 (ix2 κ c) + ∑ x : Fin 256, seen κ (weight kh q (fun r => ls (ix2 (head i) r)) κ (contextRow x) * g (ix2 (contextRow x) c)) := by
  exact contextRows_dv kh q g _ _ _ _ (context_q q) (context_g g) (context_rows i ls hj) s.2.2 κ c

end Cert.KernelIdeal.Value

end
-- ==== Proof.Value.Blocks.lean ====
/- The blocks that a grid point reads, at an index of the arrays they are cut from. -/
module

public import proofs.«01_k».proof.Proof.Run.Launch
public import proofs.«01_k».proof.Proof.Value.Trip
public import Idealize.ShloMosaic.Lib.Pipeline.ValueKit

@[expose] public section
set_option maxRecDepth 16384

noncomputable section

namespace Cert.KernelIdeal.Value

open Cert.KernelIdeal Cert.KernelIdeal.Gen Cert.KernelIdeal.Run Cert.Attention Idealize.ShloMosaic Idealize.ShloMosaic.TcCoe

theorem index0_0 : ∀ t : Fin cfg0.N, win0_0.index t = ![t.val % 11, t.val / 11] := by decide +kernel
theorem index0_1 : ∀ t : Fin cfg0.N, win0_1.index t = ![t.val % 11, t.val / 11] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, t.val / 11] := by decide +kernel
theorem index0_5 : ∀ t : Fin cfg0.N, win0_5.index t = ![t.val % 11, t.val / 11] := by decide +kernel
theorem index0_6 : ∀ t : Fin cfg0.N, win0_6.index t = ![t.val % 11, t.val / 11] := by decide +kernel
theorem off1_0 : ∀ t : Fin cfg0.N, k0_off1 (grid0.coords t) 0 = 0 := by decide +kernel
theorem off1_1 : ∀ t : Fin cfg0.N, k0_off1 (grid0.coords t) 1 = 256 * (t.val / 11) := by decide +kernel
theorem off2_0 : ∀ t : Fin cfg0.N, k0_off2 (grid0.coords t) 0 = 0 := by decide +kernel
theorem off2_1 : ∀ t : Fin cfg0.N, k0_off2 (grid0.coords t) 1 = 128 * (t.val / 11) := by decide +kernel
theorem coord0 : ∀ t : Fin cfg0.N, (grid0.coords t 0).val = t.val / 11 := by decide +kernel

theorem lt_44 (t : Fin cfg0.N) : t.val < 44 := lt_of_lt_of_eq t.isLt (show cfg0.N = 44 from N_0)

/-- Key `κ` of block `j`. -/
def key (j : ℕ) (hj : j < 11) (κ : Fin 768) : Fin 8448 := ⟨768 * j + κ.val, by omega⟩
/-- Column `x` of head `h` in the arrays of width 256 a head. -/
def col (h : Fin 4) (x : Fin 256) : Fin 1024 := ⟨256 * h.val + x.val, by omega⟩
/-- Column `x` of head `h` in the arrays of width 128 a head. -/
def col' (h : Fin 4) (x : Fin 128) : Fin 512 := ⟨128 * h.val + x.val, by omega⟩
/-- Head `h`'s row of the log-sums and deltas. -/
def rowOf (h : Fin 4) : Fin 8 := ⟨h.val, by omega⟩

/-- The head of a point. -/
def headOf (t : Fin cfg0.N) : Fin 4 := ⟨t.val / 11, by have := lt_44 t; omega⟩
theorem block_lt (t : Fin cfg0.N) : t.val % 11 < 11 := Nat.mod_lt _ (by decide)

theorem head_coords (t : Fin cfg0.N) : head (grid0.coords t) = rowOf (headOf t) := Fin.ext (coord0 t)

variable (m : (ℓ : Loc nD τ sig) → Buf (Elt Ideal) ℓ) (c : Dev nD) (t : Fin cfg0.N)

theorem iblk_k (κ : Fin 768) (x : Fin 256) :
    (iblk m c 0 t : Vec Ideal S768x256 .bf16) (ix2 κ x) = V m c main_v13 (ix2 (key (t.val % 11) (block_lt t) κ) (col (headOf t) x)) := by
  blk_ext [iblk, index0_0 t, key, col, headOf]
theorem iblk_v (κ : Fin 768) (x : Fin 128) :
    (iblk m c 1 t : Vec Ideal S768x128 .bf16) (ix2 κ x) = V m c main_v70 (ix2 (key (t.val % 11) (block_lt t) κ) (col' (headOf t) x)) := by
  blk_ext [iblk, index0_1 t, key, col', headOf]
theorem iblk_ls (a : Fin 8) (r : Fin 8448) :
    (iblk m c 2 t : Vec Ideal S8x8448 .f32) (ix2 a r) = V m c main_v71 (ix2 a r) := by
  blk_ext [iblk, index0_2 t]
theorem iblk_dl (a : Fin 8) (r : Fin 8448) :
    (iblk m c 3 t : Vec Ideal S8x8448 .f32) (ix2 a r) = V m c main_v72 (ix2 a r) := by
  blk_ext [iblk, index0_3 t]

theorem start_headOf : headOf (start t) = headOf t := Fin.ext (by simp only [headOf, start]; omega)

theorem qAt_apply (r : Fin 8448) (x : Fin 256) : qAt m c t (ix2 r x) = V m c main_v8 (ix2 r (col (headOf t) x)) := by
  rw [qAt_start, qAt_first m c (start t) (start_mod t), ← start_headOf]
  exact window_ix2 _ _ _ r x r (col (headOf (start t)) x) (by rw [off1_0]; exact (Nat.zero_add _).symm) (by rw [off1_1]; rfl)
theorem gAt_apply (r : Fin 8448) (x : Fin 128) : gAt m c t (ix2 r x) = V m c main_v74 (ix2 r (col' (headOf t) x)) := by
  rw [gAt_start, gAt_first m c (start t) (start_mod t), ← start_headOf]
  exact window_ix2 _ _ _ r x r (col' (headOf (start t)) x) (by rw [off2_0]; exact (Nat.zero_add _).symm) (by rw [off2_1]; rfl)

end Cert.KernelIdeal.Value

end
-- ==== Proof.Value.Stages.lean ====
/- The arrays prepared for the kernel, in stages, each read at an index. -/
module

public import proofs.«01_k».proof.Proof.Value.Reference
public import proofs.«01_k».proof.Proof.Value.Blocks

@[expose] public section
set_option maxRecDepth 16384

noncomputable section

namespace Cert.KernelIdeal.Value

open Cert.KernelIdeal Cert.KernelIdeal.Gen Cert.Attention Idealize.ShloMosaic Idealize.ShloMosaic.TcCoe
open Cert.ReferenceIdeal.Value (scoreC maxC expC totC probC scoreL maxL expL totL probL cut128C cut64C cutC cut128L cut64L)

/-! ## The scales -/

/-- One over the logarithm of two. -/
def inv : FVec Ideal S_ .f32 := Host.divf (constant S_ .f32 0x3F800000#32) (Host.log (constant S_ .f32 0x40000000#32))
/-- The scores' scale over the logarithm of two. -/
def scale : FVec Ideal S_ .f32 := mulf (constant S_ .f32 0x3D93CD3A#32) inv

/-! ## The padded heads -/

def blank : FVec Ideal S8448x4x64 .f32 := broadcastInDim S8448x4x64 ![] bcast_S_S8448x4x64 (constant S_ .f32 0x00000000#32)
def join (a : FVec Ideal S8448x4x128 .f32) (b : FVec Ideal S8448x4x64 .f32) : FVec Ideal S8448x4x256 .f32 :=
  concatenate S8448x4x256 2 [⟨S8448x4x128, a⟩, ⟨S8448x4x64, b⟩, ⟨S8448x4x64, blank⟩] concatenates_S8448x4x128_S8448x4x64_S8448x4x64_S8448x4x256_d2
/-- The shared keys, at every head. -/
def spread (a : FVec Ideal S8448x64 .f32) : FVec Ideal S8448x4x64 .f32 :=
  broadcastInDim S8448x4x64 ![0, 1, 2] bcast_S8448x1x64_S8448x4x64_0_1_2 (broadcastInDim S8448x1x64 ![0, 2] bcast_S8448x64_S8448x1x64_0_2 a)
def qRows (a : FVec Ideal S8448x4x128 .f32) (b : FVec Ideal S8448x4x64 .f32) : FVec Ideal S8448x1024 .bf16 :=
  truncf .bf16 (mulf (shapeCast S8448x1024 (join a b) shapeCasts_S8448x4x256_S8448x1024 : FVec Ideal S8448x1024 .f32) (broadcastInDim S8448x1024 ![] bcast_S_S8448x1024 scale)) bitsLt_bf16_f32
def kRows (a : FVec Ideal S8448x4x128 .f32) (b : FVec Ideal S8448x64 .f32) : FVec Ideal S8448x1024 .bf16 :=
  truncf .bf16 (shapeCast S8448x1024 (join a (spread b)) shapeCasts_S8448x4x256_S8448x1024 : FVec Ideal S8448x1024 .f32) bitsLt_bf16_f32
def flat (a : FVec Ideal S8448x4x128 .f32) : FVec Ideal S8448x512 .bf16 :=
  truncf .bf16 (shapeCast S8448x512 a shapeCasts_S8448x4x128_S8448x512 : FVec Ideal S8448x512 .f32) bitsLt_bf16_f32

theorem inv_apply (i) : inv i = ((1 / Real.log 2 : ℝ) : EReal) := by
  refine Eq.trans ?_ log2e
  show Ideal.div (Ideal.ofBits .f32 0x3F800000#32) _ = _
  rw [show Ideal.ofBits .f32 0x3F800000#32 = 1 by simp [Ideal.ofBits, Ideal.ieee, -EReal.coe_mul]; norm_num]
  rfl
theorem scale_apply (i) : scale i = ((rho * (1 / Real.log 2) : ℝ) : EReal) := by
  show Ideal.ofBits .f32 0x3D93CD3A#32 * inv i = _
  rw [rho_coe, inv_apply, EReal.coe_mul]

theorem join_low (a b) (r : Fin 8448) (h : Fin 4) (x : Fin 128) : join a b (ix3 r h ⟨x.val, by omega⟩) = a (ix3 r h x) := by
  pointwise [join]
theorem join_mid (a b) (r : Fin 8448) (h : Fin 4) (x : Fin 64) : join a b (ix3 r h ⟨128 + x.val, by omega⟩) = b (ix3 r h x) := by
  pointwise [join]
theorem join_high (a b) (r : Fin 8448) (h : Fin 4) (x : Fin 64) : join a b (ix3 r h ⟨192 + x.val, by omega⟩) = 0 := by
  pointwise [join, blank]
  rw [dif_neg (by omega), dif_neg (by omega)]
theorem spread_apply (a) (r : Fin 8448) (h : Fin 4) (x : Fin 64) : spread a (ix3 r h x) = a (ix2 r x) := by
  pointwise [spread]
theorem qRows_apply (a b) (r : Fin 8448) (h : Fin 4) (x : Fin 256) : qRows a b (ix2 r (col h x)) = join a b (ix3 r h x) * ((rho * (1 / Real.log 2) : ℝ) : EReal) := by
  unfold col
  pointwise [qRows]
  rw [scale_apply]
theorem kRows_apply (a b) (r : Fin 8448) (h : Fin 4) (x : Fin 256) : kRows a b (ix2 r (col h x)) = join a (spread b) (ix3 r h x) := by
  unfold col
  pointwise [kRows]
theorem flat_apply (a) (r : Fin 8448) (h : Fin 4) (x : Fin 128) : flat a (ix2 r (col' h x)) = a (ix3 r h x) := by
  unfold col'
  pointwise [flat]

/-! ## The rows' statistics -/

def lseC (t : FVec Ideal S4x256 .f32) (z : FVec Ideal S4x256x1 .f32) : FVec Ideal S4x256 .f32 :=
  shapeCast S4x256 (addf (broadcastInDim S4x256x1 ![0, 1] bcast_S4x256_S4x256x1_0_1 t) (Host.log z) : FVec Ideal S4x256x1 .f32) shapeCasts_S4x256x1_S4x256
def lseL (t : FVec Ideal S4x8192 .f32) (z : FVec Ideal S4x8192x1 .f32) : FVec Ideal S4x8192 .f32 :=
  shapeCast S4x8192 (addf (broadcastInDim S4x8192x1 ![0, 1] bcast_S4x8192_S4x8192x1_0_1 t) (Host.log z) : FVec Ideal S4x8192x1 .f32) shapeCasts_S4x8192x1_S4x8192
def outC (v : FVec Ideal S256x4x128 .f32) (p : FVec Ideal S4x256x256 .f32) : FVec Ideal S256x4x128 .f32 :=
  transpose S256x4x128 [2, 0, 1] (Host.dotGeneral (F := Ideal) dot_S256x4x128_S4x256x256_S4x128x256_0_2_2_1_1_0 none v p) transposes_S4x128x256_S256x4x128_2_0_1
def outL (v : FVec Ideal S8448x4x128 .f32) (p : FVec Ideal S4x8192x8448 .f32) : FVec Ideal S8192x4x128 .f32 :=
  transpose S8192x4x128 [2, 0, 1] (Host.dotGeneral (F := Ideal) dot_S8448x4x128_S4x8192x8448_S4x128x8192_0_2_2_1_1_0 none v p) transposes_S4x128x8192_S8192x4x128_2_0_1
/-- Four rows over four rows of zeros. -/
def eight (a : FVec Ideal S4x8448 .f32) : FVec Ideal S8x8448 .f32 :=
  concatenate S8x8448 0 [⟨S4x8448, a⟩, ⟨S4x8448, broadcastInDim S4x8448 ![] bcast_S_S4x8448 (constant S_ .f32 0x00000000#32 : FVec Ideal S_ .f32)⟩] concatenates_S4x8448_S4x8448_S8x8448_d0
def stats (a : FVec Ideal S4x256 .f32) (b : FVec Ideal S4x8192 .f32) : FVec Ideal S4x8448 .f32 :=
  mulf (concatenate S4x8448 1 [⟨S4x256, a⟩, ⟨S4x8192, b⟩] concatenates_S4x256_S4x8192_S4x8448_d1) (broadcastInDim S4x8448 ![] bcast_S_S4x8448 inv)
def means (g : FVec Ideal S8448x4x128 .f32) (a : FVec Ideal S256x4x128 .f32) (b : FVec Ideal S8192x4x128 .f32) : FVec Ideal S4x8448 .f32 :=
  transpose S4x8448 [1, 0] (Host.reduceAdd (mulf g (concatenate S8448x4x128 0 [⟨S256x4x128, a⟩, ⟨S8192x4x128, b⟩] concatenates_S256x4x128_S8192x4x128_S8448x4x128_d0))
    (constant S_ .f32 0x00000000#32) reducesTo_S8448x4x128_S8448x4_d2 h_S_) transposes_S8448x4_S4x8448_1_0

theorem lseC_apply (t z) (h : Fin 4) (r : Fin 256) : lseC t z (ix2 h r) = t (ix2 h r) + Ideal.log (z (ix3 h r 0)) := by pointwise [lseC]
theorem lseL_apply (t z) (h : Fin 4) (r : Fin 8192) : lseL t z (ix2 h r) = t (ix2 h r) + Ideal.log (z (ix3 h r 0)) := by pointwise [lseL]
theorem outC_apply (v p) (h : Fin 4) (r : Fin 256) (x : Fin 128) : outC v p (ix3 r h x) = ∑ κ, v (ix3 κ h x) * p (ix3 h r κ) := by pointwise [outC]
theorem outL_apply (v p) (h : Fin 4) (r : Fin 8192) (x : Fin 128) : outL v p (ix3 r h x) = ∑ κ, v (ix3 κ h x) * p (ix3 h r κ) := by pointwise [outL]
theorem eight_apply (a) (h : Fin 4) (r : Fin 8448) : eight a (ix2 (rowOf h) r) = a (ix2 h r) := by
  unfold rowOf
  pointwise [eight]
theorem stats_ctx (a b) (h : Fin 4) (r : Fin 256) : stats a b (ix2 h (ctx r)) = a (ix2 h r) * ((1 / Real.log 2 : ℝ) : EReal) := by
  rw [← inv_apply ix0]
  unfold ctx
  pointwise [stats]
theorem stats_lat (a b) (h : Fin 4) (r : Fin 8192) : stats a b (ix2 h (lat r)) = b (ix2 h r) * ((1 / Real.log 2 : ℝ) : EReal) := by
  rw [← inv_apply ix0]
  unfold lat
  pointwise [stats]
theorem means_ctx (g a b) (h : Fin 4) (r : Fin 256) : means g a b (ix2 h (ctx r)) = ∑ x, g (ix3 (ctx r) h x) * a (ix3 r h x) := by
  unfold ctx
  pointwise [means]
theorem means_lat (g a b) (h : Fin 4) (r : Fin 8192) : means g a b (ix2 h (lat r)) = ∑ x, g (ix3 (lat r) h x) * b (ix3 r h x) := by
  unfold lat
  pointwise [means]

end Cert.KernelIdeal.Value

end
-- ==== Proof.Value.Fold.lean ====
/- The accumulators after a grid point, as sums over all rows and over the keys met so far. -/
module

public import proofs.«01_k».proof.Proof.Value.Blocks
public import proofs.«01_k».proof.Proof.Value.Sums

@[expose] public section
set_option maxRecDepth 16384

noncomputable section

namespace Cert.KernelIdeal.Value

open Cert.KernelIdeal Cert.KernelIdeal.Gen Cert.KernelIdeal.Run Cert.Attention Idealize.ShloMosaic Idealize.ShloMosaic.TcCoe

/-! ## The loop -/

section
variable (i : grid0.Coords) (kh : Vec Ideal S768x256 .bf16) (vh : Vec Ideal S768x128 .bf16) (ls dl : Vec Ideal S8x8448 .f32)
  (q : Vec Ideal S8448x256 .bf16) (g : Vec Ideal S8448x128 .bf16) (s : Acc Ideal)

theorem trips_dq (r : Fin 8448) (x : Fin 256) (n : ℕ) (hn : n ≤ 8) :
    (trips i kh vh ls dl q g s n).1 (ix2 r x)
      = if 256 ≤ r.val ∧ r.val < 256 + 1024 * n then
          s.1 (ix2 r x) + ∑ κ : Fin 768, dscore kh vh q g (fun r => ls (ix2 (head i) r)) (fun r => dl (ix2 (head i) r)) κ r * kh (ix2 κ x)
        else s.1 (ix2 r x) := by
  induction n with
  | zero => rw [if_neg (by omega)]; rfl
  | succ n ih =>
    have e := trips_succ i kh vh ls dl q g s ⟨n, lt_of_lt_of_eq (by omega) trips_eq.symm⟩
    dsimp only at e
    rw [e, trip_dq]
    dsimp only
    rw [ih (by omega)]
    split_ifs <;> first | rfl | omega

theorem trips_dk (κ : Fin 768) (x : Fin 256) (n : ℕ) (hn : n ≤ 8) :
    (trips i kh vh ls dl q g s n).2.1 (ix2 κ x)
      = s.2.1 (ix2 κ x) + ∑ r ∈ Finset.univ.filter (fun r : Fin 8448 => 256 ≤ r.val ∧ r.val < 256 + 1024 * n),
          dscore kh vh q g (fun r => ls (ix2 (head i) r)) (fun r => dl (ix2 (head i) r)) κ r * q (ix2 r x) := by
  induction n with
  | zero => rw [sum_interval_empty, add_zero]; rfl
  | succ n ih =>
    have e := trips_succ i kh vh ls dl q g s ⟨n, lt_of_lt_of_eq (by omega) trips_eq.symm⟩
    dsimp only at e
    rw [e, trip_dk, ih (by omega)]
    have hc := sum_extend (fun r : Fin 8448 => dscore kh vh q g (fun r => ls (ix2 (head i) r)) (fun r => dl (ix2 (head i) r)) κ r * q (ix2 r x)) 256 (256 + 1024 * n) 1024 (by omega) (by omega)
    rw [show 256 + 1024 * (n + 1) = 256 + 1024 * n + 1024 by omega, hc, add_assoc]
    rfl

theorem trips_dv (κ : Fin 768) (x : Fin 128) (n : ℕ) (hn : n ≤ 8) :
    (trips i kh vh ls dl q g s n).2.2 (ix2 κ x)
      = s.2.2 (ix2 κ x) + ∑ r ∈ Finset.univ.filter (fun r : Fin 8448 => 256 ≤ r.val ∧ r.val < 256 + 1024 * n),
          weight kh q (fun r => ls (ix2 (head i) r)) κ r * g (ix2 r x) := by
  induction n with
  | zero => rw [sum_interval_empty, add_zero]; rfl
  | succ n ih =>
    have e := trips_succ i kh vh ls dl q g s ⟨n, lt_of_lt_of_eq (by omega) trips_eq.symm⟩
    dsimp only at e
    rw [e, trip_dv, ih (by omega)]
    have hc := sum_extend (fun r : Fin 8448 => weight kh q (fun r => ls (ix2 (head i) r)) κ r * g (ix2 r x)) 256 (256 + 1024 * n) 1024 (by omega) (by omega)
    rw [show 256 + 1024 * (n + 1) = 256 + 1024 * n + 1024 by omega, hc, add_assoc]
    rfl
end

/-! ## The whole arrays -/

section
variable (K Q : S8448x1024.Idx → EReal) (W G : S8448x512.Idx → EReal) (LS DL : S8x8448.Idx → EReal)

/-- The weight of key `κ` in row `r` of head `h`. -/
def wt (h : Fin 4) (κ r : Fin 8448) : EReal :=
  Ideal.exp2 (∑ x : Fin 256, K (ix2 κ (col h x)) * Q (ix2 r (col h x)) - LS (ix2 (rowOf h) r))
/-- The gradient of the score of key `κ` in row `r` of head `h`. -/
def ds (h : Fin 4) (κ r : Fin 8448) : EReal :=
  wt K Q LS h κ r * (∑ x : Fin 128, W (ix2 κ (col' h x)) * G (ix2 r (col' h x)) - DL (ix2 (rowOf h) r))
end

/-- A term of key `κ` and row `r`, where the row sees the key: a row of the context sees the keys of the context alone. -/
def mask (κ r : Fin 8448) (y : EReal) : EReal := if r.val < 256 ∧ ¬κ.val < 256 then 0 else y

theorem mask_row (κ r : Fin 8448) (y : EReal) (h : ¬r.val < 256) : mask κ r y = y := if_neg (by omega)
theorem mask_seen (j : ℕ) (hj : j < 11) (h0 : j = 0) (κ : Fin 768) (r : Fin 8448) (y : EReal) (h : r.val < 256) : mask (key j hj κ) r y = seen κ y := by
  unfold mask seen key
  subst h0
  dsimp only
  split_ifs <;> first | rfl | omega
theorem mask_zero (j : ℕ) (hj : j < 11) (h0 : j ≠ 0) (κ : Fin 768) (r : Fin 8448) (y : EReal) (h : r.val < 256) : mask (key j hj κ) r y = 0 :=
  if_pos ⟨h, by simp only [key]; omega⟩

/-- A sum over all rows: the context's and the others. -/
theorem sum_rows (f : Fin 8448 → EReal) :
    ∑ r, f r = ∑ x : Fin 256, f (contextRow x) + ∑ r ∈ Finset.univ.filter (fun r : Fin 8448 => 256 ≤ r.val ∧ r.val < 256 + 1024 * 8), f r := by
  have h := sum_extend f 256 256 8192 le_rfl (by omega)
  rw [sum_interval_empty, zero_add] at h
  rw [show 256 + 1024 * 8 = 256 + 8192 by norm_num, h]
  exact sum_cut f 256 8192 (by norm_num)

variable (m : (ℓ : Loc nD τ sig) → Buf (Elt Ideal) ℓ) (c : Dev nD)

/-- The program's arrays as the kernel is launched. -/
abbrev wtAt := wt (V m c main_v13) (V m c main_v8) (V m c main_v71)
abbrev dsAt := ds (V m c main_v13) (V m c main_v8) (V m c main_v70) (V m c main_v74) (V m c main_v71) (V m c main_v72)

theorem weight_at (t : Fin cfg0.N) (κ : Fin 768) (r : Fin 8448) :
    weight (iblk m c 0 t) (qAt m c t) (fun r => (iblk m c 2 t : Vec Ideal S8x8448 .f32) (ix2 (head (grid0.coords t)) r)) κ r
      = wtAt m c (headOf t) (key (t.val % 11) (block_lt t) κ) r := by
  unfold weight wtAt wt
  refine congrArg Ideal.exp2 (congrArg₂ (· - ·) (Finset.sum_congr rfl fun x _ => congrArg₂ (· * ·) (iblk_k m c t _ _) (qAt_apply m c t _ _)) ?_)
  exact (iblk_ls m c t _ _).trans (by rw [head_coords])
theorem dscore_at (t : Fin cfg0.N) (κ : Fin 768) (r : Fin 8448) :
    dscore (iblk m c 0 t) (iblk m c 1 t) (qAt m c t) (gAt m c t) (fun r => (iblk m c 2 t : Vec Ideal S8x8448 .f32) (ix2 (head (grid0.coords t)) r))
        (fun r => (iblk m c 3 t : Vec Ideal S8x8448 .f32) (ix2 (head (grid0.coords t)) r)) κ r
      = dsAt m c (headOf t) (key (t.val % 11) (block_lt t) κ) r := by
  unfold dscore dsAt ds
  refine congrArg₂ (· * ·) (weight_at m c t κ r) (congrArg₂ (· - ·) (Finset.sum_congr rfl fun x _ => congrArg₂ (· * ·) (iblk_v m c t _ _) (gAt_apply m c t _ _)) ?_)
  exact (iblk_dl m c t _ _).trans (by rw [head_coords])

theorem zero_dq (r : Fin 8448) (x : Fin 256) : k0_pay11 (F := Ideal) (ix2 r x) = 0 := by pointwise [k0_pay11]
theorem zero_dk (r : Fin 768) (x : Fin 256) : k0_pay12 (F := Ideal) (ix2 r x) = 0 := by pointwise [k0_pay12]
theorem zero_dv (r : Fin 768) (x : Fin 128) : k0_pay13 (F := Ideal) (ix2 r x) = 0 := by pointwise [k0_pay13]

/-! ## One point -/

theorem accFirst_dq (t : Fin cfg0.N) (h : t.val % 11 = 0) (r : Fin 8448) (x : Fin 256) :
    (accFirst m c t h).1 (ix2 r x)
      = ∑ κ : Fin 768, mask (key (t.val % 11) (block_lt t) κ) r (dsAt m c (headOf t) (key (t.val % 11) (block_lt t) κ) r * V m c main_v13 (ix2 (key (t.val % 11) (block_lt t) κ) (col (headOf t) x))) := by
  unfold accFirst loopAcc
  rw [trips_eq, trips_dq _ _ _ _ _ _ _ _ r x 8 le_rfl, context_dq]
  have hr := r.isLt
  by_cases h' : r.val < 256
  · rw [if_neg (by omega), if_pos h']
    dsimp only
    rw [zero_dq, zero_add]
    refine Finset.sum_congr rfl fun κ _ => ?_
    rw [mask_seen _ _ h _ _ _ h', dscore_at, iblk_k]
  · rw [if_pos (by omega), if_neg h']
    dsimp only
    rw [zero_dq, zero_add]
    refine Finset.sum_congr rfl fun κ _ => ?_
    rw [mask_row _ _ _ h', dscore_at, iblk_k]

theorem accNext_dq (t : Fin cfg0.N) (h : t.val % 11 ≠ 0) (y : Vec Ideal S8448x256 .f32) (r : Fin 8448) (x : Fin 256) :
    (accNext m c t y).1 (ix2 r x)
      = y (ix2 r x) + ∑ κ : Fin 768, mask (key (t.val % 11) (block_lt t) κ) r (dsAt m c (headOf t) (key (t.val % 11) (block_lt t) κ) r * V m c main_v13 (ix2 (key (t.val % 11) (block_lt t) κ) (col (headOf t) x))) := by
  unfold accNext loopAcc
  rw [trips_eq, trips_dq _ _ _ _ _ _ _ _ r x 8 le_rfl]
  have hr := r.isLt
  by_cases h' : r.val < 256
  · rw [if_neg (by omega), Finset.sum_eq_zero (fun κ _ => mask_zero _ _ h _ _ _ h'), add_zero]
  · rw [if_pos (by omega)]
    refine congrArg (y (ix2 r x) + ·) (Finset.sum_congr rfl fun κ _ => ?_)
    rw [mask_row _ _ _ h', dscore_at, iblk_k]

/-- The terms of a block's key summed over all rows, from the loop's rows and, at the first block, the context's. -/
theorem rows_first (j : ℕ) (hj : j < 11) (h : j = 0) (κ : Fin 768) (f : Fin 8448 → EReal) :
    ∑ x : Fin 256, seen κ (f (contextRow x)) + ∑ r ∈ Finset.univ.filter (fun r : Fin 8448 => 256 ≤ r.val ∧ r.val < 256 + 1024 * 8), f r
      = ∑ r, mask (key j hj κ) r (f r) := by
  rw [sum_rows]
  refine congrArg₂ (· + ·) (Finset.sum_congr rfl fun x _ => (mask_seen j hj h κ _ _ x.isLt).symm) (Finset.sum_congr rfl fun r hr => ?_)
  rw [mask_row]
  simp only [Finset.mem_filter, Finset.mem_univ, true_and] at hr
  omega
theorem rows_next (j : ℕ) (hj : j < 11) (h : j ≠ 0) (κ : Fin 768) (f : Fin 8448 → EReal) :
    ∑ r ∈ Finset.univ.filter (fun r : Fin 8448 => 256 ≤ r.val ∧ r.val < 256 + 1024 * 8), f r = ∑ r, mask (key j hj κ) r (f r) := by
  rw [sum_rows, Finset.sum_eq_zero (fun x _ => mask_zero j hj h κ _ _ x.isLt), zero_add]
  refine Finset.sum_congr rfl fun r hr => ?_
  rw [mask_row]
  simp only [Finset.mem_filter, Finset.mem_univ, true_and] at hr
  omega

/-- The block's dk after its point. -/
theorem accAt_dk (t : Fin cfg0.N) (κ : Fin 768) (x : Fin 256) :
    (accAt m c t.val t.isLt).2.1 (ix2 κ x)
      = ∑ r, mask (key (t.val % 11) (block_lt t) κ) r (dsAt m c (headOf t) (key (t.val % 11) (block_lt t) κ) r * V m c main_v8 (ix2 r (col (headOf t) x))) := by
  by_cases h : t.val % 11 = 0
  · rw [accAt_first m c t h, ← rows_first (t.val % 11) (block_lt t) h κ]
    unfold accFirst loopAcc
    rw [trips_eq, trips_dk _ _ _ _ _ _ _ _ κ x 8 le_rfl, context_dk]
    dsimp only
    rw [zero_dk, zero_add]
    refine congrArg₂ (· + ·) (Finset.sum_congr rfl fun r _ => ?_) (Finset.sum_congr rfl fun r _ => ?_) <;> rw [dscore_at, qAt_apply]
  · rw [accAt_next m c t h (by have := t.isLt; omega), ← rows_next (t.val % 11) (block_lt t) h κ]
    unfold accNext loopAcc
    rw [trips_eq, trips_dk _ _ _ _ _ _ _ _ κ x 8 le_rfl]
    dsimp only
    rw [zero_dk, zero_add]
    refine Finset.sum_congr rfl fun r _ => ?_
    rw [dscore_at, qAt_apply]

/-- The block's dv after its point. -/
theorem accAt_dv (t : Fin cfg0.N) (κ : Fin 768) (x : Fin 128) :
    (accAt m c t.val t.isLt).2.2 (ix2 κ x)
      = ∑ r, mask (key (t.val % 11) (block_lt t) κ) r (wtAt m c (headOf t) (key (t.val % 11) (block_lt t) κ) r * V m c main_v74 (ix2 r (col' (headOf t) x))) := by
  by_cases h : t.val % 11 = 0
  · rw [accAt_first m c t h, ← rows_first (t.val % 11) (block_lt t) h κ]
    unfold accFirst loopAcc
    rw [trips_eq, trips_dv _ _ _ _ _ _ _ _ κ x 8 le_rfl, context_dv]
    dsimp only
    rw [zero_dv, zero_add]
    refine congrArg₂ (· + ·) (Finset.sum_congr rfl fun r _ => ?_) (Finset.sum_congr rfl fun r _ => ?_) <;> rw [weight_at, gAt_apply]
  · rw [accAt_next m c t h (by have := t.isLt; omega), ← rows_next (t.val % 11) (block_lt t) h κ]
    unfold accNext loopAcc
    rw [trips_eq, trips_dv _ _ _ _ _ _ _ _ κ x 8 le_rfl]
    dsimp only
    rw [zero_dv, zero_add]
    refine Finset.sum_congr rfl fun r _ => ?_
    rw [weight_at, gAt_apply]

/-- The terms of the keys up to a block's last: those before the block, and the block's. -/
theorem keys_step (f : Fin 8448 → EReal) (j : ℕ) (hj : j < 11) :
    ∑ κ ∈ Finset.univ.filter (fun κ : Fin 8448 => 0 ≤ κ.val ∧ κ.val < 768 * j + 768), f κ
      = ∑ κ ∈ Finset.univ.filter (fun κ : Fin 8448 => 0 ≤ κ.val ∧ κ.val < 768 * j), f κ + ∑ κ : Fin 768, f (key j hj κ) :=
  sum_extend f 0 (768 * j) 768 (by omega) (by omega)

/-- The rows of dq after a point: the terms of the keys up to its block's last. -/
theorem accAt_dq (r : Fin 8448) (x : Fin 256) : ∀ (n : ℕ) (t : Fin cfg0.N), t.val = n →
    (accAt m c t.val t.isLt).1 (ix2 r x)
      = ∑ κ ∈ Finset.univ.filter (fun κ : Fin 8448 => 0 ≤ κ.val ∧ κ.val < 768 * (t.val % 11) + 768),
          mask κ r (dsAt m c (headOf t) κ r * V m c main_v13 (ix2 κ (col (headOf t) x))) := by
  intro n
  induction n with
  | zero =>
    intro t ht
    have h : t.val % 11 = 0 := by omega
    rw [keys_step _ _ (block_lt t), accAt_first m c t h, accFirst_dq]
    have e (f : Fin 8448 → EReal) : ∑ κ ∈ Finset.univ.filter (fun κ : Fin 8448 => 0 ≤ κ.val ∧ κ.val < 768 * (t.val % 11)), f κ = 0 := by
      rw [h, Nat.mul_zero, sum_interval_empty]
    rw [e, zero_add]
  | succ n ih =>
    intro t ht
    rw [keys_step _ _ (block_lt t)]
    by_cases h : t.val % 11 = 0
    · rw [accAt_first m c t h, accFirst_dq]
      have e (f : Fin 8448 → EReal) : ∑ κ ∈ Finset.univ.filter (fun κ : Fin 8448 => 0 ≤ κ.val ∧ κ.val < 768 * (t.val % 11)), f κ = 0 := by
        rw [h, Nat.mul_zero, sum_interval_empty]
      rw [e, zero_add]
    · have h44 := lt_44 t
      have hp : t.val - 1 < cfg0.N := by have := t.isLt; omega
      rw [accAt_next m c t h hp, accNext_dq m c t h]
      have hh : headOf (⟨t.val - 1, hp⟩ : Fin cfg0.N) = headOf t := Fin.ext (by simp only [headOf]; omega)
      have hi := ih ⟨t.val - 1, hp⟩ (by simp only []; omega)
      rw [hh] at hi
      dsimp only at hi
      rw [show 768 * ((t.val - 1) % 11) + 768 = 768 * (t.val % 11) by omega] at hi
      exact congrArg (· + _) hi

end Cert.KernelIdeal.Value

end
-- ==== Proof.Value.Arrays.lean ====
/- The three arrays that the kernel leaves, as sums over all rows or all keys. -/
module

public import proofs.«01_k».proof.Proof.Value.Fold

@[expose] public section
set_option maxRecDepth 16384

noncomputable section

namespace Cert.KernelIdeal.Value

open Cert.KernelIdeal Cert.KernelIdeal.Gen Cert.KernelIdeal.Run Cert.Attention Idealize.ShloMosaic Idealize.ShloMosaic.TcCoe Idealize.ShloMosaic.Pipeline

variable (m : (ℓ : Loc nD τ sig) → Buf (Elt Ideal) ℓ) (c : Dev nD)

/-- The natural logarithm of 2, by which the kernel scales dq and dk. -/
def ln2 : EReal := (Named.named Cert.KernelIdeal.κ "ln2" 0x3F317218#32 : Ideal .f32)

/-- The head of a column. -/
def colHead (j : Fin 1024) : Fin 4 := ⟨j.val / 256, by omega⟩
def colHead' (j : Fin 512) : Fin 4 := ⟨j.val / 128, by omega⟩
theorem colHead_col (h : Fin 4) (x : Fin 256) : colHead (col h x) = h := Fin.ext (by simp only [colHead, col]; omega)
theorem colHead_col' (h : Fin 4) (x : Fin 128) : colHead' (col' h x) = h := Fin.ext (by simp only [colHead', col']; omega)

/-- dq: over all keys. -/
def dqArr : Vec Ideal S8448x1024 .f32 := fun i =>
  (∑ κ : Fin 8448, mask κ (i 0) (dsAt m c (colHead (i 1)) κ (i 0) * V m c main_v13 (ix2 κ (i 1)))) * ln2
/-- dk: over all rows. -/
def dkArr : Vec Ideal S8448x1024 .f32 := fun i =>
  (∑ r : Fin 8448, mask (i 0) r (dsAt m c (colHead (i 1)) (i 0) r * V m c main_v8 (ix2 r (i 1)))) * ln2
/-- dv: over all rows. -/
def dvArr : Vec Ideal S8448x512 .f32 := fun i =>
  ∑ r : Fin 8448, mask (i 0) r (wtAt m c (colHead' (i 1)) (i 0) r * V m c main_v74 (ix2 r (i 1)))

theorem dqArr_ix2 (r : Fin 8448) (h : Fin 4) (x : Fin 256) : dqArr m c (ix2 r (col h x))
    = (∑ κ : Fin 8448, mask κ r (dsAt m c h κ r * V m c main_v13 (ix2 κ (col h x)))) * ln2 := by
  show (∑ κ : Fin 8448, mask κ r (dsAt m c (colHead (col h x)) κ r * V m c main_v13 (ix2 κ (col h x)))) * ln2 = _
  rw [colHead_col]
theorem dkArr_ix2 (κ : Fin 8448) (h : Fin 4) (x : Fin 256) : dkArr m c (ix2 κ (col h x))
    = (∑ r : Fin 8448, mask κ r (dsAt m c h κ r * V m c main_v8 (ix2 r (col h x)))) * ln2 := by
  show (∑ r : Fin 8448, mask κ r (dsAt m c (colHead (col h x)) κ r * V m c main_v8 (ix2 r (col h x)))) * ln2 = _
  rw [colHead_col]
theorem dvArr_ix2 (κ : Fin 8448) (h : Fin 4) (x : Fin 128) : dvArr m c (ix2 κ (col' h x))
    = ∑ r : Fin 8448, mask κ r (wtAt m c h κ r * V m c main_v74 (ix2 r (col' h x))) := by
  show ∑ r : Fin 8448, mask κ r (wtAt m c (colHead' (col' h x)) κ r * V m c main_v74 (ix2 r (col' h x))) = _
  rw [colHead_col']

theorem emb_dq (t : Fin cfg0.N) (r : Fin 8448) (x : Fin 256) : (win0_4.blk t).view.emb (ix2 r x) = ix2 r (col (headOf t) x) := by
  blk_ext [index0_4 t, col, headOf]
theorem emb_dk (t : Fin cfg0.N) (κ : Fin 768) (x : Fin 256) :
    (win0_5.blk t).view.emb (ix2 κ x) = ix2 (key (t.val % 11) (block_lt t) κ) (col (headOf t) x) := by
  blk_ext [index0_5 t, key, col, headOf]
theorem emb_dv (t : Fin cfg0.N) (κ : Fin 768) (x : Fin 128) :
    (win0_6.blk t).view.emb (ix2 κ x) = ix2 (key (t.val % 11) (block_lt t) κ) (col' (headOf t) x) := by
  blk_ext [index0_6 t, key, col', headOf]

theorem scaled_dq (s : Vec Ideal S8448x256 .f32) (r : Fin 8448) (x : Fin 256) : k0_pay1 s (ix2 r x) = s (ix2 r x) * ln2 := by
  unfold ln2
  pointwise [k0_pay1]
theorem scaled_dk (s : Vec Ideal S768x256 .f32) (r : Fin 768) (x : Fin 256) : k0_pay18 s (ix2 r x) = s (ix2 r x) * ln2 := by
  unfold ln2
  pointwise [k0_pay18]

theorem arr_dq : (dats m 0 c).arrAt 4 cfg0.N = dqArr m c := by
  refine (dats m 0 c).arrAt_eq_of_covers 4 _ (by decide +kernel) fun t hf y => ?_
  blk_simp
  rw [after0_4, eq_ix2 y]
  have ht : t.val % 11 = 10 := (flush0_4 t).1 hf
  refine Eq.trans ?_ (congrArg (dqArr m c) (emb_dq t (y 0) (y 1))).symm
  refine Eq.trans ?_ (dqArr_ix2 m c (y 0) (headOf t) (y 1)).symm
  unfold dqAt
  rw [if_pos ht]
  refine (scaled_dq _ (y 0) (y 1)).trans (congrArg (· * ln2) ((accAt_dq m c (y 0) (y 1) t.val t rfl).trans ?_))
  exact sum_interval_all _ _ (by rw [ht])
theorem arr_dk : (dats m 0 c).arrAt 5 cfg0.N = dkArr m c := by
  refine (dats m 0 c).arrAt_eq_of_covers 5 _ (by decide +kernel) fun t hf y => ?_
  blk_simp
  rw [after0_5, eq_ix2 y]
  refine Eq.trans ?_ (congrArg (dkArr m c) (emb_dk t (y 0) (y 1))).symm
  refine Eq.trans ?_ (dkArr_ix2 m c (key (t.val % 11) (block_lt t) (y 0)) (headOf t) (y 1)).symm
  exact (scaled_dk _ (y 0) (y 1)).trans (congrArg (· * ln2) (accAt_dk m c t (y 0) (y 1)))
theorem arr_dv : (dats m 0 c).arrAt 6 cfg0.N = dvArr m c := by
  refine (dats m 0 c).arrAt_eq_of_covers 6 _ (by decide +kernel) fun t hf y => ?_
  blk_simp
  rw [after0_6, eq_ix2 y]
  refine Eq.trans ?_ (congrArg (dvArr m c) (emb_dv t (y 0) (y 1))).symm
  exact (accAt_dv m c t (y 0) (y 1)).trans (dvArr_ix2 m c (key (t.val % 11) (block_lt t) (y 0)) (headOf t) (y 1)).symm

end Cert.KernelIdeal.Value

end
-- ==== Proof.Value.Host.lean ====
/- What the kernel's call is given. -/
module

public import proofs.«01_k».proof.Proof.Value.Stages
public import proofs.«01_k».proof.Proof.Value.Arrays
public import Idealize.ShloMosaic.Lib.StableHlo.RunRead

@[expose] public section
set_option maxRecDepth 16384

noncomputable section

namespace Cert.KernelIdeal.Value

open Cert.KernelIdeal Cert.KernelIdeal.Gen Cert.KernelIdeal.Run Cert.Attention Idealize.ShloMosaic Idealize.ShloMosaic.TcCoe Idealize.ShloMosaic.Pipeline
open Cert.ReferenceIdeal.Value (scoreC maxC expC totC probC scoreL maxL expL totL probL cut128C cut64C cutC cut128L cut64L)

/-- Joined pieces are equal where the pieces are. -/
theorem concat2 {α : Type} {S s t : Shape} {d : Fin S.rank} {a a' : s.Idx → α} {b b' : t.Idx → α} (h h') (ea : a = a') (eb : b = b') :
    concatenate S d [⟨s, a⟩, ⟨t, b⟩] h = concatenate S d [⟨s, a'⟩, ⟨t, b'⟩] h' := by
  subst ea eb
  rfl
theorem concat3 {α : Type} {S s t u : Shape} {d : Fin S.rank} {a a' : s.Idx → α} {b b' : t.Idx → α} {e e' : u.Idx → α} (h h') (ea : a = a') (eb : b = b') (ee : e = e') :
    concatenate S d [⟨s, a⟩, ⟨t, b⟩, ⟨u, e⟩] h = concatenate S d [⟨s, a'⟩, ⟨t, b'⟩, ⟨u, e'⟩] h' := by
  subst ea eb ee
  rfl

variable (m : (ℓ : Loc nD τ sig) → Buf (Elt Ideal) ℓ) (c : Dev nD)

abbrev in0 : FVec Ideal S8448x4x128 .f32 := m (c.tc.loc main_arg0)
abbrev in1 : FVec Ideal S8448x4x64 .f32 := m (c.tc.loc main_arg1)
abbrev in2 : FVec Ideal S8448x4x128 .f32 := m (c.tc.loc main_arg2)
abbrev in3 : FVec Ideal S8448x64 .f32 := m (c.tc.loc main_arg3)
abbrev in4 : FVec Ideal S8448x4x128 .f32 := m (c.tc.loc main_arg4)
abbrev in5 : FVec Ideal S8448x4x128 .f32 := m (c.tc.loc main_arg5)

theorem v2_eq : V m c main_v2 = scale := by
  show StableHlo.after (List.flatten [hostOps0]) (fun b => m (c, b)) _ = _
  simp only [hostOps0, List.flatten_cons, List.flatten_nil, List.append_nil]
  after_reads_simp
  rfl
theorem v70_eq : V m c main_v70 = flat (in4 m c) := by
  show StableHlo.after (List.flatten [hostOps0]) (fun b => m (c, b)) _ = _
  simp only [hostOps0, List.flatten_cons, List.flatten_nil, List.append_nil]
  after_reads_simp
  rfl
theorem v74_eq : V m c main_v74 = flat (in5 m c) := by
  show StableHlo.after (List.flatten [hostOps0]) (fun b => m (c, b)) _ = _
  simp only [hostOps0, List.flatten_cons, List.flatten_nil, List.append_nil]
  after_reads_simp
  rfl
theorem v4_eq : V m c main_v4 = join (in0 m c) (in1 m c) := by
  show StableHlo.after (List.flatten [hostOps0]) (fun b => m (c, b)) _ = _
  simp only [hostOps0, List.flatten_cons, List.flatten_nil, List.append_nil]
  after_reads_simp
  refine concat3 _ _ ?_ ?_ ?_ <;> after_reads_simp <;> rfl
theorem v8_eq : V m c main_v8 = qRows (in0 m c) (in1 m c) := by
  show StableHlo.after (List.flatten [hostOps0]) (fun b => m (c, b)) _ = _
  simp only [hostOps0, List.flatten_cons, List.flatten_nil, List.append_nil]
  after_reads_simp
  refine congrArg (fun x : FVec Ideal S8448x4x256 .f32 => (truncf .bf16 (mulf (shapeCast S8448x1024 x shapeCasts_S8448x4x256_S8448x1024 : FVec Ideal S8448x1024 .f32)
    (broadcastInDim S8448x1024 ![] bcast_S_S8448x1024 scale)) bitsLt_bf16_f32 : FVec Ideal S8448x1024 .bf16)) (concat3 _ _ ?_ ?_ ?_) <;> after_reads_simp <;> rfl
theorem v13_eq : V m c main_v13 = kRows (in2 m c) (in3 m c) := by
  show StableHlo.after (List.flatten [hostOps0]) (fun b => m (c, b)) _ = _
  simp only [hostOps0, List.flatten_cons, List.flatten_nil, List.append_nil]
  after_reads_simp
  refine congrArg (fun x : FVec Ideal S8448x4x256 .f32 => (truncf .bf16 (shapeCast S8448x1024 x shapeCasts_S8448x4x256_S8448x1024 : FVec Ideal S8448x1024 .f32)
    bitsLt_bf16_f32 : FVec Ideal S8448x1024 .bf16)) (concat3 _ _ ?_ ?_ ?_) <;> after_reads_simp <;> rfl

/-! The scores, the exponentials and their sums. -/
def scC := scoreC (cut128C (in0 m c)) (cut64C (in1 m c)) (cut128C (in2 m c)) (cutC (in3 m c))
def exC := expC (scC m c) (maxC (scC m c))
def scL := scoreL (cut128L (in0 m c)) (cut64L (in1 m c)) (in2 m c) (in3 m c)
def exL := expL (scL m c) (maxL (scL m c))
def logs := stats (lseC (maxC (scC m c)) (totC (exC m c))) (lseL (maxL (scL m c)) (totL (exL m c)))
def dots := means (in5 m c) (outC (cut128C (in4 m c)) (probC (exC m c) (totC (exC m c)))) (outL (in4 m c) (probL (exL m c) (totL (exL m c))))

theorem v71_eq : V m c main_v71 = eight (logs m c) := by
  show StableHlo.after (List.flatten [hostOps0]) (fun b => m (c, b)) _ = _
  simp only [hostOps0, List.flatten_cons, List.flatten_nil, List.append_nil]
  after_reads_simp
  refine concat2 _ _ ?_ ?_ <;> after_reads_simp
  refine congrArg (fun x : FVec Ideal S4x8448 .f32 => mulf x (broadcastInDim S4x8448 ![] bcast_S_S4x8448 inv)) (concat2 _ _ ?_ ?_) <;> after_reads_simp <;> rfl
theorem v72_eq : V m c main_v72 = eight (dots m c) := by
  show StableHlo.after (List.flatten [hostOps0]) (fun b => m (c, b)) _ = _
  simp only [hostOps0, List.flatten_cons, List.flatten_nil, List.append_nil]
  after_reads_simp
  refine concat2 _ _ ?_ ?_ <;> after_reads_simp
  refine congrArg (fun x : FVec Ideal S8448x4x128 .f32 => transpose S4x8448 [1, 0] (Host.reduceAdd (mulf (in5 m c) x) (constant S_ .f32 0x00000000#32 : FVec Ideal S_ .f32)
      reducesTo_S8448x4x128_S8448x4_d2 h_S_) transposes_S8448x4_S4x8448_1_0) (concat2 _ _ ?_ ?_) <;> after_reads_simp <;> rfl

end Cert.KernelIdeal.Value

end
-- ==== Proof.Value.Kernel.lean ====
/- The kernel's arrays over the reals. -/
module

public import proofs.«01_k».proof.Proof.Value.Host

@[expose] public section
set_option maxRecDepth 16384

noncomputable section

namespace Cert.KernelIdeal.Value

open Cert.KernelIdeal Cert.KernelIdeal.Gen Cert.KernelIdeal.Run Cert.Attention Idealize.ShloMosaic Idealize.ShloMosaic.TcCoe Idealize.ShloMosaic.Pipeline
open Cert.ReferenceIdeal.Value (IsReal sum_mul_real maxC_apply expC_apply totC_apply probC_apply maxL_apply expL_apply totL_apply probL_apply cut128C_apply sC_real sL_real)

/-! ## The padded heads -/

/-- A head's 128 entries, its 64 further ones and 64 zeros. -/
def padded (a : Fin 128 → ℝ) (b : Fin 64 → ℝ) (x : Fin 256) : ℝ :=
  if h : x.val < 128 then a ⟨x.val, h⟩ else if h' : x.val < 192 then b ⟨x.val - 128, by omega⟩ else 0

section
variable (a : Fin 128 → ℝ) (b : Fin 64 → ℝ)
theorem padded_low (x : Fin 128) : padded a b ⟨x.val, by omega⟩ = a x := dif_pos x.isLt
theorem padded_mid (x : Fin 64) : padded a b ⟨128 + x.val, by omega⟩ = b x := by
  unfold padded
  rw [dif_neg (by dsimp only; omega), dif_pos (by dsimp only; omega)]
  exact congrArg b (Fin.ext (by simp))
theorem padded_high (x : Fin 64) : padded a b ⟨192 + x.val, by omega⟩ = 0 := by
  unfold padded
  rw [dif_neg (by dsimp only; omega), dif_neg (by dsimp only; omega)]
theorem column_cases (x : Fin 256) : (∃ y : Fin 128, x = ⟨y.val, by omega⟩) ∨ (∃ y : Fin 64, x = ⟨128 + y.val, by omega⟩) ∨ ∃ y : Fin 64, x = ⟨192 + y.val, by omega⟩ := by
  by_cases h : x.val < 128
  · exact .inl ⟨⟨x.val, h⟩, rfl⟩
  · by_cases h' : x.val < 192
    · exact .inr (.inl ⟨⟨x.val - 128, by omega⟩, Fin.ext (by dsimp only; omega)⟩)
    · exact .inr (.inr ⟨⟨x.val - 192, by omega⟩, Fin.ext (by dsimp only; omega)⟩)
theorem sum_columns (f : Fin 256 → ℝ) :
    ∑ x, f x = ∑ x : Fin 128, f ⟨x.val, by omega⟩ + (∑ x : Fin 64, f ⟨128 + x.val, by omega⟩ + ∑ x : Fin 64, f ⟨192 + x.val, by omega⟩) := by
  rw [sum_cut f 128 128 (by norm_num), sum_cut (fun x : Fin 128 => f ⟨128 + x.val, by omega⟩) 64 64 (by norm_num)]
  refine congrArg _ (congrArg _ (Finset.sum_congr rfl fun x _ => congrArg f (Fin.ext ?_)))
  dsimp only
  omega
theorem sum_padded (a' : Fin 128 → ℝ) (b' : Fin 64 → ℝ) :
    ∑ x, padded a b x * padded a' b' x = ∑ x, a x * a' x + ∑ x, b x * b' x := by
  rw [sum_columns]
  simp only [padded_low, padded_mid, padded_high, mul_zero, Finset.sum_const_zero, add_zero]
theorem join_real (u : FVec Ideal S8448x4x128 .f32) (w : FVec Ideal S8448x4x64 .f32) (r : Fin 8448) (h : Fin 4)
    (hu : ∀ x, u (ix3 r h x) = (a x : EReal)) (hw : ∀ x, w (ix3 r h x) = (b x : EReal)) (x : Fin 256) :
    join u w (ix3 r h x) = (padded a b x : EReal) := by
  obtain ⟨y, rfl⟩ | ⟨y, rfl⟩ | ⟨y, rfl⟩ := column_cases x
  · rw [join_low, padded_low, hu]
  · rw [join_mid, padded_mid, hw]
  · rw [join_high, padded_high, EReal.coe_zero]
end

/-! ## The call's inputs -/

section
variable {m : (ℓ : Loc nD τ sig) → Buf (Elt Ideal) ℓ} {c : Dev nD} {A : Reals}
  (hA : IsReal A (in0 m c) (in1 m c) (in2 m c) (in3 m c) (in4 m c) (in5 m c))
include hA

theorem q_real (r : Fin 8448) (h : Fin 4) (x : Fin 256) :
    V m c main_v8 (ix2 r (col h x)) = ((padded (A.q r h) (A.qr r h) x * (rho * (1 / Real.log 2)) : ℝ) : EReal) := by
  rw [v8_eq, qRows_apply, join_real _ _ _ _ r h (hA.q r h) (hA.qr r h), ← EReal.coe_mul]
theorem k_real (κ : Fin 8448) (h : Fin 4) (x : Fin 256) : V m c main_v13 (ix2 κ (col h x)) = (padded (A.k κ h) (A.kr κ) x : EReal) := by
  rw [v13_eq, kRows_apply, join_real _ _ _ _ κ h (hA.k κ h) (fun x => (spread_apply _ κ h x).trans (hA.kr κ x))]
theorem v_real (κ : Fin 8448) (h : Fin 4) (x : Fin 128) : V m c main_v70 (ix2 κ (col' h x)) = (A.v κ h x : EReal) := by
  rw [v70_eq, flat_apply, hA.v]
theorem g_real (r : Fin 8448) (h : Fin 4) (x : Fin 128) : V m c main_v74 (ix2 r (col' h x)) = (A.g r h x : EReal) := by
  rw [v74_eq, flat_apply, hA.g]

theorem scC_real (h : Fin 4) (r κ : Fin 256) : scC m c (ix3 h r κ) = (A.score h (ctx r) (ctx κ) : EReal) := sC_real hA h r κ
theorem scL_real (h : Fin 4) (r : Fin 8192) (κ : Fin 8448) : scL m c (ix3 h r κ) = (A.score h (lat r) κ : EReal) := sL_real hA h r κ
theorem exC_real (h : Fin 4) (r : Fin 256) : ∃ M : ℝ, Cert.ReferenceIdeal.Value.maxC (scC m c) (ix2 h r) = (M : EReal)
    ∧ ∀ κ, exC m c (ix3 h r κ) = Ideal.exp (scC m c (ix3 h r κ) - (M : EReal)) := by
  obtain ⟨M, hM⟩ := fold_real (scC_real hA h r)
  refine ⟨M, (maxC_apply h r _).trans hM, fun κ => ?_⟩
  unfold exC
  rw [expC_apply, maxC_apply, hM]
theorem exL_real (h : Fin 4) (r : Fin 8192) : ∃ M : ℝ, Cert.ReferenceIdeal.Value.maxL (scL m c) (ix2 h r) = (M : EReal)
    ∧ ∀ κ, exL m c (ix3 h r κ) = Ideal.exp (scL m c (ix3 h r κ) - (M : EReal)) := by
  obtain ⟨M, hM⟩ := fold_real (scL_real hA h r)
  refine ⟨M, (maxL_apply h r _).trans hM, fun κ => ?_⟩
  unfold exL
  rw [expL_apply, maxL_apply, hM]
theorem logs_real (h : Fin 4) (r : Fin 8448) : V m c main_v71 (ix2 (rowOf h) r) = ((Real.log (A.sum h r) * (1 / Real.log 2) : ℝ) : EReal) := by
  rw [v71_eq, eight_apply]
  unfold logs
  obtain ⟨r, rfl⟩ | ⟨r, rfl⟩ := row_cases r
  · obtain ⟨M, h1, h2⟩ := exC_real hA h r
    rw [stats_ctx, lseC_apply, h1, lse_real (scC_real hA h r) h2 (totC_apply h r _), ← A.sum_ctx, ← EReal.coe_mul]
  · obtain ⟨M, h1, h2⟩ := exL_real hA h r
    rw [stats_lat, lseL_apply, h1, lse_real (scL_real hA h r) h2 (totL_apply h r _), ← A.sum_lat, ← EReal.coe_mul]
omit hA in
/-- Two sums change places. -/
theorem sums_swap {n k : ℕ} (g : Fin n → ℝ) (v : Fin k → Fin n → ℝ) (w : Fin k → ℝ) : ∑ x, g x * ∑ κ, v κ x * w κ = ∑ κ, w κ * ∑ x, g x * v κ x := by
  simp only [Finset.mul_sum]
  rw [Finset.sum_comm]
  exact Finset.sum_congr rfl fun κ _ => Finset.sum_congr rfl fun x _ => by ring
theorem prC_real (h : Fin 4) (r κ : Fin 256) : Cert.ReferenceIdeal.Value.probC (exC m c) (Cert.ReferenceIdeal.Value.totC (exC m c)) (ix3 h r κ) = (A.weight h (ctx r) (ctx κ) : EReal) := by
  obtain ⟨M, _, h2⟩ := exC_real hA h r
  rw [probC_apply]
  refine (weight_real (scC_real hA h r) h2 (totC_apply h r _) κ).trans ?_
  rw [← A.sum_ctx]
  rfl
theorem prL_real (h : Fin 4) (r : Fin 8192) (κ : Fin 8448) : Cert.ReferenceIdeal.Value.probL (exL m c) (Cert.ReferenceIdeal.Value.totL (exL m c)) (ix3 h r κ) = (A.weight h (lat r) κ : EReal) := by
  obtain ⟨M, _, h2⟩ := exL_real hA h r
  rw [probL_apply]
  refine (weight_real (scL_real hA h r) h2 (totL_apply h r _) κ).trans ?_
  rw [← A.sum_lat]
  rfl
theorem dots_real (h : Fin 4) (r : Fin 8448) : V m c main_v72 (ix2 (rowOf h) r) = (A.delta h r : EReal) := by
  rw [v72_eq, eight_apply]
  unfold dots
  obtain ⟨r, rfl⟩ | ⟨r, rfl⟩ := row_cases r
  · rw [means_ctx, A.delta_ctx, sum_mul_real (hA.g _ h) fun x => (outC_apply _ _ h r x).trans
      (sum_mul_real (fun κ => (cut128C_apply _ κ h x).trans (hA.v _ h x)) (prC_real hA h r)), sums_swap]
    rfl
  · rw [means_lat, A.delta_lat, sum_mul_real (hA.g _ h) fun x => (outL_apply _ _ h r x).trans
      (sum_mul_real (fun κ => hA.v κ h x) (prL_real hA h r)), sums_swap]
    rfl

/-! ## The weights -/

theorem wt_real (h : Fin 4) (κ r : Fin 8448) : wtAt m c h κ r = (A.weight h r κ : EReal) := by
  have e : ∑ x, padded (A.k κ h) (A.kr κ) x * (padded (A.q r h) (A.qr r h) x * (rho * (1 / Real.log 2))) - Real.log (A.sum h r) * (1 / Real.log 2)
      = (A.score h r κ - Real.log (A.sum h r)) * (1 / Real.log 2) := by
    unfold Reals.score
    simp only [← mul_assoc, ← Finset.sum_mul]
    rw [sum_padded, Finset.sum_congr rfl fun x _ => mul_comm (A.k κ h x) (A.q r h x)]
    ring
  show Ideal.exp2 (_ - _) = _
  rw [sum_mul_real (k_real hA κ h) (q_real hA r h), logs_real hA, ← EReal.coe_sub, e, exp2_scaled, Real.exp_sub, Real.exp_log (A.sum_pos h r)]
  rfl
theorem ds_real (h : Fin 4) (κ r : Fin 8448) : dsAt m c h κ r = (A.dscore h r κ : EReal) := by
  show wtAt m c h κ r * (_ - _) = _
  rw [wt_real hA, sum_mul_real (v_real hA κ h) (g_real hA r h), dots_real hA, ← EReal.coe_sub, ← EReal.coe_mul, Finset.sum_congr rfl fun x _ => mul_comm (A.v κ h x) (A.g r h x)]
  rfl
omit hA in
theorem mask_real (κ r : Fin 8448) (y : ℝ) : mask κ r (y : EReal) = (maskR κ r y : EReal) := by
  unfold mask maskR
  split_ifs <;> simp
omit hA in
theorem ln2_real : ln2 = (Real.log 2 : EReal) := rfl

/-! ## The call's outputs -/

theorem dq_real (r : Fin 8448) (h : Fin 4) (x : Fin 256) :
    dqArr m c (ix2 r (col h x)) = (((∑ κ, maskR κ r (A.dscore h r κ * padded (A.k κ h) (A.kr κ) x)) * Real.log 2 : ℝ) : EReal) := by
  rw [dqArr_ix2, sum_real fun κ => by rw [ds_real hA, k_real hA, ← EReal.coe_mul, mask_real], ln2_real, EReal.coe_mul]
theorem dk_real (κ : Fin 8448) (h : Fin 4) (x : Fin 256) :
    dkArr m c (ix2 κ (col h x)) = (((∑ r, maskR κ r (A.dscore h r κ * (padded (A.q r h) (A.qr r h) x * (rho * (1 / Real.log 2))))) * Real.log 2 : ℝ) : EReal) := by
  rw [dkArr_ix2, sum_real fun r => by rw [ds_real hA, q_real hA, ← EReal.coe_mul, mask_real], ln2_real, EReal.coe_mul]
theorem dv_real (κ : Fin 8448) (h : Fin 4) (x : Fin 128) : dvArr m c (ix2 κ (col' h x)) = (A.dv h κ x : EReal) := by
  rw [dvArr_ix2, sum_real fun r => by rw [wt_real hA, g_real hA, ← EReal.coe_mul, mask_real]]
  rfl
end

end Cert.KernelIdeal.Value

end
-- ==== Proof.Value.Tail.lean ====
/- The kernel's five results: attention's gradients. -/
module

public import proofs.«01_k».proof.Proof.Value.Kernel

@[expose] public section
set_option maxRecDepth 16384

noncomputable section

namespace Cert.KernelIdeal.Value

open Cert.KernelIdeal Cert.KernelIdeal.Gen Cert.KernelIdeal.Run Cert.Attention Idealize.ShloMosaic Idealize.ShloMosaic.TcCoe Idealize.ShloMosaic.Pipeline
open Cert.ReferenceIdeal.Value (IsReal)

/-! ## The results in stages -/

def heads (a : FVec Ideal S8448x1024 .f32) : FVec Ideal S8448x4x256 .f32 := shapeCast S8448x4x256 a shapeCasts_S8448x1024_S8448x4x256
def rescaled (a : FVec Ideal S8448x1024 .f32) : FVec Ideal S8448x4x256 .f32 := mulf (heads a) (broadcastInDim S8448x4x256 ![] bcast_S_S8448x4x256 scale)
def own (a : FVec Ideal S8448x4x256 .f32) : FVec Ideal S8448x4x128 .f32 := extractStridedSlice S8448x4x128 ![0, 0, 0] a slices_S8448x4x256_S8448x4x128_0_0_0
def rest (a : FVec Ideal S8448x4x256 .f32) : FVec Ideal S8448x4x64 .f32 := extractStridedSlice S8448x4x64 ![0, 0, 128] a slices_S8448x4x256_S8448x4x64_0_0_128
def overHeads (a : FVec Ideal S8448x4x64 .f32) : FVec Ideal S8448x64 .f32 := Host.reduceAdd a (constant S_ .f32 0x00000000#32) reducesTo_S8448x4x64_S8448x64_d1 h_S_
def heads' (a : FVec Ideal S8448x512 .f32) : FVec Ideal S8448x4x128 .f32 := shapeCast S8448x4x128 a shapeCasts_S8448x512_S8448x4x128

theorem heads_apply (a) (r : Fin 8448) (h : Fin 4) (x : Fin 256) : heads a (ix3 r h x) = a (ix2 r (col h x)) := by
  have e : (⟨h.val * 256 + x.val, by omega⟩ : Fin 1024) = col h x := Fin.ext (by simp only [col]; omega)
  rw [← e]
  pointwise [heads]
theorem heads'_apply (a) (r : Fin 8448) (h : Fin 4) (x : Fin 128) : heads' a (ix3 r h x) = a (ix2 r (col' h x)) := by
  have e : (⟨h.val * 128 + x.val, by omega⟩ : Fin 512) = col' h x := Fin.ext (by simp only [col']; omega)
  rw [← e]
  pointwise [heads']
theorem rescaled_apply (a) (r : Fin 8448) (h : Fin 4) (x : Fin 256) : rescaled a (ix3 r h x) = a (ix2 r (col h x)) * ((rho * (1 / Real.log 2) : ℝ) : EReal) := by
  show heads a (ix3 r h x) * broadcastInDim S8448x4x256 ![] bcast_S_S8448x4x256 scale (ix3 r h x) = _
  rw [heads_apply]
  exact congrArg _ (scale_apply _)
theorem own_apply (a) (r : Fin 8448) (h : Fin 4) (x : Fin 128) : own a (ix3 r h x) = a (ix3 r h ⟨x.val, by omega⟩) := by pointwise [own]
theorem rest_apply (a) (r : Fin 8448) (h : Fin 4) (x : Fin 64) : rest a (ix3 r h x) = a (ix3 r h ⟨128 + x.val, by omega⟩) := by pointwise [rest]
theorem overHeads_apply (a) (r : Fin 8448) (x : Fin 64) : overHeads a (ix2 r x) = ∑ h, a (ix3 r h x) := by pointwise [overHeads]

/-! ## The results over the reals -/

section
variable {m : (ℓ : Loc nD τ sig) → Buf (Elt Ideal) ℓ} {c : Dev nD} {A : Reals}
  (hA : IsReal A (in0 m c) (in1 m c) (in2 m c) (in3 m c) (in4 m c) (in5 m c))
include hA

theorem own_dq (r : Fin 8448) (h : Fin 4) (x : Fin 128) : own (rescaled (dqArr m c)) (ix3 r h x) = (A.dq h r x : EReal) := by
  have := Real.log_pos one_lt_two
  rw [own_apply, rescaled_apply, dq_real hA, ← EReal.coe_mul]
  simp only [padded_low]
  unfold Reals.dq
  congr 1
  field_simp
theorem rest_dq (r : Fin 8448) (h : Fin 4) (x : Fin 64) : rest (rescaled (dqArr m c)) (ix3 r h x) = (A.dqr h r x : EReal) := by
  have := Real.log_pos one_lt_two
  rw [rest_apply, rescaled_apply, dq_real hA, ← EReal.coe_mul]
  simp only [padded_mid]
  unfold Reals.dqr
  congr 1
  field_simp
omit hA in
/-- A scale leaves the masked sum. -/
theorem scaled_rows (κ : Fin 8448) (f g : Fin 8448 → ℝ) :
    (∑ r, maskR κ r (f r * (g r * (rho * (1 / Real.log 2))))) * Real.log 2 = rho * ∑ r, maskR κ r (f r * g r) := by
  have := Real.log_pos one_lt_two
  rw [Finset.sum_mul, Finset.mul_sum]
  refine Finset.sum_congr rfl fun r _ => ?_
  unfold maskR
  split_ifs
  · simp
  · field_simp
theorem own_dk (κ : Fin 8448) (h : Fin 4) (x : Fin 128) : own (heads (dkArr m c)) (ix3 κ h x) = (A.dk h κ x : EReal) := by
  rw [own_apply, heads_apply, dk_real hA]
  simp only [padded_low]
  rw [scaled_rows]
  rfl
theorem rest_dk (κ : Fin 8448) (x : Fin 64) : overHeads (rest (heads (dkArr m c))) (ix2 κ x) = (A.dkr κ x : EReal) := by
  rw [overHeads_apply]
  refine sum_real fun h => ?_
  rw [rest_apply, heads_apply, dk_real hA]
  simp only [padded_mid]
  rw [scaled_rows]
theorem heads_dv (κ : Fin 8448) (h : Fin 4) (x : Fin 128) : heads' (dvArr m c) (ix3 κ h x) = (A.dv h κ x : EReal) := by
  rw [heads'_apply, dv_real hA]
end

/-! ## The tail of the host code -/

section
variable (m : (ℓ : Loc nD τ sig) → Buf (Elt Ideal) ℓ) (c : Dev nD)

abbrev left := withArrays (cfgs 0).spec c (V0 m c) (fun w => (dats m 0 c).arrAt w (cfgs 0).N)
theorem arrays_inj : Function.Injective (arrRef (cfgs 0).spec) := by decide +kernel
theorem left_dq : left m c (Proc.tc.devRef main_v75_0) = dqArr m c := (withArrays_arr _ arrays_inj c (V0 m c) _ 4).trans (arr_dq m c)
theorem left_dk : left m c (Proc.tc.devRef main_v75_1) = dkArr m c := (withArrays_arr _ arrays_inj c (V0 m c) _ 5).trans (arr_dk m c)
theorem left_dv : left m c (Proc.tc.devRef main_v75_2) = dvArr m c := (withArrays_arr _ arrays_inj c (V0 m c) _ 6).trans (arr_dv m c)
theorem left_scale : left m c (Proc.tc.devRef main_v2) = scale := (withArrays_of_ne _ c (V0 m c) _ main_v2 (by decide +kernel)).trans (v2_eq m c)

theorem v80_eq : Pipeline.afterTail₀ cfgs (dats m) 0 (V0 m) [hostOps1] c main_v80 = own (rescaled (dqArr m c)) := by
  show StableHlo.after (List.flatten [hostOps1]) _ _ = _
  simp only [hostOps1, List.flatten_cons, List.flatten_nil, List.append_nil]
  after_reads_simp
  have e := left_dq m c
  have e' := left_scale m c
  unfold left at e e'
  rw [e, e']
  rfl
theorem v81_eq : Pipeline.afterTail₀ cfgs (dats m) 0 (V0 m) [hostOps1] c main_v81 = rest (rescaled (dqArr m c)) := by
  show StableHlo.after (List.flatten [hostOps1]) _ _ = _
  simp only [hostOps1, List.flatten_cons, List.flatten_nil, List.append_nil]
  after_reads_simp
  have e := left_dq m c
  have e' := left_scale m c
  unfold left at e e'
  rw [e, e']
  rfl
theorem v82_eq : Pipeline.afterTail₀ cfgs (dats m) 0 (V0 m) [hostOps1] c main_v82 = own (heads (dkArr m c)) := by
  show StableHlo.after (List.flatten [hostOps1]) _ _ = _
  simp only [hostOps1, List.flatten_cons, List.flatten_nil, List.append_nil]
  after_reads_simp
  exact congrArg (fun x : FVec Ideal S8448x1024 .f32 => own (heads x)) (left_dk m c)
theorem v84_eq : Pipeline.afterTail₀ cfgs (dats m) 0 (V0 m) [hostOps1] c main_v84 = overHeads (rest (heads (dkArr m c))) := by
  show StableHlo.after (List.flatten [hostOps1]) _ _ = _
  simp only [hostOps1, List.flatten_cons, List.flatten_nil, List.append_nil]
  after_reads_simp
  exact congrArg (fun x : FVec Ideal S8448x1024 .f32 => overHeads (rest (heads x))) (left_dk m c)
theorem v85_eq : Pipeline.afterTail₀ cfgs (dats m) 0 (V0 m) [hostOps1] c main_v85 = heads' (dvArr m c) := by
  show StableHlo.after (List.flatten [hostOps1]) _ _ = _
  simp only [hostOps1, List.flatten_cons, List.flatten_nil, List.append_nil]
  after_reads_simp
  exact congrArg (fun x : FVec Ideal S8448x512 .f32 => heads' x) (left_dv m c)
end

end Cert.KernelIdeal.Value

end
-- ==== Proof.Value.Finite.lean ====
/- The precondition: every entry of the arguments is a real. -/
module

public import proofs.«01_k».proof.Defs
public import proofs.«01_k».proof.Proof.Value.Host

@[expose] public section
set_option maxRecDepth 16384

noncomputable section

namespace Cert.KernelIdeal.Value

open Cert.KernelIdeal Cert.KernelIdeal.Gen Cert.Attention Idealize.ShloMosaic Idealize.ShloMosaic.TcCoe
open Cert.ReferenceIdeal.Value (IsReal)

theorem pre_facts : Cert.Pre_finite.Facts where
  bcast_S_S8448x4x128 := by decide
  bcast_S_S8448x4x64 := by decide
  bcast_S_S8448x64 := by decide

/-- An entry above −∞ and below ∞ is a real. -/
theorem entry_real {S : Shape} (a lo hi : FVec Ideal S .f32) (hlo : ∀ i, lo i = Ideal.ofBits .f32 0xFF800000#32) (hhi : ∀ i, hi i = Ideal.ofBits .f32 0x7F800000#32)
    (h : andi (cmpf .ogt a lo) (cmpf .olt a hi) = fun _ => 1#1) (i : S.Idx) : a i = ((a i).toReal : EReal) := by
  have e := congrFun h i
  have e' : BitVec.ofBool (decide (lo i < a i)) &&& BitVec.ofBool (decide (a i < hi i)) = 1#1 := e
  rw [hlo, hhi, neg_inf, pos_inf] at e'
  have h1 : (⊥ : EReal) < a i := by
    by_contra hn
    simp [hn] at e'
  have h2 : a i < (⊤ : EReal) := by
    by_contra hn
    simp [hn] at e'
  exact (EReal.coe_toReal h2.ne h1.ne').symm

variable (m : (ℓ : Loc nD τ sig) → Buf (Elt Ideal) ℓ) (c : Dev nD)

/-- The arguments as reals. -/
def reals : Reals where
  q r h x := EReal.toReal (in0 m c (ix3 r h x))
  qr r h x := EReal.toReal (in1 m c (ix3 r h x))
  k r h x := EReal.toReal (in2 m c (ix3 r h x))
  kr r x := EReal.toReal (in3 m c (ix2 r x))
  v r h x := EReal.toReal (in4 m c (ix3 r h x))
  g r h x := EReal.toReal (in5 m c (ix3 r h x))

theorem isReal (hm : Cert.Pre_KernelIdeal_finite (hPre_finite := pre_facts) m) : IsReal (reals m c) (in0 m c) (in1 m c) (in2 m c) (in3 m c) (in4 m c) (in5 m c) := by
  obtain ⟨h0, h1, h2, h3, h4, h5⟩ := hm c
  exact ⟨fun r h x => entry_real _ _ _ (fun _ => rfl) (fun _ => rfl) h0 (ix3 r h x), fun r h x => entry_real _ _ _ (fun _ => rfl) (fun _ => rfl) h1 (ix3 r h x),
    fun r h x => entry_real _ _ _ (fun _ => rfl) (fun _ => rfl) h2 (ix3 r h x), fun r x => entry_real _ _ _ (fun _ => rfl) (fun _ => rfl) h3 (ix2 r x),
    fun r h x => entry_real _ _ _ (fun _ => rfl) (fun _ => rfl) h4 (ix3 r h x), fun r h x => entry_real _ _ _ (fun _ => rfl) (fun _ => rfl) h5 (ix3 r h x)⟩

end Cert.KernelIdeal.Value

end
-- ==== Proof.Value.Agree.lean ====
/- The kernel's results are the reference's. -/
module

public import proofs.«01_k».proof.Proof.Value.Tail
public import proofs.«01_k».proof.Proof.Value.Finite

@[expose] public section
set_option maxRecDepth 16384

noncomputable section

namespace Cert.KernelIdeal.Value

open Cert.KernelIdeal Cert.KernelIdeal.Gen Cert.KernelIdeal.Run Cert.Attention Idealize.ShloMosaic Idealize.ShloMosaic.TcCoe Idealize.ShloMosaic.Pipeline
open Cert.ReferenceIdeal.Value (out0 out1 out2 out3 out4 out0_real out1_real out2_real out3_real out4_real)

section
variable {m : (ℓ : Loc nD τ sig) → Buf (Elt Ideal) ℓ} (hm : Cert.Pre_KernelIdeal_finite (hPre_finite := pre_facts) m) (c : Dev nD)
include hm

theorem same0 : own (rescaled (dqArr m c)) = out0 (in0 m c) (in1 m c) (in2 m c) (in3 m c) (in4 m c) (in5 m c) := funext fun i => by
  rw [eq_ix3 i]
  exact (own_dq (isReal m c hm) _ _ _).trans (out0_real (isReal m c hm) _ _ _).symm
theorem same1 : rest (rescaled (dqArr m c)) = out1 (in0 m c) (in1 m c) (in2 m c) (in3 m c) (in4 m c) (in5 m c) := funext fun i => by
  rw [eq_ix3 i]
  exact (rest_dq (isReal m c hm) _ _ _).trans (out1_real (isReal m c hm) _ _ _).symm
theorem same2 : own (heads (dkArr m c)) = out2 (in0 m c) (in1 m c) (in2 m c) (in3 m c) (in4 m c) (in5 m c) := funext fun i => by
  rw [eq_ix3 i]
  exact (own_dk (isReal m c hm) _ _ _).trans (out2_real (isReal m c hm) _ _ _).symm
theorem same3 : overHeads (rest (heads (dkArr m c))) = out3 (in0 m c) (in1 m c) (in2 m c) (in3 m c) (in4 m c) (in5 m c) := funext fun i => by
  rw [eq_ix2 i]
  exact (rest_dk (isReal m c hm) _ _).trans (out3_real (isReal m c hm) _ _).symm
theorem same4 : heads' (dvArr m c) = out4 (in0 m c) (in1 m c) (in2 m c) (in3 m c) (in5 m c) := funext fun i => by
  rw [eq_ix3 i]
  exact (heads_dv (isReal m c hm) _ _ _).trans (out4_real (isReal m c hm) _ _ _).symm
end

/-- A buffer the call does not write holds, at the end, what the host's tail leaves in it. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80) = own (rescaled (dqArr m c))
      ∧ r.2.mem ((c.tc : Thread nD τ).loc main_v81) = rest (rescaled (dqArr m c))
      ∧ r.2.mem ((c.tc : Thread nD τ).loc main_v82) = own (heads (dkArr m c))
      ∧ r.2.mem ((c.tc : Thread nD τ).loc main_v84) = overHeads (rest (heads (dkArr m c)))
      ∧ r.2.mem ((c.tc : Thread nD τ).loc main_v85) = heads' (dvArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h.1 c).2 main_v80 (mem_restRefs_of main_v80 (by decide) (by decide))).trans (v80_eq m c),
     ((h.1 c).2 main_v81 (mem_restRefs_of main_v81 (by decide) (by decide))).trans (v81_eq m c),
     ((h.1 c).2 main_v82 (mem_restRefs_of main_v82 (by decide) (by decide))).trans (v82_eq m c),
     ((h.1 c).2 main_v84 (mem_restRefs_of main_v84 (by decide) (by decide))).trans (v84_eq m c),
     ((h.1 c).2 main_v85 (mem_restRefs_of main_v85 (by decide) (by decide))).trans (v85_eq m c),
     ((h.1 c).2 main_arg0 (mem_restRefs_of main_arg0 (by decide) (by decide))).trans ((tail_arg0 m c).trans (V_main_arg0 m c)),
     ((h.1 c).2 main_arg1 (mem_restRefs_of main_arg1 (by decide) (by decide))).trans ((tail_arg1 m c).trans (V_main_arg1 m c)),
     ((h.1 c).2 main_arg2 (mem_restRefs_of main_arg2 (by decide) (by decide))).trans ((tail_arg2 m c).trans (V_main_arg2 m c)),
     ((h.1 c).2 main_arg3 (mem_restRefs_of main_arg3 (by decide) (by decide))).trans ((tail_arg3 m c).trans (V_main_arg3 m c)),
     ((h.1 c).2 main_arg4 (mem_restRefs_of main_arg4 (by decide) (by decide))).trans ((tail_arg4 m c).trans (V_main_arg4 m c)),
     ((h.1 c).2 main_arg5 (mem_restRefs_of main_arg5 (by decide) (by decide))).trans ((tail_arg5 m c).trans (V_main_arg5 m c))⟩)
    (run_main_quiescent m ρ)

/-- The two programs, from the same finite arguments, end with the same results. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hm ha
  refine ⟨_, _, _, _, _, run m g, ?_⟩
  refine (θ_run _ _ _).mono (fun _ h c => ?_) (Cert.ReferenceIdeal.Value.run m' g')
  obtain ⟨a0, a1, a2, a3, a4, a5⟩ := ha c
  obtain ⟨r0, r1, r2, r3, r4, hr⟩ := h c
  refine ⟨r0.trans ?_, r1.trans ?_, r2.trans ?_, r3.trans ?_, r4.trans ?_, hr⟩
  · rw [Cert.ReferenceIdeal.Value.res0, a0, a1, a2, a3, a4, a5]
    exact (same0 hm c).symm
  · rw [Cert.ReferenceIdeal.Value.res1, a0, a1, a2, a3, a4, a5]
    exact (same1 hm c).symm
  · rw [Cert.ReferenceIdeal.Value.res2, a0, a1, a2, a3, a4, a5]
    exact (same2 hm c).symm
  · rw [Cert.ReferenceIdeal.Value.res3, a0, a1, a2, a3, a4, a5]
    exact (same3 hm c).symm
  · rw [Cert.ReferenceIdeal.Value.res4, a0, a1, a2, a3, a5]
    exact (same4 hm c).symm

end Cert.KernelIdeal.Value

end
-- ==== Proof.Product.Value.lean ====
/- The weight gradient's call: the product summed block by block over the rows is the whole product. -/
module

public import proofs.«01_k».proof.Defs
public import proofs.«01_k».proof.Proof.Gen.Kernel2Ideal.Value
public import proofs.«01_k».proof.Proof.Gen.Reference2Ideal.Run
public import proofs.«01_k».proof.Proof.Value.Sums
public import Idealize.ShloMosaic.Lib.Pipeline.ValueKit
public import Idealize.ShloMosaic.Lib.StableHlo.RunRead

@[expose] public section
set_option maxRecDepth 16384

noncomputable section

namespace Cert.Kernel2Ideal.Value

open Cert.Kernel2Ideal Cert.Kernel2Ideal.Gen Cert.Attention Idealize.ShloMosaic Idealize.ShloMosaic.TcCoe Idealize.SL.Sem

/-! ## What a grid point adds -/

section
variable {F : FTy → Type} [FloatOps F]

theorem origin : (![0, 0] : Fin 2 → Nat) = fun _ => 0 := funext fun a => by fin_cases a <;> rfl

variable (c : Dev nD) (i : grid0.Coords) (a2 : Memref sig .tc .vmem S1024x768 .bf16) (h2 : a2.IsWhole) (a3 : Memref sig .tc .vmem S768x1024 .bf16) (h3 : a3.IsWhole)
  (a4 : Memref sig .tc .vmem S1024x1024 .f32) (h4 : a4.IsWhole) (a5 : Memref sig .tc .vmem S1024x1024 .f32) (h5 : a5.IsWhole)
  (x0 : Vec F S1024x768 .bf16) (x1 : Vec F S768x1024 .bf16) (acc : Vec F S1024x1024 .f32)

/-- The first point of a block of columns leaves its product, added to zero. -/
theorem sum_first (hc0 : cond0_0 i) (hc1 : ¬cond0_1 i) : sout0_A_0 c i a2 h2 a3 h3 a4 h4 a5 h5 hc0 hc1 x0 x1 = k0_pay2 (k0_pay1 (F := F)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) origin, View.readCov_unit_zero (S := S1024x1024) _ origin]
  simp only [View.readAt_eq_ld, h2.read_unread, h3.read_unread, View.ld_unit_zero (S := S1024x768) origin, View.ld_unit_zero (S := S768x1024) origin]
/-- A later point adds its product to what it found. -/
theorem sum_inner (hc0 : ¬cond0_0 i) (hc1 : ¬cond0_1 i) : sout0_B_0 c i a2 h2 a3 h3 a4 h4 a5 h5 hc0 hc1 x0 x1 acc = k0_pay2 acc x0 x1 := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero (S := S1024x1024) origin]
  simp only [View.readAt_eq_ld, h2.read_unread, h3.read_unread, h5.read_unread, View.ld_unit_zero (S := S1024x768) origin, View.ld_unit_zero (S := S768x1024) origin, View.ld_unit_zero (S := S1024x1024) origin]
/-- So does the last. -/
theorem sum_last (hc0 : ¬cond0_0 i) (hc1 : cond0_1 i) : sout0_C_0 c i a2 h2 a3 h3 a4 h4 a5 h5 hc0 hc1 x0 x1 acc = k0_pay2 acc x0 x1 := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero (S := S1024x1024) origin]
  simp only [View.readAt_eq_ld, h2.read_unread, h3.read_unread, h5.read_unread, View.ld_unit_zero (S := S1024x768) origin, View.ld_unit_zero (S := S768x1024) origin, View.ld_unit_zero (S := S1024x1024) origin]
/-- The last stores the sum. -/
theorem out_last (hc0 : ¬cond0_0 i) (hc1 : cond0_1 i) : out0_C_2 c i a2 h2 a3 h3 a4 h4 a5 h5 hc0 hc1 x0 x1 acc = k0_pay2 acc x0 x1 := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero (S := S1024x1024) origin, View.readCov_unit_zero (S := S1024x1024) _ origin]
  simp only [View.readAt_eq_ld, h2.read_unread, h3.read_unread, h5.read_unread, View.ld_unit_zero (S := S1024x768) origin, View.ld_unit_zero (S := S768x1024) origin, View.ld_unit_zero (S := S1024x1024) origin]
end

/-! ## The sum, at an index -/

theorem zero_at (x y : Fin 1024) : k0_pay1 (F := Ideal) (ix2 x y) = 0 := by pointwise [k0_pay1]
theorem add_at (acc : Vec Ideal S1024x1024 .f32) (x0 : Vec Ideal S1024x768 .bf16) (x1 : Vec Ideal S768x1024 .bf16) (x y : Fin 1024) :
    k0_pay2 acc x0 x1 (ix2 x y) = acc (ix2 x y) + ∑ r : Fin 768, x0 (ix2 x r) * x1 (ix2 r y) := by pointwise [k0_pay2]

theorem lt_N (t : Fin cfg0.N) : t.val < 44 := lt_of_lt_of_eq t.isLt (show cfg0.N = 44 from N_0)
theorem index0_0 : ∀ t : Fin cfg0.N, win0_0.index t = ![0, t.val % 11] := by decide +kernel
theorem index0_1 : ∀ t : Fin cfg0.N, win0_1.index t = ![t.val % 11, t.val / 11] := by decide +kernel

/-- Row `r` of block `j`. -/
def row (j : ℕ) (hj : j < 11) (r : Fin 768) : Fin 8448 := ⟨768 * j + r.val, by omega⟩
/-- Column `y` of block `j`. -/
def col (j : ℕ) (hj : j < 4) (y : Fin 1024) : Fin 4096 := ⟨1024 * j + y.val, by omega⟩
theorem row_lt (t : Fin cfg0.N) : t.val % 11 < 11 := Nat.mod_lt _ (by decide)
theorem col_lt (t : Fin cfg0.N) : t.val / 11 < 4 := by have := lt_N t; omega

variable (m : (ℓ : Loc nD τ sig) → Buf (Elt Ideal) ℓ) (c : Dev nD)

abbrev in0 : FVec Ideal S8448x1024 .f32 := m (c.tc.loc main_arg0)
abbrev in1 : FVec Ideal S8448x4096 .f32 := m (c.tc.loc main_arg1)

theorem v1_eq : V m c main_v1 = (truncf .bf16 (transpose S1024x8448 [1, 0] (in0 m c) transposes_S8448x1024_S1024x8448_1_0 : FVec Ideal S1024x8448 .f32) bitsLt_bf16_f32 : FVec Ideal S1024x8448 .bf16) := by
  show StableHlo.after (List.flatten [hostOps0]) (fun b => m (c, b)) _ = _
  simp only [hostOps0, List.flatten_cons, List.flatten_nil, List.append_nil]
  after_reads_simp
theorem v2_eq : V m c main_v2 = (truncf .bf16 (in1 m c) bitsLt_bf16_f32 : FVec Ideal S8448x4096 .bf16) := by
  show StableHlo.after (List.flatten [hostOps0]) (fun b => m (c, b)) _ = _
  simp only [hostOps0, List.flatten_cons, List.flatten_nil, List.append_nil]
  after_reads_simp
theorem v1_at (x : Fin 1024) (r : Fin 8448) : V m c main_v1 (ix2 x r) = in0 m c (ix2 r x) := by
  rw [v1_eq]; pointwise
theorem v2_at (r : Fin 8448) (y : Fin 4096) : V m c main_v2 (ix2 r y) = in1 m c (ix2 r y) := by
  rw [v2_eq]; pointwise

theorem iblk_0 (t : Fin cfg0.N) (x : Fin 1024) (r : Fin 768) :
    (iblk m c 0 t : Vec Ideal S1024x768 .bf16) (ix2 x r) = in0 m c (ix2 (row (t.val % 11) (row_lt t) r) x) := by
  rw [← v1_at m c]
  blk_ext [iblk, index0_0 t, row]
theorem iblk_1 (t : Fin cfg0.N) (r : Fin 768) (y : Fin 1024) :
    (iblk m c 1 t : Vec Ideal S768x1024 .bf16) (ix2 r y) = in1 m c (ix2 (row (t.val % 11) (row_lt t) r) (col (t.val / 11) (col_lt t) y)) := by
  rw [← v2_at m c]
  blk_ext [iblk, index0_1 t, row, col]

/-- Row `r`'s part of the product's entry. -/
def term (x : Fin 1024) (y : Fin 4096) (r : Fin 8448) : EReal := in0 m c (ix2 r x) * in1 m c (ix2 r y)

/-- After a point the accumulator holds the sum over the rows met since its block of columns began. -/
theorem scratch_at : ∀ (n : ℕ) (h : n < cfg0.N) (x y : Fin 1024), (outsAt0 m c n h).2 (ix2 x y)
    = ∑ r ∈ Finset.univ.filter (fun r : Fin 8448 => 0 ≤ r.val ∧ r.val < 768 * (n % 11) + 768), term m c x (col (n / 11) (col_lt ⟨n, h⟩) y) r := by
  have step : ∀ (t : Fin cfg0.N) (acc : Vec Ideal S1024x1024 .f32) (x y : Fin 1024),
      acc (ix2 x y) = ∑ r ∈ Finset.univ.filter (fun r : Fin 8448 => 0 ≤ r.val ∧ r.val < 768 * (t.val % 11)), term m c x (col (t.val / 11) (col_lt t) y) r →
      k0_pay2 acc (iblk m c 0 t) (iblk m c 1 t) (ix2 x y)
        = ∑ r ∈ Finset.univ.filter (fun r : Fin 8448 => 0 ≤ r.val ∧ r.val < 768 * (t.val % 11) + 768), term m c x (col (t.val / 11) (col_lt t) y) r := by
    intro t acc x y ha
    rw [add_at, ha, sum_extend _ 0 (768 * (t.val % 11)) 768 (Nat.zero_le _) (by have := row_lt t; omega)]
    exact congrArg (_ + ·) (Finset.sum_congr rfl fun r _ => congrArg₂ (· * ·) (iblk_0 m c t x r) (iblk_1 m c t r y))
  intro n
  induction n with
  | zero =>
    intro h x y
    rw [outsAt0_A m c ⟨0, h⟩ rfl (by dsimp only; omega)]
    dsimp only
    rw [sum_first]
    exact step ⟨0, h⟩ _ x y (by rw [zero_at]; exact (sum_interval_empty _ _).symm)
  | succ n ih =>
    intro h x y
    by_cases h0 : (n + 1) % 11 = 0
    · rw [outsAt0_A m c ⟨n + 1, h⟩ h0 (by dsimp only; omega)]
      dsimp only
      rw [sum_first]
      exact step ⟨n + 1, h⟩ _ x y (by rw [zero_at]; dsimp only; simp only [h0]; exact (sum_interval_empty _ _).symm)
    · have e : (outsAt0 m c n (Nat.lt_of_succ_lt h)).2 (ix2 x y)
          = ∑ r ∈ Finset.univ.filter (fun r : Fin 8448 => 0 ≤ r.val ∧ r.val < 768 * ((n + 1) % 11)), term m c x (col ((n + 1) / 11) (col_lt ⟨n + 1, h⟩) y) r := by
        rw [ih]
        have e1 : 768 * (n % 11) + 768 = 768 * ((n + 1) % 11) := by omega
        have e2 : col (n / 11) (col_lt ⟨n, Nat.lt_of_succ_lt h⟩) y = col ((n + 1) / 11) (col_lt ⟨n + 1, h⟩) y := Fin.ext (by simp only [col]; omega)
        rw [e1, e2]
      by_cases h1 : (n + 1) % 11 = 10
      · rw [outsAt0_C m c ⟨n + 1, h⟩ h0 h1]
        dsimp only
        rw [sum_last]
        exact step ⟨n + 1, h⟩ _ x y e
      · rw [outsAt0_B m c ⟨n + 1, h⟩ h0 h1]
        dsimp only
        rw [sum_inner]
        exact step ⟨n + 1, h⟩ _ x y e

/-- What a last point stores is what it leaves in the accumulator. -/
theorem out_scratch (n : ℕ) (h : n < cfg0.N) (h1 : n % 11 = 10) : (outsAt0 m c n h).1 = (outsAt0 m c n h).2 := by
  rw [outsAt0_C m c ⟨n, h⟩ (by dsimp only; omega) h1]
  dsimp only
  rw [sum_last, out_last]

theorem result_at (x : Fin 1024) (y : Fin 4096) : G2 m c (ix2 x y) = ∑ r : Fin 8448, term m c x y r := by
  have hp : pt2Of (ix2 x y) = 11 * (y.val / 1024) + 10 := by
    show 11 * (4 * (x.val / 1024 - 0) + 1 * (y.val / 1024 - 0)) + 10 = _
    omega
  have hN : (11 * (y.val / 1024) + 10) < cfg0.N := by rw [show cfg0.N = 44 from N_0]; omega
  unfold G2
  rw [dif_pos (by rw [hp]; exact hN), fold0_congr m c _ _ (11 * (y.val / 1024) + 10) (by rw [Nat.zero_add]; exact hN) hp, ← outsAt0_sweep m c _ hN, out_scratch m c _ hN (by omega)]
  have hl : loc2Of (ix2 x y) = ix2 x ⟨y.val % 1024, Nat.mod_lt _ (by decide)⟩ := by
    funext a; apply Fin.ext
    match a with
    | ⟨0, _⟩ => exact Nat.mod_eq_of_lt x.isLt
    | ⟨1, _⟩ => rfl
  rw [hl, scratch_at, sum_interval_all _ _ (by omega)]
  have hc : col ((11 * (y.val / 1024) + 10) / 11) (col_lt ⟨11 * (y.val / 1024) + 10, hN⟩) ⟨y.val % 1024, Nat.mod_lt _ (by decide)⟩ = y := Fin.ext (by simp only [col]; omega)
  rw [hc]

/-- The reference's gradient. -/
abbrev reference (h : FVec Ideal S8448x1024 .f32) (dy : FVec Ideal S8448x4096 .f32) : FVec Ideal S1024x4096 .f32 :=
  transpose S1024x4096 [1, 0] (Host.dotGeneral (F := Ideal) Cert.Reference2Ideal.dot_S8448x4096_S8448x1024_S4096x1024_0_0_1_1_n_n none dy h : FVec Ideal Cert.Reference2Ideal.S4096x1024 .f32)
    Cert.Reference2Ideal.Gen.transposes_S4096x1024_S1024x4096_1_0
theorem reference_at (h : FVec Ideal S8448x1024 .f32) (dy : FVec Ideal S8448x4096 .f32) (x : Fin 1024) (y : Fin 4096) :
    reference h dy (ix2 x y) = ∑ r : Fin 8448, h (ix2 r x) * dy (ix2 r y) := by
  have e : reference h dy (ix2 x y) = ∑ r : Fin 8448, dy (ix2 r y) * h (ix2 r x) := by pointwise [reference]
  exact e.trans (Finset.sum_congr rfl fun r _ => mul_comm _ _)

/-- The call's product is the gradient, whatever the arguments. -/
theorem algebraic : Cert.algebraic_Kernel2Ideal_Reference2Ideal (hKernel2Ideal := Cert.Kernel2Ideal.Gen.facts) (hReference2Ideal := Cert.Reference2Ideal.Gen.facts) := by
  intro m g m' g' _ ha
  refine ⟨_, run m g, ?_⟩
  refine (θ_run _ _ _).mono (fun _ h c => ?_) (Cert.Reference2Ideal.Value.run m' g')
  obtain ⟨a0, a1⟩ := ha c
  obtain ⟨r0, hr⟩ := h c
  refine ⟨r0.trans ?_, hr⟩
  rw [a0, a1]
  refine funext fun (i : S1024x4096.Idx) => ?_
  rw [eq_ix2 i]
  exact (reference_at (in0 m c) (in1 m c) _ _).trans (result_at m c _ _).symm

end Cert.Kernel2Ideal.Value

end
-- ==== Proof.Product.ValueIn.lean ====
/- The call for the gradient of the weights into the mixing layer: the product summed block by block over the rows is the whole product. -/
module

public import proofs.«01_k».proof.Defs
public import proofs.«01_k».proof.Proof.Gen.Kernel4Ideal.Value
public import proofs.«01_k».proof.Proof.Gen.Reference4Ideal.Run
public import proofs.«01_k».proof.Proof.Value.Sums
public import Idealize.ShloMosaic.Lib.Pipeline.ValueKit
public import Idealize.ShloMosaic.Lib.StableHlo.RunRead

@[expose] public section
set_option maxRecDepth 16384

noncomputable section

namespace Cert.Kernel4Ideal.Value

open Cert.Kernel4Ideal Cert.Kernel4Ideal.Gen Cert.Attention Idealize.ShloMosaic Idealize.ShloMosaic.TcCoe Idealize.SL.Sem

/-! ## What a grid point adds -/

section
variable {F : FTy → Type} [FloatOps F]

theorem origin : (![0, 0] : Fin 2 → Nat) = fun _ => 0 := funext fun a => by fin_cases a <;> rfl

variable (c : Dev nD) (i : grid0.Coords) (a2 : Memref sig .tc .vmem S1024x768 .bf16) (h2 : a2.IsWhole) (a3 : Memref sig .tc .vmem S768x2176 .bf16) (h3 : a3.IsWhole)
  (a4 : Memref sig .tc .vmem S1024x2176 .f32) (h4 : a4.IsWhole) (a5 : Memref sig .tc .vmem S1024x2176 .f32) (h5 : a5.IsWhole)
  (x0 : Vec F S1024x768 .bf16) (x1 : Vec F S768x2176 .bf16) (acc : Vec F S1024x2176 .f32)

/-- The first point of a block of columns leaves its product, added to zero. -/
theorem sum_first (hc0 : cond0_0 i) (hc1 : ¬cond0_1 i) : sout0_A_0 c i a2 h2 a3 h3 a4 h4 a5 h5 hc0 hc1 x0 x1 = k0_pay2 (k0_pay1 (F := F)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x2176) origin, View.readCov_unit_zero (S := S1024x2176) _ origin]
  simp only [View.readAt_eq_ld, h2.read_unread, h3.read_unread, View.ld_unit_zero (S := S1024x768) origin, View.ld_unit_zero (S := S768x2176) origin]
/-- A later point adds its product to what it found. -/
theorem sum_inner (hc0 : ¬cond0_0 i) (hc1 : ¬cond0_1 i) : sout0_B_0 c i a2 h2 a3 h3 a4 h4 a5 h5 hc0 hc1 x0 x1 acc = k0_pay2 acc x0 x1 := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero (S := S1024x2176) origin]
  simp only [View.readAt_eq_ld, h2.read_unread, h3.read_unread, h5.read_unread, View.ld_unit_zero (S := S1024x768) origin, View.ld_unit_zero (S := S768x2176) origin, View.ld_unit_zero (S := S1024x2176) origin]
/-- So does the last. -/
theorem sum_last (hc0 : ¬cond0_0 i) (hc1 : cond0_1 i) : sout0_C_0 c i a2 h2 a3 h3 a4 h4 a5 h5 hc0 hc1 x0 x1 acc = k0_pay2 acc x0 x1 := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero (S := S1024x2176) origin]
  simp only [View.readAt_eq_ld, h2.read_unread, h3.read_unread, h5.read_unread, View.ld_unit_zero (S := S1024x768) origin, View.ld_unit_zero (S := S768x2176) origin, View.ld_unit_zero (S := S1024x2176) origin]
/-- The last stores the sum. -/
theorem out_last (hc0 : ¬cond0_0 i) (hc1 : cond0_1 i) : out0_C_2 c i a2 h2 a3 h3 a4 h4 a5 h5 hc0 hc1 x0 x1 acc = k0_pay2 acc x0 x1 := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero (S := S1024x2176) origin, View.readCov_unit_zero (S := S1024x2176) _ origin]
  simp only [View.readAt_eq_ld, h2.read_unread, h3.read_unread, h5.read_unread, View.ld_unit_zero (S := S1024x768) origin, View.ld_unit_zero (S := S768x2176) origin, View.ld_unit_zero (S := S1024x2176) origin]
end

/-! ## The sum, at an index -/

theorem zero_at (x : Fin 1024) (y : Fin 2176) : k0_pay1 (F := Ideal) (ix2 x y) = 0 := by pointwise [k0_pay1]
theorem add_at (acc : Vec Ideal S1024x2176 .f32) (x0 : Vec Ideal S1024x768 .bf16) (x1 : Vec Ideal S768x2176 .bf16) (x : Fin 1024) (y : Fin 2176) :
    k0_pay2 acc x0 x1 (ix2 x y) = acc (ix2 x y) + ∑ r : Fin 768, x0 (ix2 x r) * x1 (ix2 r y) := by pointwise [k0_pay2]

theorem lt_N (t : Fin cfg0.N) : t.val < 11 := lt_of_lt_of_eq t.isLt (show cfg0.N = 11 from N_0)
theorem index0_0 : ∀ t : Fin cfg0.N, win0_0.index t = ![0, t.val % 11] := by decide +kernel
theorem index0_1 : ∀ t : Fin cfg0.N, win0_1.index t = ![t.val % 11, t.val / 11] := by decide +kernel

/-- Row `r` of block `j`. -/
def row (j : ℕ) (hj : j < 11) (r : Fin 768) : Fin 8448 := ⟨768 * j + r.val, by omega⟩
/-- Column `y` of block `j`. -/
def col (j : ℕ) (hj : j < 1) (y : Fin 2176) : Fin 2176 := ⟨2176 * j + y.val, by omega⟩
theorem row_lt (t : Fin cfg0.N) : t.val % 11 < 11 := Nat.mod_lt _ (by decide)
theorem col_lt (t : Fin cfg0.N) : t.val / 11 < 1 := by have := lt_N t; omega

variable (m : (ℓ : Loc nD τ sig) → Buf (Elt Ideal) ℓ) (c : Dev nD)

abbrev in0 : FVec Ideal S8448x1024 .f32 := m (c.tc.loc main_arg0)
abbrev in1 : FVec Ideal S8448x2176 .f32 := m (c.tc.loc main_arg1)

theorem v1_eq : V m c main_v1 = (truncf .bf16 (transpose S1024x8448 [1, 0] (in0 m c) transposes_S8448x1024_S1024x8448_1_0 : FVec Ideal S1024x8448 .f32) bitsLt_bf16_f32 : FVec Ideal S1024x8448 .bf16) := by
  show StableHlo.after (List.flatten [hostOps0]) (fun b => m (c, b)) _ = _
  simp only [hostOps0, List.flatten_cons, List.flatten_nil, List.append_nil]
  after_reads_simp
theorem v2_eq : V m c main_v2 = (truncf .bf16 (in1 m c) bitsLt_bf16_f32 : FVec Ideal S8448x2176 .bf16) := by
  show StableHlo.after (List.flatten [hostOps0]) (fun b => m (c, b)) _ = _
  simp only [hostOps0, List.flatten_cons, List.flatten_nil, List.append_nil]
  after_reads_simp
theorem v1_at (x : Fin 1024) (r : Fin 8448) : V m c main_v1 (ix2 x r) = in0 m c (ix2 r x) := by
  rw [v1_eq]; pointwise
theorem v2_at (r : Fin 8448) (y : Fin 2176) : V m c main_v2 (ix2 r y) = in1 m c (ix2 r y) := by
  rw [v2_eq]; pointwise

theorem iblk_0 (t : Fin cfg0.N) (x : Fin 1024) (r : Fin 768) :
    (iblk m c 0 t : Vec Ideal S1024x768 .bf16) (ix2 x r) = in0 m c (ix2 (row (t.val % 11) (row_lt t) r) x) := by
  rw [← v1_at m c]
  blk_ext [iblk, index0_0 t, row]
theorem iblk_1 (t : Fin cfg0.N) (r : Fin 768) (y : Fin 2176) :
    (iblk m c 1 t : Vec Ideal S768x2176 .bf16) (ix2 r y) = in1 m c (ix2 (row (t.val % 11) (row_lt t) r) (col (t.val / 11) (col_lt t) y)) := by
  rw [← v2_at m c]
  blk_ext [iblk, index0_1 t, row, col]

/-- Row `r`'s part of the product's entry. -/
def term (x : Fin 1024) (y : Fin 2176) (r : Fin 8448) : EReal := in0 m c (ix2 r x) * in1 m c (ix2 r y)

/-- After a point the accumulator holds the sum over the rows met since its block of columns began. -/
theorem scratch_at : ∀ (n : ℕ) (h : n < cfg0.N) (x : Fin 1024) (y : Fin 2176), (outsAt0 m c n h).2 (ix2 x y)
    = ∑ r ∈ Finset.univ.filter (fun r : Fin 8448 => 0 ≤ r.val ∧ r.val < 768 * (n % 11) + 768), term m c x (col (n / 11) (col_lt ⟨n, h⟩) y) r := by
  have step : ∀ (t : Fin cfg0.N) (acc : Vec Ideal S1024x2176 .f32) (x : Fin 1024) (y : Fin 2176),
      acc (ix2 x y) = ∑ r ∈ Finset.univ.filter (fun r : Fin 8448 => 0 ≤ r.val ∧ r.val < 768 * (t.val % 11)), term m c x (col (t.val / 11) (col_lt t) y) r →
      k0_pay2 acc (iblk m c 0 t) (iblk m c 1 t) (ix2 x y)
        = ∑ r ∈ Finset.univ.filter (fun r : Fin 8448 => 0 ≤ r.val ∧ r.val < 768 * (t.val % 11) + 768), term m c x (col (t.val / 11) (col_lt t) y) r := by
    intro t acc x y ha
    rw [add_at, ha, sum_extend _ 0 (768 * (t.val % 11)) 768 (Nat.zero_le _) (by have := row_lt t; omega)]
    exact congrArg (_ + ·) (Finset.sum_congr rfl fun r _ => congrArg₂ (· * ·) (iblk_0 m c t x r) (iblk_1 m c t r y))
  intro n
  induction n with
  | zero =>
    intro h x y
    rw [outsAt0_A m c ⟨0, h⟩ rfl (by dsimp only; omega)]
    dsimp only
    rw [sum_first]
    exact step ⟨0, h⟩ _ x y (by rw [zero_at]; exact (sum_interval_empty _ _).symm)
  | succ n ih =>
    intro h x y
    by_cases h0 : (n + 1) % 11 = 0
    · rw [outsAt0_A m c ⟨n + 1, h⟩ h0 (by dsimp only; omega)]
      dsimp only
      rw [sum_first]
      exact step ⟨n + 1, h⟩ _ x y (by rw [zero_at]; dsimp only; simp only [h0]; exact (sum_interval_empty _ _).symm)
    · have e : (outsAt0 m c n (Nat.lt_of_succ_lt h)).2 (ix2 x y)
          = ∑ r ∈ Finset.univ.filter (fun r : Fin 8448 => 0 ≤ r.val ∧ r.val < 768 * ((n + 1) % 11)), term m c x (col ((n + 1) / 11) (col_lt ⟨n + 1, h⟩) y) r := by
        rw [ih]
        have e1 : 768 * (n % 11) + 768 = 768 * ((n + 1) % 11) := by omega
        have e2 : col (n / 11) (col_lt ⟨n, Nat.lt_of_succ_lt h⟩) y = col ((n + 1) / 11) (col_lt ⟨n + 1, h⟩) y := Fin.ext (by simp only [col]; omega)
        rw [e1, e2]
      by_cases h1 : (n + 1) % 11 = 10
      · rw [outsAt0_C m c ⟨n + 1, h⟩ h0 h1]
        dsimp only
        rw [sum_last]
        exact step ⟨n + 1, h⟩ _ x y e
      · rw [outsAt0_B m c ⟨n + 1, h⟩ h0 h1]
        dsimp only
        rw [sum_inner]
        exact step ⟨n + 1, h⟩ _ x y e

/-- What a last point stores is what it leaves in the accumulator. -/
theorem out_scratch (n : ℕ) (h : n < cfg0.N) (h1 : n % 11 = 10) : (outsAt0 m c n h).1 = (outsAt0 m c n h).2 := by
  rw [outsAt0_C m c ⟨n, h⟩ (by dsimp only; omega) h1]
  dsimp only
  rw [sum_last, out_last]

theorem result_at (x : Fin 1024) (y : Fin 2176) : G2 m c (ix2 x y) = ∑ r : Fin 8448, term m c x y r := by
  have hp : pt2Of (ix2 x y) = 11 * (y.val / 2176) + 10 := by
    show 11 * (1 * (x.val / 1024 - 0) + 1 * (y.val / 2176 - 0)) + 10 = _
    omega
  have hN : (11 * (y.val / 2176) + 10) < cfg0.N := by rw [show cfg0.N = 11 from N_0]; omega
  unfold G2
  rw [dif_pos (by rw [hp]; exact hN), fold0_congr m c _ _ (11 * (y.val / 2176) + 10) (by rw [Nat.zero_add]; exact hN) hp, ← outsAt0_sweep m c _ hN, out_scratch m c _ hN (by omega)]
  have hl : loc2Of (ix2 x y) = ix2 x ⟨y.val % 2176, Nat.mod_lt _ (by decide)⟩ := by
    funext a; apply Fin.ext
    match a with
    | ⟨0, _⟩ => exact Nat.mod_eq_of_lt x.isLt
    | ⟨1, _⟩ => rfl
  rw [hl, scratch_at, sum_interval_all _ _ (by omega)]
  have hc : col ((11 * (y.val / 2176) + 10) / 11) (col_lt ⟨11 * (y.val / 2176) + 10, hN⟩) ⟨y.val % 2176, Nat.mod_lt _ (by decide)⟩ = y := Fin.ext (by simp only [col]; omega)
  rw [hc]

/-- The reference's gradient. -/
abbrev reference (h : FVec Ideal S8448x1024 .f32) (dy : FVec Ideal S8448x2176 .f32) : FVec Ideal S1024x2176 .f32 :=
  transpose S1024x2176 [1, 0] (Host.dotGeneral (F := Ideal) Cert.Reference4Ideal.dot_S8448x2176_S8448x1024_S2176x1024_0_0_1_1_n_n none dy h : FVec Ideal Cert.Reference4Ideal.S2176x1024 .f32)
    Cert.Reference4Ideal.Gen.transposes_S2176x1024_S1024x2176_1_0
theorem reference_at (h : FVec Ideal S8448x1024 .f32) (dy : FVec Ideal S8448x2176 .f32) (x : Fin 1024) (y : Fin 2176) :
    reference h dy (ix2 x y) = ∑ r : Fin 8448, h (ix2 r x) * dy (ix2 r y) := by
  have e : reference h dy (ix2 x y) = ∑ r : Fin 8448, dy (ix2 r y) * h (ix2 r x) := by pointwise [reference]
  exact e.trans (Finset.sum_congr rfl fun r _ => mul_comm _ _)

/-- The call's product is the gradient, whatever the arguments. -/
theorem algebraic : Cert.algebraic_Kernel4Ideal_Reference4Ideal (hKernel4Ideal := Cert.Kernel4Ideal.Gen.facts) (hReference4Ideal := Cert.Reference4Ideal.Gen.facts) := by
  intro m g m' g' _ ha
  refine ⟨_, run m g, ?_⟩
  refine (θ_run _ _ _).mono (fun _ h c => ?_) (Cert.Reference4Ideal.Value.run m' g')
  obtain ⟨a0, a1⟩ := ha c
  obtain ⟨r0, hr⟩ := h c
  refine ⟨r0.trans ?_, hr⟩
  rw [a0, a1]
  refine funext fun (i : S1024x2176.Idx) => ?_
  rw [eq_ix2 i]
  exact (reference_at (in0 m c) (in1 m c) _ _).trans (result_at m c _ _).symm

end Cert.Kernel4Ideal.Value

end
-- ==== Proof.Product.ValueOut.lean ====
/- The call for the gradient of the weights out of the mixing layer: the product summed block by block over the rows is the whole product. -/
module

public import proofs.«01_k».proof.Defs
public import proofs.«01_k».proof.Proof.Gen.Kernel5Ideal.Value
public import proofs.«01_k».proof.Proof.Gen.Reference5Ideal.Run
public import proofs.«01_k».proof.Proof.Value.Sums
public import Idealize.ShloMosaic.Lib.Pipeline.ValueKit
public import Idealize.ShloMosaic.Lib.StableHlo.RunRead

@[expose] public section
set_option maxRecDepth 16384

noncomputable section

namespace Cert.Kernel5Ideal.Value

open Cert.Kernel5Ideal Cert.Kernel5Ideal.Gen Cert.Attention Idealize.ShloMosaic Idealize.ShloMosaic.TcCoe Idealize.SL.Sem

/-! ## What a grid point adds -/

section
variable {F : FTy → Type} [FloatOps F]

theorem origin : (![0, 0] : Fin 2 → Nat) = fun _ => 0 := funext fun a => by fin_cases a <;> rfl

variable (c : Dev nD) (i : grid0.Coords) (a2 : Memref sig .tc .vmem S1024x768 .bf16) (h2 : a2.IsWhole) (a3 : Memref sig .tc .vmem S768x1024 .bf16) (h3 : a3.IsWhole)
  (a4 : Memref sig .tc .vmem S1024x1024 .f32) (h4 : a4.IsWhole) (a5 : Memref sig .tc .vmem S1024x1024 .f32) (h5 : a5.IsWhole)
  (x0 : Vec F S1024x768 .bf16) (x1 : Vec F S768x1024 .bf16) (acc : Vec F S1024x1024 .f32)

/-- The first point of a block of columns leaves its product, added to zero. -/
theorem sum_first (hc0 : cond0_0 i) (hc1 : ¬cond0_1 i) : sout0_A_0 c i a2 h2 a3 h3 a4 h4 a5 h5 hc0 hc1 x0 x1 = k0_pay2 (k0_pay1 (F := F)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1024) origin, View.readCov_unit_zero (S := S1024x1024) _ origin]
  simp only [View.readAt_eq_ld, h2.read_unread, h3.read_unread, View.ld_unit_zero (S := S1024x768) origin, View.ld_unit_zero (S := S768x1024) origin]
/-- A later point adds its product to what it found. -/
theorem sum_inner (hc0 : ¬cond0_0 i) (hc1 : ¬cond0_1 i) : sout0_B_0 c i a2 h2 a3 h3 a4 h4 a5 h5 hc0 hc1 x0 x1 acc = k0_pay2 acc x0 x1 := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero (S := S1024x1024) origin]
  simp only [View.readAt_eq_ld, h2.read_unread, h3.read_unread, h5.read_unread, View.ld_unit_zero (S := S1024x768) origin, View.ld_unit_zero (S := S768x1024) origin, View.ld_unit_zero (S := S1024x1024) origin]
/-- So does the last. -/
theorem sum_last (hc0 : ¬cond0_0 i) (hc1 : cond0_1 i) : sout0_C_0 c i a2 h2 a3 h3 a4 h4 a5 h5 hc0 hc1 x0 x1 acc = k0_pay2 acc x0 x1 := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero (S := S1024x1024) origin]
  simp only [View.readAt_eq_ld, h2.read_unread, h3.read_unread, h5.read_unread, View.ld_unit_zero (S := S1024x768) origin, View.ld_unit_zero (S := S768x1024) origin, View.ld_unit_zero (S := S1024x1024) origin]
/-- The last stores the sum. -/
theorem out_last (hc0 : ¬cond0_0 i) (hc1 : cond0_1 i) : out0_C_2 c i a2 h2 a3 h3 a4 h4 a5 h5 hc0 hc1 x0 x1 acc = k0_pay2 acc x0 x1 := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero (S := S1024x1024) origin, View.readCov_unit_zero (S := S1024x1024) _ origin]
  simp only [View.readAt_eq_ld, h2.read_unread, h3.read_unread, h5.read_unread, View.ld_unit_zero (S := S1024x768) origin, View.ld_unit_zero (S := S768x1024) origin, View.ld_unit_zero (S := S1024x1024) origin]
end

/-! ## The sum, at an index -/

theorem zero_at (x y : Fin 1024) : k0_pay1 (F := Ideal) (ix2 x y) = 0 := by pointwise [k0_pay1]
theorem add_at (acc : Vec Ideal S1024x1024 .f32) (x0 : Vec Ideal S1024x768 .bf16) (x1 : Vec Ideal S768x1024 .bf16) (x y : Fin 1024) :
    k0_pay2 acc x0 x1 (ix2 x y) = acc (ix2 x y) + ∑ r : Fin 768, x0 (ix2 x r) * x1 (ix2 r y) := by pointwise [k0_pay2]

theorem lt_N (t : Fin cfg0.N) : t.val < 11 := lt_of_lt_of_eq t.isLt (show cfg0.N = 11 from N_0)
theorem index0_0 : ∀ t : Fin cfg0.N, win0_0.index t = ![0, t.val % 11] := by decide +kernel
theorem index0_1 : ∀ t : Fin cfg0.N, win0_1.index t = ![t.val % 11, t.val / 11] := by decide +kernel

/-- Row `r` of block `j`. -/
def row (j : ℕ) (hj : j < 11) (r : Fin 768) : Fin 8448 := ⟨768 * j + r.val, by omega⟩
/-- Column `y` of block `j`. -/
def col (j : ℕ) (hj : j < 1) (y : Fin 1024) : Fin 1024 := ⟨1024 * j + y.val, by omega⟩
theorem row_lt (t : Fin cfg0.N) : t.val % 11 < 11 := Nat.mod_lt _ (by decide)
theorem col_lt (t : Fin cfg0.N) : t.val / 11 < 1 := by have := lt_N t; omega

variable (m : (ℓ : Loc nD τ sig) → Buf (Elt Ideal) ℓ) (c : Dev nD)

abbrev in0 : FVec Ideal S8448x1024 .f32 := m (c.tc.loc main_arg0)
abbrev in1 : FVec Ideal S8448x1024 .f32 := m (c.tc.loc main_arg1)

theorem v1_eq : V m c main_v1 = (truncf .bf16 (transpose S1024x8448 [1, 0] (in0 m c) transposes_S8448x1024_S1024x8448_1_0 : FVec Ideal S1024x8448 .f32) bitsLt_bf16_f32 : FVec Ideal S1024x8448 .bf16) := by
  show StableHlo.after (List.flatten [hostOps0]) (fun b => m (c, b)) _ = _
  simp only [hostOps0, List.flatten_cons, List.flatten_nil, List.append_nil]
  after_reads_simp
theorem v2_eq : V m c main_v2 = (truncf .bf16 (in1 m c) bitsLt_bf16_f32 : FVec Ideal S8448x1024 .bf16) := by
  show StableHlo.after (List.flatten [hostOps0]) (fun b => m (c, b)) _ = _
  simp only [hostOps0, List.flatten_cons, List.flatten_nil, List.append_nil]
  after_reads_simp
theorem v1_at (x : Fin 1024) (r : Fin 8448) : V m c main_v1 (ix2 x r) = in0 m c (ix2 r x) := by
  rw [v1_eq]; pointwise
theorem v2_at (r : Fin 8448) (y : Fin 1024) : V m c main_v2 (ix2 r y) = in1 m c (ix2 r y) := by
  rw [v2_eq]; pointwise

theorem iblk_0 (t : Fin cfg0.N) (x : Fin 1024) (r : Fin 768) :
    (iblk m c 0 t : Vec Ideal S1024x768 .bf16) (ix2 x r) = in0 m c (ix2 (row (t.val % 11) (row_lt t) r) x) := by
  rw [← v1_at m c]
  blk_ext [iblk, index0_0 t, row]
theorem iblk_1 (t : Fin cfg0.N) (r : Fin 768) (y : Fin 1024) :
    (iblk m c 1 t : Vec Ideal S768x1024 .bf16) (ix2 r y) = in1 m c (ix2 (row (t.val % 11) (row_lt t) r) (col (t.val / 11) (col_lt t) y)) := by
  rw [← v2_at m c]
  blk_ext [iblk, index0_1 t, row, col]

/-- Row `r`'s part of the product's entry. -/
def term (x : Fin 1024) (y : Fin 1024) (r : Fin 8448) : EReal := in0 m c (ix2 r x) * in1 m c (ix2 r y)

/-- After a point the accumulator holds the sum over the rows met since its block of columns began. -/
theorem scratch_at : ∀ (n : ℕ) (h : n < cfg0.N) (x y : Fin 1024), (outsAt0 m c n h).2 (ix2 x y)
    = ∑ r ∈ Finset.univ.filter (fun r : Fin 8448 => 0 ≤ r.val ∧ r.val < 768 * (n % 11) + 768), term m c x (col (n / 11) (col_lt ⟨n, h⟩) y) r := by
  have step : ∀ (t : Fin cfg0.N) (acc : Vec Ideal S1024x1024 .f32) (x y : Fin 1024),
      acc (ix2 x y) = ∑ r ∈ Finset.univ.filter (fun r : Fin 8448 => 0 ≤ r.val ∧ r.val < 768 * (t.val % 11)), term m c x (col (t.val / 11) (col_lt t) y) r →
      k0_pay2 acc (iblk m c 0 t) (iblk m c 1 t) (ix2 x y)
        = ∑ r ∈ Finset.univ.filter (fun r : Fin 8448 => 0 ≤ r.val ∧ r.val < 768 * (t.val % 11) + 768), term m c x (col (t.val / 11) (col_lt t) y) r := by
    intro t acc x y ha
    rw [add_at, ha, sum_extend _ 0 (768 * (t.val % 11)) 768 (Nat.zero_le _) (by have := row_lt t; omega)]
    exact congrArg (_ + ·) (Finset.sum_congr rfl fun r _ => congrArg₂ (· * ·) (iblk_0 m c t x r) (iblk_1 m c t r y))
  intro n
  induction n with
  | zero =>
    intro h x y
    rw [outsAt0_A m c ⟨0, h⟩ rfl (by dsimp only; omega)]
    dsimp only
    rw [sum_first]
    exact step ⟨0, h⟩ _ x y (by rw [zero_at]; exact (sum_interval_empty _ _).symm)
  | succ n ih =>
    intro h x y
    by_cases h0 : (n + 1) % 11 = 0
    · rw [outsAt0_A m c ⟨n + 1, h⟩ h0 (by dsimp only; omega)]
      dsimp only
      rw [sum_first]
      exact step ⟨n + 1, h⟩ _ x y (by rw [zero_at]; dsimp only; simp only [h0]; exact (sum_interval_empty _ _).symm)
    · have e : (outsAt0 m c n (Nat.lt_of_succ_lt h)).2 (ix2 x y)
          = ∑ r ∈ Finset.univ.filter (fun r : Fin 8448 => 0 ≤ r.val ∧ r.val < 768 * ((n + 1) % 11)), term m c x (col ((n + 1) / 11) (col_lt ⟨n + 1, h⟩) y) r := by
        rw [ih]
        have e1 : 768 * (n % 11) + 768 = 768 * ((n + 1) % 11) := by omega
        have e2 : col (n / 11) (col_lt ⟨n, Nat.lt_of_succ_lt h⟩) y = col ((n + 1) / 11) (col_lt ⟨n + 1, h⟩) y := Fin.ext (by simp only [col]; omega)
        rw [e1, e2]
      by_cases h1 : (n + 1) % 11 = 10
      · rw [outsAt0_C m c ⟨n + 1, h⟩ h0 h1]
        dsimp only
        rw [sum_last]
        exact step ⟨n + 1, h⟩ _ x y e
      · rw [outsAt0_B m c ⟨n + 1, h⟩ h0 h1]
        dsimp only
        rw [sum_inner]
        exact step ⟨n + 1, h⟩ _ x y e

/-- What a last point stores is what it leaves in the accumulator. -/
theorem out_scratch (n : ℕ) (h : n < cfg0.N) (h1 : n % 11 = 10) : (outsAt0 m c n h).1 = (outsAt0 m c n h).2 := by
  rw [outsAt0_C m c ⟨n, h⟩ (by dsimp only; omega) h1]
  dsimp only
  rw [sum_last, out_last]

theorem result_at (x : Fin 1024) (y : Fin 1024) : G2 m c (ix2 x y) = ∑ r : Fin 8448, term m c x y r := by
  have hp : pt2Of (ix2 x y) = 11 * (y.val / 1024) + 10 := by
    show 11 * (1 * (x.val / 1024 - 0) + 1 * (y.val / 1024 - 0)) + 10 = _
    omega
  have hN : (11 * (y.val / 1024) + 10) < cfg0.N := by rw [show cfg0.N = 11 from N_0]; omega
  unfold G2
  rw [dif_pos (by rw [hp]; exact hN), fold0_congr m c _ _ (11 * (y.val / 1024) + 10) (by rw [Nat.zero_add]; exact hN) hp, ← outsAt0_sweep m c _ hN, out_scratch m c _ hN (by omega)]
  have hl : loc2Of (ix2 x y) = ix2 x ⟨y.val % 1024, Nat.mod_lt _ (by decide)⟩ := by
    funext a; apply Fin.ext
    match a with
    | ⟨0, _⟩ => exact Nat.mod_eq_of_lt x.isLt
    | ⟨1, _⟩ => rfl
  rw [hl, scratch_at, sum_interval_all _ _ (by omega)]
  have hc : col ((11 * (y.val / 1024) + 10) / 11) (col_lt ⟨11 * (y.val / 1024) + 10, hN⟩) ⟨y.val % 1024, Nat.mod_lt _ (by decide)⟩ = y := Fin.ext (by simp only [col]; omega)
  rw [hc]

/-- The reference's gradient. -/
abbrev reference (h : FVec Ideal S8448x1024 .f32) (dy : FVec Ideal S8448x1024 .f32) : FVec Ideal S1024x1024 .f32 :=
  transpose S1024x1024 [1, 0] (Host.dotGeneral (F := Ideal) Cert.Reference5Ideal.dot_S8448x1024_S8448x1024_S1024x1024_0_0_1_1_n_n none dy h : FVec Ideal Cert.Reference5Ideal.S1024x1024 .f32)
    Cert.Reference5Ideal.Gen.transposes_S1024x1024_S1024x1024_1_0
theorem reference_at (h : FVec Ideal S8448x1024 .f32) (dy : FVec Ideal S8448x1024 .f32) (x : Fin 1024) (y : Fin 1024) :
    reference h dy (ix2 x y) = ∑ r : Fin 8448, h (ix2 r x) * dy (ix2 r y) := by
  have e : reference h dy (ix2 x y) = ∑ r : Fin 8448, dy (ix2 r y) * h (ix2 r x) := by pointwise [reference]
  exact e.trans (Finset.sum_congr rfl fun r _ => mul_comm _ _)

/-- The call's product is the gradient, whatever the arguments. -/
theorem algebraic : Cert.algebraic_Kernel5Ideal_Reference5Ideal (hKernel5Ideal := Cert.Kernel5Ideal.Gen.facts) (hReference5Ideal := Cert.Reference5Ideal.Gen.facts) := by
  intro m g m' g' _ ha
  refine ⟨_, run m g, ?_⟩
  refine (θ_run _ _ _).mono (fun _ h c => ?_) (Cert.Reference5Ideal.Value.run m' g')
  obtain ⟨a0, a1⟩ := ha c
  obtain ⟨r0, hr⟩ := h c
  refine ⟨r0.trans ?_, hr⟩
  rw [a0, a1]
  refine funext fun (i : S1024x1024.Idx) => ?_
  rw [eq_ix2 i]
  exact (reference_at (in0 m c) (in1 m c) _ _).trans (result_at m c _ _).symm

end Cert.Kernel5Ideal.Value

end
-- ==== Proof.Ffn.Point.lean ====
/- One grid point of the FFN's gradient, as a function of arrays: what the body leaves in the gradient of its rows, in the sums for the
   modulation and the norm's weights, and in the four factors of the weights' gradients. -/
module

public import proofs.«01_k».proof.Proof.Gen.Kernel3Ideal.Frame
public import proofs.«01_k».proof.Proof.Gen.Kernel3Ideal.Skeleton
public import Idealize.ShloMosaic.Lib.VecWindow

@[expose] public section

set_option maxRecDepth 16384

noncomputable section

namespace Cert.Kernel3Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal.Gen

variable {F : FTy → Type} [FloatOps F]

local notation "𝕄" => MT nD τ sig Unit (Elt F) ℕ (UR sig nD τ) ℕ

/-! ## The four chunks of the hidden width -/

def up0 (w1 : Vec F S1024x4096 .bf16) : Vec F S1024x1024 .bf16 := VecWindow.window w1 ![0, 0] S1024x1024.size inb_S1024x4096_S1024x1024_0_0
def up1 (w1 : Vec F S1024x4096 .bf16) : Vec F S1024x1024 .bf16 := VecWindow.window w1 ![0, 1024] S1024x1024.size inb_S1024x4096_S1024x1024_0_1024
def up2 (w1 : Vec F S1024x4096 .bf16) : Vec F S1024x1024 .bf16 := VecWindow.window w1 ![0, 2048] S1024x1024.size inb_S1024x4096_S1024x1024_0_2048
def up3 (w1 : Vec F S1024x4096 .bf16) : Vec F S1024x1024 .bf16 := VecWindow.window w1 ![0, 3072] S1024x1024.size inb_S1024x4096_S1024x1024_0_3072
def down0 (w2 : Vec F S4096x1024 .bf16) : Vec F S1024x1024 .bf16 := VecWindow.window w2 ![0, 0] S1024x1024.size inb_S4096x1024_S1024x1024_0_0
def down1 (w2 : Vec F S4096x1024 .bf16) : Vec F S1024x1024 .bf16 := VecWindow.window w2 ![1024, 0] S1024x1024.size inb_S4096x1024_S1024x1024_1024_0
def down2 (w2 : Vec F S4096x1024 .bf16) : Vec F S1024x1024 .bf16 := VecWindow.window w2 ![2048, 0] S1024x1024.size inb_S4096x1024_S1024x1024_2048_0
def down3 (w2 : Vec F S4096x1024 .bf16) : Vec F S1024x1024 .bf16 := VecWindow.window w2 ![3072, 0] S1024x1024.size inb_S4096x1024_S1024x1024_3072_0

/-- Four blocks of 1024 columns side by side, as the writes that make them. -/
def chunks (a b c d : Vec F S256x1024 .bf16) : List (View.Piece (Elt F) S256x4096 .bf16) :=
  [⟨Rect.unit (s := S256x4096) ![0, 3072] S256x1024.size inb_S256x4096_S256x1024_0_3072, d⟩,
    ⟨Rect.unit (s := S256x4096) ![0, 2048] S256x1024.size inb_S256x4096_S256x1024_0_2048, c⟩,
    ⟨Rect.unit (s := S256x4096) ![0, 1024] S256x1024.size inb_S256x4096_S256x1024_0_1024, b⟩,
    ⟨Rect.unit (s := S256x4096) ![0, 0] S256x1024.size inb_S256x4096_S256x1024_0_0, a⟩]

theorem chunks_cover (a b c d : Vec F S256x1024 .bf16) (y : S256x4096.Idx) : ∃ pc ∈ chunks a b c d, y ∈ pc.1.set :=
  View.cover_of_tiledL (chunks a b c d) S256x1024.size (by sl_kernel_rfl) y

def wide (a b c d : Vec F S256x1024 .bf16) : Vec F S256x4096 .bf16 := View.canon (chunks a b c d)

/-! ## What the body computes -/

section
variable (x dx2 fo : Vec F S256x1024 .f32) (mod : Vec F S1x8x1024 .f32) (nw : Vec F S1x1024 .f32) (w1 : Vec F S1024x4096 .bf16) (w2 : Vec F S4096x1024 .bf16)

/-- The rows after the norm and the modulation, rounded, and the gradient of the block's output, rounded. -/
def hb : FVec F S256x1024 .bf16 := k0_pay10 mod x nw
def gb : FVec F S256x1024 .bf16 := k0_pay11 mod dx2
/-- The first chunk of the hidden rows before the nonlinearity. -/
def first : FVec F S256x1024 .f32 := k0_pay14 mod x nw (up0 w1)

/-- The gradient of the hidden rows before the nonlinearity, and the hidden rows after it. -/
def zpre : Vec F S256x4096 .bf16 :=
  wide (k0_pay17 (gb dx2 mod) (first x mod nw w1) (down0 w2)) (k0_pay20 (hb x mod nw) (gb dx2 mod) (up1 w1) (down1 w2))
    (k0_pay24 (hb x mod nw) (gb dx2 mod) (up2 w1) (down2 w2)) (k0_pay29 (gb dx2 mod) (k0_pay26 (hb x mod nw) (up3 w1)) (k0_pay28 (down3 w2)))
def hidden : Vec F S256x4096 .bf16 :=
  wide (k0_pay16 (first x mod nw w1)) (k0_pay19 (hb x mod nw) (up1 w1)) (k0_pay23 (hb x mod nw) (up2 w1)) (k0_pay27 (hb x mod nw) (up3 w1))

/-- The gradient of the rows after norm and modulation, summed over the first two and the first three chunks. -/
def dh2two : FVec F S256x1024 .f32 :=
  k0_pay21 (hb x mod nw) (gb dx2 mod) (k0_pay13 (F := F)) (first x mod nw w1) (down0 w2) (up0 w1) (up1 w1) (down1 w2) (up1 w1)
def dh2three : FVec F S256x1024 .f32 :=
  k0_pay25 (hb x mod nw) (gb dx2 mod) (dh2two x dx2 mod nw w1 w2) (up2 w1) (down2 w2) (up2 w1)

/-- The modulation's part of the gradient that the norm's side gives. -/
def modHead : FVec F S8x1024 .f32 :=
  k0_pay34 (k0_pay7 x nw) (gb dx2 mod) (dh2three x dx2 mod nw w1 w2) (k0_pay26 (hb x mod nw) (up3 w1)) (k0_pay28 (down3 w2)) (up3 w1)

/-- The gradient of the rows. -/
def dx1 : FVec F S256x1024 .f32 :=
  k0_pay37 dx2 x nw (k0_pay4 x) (k0_pay5 x)
    (k0_pay33 (k0_pay8 mod) (gb dx2 mod) (dh2three x dx2 mod nw w1 w2) (k0_pay26 (hb x mod nw) (up3 w1)) (k0_pay28 (down3 w2)) (up3 w1))
/-- The tile's gradient of the modulation, by itself and added to `s`. -/
def dmod : FVec F S1x8x1024 .f32 := k0_pay39 dx2 (k0_pay12 fo) (modHead x dx2 mod nw w1 w2)
def dmodAdd (s : Vec F S1x8x1024 .f32) : FVec F S1x8x1024 .f32 := k0_pay40 dx2 (k0_pay12 fo) (modHead x dx2 mod nw w1 w2) s
/-- The tile's gradient of the norm's weights, by itself and added to `s`. -/
def dnw : FVec F S1x1024 .f32 :=
  k0_pay36 (k0_pay35 (k0_pay6 x) (k0_pay8 mod) (gb dx2 mod) (dh2three x dx2 mod nw w1 w2) (k0_pay26 (hb x mod nw) (up3 w1)) (k0_pay28 (down3 w2)) (up3 w1))
def dnwAdd (s : Vec F S1x1024 .f32) : FVec F S1x1024 .f32 := k0_pay1 (dnw x dx2 mod nw w1 w2) s
/-- The transposed factors: the gradient of the block's output and the modulated rows. -/
def zf : FVec F S1024x256 .bf16 := k0_pay31 (k0_pay2 mod) dx2
def rows : FVec F S1024x256 .bf16 := k0_pay32 (k0_pay9 mod x nw)
end

section
variable (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S1x8x1024 .f32) (harg9 : arg9.IsWhole) (arg10 : Memref sig .tc .vmem S1x1024 .f32) (harg10 : arg10.IsWhole) (arg11 : Memref sig .tc .vmem S256x4096 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S256x4096 .bf16) (harg14 : arg14.IsWhole)

set_option maxHeartbeats 4000000 in
/-- The first tile, the context rows: every sum starts. -/
theorem point_first (hc1 : k0_cond1 i = 1#1) (hc2 : ¬k0_cond2 i = 1#1) (hc3 : k0_cond3 i = 1#1) (hc4 : ¬k0_cond4 i = 1#1)
    (x dx2 fo : Vec F S256x1024 .f32) (mod : Vec F S1x8x1024 .f32) (nw : Vec F S1x1024 .f32) (w1 : Vec F S1024x4096 .bf16) (w2 : Vec F S4096x1024 .bf16) (K : PUnit → sProp 𝕄) :
    iprop(owns (c : Thread nD τ) arg1 fullShare x ∗ owns (c : Thread nD τ) arg2 fullShare mod ∗ owns (c : Thread nD τ) arg3 fullShare nw ∗ owns (c : Thread nD τ) arg4 fullShare w1 ∗ owns (c : Thread nD τ) arg5 fullShare w2 ∗ owns (c : Thread nD τ) arg6 fullShare dx2 ∗ owns (c : Thread nD τ) arg7 fullShare fo ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg1 fullShare x ∗ owns (c : Thread nD τ) arg2 fullShare mod ∗ owns (c : Thread nD τ) arg3 fullShare nw ∗ owns (c : Thread nD τ) arg4 fullShare w1 ∗ owns (c : Thread nD τ) arg5 fullShare w2 ∗ owns (c : Thread nD τ) arg6 fullShare dx2 ∗ owns (c : Thread nD τ) arg7 fullShare fo ∗ owns (c : Thread nD τ) arg8 fullShare (dx1 x dx2 mod nw w1 w2) ∗ owns (c : Thread nD τ) arg9 fullShare (dmod x dx2 fo mod nw w1 w2) ∗ owns (c : Thread nD τ) arg10 fullShare (dnw x dx2 mod nw w1 w2) ∗ owns (c : Thread nD τ) arg11 fullShare (zpre x dx2 mod nw w1 w2) ∗ owns (c : Thread nD τ) arg12 fullShare (zf dx2 mod) ∗ owns (c : Thread nD τ) arg13 fullShare (rows x mod nw) ∗ owns (c : Thread nD τ) arg14 fullShare (hidden x mod nw w1)) -∗ K ⟨⟩))
    ⊢ wp frame (wpE (defs₀ (F := F)) Variants.none (c : Thread nD τ) none) Set.univ
        (cc0_ffn_bwd0 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn_bwd0_eq_skeleton]; unfold cc0_ffn_bwd0_skel
  simp only [k0_part1_eq_skeleton, k0_part2_eq_skeleton, k0_part3_eq_skeleton, k0_part4_eq_skeleton, k0_part5_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  have e1 : View.readAt (Elt F) arg1.view (Rect.unit (s := S256x1024) ![0, 0] S256x1024.size inb_S256x1024_S256x1024_0_0).toLoadRect f1 = x := (View.readAt_full arg1.view f1 _).trans h1
  have e2 : View.readAt (Elt F) arg2.view (Rect.unit (s := S1x8x1024) ![0, 0, 0] S1x8x1024.size inb_S1x8x1024_S1x8x1024_0_0_0).toLoadRect f2 = mod := (View.readAt_full arg2.view f2 _).trans h2
  have e3 : View.readAt (Elt F) arg3.view (Rect.unit (s := S1x1024) ![0, 0] S1x1024.size inb_S1x1024_S1x1024_0_0).toLoadRect f3 = nw := (View.readAt_full arg3.view f3 _).trans h3
  have e6 : View.readAt (Elt F) arg6.view (Rect.unit (s := S256x1024) ![0, 0] S256x1024.size inb_S256x1024_S256x1024_0_0).toLoadRect f6 = dx2 := (View.readAt_full arg6.view f6 _).trans h6
  have e7 : View.readAt (Elt F) arg7.view (Rect.unit (s := S256x1024) ![0, 0] S256x1024.size inb_S256x1024_S256x1024_0_0).toLoadRect f7 = fo := (View.readAt_full arg7.view f7 _).trans h7
  have e4_0 : View.readAt (Elt F) arg4.view (Rect.unit (s := S1024x4096) ![0, 0] S1024x1024.size inb_S1024x4096_S1024x1024_0_0).toLoadRect f4 = up0 w1 := by subst h4; rfl
  have e4_1 : View.readAt (Elt F) arg4.view (Rect.unit (s := S1024x4096) ![0, 1024] S1024x1024.size inb_S1024x4096_S1024x1024_0_1024).toLoadRect f4 = up1 w1 := by subst h4; rfl
  have e4_2 : View.readAt (Elt F) arg4.view (Rect.unit (s := S1024x4096) ![0, 2048] S1024x1024.size inb_S1024x4096_S1024x1024_0_2048).toLoadRect f4 = up2 w1 := by subst h4; rfl
  have e4_3 : View.readAt (Elt F) arg4.view (Rect.unit (s := S1024x4096) ![0, 3072] S1024x1024.size inb_S1024x4096_S1024x1024_0_3072).toLoadRect f4 = up3 w1 := by subst h4; rfl
  have e5_0 : View.readAt (Elt F) arg5.view (Rect.unit (s := S4096x1024) ![0, 0] S1024x1024.size inb_S4096x1024_S1024x1024_0_0).toLoadRect f5 = down0 w2 := by subst h5; rfl
  have e5_1 : View.readAt (Elt F) arg5.view (Rect.unit (s := S4096x1024) ![1024, 0] S1024x1024.size inb_S4096x1024_S1024x1024_1024_0).toLoadRect f5 = down1 w2 := by subst h5; rfl
  have e5_2 : View.readAt (Elt F) arg5.view (Rect.unit (s := S4096x1024) ![2048, 0] S1024x1024.size inb_S4096x1024_S1024x1024_2048_0).toLoadRect f5 = down2 w2 := by subst h5; rfl
  have e5_3 : View.readAt (Elt F) arg5.view (Rect.unit (s := S4096x1024) ![3072, 0] S1024x1024.size inb_S4096x1024_S1024x1024_3072_0).toLoadRect f5 = down3 w2 := by subst h5; rfl
  sl_exec (disch := first | sl_exact hc1 | sl_exact hc2 | sl_exact hc3 | sl_exact hc4)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro
    sl_unfold_run_names
    exact (View.read_writes_full _ _ _ _ _).trans (by unfold dx1 dh2three dh2two first hb gb; first | done | rfl | simp only [e1, e2, e3, e5_0, e5_1, e5_2, e5_3, e4_0, e4_1, e4_2, e4_3, e6, e7])
  isplitl [H9]
  · iexists _; isplitr; swap; · iexact H9
    ipureintro
    sl_unfold_run_names
    exact (View.read_writes_full _ _ _ _ _).trans (by unfold dmod modHead dh2three dh2two first hb gb; first | done | rfl | simp only [e1, e2, e3, e5_0, e5_1, e5_2, e5_3, e4_0, e4_1, e4_2, e4_3, e6, e7])
  isplitl [H10]
  · iexists _; isplitr; swap; · iexact H10
    ipureintro
    sl_unfold_run_names
    exact (View.read_writes_full _ _ _ _ _).trans (by unfold dnw dh2three dh2two first hb gb; first | done | rfl | simp only [e1, e2, e3, e5_0, e5_1, e5_2, e5_3, e4_0, e4_1, e4_2, e4_3, e6, e7])
  isplitl [H11]
  · iexists _; isplitr; swap; · iexact H11
    ipureintro
    sl_unfold_run_names
    exact (View.read_writes_eq_canon _ _ _ (chunks_cover _ _ _ _)).trans (by unfold zpre wide hb gb first chunks; simp only [e1, e2, e3, e5_0, e5_1, e5_2, e5_3, e4_0, e4_1, e4_2, e4_3, e6, e7])
  isplitl [H12]
  · iexists _; isplitr; swap; · iexact H12
    ipureintro
    sl_unfold_run_names
    exact (View.read_writes_full _ _ _ _ _).trans (by unfold zf; first | done | rfl | simp only [e1, e2, e3, e5_0, e5_1, e5_2, e5_3, e4_0, e4_1, e4_2, e4_3, e6, e7])
  isplitl [H13]
  · iexists _; isplitr; swap; · iexact H13
    ipureintro
    sl_unfold_run_names
    exact (View.read_writes_full _ _ _ _ _).trans (by unfold rows; first | done | rfl | simp only [e1, e2, e3, e5_0, e5_1, e5_2, e5_3, e4_0, e4_1, e4_2, e4_3, e6, e7])
  iexists _; isplitr; swap; · iexact H14
  ipureintro
  sl_unfold_run_names
  exact (View.read_writes_eq_canon _ _ _ (chunks_cover _ _ _ _)).trans (by unfold hidden wide hb first chunks; simp only [e1, e2, e3, e5_0, e5_1, e5_2, e5_3, e4_0, e4_1, e4_2, e4_3, e6, e7])

set_option maxHeartbeats 4000000 in
/-- The first tile of the latent rows: the modulation's sum starts, the other one goes on. -/
theorem point_second (hc1 : k0_cond1 i = 1#1) (hc2 : ¬k0_cond2 i = 1#1) (hc3 : ¬k0_cond3 i = 1#1) (hc4 : k0_cond4 i = 1#1)
    (x dx2 fo : Vec F S256x1024 .f32) (mod : Vec F S1x8x1024 .f32) (nw : Vec F S1x1024 .f32) (w1 : Vec F S1024x4096 .bf16) (w2 : Vec F S4096x1024 .bf16) (sn : Vec F S1x1024 .f32) (K : PUnit → sProp 𝕄) :
    iprop(owns (c : Thread nD τ) arg1 fullShare x ∗ owns (c : Thread nD τ) arg2 fullShare mod ∗ owns (c : Thread nD τ) arg3 fullShare nw ∗ owns (c : Thread nD τ) arg4 fullShare w1 ∗ owns (c : Thread nD τ) arg5 fullShare w2 ∗ owns (c : Thread nD τ) arg6 fullShare dx2 ∗ owns (c : Thread nD τ) arg7 fullShare fo ∗ (∃ d, owns (c : Thread nD τ) arg8 fullShare d) ∗ (∃ d, owns (c : Thread nD τ) arg9 fullShare d) ∗ owns (c : Thread nD τ) arg10 fullShare sn ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg1 fullShare x ∗ owns (c : Thread nD τ) arg2 fullShare mod ∗ owns (c : Thread nD τ) arg3 fullShare nw ∗ owns (c : Thread nD τ) arg4 fullShare w1 ∗ owns (c : Thread nD τ) arg5 fullShare w2 ∗ owns (c : Thread nD τ) arg6 fullShare dx2 ∗ owns (c : Thread nD τ) arg7 fullShare fo ∗ owns (c : Thread nD τ) arg8 fullShare (dx1 x dx2 mod nw w1 w2) ∗ owns (c : Thread nD τ) arg9 fullShare (dmod x dx2 fo mod nw w1 w2) ∗ owns (c : Thread nD τ) arg10 fullShare (dnwAdd x dx2 mod nw w1 w2 sn) ∗ owns (c : Thread nD τ) arg11 fullShare (zpre x dx2 mod nw w1 w2) ∗ owns (c : Thread nD τ) arg12 fullShare (zf dx2 mod) ∗ owns (c : Thread nD τ) arg13 fullShare (rows x mod nw) ∗ owns (c : Thread nD τ) arg14 fullShare (hidden x mod nw w1)) -∗ K ⟨⟩))
    ⊢ wp frame (wpE (defs₀ (F := F)) Variants.none (c : Thread nD τ) none) Set.univ
        (cc0_ffn_bwd0 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn_bwd0_eq_skeleton]; unfold cc0_ffn_bwd0_skel
  simp only [k0_part1_eq_skeleton, k0_part2_eq_skeleton, k0_part3_eq_skeleton, k0_part4_eq_skeleton, k0_part5_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%f10, %h10, H10⟩, ⟨%d11, %f11, -, H11⟩, ⟨%d12, %f12, -, H12⟩, ⟨%d13, %f13, -, H13⟩, ⟨%d14, %f14, -, H14⟩, Hk⟩
  have e1 : View.readAt (Elt F) arg1.view (Rect.unit (s := S256x1024) ![0, 0] S256x1024.size inb_S256x1024_S256x1024_0_0).toLoadRect f1 = x := (View.readAt_full arg1.view f1 _).trans h1
  have e2 : View.readAt (Elt F) arg2.view (Rect.unit (s := S1x8x1024) ![0, 0, 0] S1x8x1024.size inb_S1x8x1024_S1x8x1024_0_0_0).toLoadRect f2 = mod := (View.readAt_full arg2.view f2 _).trans h2
  have e3 : View.readAt (Elt F) arg3.view (Rect.unit (s := S1x1024) ![0, 0] S1x1024.size inb_S1x1024_S1x1024_0_0).toLoadRect f3 = nw := (View.readAt_full arg3.view f3 _).trans h3
  have e6 : View.readAt (Elt F) arg6.view (Rect.unit (s := S256x1024) ![0, 0] S256x1024.size inb_S256x1024_S256x1024_0_0).toLoadRect f6 = dx2 := (View.readAt_full arg6.view f6 _).trans h6
  have e7 : View.readAt (Elt F) arg7.view (Rect.unit (s := S256x1024) ![0, 0] S256x1024.size inb_S256x1024_S256x1024_0_0).toLoadRect f7 = fo := (View.readAt_full arg7.view f7 _).trans h7
  have e10 : View.readAt (Elt F) arg10.view (Rect.unit (s := S1x1024) ![0, 0] S1x1024.size inb_S1x1024_S1x1024_0_0).toLoadRect f10 = sn := (View.readAt_full arg10.view f10 _).trans h10
  have e4_0 : View.readAt (Elt F) arg4.view (Rect.unit (s := S1024x4096) ![0, 0] S1024x1024.size inb_S1024x4096_S1024x1024_0_0).toLoadRect f4 = up0 w1 := by subst h4; rfl
  have e4_1 : View.readAt (Elt F) arg4.view (Rect.unit (s := S1024x4096) ![0, 1024] S1024x1024.size inb_S1024x4096_S1024x1024_0_1024).toLoadRect f4 = up1 w1 := by subst h4; rfl
  have e4_2 : View.readAt (Elt F) arg4.view (Rect.unit (s := S1024x4096) ![0, 2048] S1024x1024.size inb_S1024x4096_S1024x1024_0_2048).toLoadRect f4 = up2 w1 := by subst h4; rfl
  have e4_3 : View.readAt (Elt F) arg4.view (Rect.unit (s := S1024x4096) ![0, 3072] S1024x1024.size inb_S1024x4096_S1024x1024_0_3072).toLoadRect f4 = up3 w1 := by subst h4; rfl
  have e5_0 : View.readAt (Elt F) arg5.view (Rect.unit (s := S4096x1024) ![0, 0] S1024x1024.size inb_S4096x1024_S1024x1024_0_0).toLoadRect f5 = down0 w2 := by subst h5; rfl
  have e5_1 : View.readAt (Elt F) arg5.view (Rect.unit (s := S4096x1024) ![1024, 0] S1024x1024.size inb_S4096x1024_S1024x1024_1024_0).toLoadRect f5 = down1 w2 := by subst h5; rfl
  have e5_2 : View.readAt (Elt F) arg5.view (Rect.unit (s := S4096x1024) ![2048, 0] S1024x1024.size inb_S4096x1024_S1024x1024_2048_0).toLoadRect f5 = down2 w2 := by subst h5; rfl
  have e5_3 : View.readAt (Elt F) arg5.view (Rect.unit (s := S4096x1024) ![3072, 0] S1024x1024.size inb_S4096x1024_S1024x1024_3072_0).toLoadRect f5 = down3 w2 := by subst h5; rfl
  sl_exec (disch := first | sl_exact hc1 | sl_exact hc2 | sl_exact hc3 | sl_exact hc4)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro
    sl_unfold_run_names
    exact (View.read_writes_full _ _ _ _ _).trans (by unfold dx1 dh2three dh2two first hb gb; first | done | rfl | simp only [e1, e2, e3, e5_0, e5_1, e5_2, e5_3, e4_0, e4_1, e4_2, e4_3, e6, e7, e10])
  isplitl [H9]
  · iexists _; isplitr; swap; · iexact H9
    ipureintro
    sl_unfold_run_names
    exact (View.read_writes_full _ _ _ _ _).trans (by unfold dmod modHead dh2three dh2two first hb gb; first | done | rfl | simp only [e1, e2, e3, e5_0, e5_1, e5_2, e5_3, e4_0, e4_1, e4_2, e4_3, e6, e7, e10])
  isplitl [H10]
  · iexists _; isplitr; swap; · iexact H10
    ipureintro
    sl_unfold_run_names
    exact (View.read_writes_full _ _ _ _ _).trans (by unfold dnwAdd dnw dh2three dh2two first hb gb; first | done | rfl | simp only [e1, e2, e3, e5_0, e5_1, e5_2, e5_3, e4_0, e4_1, e4_2, e4_3, e6, e7, e10])
  isplitl [H11]
  · iexists _; isplitr; swap; · iexact H11
    ipureintro
    sl_unfold_run_names
    exact (View.read_writes_eq_canon _ _ _ (chunks_cover _ _ _ _)).trans (by unfold zpre wide hb gb first chunks; simp only [e1, e2, e3, e5_0, e5_1, e5_2, e5_3, e4_0, e4_1, e4_2, e4_3, e6, e7])
  isplitl [H12]
  · iexists _; isplitr; swap; · iexact H12
    ipureintro
    sl_unfold_run_names
    exact (View.read_writes_full _ _ _ _ _).trans (by unfold zf; first | done | rfl | simp only [e1, e2, e3, e5_0, e5_1, e5_2, e5_3, e4_0, e4_1, e4_2, e4_3, e6, e7, e10])
  isplitl [H13]
  · iexists _; isplitr; swap; · iexact H13
    ipureintro
    sl_unfold_run_names
    exact (View.read_writes_full _ _ _ _ _).trans (by unfold rows; first | done | rfl | simp only [e1, e2, e3, e5_0, e5_1, e5_2, e5_3, e4_0, e4_1, e4_2, e4_3, e6, e7, e10])
  iexists _; isplitr; swap; · iexact H14
  ipureintro
  sl_unfold_run_names
  exact (View.read_writes_eq_canon _ _ _ (chunks_cover _ _ _ _)).trans (by unfold hidden wide hb first chunks; simp only [e1, e2, e3, e5_0, e5_1, e5_2, e5_3, e4_0, e4_1, e4_2, e4_3, e6, e7])

set_option maxHeartbeats 4000000 in
/-- A later tile: both sums go on. -/
theorem point_rest (hc1 : ¬k0_cond1 i = 1#1) (hc2 : k0_cond2 i = 1#1) (hc3 : ¬k0_cond3 i = 1#1) (hc4 : k0_cond4 i = 1#1)
    (x dx2 fo : Vec F S256x1024 .f32) (mod : Vec F S1x8x1024 .f32) (nw : Vec F S1x1024 .f32) (w1 : Vec F S1024x4096 .bf16) (w2 : Vec F S4096x1024 .bf16) (sm : Vec F S1x8x1024 .f32) (sn : Vec F S1x1024 .f32) (K : PUnit → sProp 𝕄) :
    iprop(owns (c : Thread nD τ) arg1 fullShare x ∗ owns (c : Thread nD τ) arg2 fullShare mod ∗ owns (c : Thread nD τ) arg3 fullShare nw ∗ owns (c : Thread nD τ) arg4 fullShare w1 ∗ owns (c : Thread nD τ) arg5 fullShare w2 ∗ owns (c : Thread nD τ) arg6 fullShare dx2 ∗ owns (c : Thread nD τ) arg7 fullShare fo ∗ (∃ d, owns (c : Thread nD τ) arg8 fullShare d) ∗ owns (c : Thread nD τ) arg9 fullShare sm ∗ owns (c : Thread nD τ) arg10 fullShare sn ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg1 fullShare x ∗ owns (c : Thread nD τ) arg2 fullShare mod ∗ owns (c : Thread nD τ) arg3 fullShare nw ∗ owns (c : Thread nD τ) arg4 fullShare w1 ∗ owns (c : Thread nD τ) arg5 fullShare w2 ∗ owns (c : Thread nD τ) arg6 fullShare dx2 ∗ owns (c : Thread nD τ) arg7 fullShare fo ∗ owns (c : Thread nD τ) arg8 fullShare (dx1 x dx2 mod nw w1 w2) ∗ owns (c : Thread nD τ) arg9 fullShare (dmodAdd x dx2 fo mod nw w1 w2 sm) ∗ owns (c : Thread nD τ) arg10 fullShare (dnwAdd x dx2 mod nw w1 w2 sn) ∗ owns (c : Thread nD τ) arg11 fullShare (zpre x dx2 mod nw w1 w2) ∗ owns (c : Thread nD τ) arg12 fullShare (zf dx2 mod) ∗ owns (c : Thread nD τ) arg13 fullShare (rows x mod nw) ∗ owns (c : Thread nD τ) arg14 fullShare (hidden x mod nw w1)) -∗ K ⟨⟩))
    ⊢ wp frame (wpE (defs₀ (F := F)) Variants.none (c : Thread nD τ) none) Set.univ
        (cc0_ffn_bwd0 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_ffn_bwd0_eq_skeleton]; unfold cc0_ffn_bwd0_skel
  simp only [k0_part1_eq_skeleton, k0_part2_eq_skeleton, k0_part3_eq_skeleton, k0_part4_eq_skeleton, k0_part5_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, ⟨%d11, %f11, -, H11⟩, ⟨%d12, %f12, -, H12⟩, ⟨%d13, %f13, -, H13⟩, ⟨%d14, %f14, -, H14⟩, Hk⟩
  have e1 : View.readAt (Elt F) arg1.view (Rect.unit (s := S256x1024) ![0, 0] S256x1024.size inb_S256x1024_S256x1024_0_0).toLoadRect f1 = x := (View.readAt_full arg1.view f1 _).trans h1
  have e2 : View.readAt (Elt F) arg2.view (Rect.unit (s := S1x8x1024) ![0, 0, 0] S1x8x1024.size inb_S1x8x1024_S1x8x1024_0_0_0).toLoadRect f2 = mod := (View.readAt_full arg2.view f2 _).trans h2
  have e3 : View.readAt (Elt F) arg3.view (Rect.unit (s := S1x1024) ![0, 0] S1x1024.size inb_S1x1024_S1x1024_0_0).toLoadRect f3 = nw := (View.readAt_full arg3.view f3 _).trans h3
  have e6 : View.readAt (Elt F) arg6.view (Rect.unit (s := S256x1024) ![0, 0] S256x1024.size inb_S256x1024_S256x1024_0_0).toLoadRect f6 = dx2 := (View.readAt_full arg6.view f6 _).trans h6
  have e7 : View.readAt (Elt F) arg7.view (Rect.unit (s := S256x1024) ![0, 0] S256x1024.size inb_S256x1024_S256x1024_0_0).toLoadRect f7 = fo := (View.readAt_full arg7.view f7 _).trans h7
  have e9 : View.readAt (Elt F) arg9.view (Rect.unit (s := S1x8x1024) ![0, 0, 0] S1x8x1024.size inb_S1x8x1024_S1x8x1024_0_0_0).toLoadRect f9 = sm := (View.readAt_full arg9.view f9 _).trans h9
  have e10 : View.readAt (Elt F) arg10.view (Rect.unit (s := S1x1024) ![0, 0] S1x1024.size inb_S1x1024_S1x1024_0_0).toLoadRect f10 = sn := (View.readAt_full arg10.view f10 _).trans h10
  have e4_0 : View.readAt (Elt F) arg4.view (Rect.unit (s := S1024x4096) ![0, 0] S1024x1024.size inb_S1024x4096_S1024x1024_0_0).toLoadRect f4 = up0 w1 := by subst h4; rfl
  have e4_1 : View.readAt (Elt F) arg4.view (Rect.unit (s := S1024x4096) ![0, 1024] S1024x1024.size inb_S1024x4096_S1024x1024_0_1024).toLoadRect f4 = up1 w1 := by subst h4; rfl
  have e4_2 : View.readAt (Elt F) arg4.view (Rect.unit (s := S1024x4096) ![0, 2048] S1024x1024.size inb_S1024x4096_S1024x1024_0_2048).toLoadRect f4 = up2 w1 := by subst h4; rfl
  have e4_3 : View.readAt (Elt F) arg4.view (Rect.unit (s := S1024x4096) ![0, 3072] S1024x1024.size inb_S1024x4096_S1024x1024_0_3072).toLoadRect f4 = up3 w1 := by subst h4; rfl
  have e5_0 : View.readAt (Elt F) arg5.view (Rect.unit (s := S4096x1024) ![0, 0] S1024x1024.size inb_S4096x1024_S1024x1024_0_0).toLoadRect f5 = down0 w2 := by subst h5; rfl
  have e5_1 : View.readAt (Elt F) arg5.view (Rect.unit (s := S4096x1024) ![1024, 0] S1024x1024.size inb_S4096x1024_S1024x1024_1024_0).toLoadRect f5 = down1 w2 := by subst h5; rfl
  have e5_2 : View.readAt (Elt F) arg5.view (Rect.unit (s := S4096x1024) ![2048, 0] S1024x1024.size inb_S4096x1024_S1024x1024_2048_0).toLoadRect f5 = down2 w2 := by subst h5; rfl
  have e5_3 : View.readAt (Elt F) arg5.view (Rect.unit (s := S4096x1024) ![3072, 0] S1024x1024.size inb_S4096x1024_S1024x1024_3072_0).toLoadRect f5 = down3 w2 := by subst h5; rfl
  sl_exec (disch := first | sl_exact hc1 | sl_exact hc2 | sl_exact hc3 | sl_exact hc4)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro
    sl_unfold_run_names
    exact (View.read_writes_full _ _ _ _ _).trans (by unfold dx1 dh2three dh2two first hb gb; first | done | rfl | simp only [e1, e2, e3, e5_0, e5_1, e5_2, e5_3, e4_0, e4_1, e4_2, e4_3, e6, e7, e9, e10])
  isplitl [H9]
  · iexists _; isplitr; swap; · iexact H9
    ipureintro
    sl_unfold_run_names
    exact (View.read_writes_full _ _ _ _ _).trans (by unfold dmodAdd modHead dh2three dh2two first hb gb; first | done | rfl | simp only [e1, e2, e3, e5_0, e5_1, e5_2, e5_3, e4_0, e4_1, e4_2, e4_3, e6, e7, e9, e10])
  isplitl [H10]
  · iexists _; isplitr; swap; · iexact H10
    ipureintro
    sl_unfold_run_names
    exact (View.read_writes_full _ _ _ _ _).trans (by unfold dnwAdd dnw dh2three dh2two first hb gb; first | done | rfl | simp only [e1, e2, e3, e5_0, e5_1, e5_2, e5_3, e4_0, e4_1, e4_2, e4_3, e6, e7, e9, e10])
  isplitl [H11]
  · iexists _; isplitr; swap; · iexact H11
    ipureintro
    sl_unfold_run_names
    exact (View.read_writes_eq_canon _ _ _ (chunks_cover _ _ _ _)).trans (by unfold zpre wide hb gb first chunks; simp only [e1, e2, e3, e5_0, e5_1, e5_2, e5_3, e4_0, e4_1, e4_2, e4_3, e6, e7])
  isplitl [H12]
  · iexists _; isplitr; swap; · iexact H12
    ipureintro
    sl_unfold_run_names
    exact (View.read_writes_full _ _ _ _ _).trans (by unfold zf; first | done | rfl | simp only [e1, e2, e3, e5_0, e5_1, e5_2, e5_3, e4_0, e4_1, e4_2, e4_3, e6, e7, e9, e10])
  isplitl [H13]
  · iexists _; isplitr; swap; · iexact H13
    ipureintro
    sl_unfold_run_names
    exact (View.read_writes_full _ _ _ _ _).trans (by unfold rows; first | done | rfl | simp only [e1, e2, e3, e5_0, e5_1, e5_2, e5_3, e4_0, e4_1, e4_2, e4_3, e6, e7, e9, e10])
  iexists _; isplitr; swap; · iexact H14
  ipureintro
  sl_unfold_run_names
  exact (View.read_writes_eq_canon _ _ _ (chunks_cover _ _ _ _)).trans (by unfold hidden wide hb first chunks; simp only [e1, e2, e3, e5_0, e5_1, e5_2, e5_3, e4_0, e4_1, e4_2, e4_3, e6, e7])

end

end Cert.Kernel3Ideal.Run

end
-- ==== Proof.Ffn.Launch.lean ====
/- The launch of the FFN's gradient: what each window holds after every point of the grid, the body's triple at a point, and the run of
   the whole program, whose final memory the frame and the values read. -/
module

public import proofs.«01_k».proof.Proof.Ffn.Point
public import Idealize.ShloMosaic.Lib.WordCmp
public import Idealize.ShloMosaic.Lib.Claim

@[expose] public section

set_option maxRecDepth 16384

noncomputable section

namespace Cert.Kernel3Ideal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions, by the point -/

theorem cond1_iff (i : grid0.Coords) : k0_cond1 i = 1#1 ↔ (i 0).val ≤ 1 := by
  have hi : (i 0).val < 33 := (i 0).isLt
  simp only [k0_cond1]
  generalize (i 0).val = n at hi ⊢
  revert n; decide +kernel
theorem cond2_iff (i : grid0.Coords) : k0_cond2 i = 1#1 ↔ 2 ≤ (i 0).val := by
  have hi : (i 0).val < 33 := (i 0).isLt
  simp only [k0_cond2]
  generalize (i 0).val = n at hi ⊢
  revert n; decide +kernel
theorem cond3_iff (i : grid0.Coords) : k0_cond3 i = 1#1 ↔ (i 0).val = 0 := by
  have hi : (i 0).val < 33 := (i 0).isLt
  simp only [k0_cond3]
  generalize (i 0).val = n at hi ⊢
  revert n; decide +kernel
theorem cond4_iff (i : grid0.Coords) : k0_cond4 i = 1#1 ↔ 1 ≤ (i 0).val := by
  have hi : (i 0).val < 33 := (i 0).isLt
  simp only [k0_cond4]
  generalize (i 0).val = n at hi ⊢
  revert n; decide +kernel
theorem coord (t : Fin cfg0.N) : (grid0.coords t 0).val = t.val := by
  have ht : t.val < 33 := Nat.lt_of_lt_of_eq t.isLt N_0
  have e : (grid0.coords t 0).val = t.val / 1 % 33 := Pipeline.Grid.coords_val t 0 (by decide) rfl
  omega

/-- Every point writes the sums. -/
theorem live_mod (i : cfg0.grid.Coords) : cfg0.idle 8 i = false := by
  show (!(k0_cond1 i == 1#1) && !(k0_cond2 i == 1#1)) = false
  by_cases h : (i 0).val ≤ 1
  · rw [(cond1_iff i).mpr h]; rfl
  · rw [(cond2_iff i).mpr (by omega), Bool.and_comm]; rfl
theorem live_nw (i : cfg0.grid.Coords) : cfg0.idle 9 i = false := by
  show (!(k0_cond3 i == 1#1) && !(k0_cond4 i == 1#1)) = false
  by_cases h : (i 0).val = 0
  · rw [(cond3_iff i).mpr h]; rfl
  · rw [(cond4_iff i).mpr (by omega), Bool.and_comm]; rfl

/-- The modulation's sums are written back after the context's tile and after the last. -/
theorem flush0_8 : ∀ t : Fin cfg0.N, (cfg0.win 8).flush t = true ↔ t.val = 0 ∨ t.val = 32 :=
  (by decide +kernel : ∀ t : Fin grid0.N, win0_8.flush t = true ↔ t.val = 0 ∨ t.val = 32)

/-! ## What the buffers hold after each point -/

/-- The modulation's sum after point `n`: the context's tile by itself, then the latent rows' tiles. -/
def dmodAt (c : Dev nD) : (n : ℕ) → n < cfg0.N → Vec F S1x8x1024 .f32
  | 0, hn => dmod (iblk m c 0 ⟨0, hn⟩) (iblk m c 5 ⟨0, hn⟩) (iblk m c 6 ⟨0, hn⟩) (iblk m c 1 ⟨0, hn⟩) (iblk m c 2 ⟨0, hn⟩) (iblk m c 3 ⟨0, hn⟩) (iblk m c 4 ⟨0, hn⟩)
  | 1, hn => dmod (iblk m c 0 ⟨1, hn⟩) (iblk m c 5 ⟨1, hn⟩) (iblk m c 6 ⟨1, hn⟩) (iblk m c 1 ⟨1, hn⟩) (iblk m c 2 ⟨1, hn⟩) (iblk m c 3 ⟨1, hn⟩) (iblk m c 4 ⟨1, hn⟩)
  | n + 2, hn => dmodAdd (iblk m c 0 ⟨n + 2, hn⟩) (iblk m c 5 ⟨n + 2, hn⟩) (iblk m c 6 ⟨n + 2, hn⟩) (iblk m c 1 ⟨n + 2, hn⟩) (iblk m c 2 ⟨n + 2, hn⟩) (iblk m c 3 ⟨n + 2, hn⟩) (iblk m c 4 ⟨n + 2, hn⟩) (dmodAt c (n + 1) (by omega))
/-- The norm's weights' sum after point `n`. -/
def dnwAt (c : Dev nD) : (n : ℕ) → n < cfg0.N → Vec F S1x1024 .f32
  | 0, hn => dnw (iblk m c 0 ⟨0, hn⟩) (iblk m c 5 ⟨0, hn⟩) (iblk m c 1 ⟨0, hn⟩) (iblk m c 2 ⟨0, hn⟩) (iblk m c 3 ⟨0, hn⟩) (iblk m c 4 ⟨0, hn⟩)
  | n + 1, hn => dnwAdd (iblk m c 0 ⟨n + 1, hn⟩) (iblk m c 5 ⟨n + 1, hn⟩) (iblk m c 1 ⟨n + 1, hn⟩) (iblk m c 2 ⟨n + 1, hn⟩) (iblk m c 3 ⟨n + 1, hn⟩) (iblk m c 4 ⟨n + 1, hn⟩) (dnwAt c n (by omega))

theorem dmodAt_first (c : Dev nD) (t : Fin cfg0.N) (h : t.val ≤ 1) : dmodAt m c t.val t.isLt = dmod (iblk m c 0 t) (iblk m c 5 t) (iblk m c 6 t) (iblk m c 1 t) (iblk m c 2 t) (iblk m c 3 t) (iblk m c 4 t) := by
  obtain ⟨n, hn⟩ := t
  match n, hn, h with
  | 0, _, _ => rfl
  | 1, _, _ => rfl
theorem dmodAt_next (c : Dev nD) (t u : Fin cfg0.N) (h : 2 ≤ t.val) (hu : u.val = t.val - 1) :
    dmodAt m c t.val t.isLt = dmodAdd (iblk m c 0 t) (iblk m c 5 t) (iblk m c 6 t) (iblk m c 1 t) (iblk m c 2 t) (iblk m c 3 t) (iblk m c 4 t) (dmodAt m c u.val u.isLt) := by
  obtain ⟨n, hn⟩ := t
  obtain ⟨k, hk⟩ := u
  match n, hn, h with
  | n + 2, _, _ => obtain rfl : k = n + 1 := hu; rfl
theorem dnwAt_first (c : Dev nD) (t : Fin cfg0.N) (h : t.val = 0) : dnwAt m c t.val t.isLt = dnw (iblk m c 0 t) (iblk m c 5 t) (iblk m c 1 t) (iblk m c 2 t) (iblk m c 3 t) (iblk m c 4 t) := by
  obtain ⟨n, hn⟩ := t
  obtain rfl : n = 0 := h
  rfl
theorem dnwAt_next (c : Dev nD) (t u : Fin cfg0.N) (h : 1 ≤ t.val) (hu : u.val = t.val - 1) :
    dnwAt m c t.val t.isLt = dnwAdd (iblk m c 0 t) (iblk m c 5 t) (iblk m c 1 t) (iblk m c 2 t) (iblk m c 3 t) (iblk m c 4 t) (dnwAt m c u.val u.isLt) := by
  obtain ⟨n, hn⟩ := t
  obtain ⟨k, hk⟩ := u
  match n, hn, h with
  | n + 1, _, _ => obtain rfl : k = n := hu; rfl

/-! ## The kernel's memrefs at a point -/

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x4096 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x4096 .bf16 := win0_13.stage (cfg0.slots t 13)
abbrev hs0_13 (t : Fin cfg0.N) : (ms0_13 t).IsWhole := hstage0_13 ((cfg0.slots t 13).cast nbuf0_13)

/-! ## The pipeline's proof data -/

/-- Each input's buffer at its block, the outputs at what the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dx1 (iblk m c 0 t) (iblk m c 5 t) (iblk m c 1 t) (iblk m c 2 t) (iblk m c 3 t) (iblk m c 4 t)
    | ⟨8, _⟩ => dmodAt m c t.val t.isLt
    | ⟨9, _⟩ => dnwAt m c t.val t.isLt
    | ⟨10, _⟩ => zpre (iblk m c 0 t) (iblk m c 5 t) (iblk m c 1 t) (iblk m c 2 t) (iblk m c 3 t) (iblk m c 4 t)
    | ⟨11, _⟩ => zf (iblk m c 5 t) (iblk m c 1 t)
    | ⟨12, _⟩ => rows (iblk m c 0 t) (iblk m c 1 t) (iblk m c 2 t)
    | ⟨13, _⟩ => hidden (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dx1 (iblk m c 0 t) (iblk m c 5 t) (iblk m c 1 t) (iblk m c 2 t) (iblk m c 3 t) (iblk m c 4 t) := by dsimp only [dats]
theorem after0_8 (c : Dev nD) (t : Fin cfg0.N) : (dats m 0 c).after 8 t = dmodAt m c t.val t.isLt := by dsimp only [dats]
theorem after0_9 (c : Dev nD) (t : Fin cfg0.N) : (dats m 0 c).after 9 t = dnwAt m c t.val t.isLt := by dsimp only [dats]
theorem after0_10 (c : Dev nD) (t : Fin cfg0.N) : (dats m 0 c).after 10 t = zpre (iblk m c 0 t) (iblk m c 5 t) (iblk m c 1 t) (iblk m c 2 t) (iblk m c 3 t) (iblk m c 4 t) := by dsimp only [dats]
theorem after0_11 (c : Dev nD) (t : Fin cfg0.N) : (dats m 0 c).after 11 t = zf (iblk m c 5 t) (iblk m c 1 t) := by dsimp only [dats]
theorem after0_12 (c : Dev nD) (t : Fin cfg0.N) : (dats m 0 c).after 12 t = rows (iblk m c 0 t) (iblk m c 1 t) (iblk m c 2 t) := by dsimp only [dats]
theorem after0_13 (c : Dev nD) (t : Fin cfg0.N) : (dats m 0 c).after 13 t = hidden (iblk m c 0 t) (iblk m c 1 t) (iblk m c 2 t) (iblk m c 3 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
/-- Past the first tile of its kind the modulation's sum is what the point before left. -/
theorem before0_8 (c : Dev nD) (t u : Fin cfg0.N) (h : 2 ≤ t.val) (hu : u.val = t.val - 1) (d) :
    (dats m 0 c).before 8 t d = dmodAt m c u.val u.isLt := by
  obtain rfl : u = ⟨t.val - 1, Nat.lt_of_le_of_lt (Nat.sub_le _ _) t.isLt⟩ := Fin.ext hu
  have ht : t.val < 33 := lt_of_lt_of_eq t.isLt (show cfg0.N = 33 from N_0)
  rw [(dats m 0 c).before_out_kept 8 rfl t (by omega) (by
      rw [← Bool.not_eq_true, flush0_8]; dsimp only; omega) live_mod (fun _ _ => rfl), after0_8]
theorem before0_9 (c : Dev nD) (t u : Fin cfg0.N) (h : 1 ≤ t.val) (hu : u.val = t.val - 1) (d) :
    (dats m 0 c).before 9 t d = dnwAt m c u.val u.isLt := by
  obtain rfl : u = ⟨t.val - 1, Nat.lt_of_le_of_lt (Nat.sub_le _ _) t.isLt⟩ := Fin.ext hu
  have ht : t.val < 33 := lt_of_lt_of_eq t.isLt (show cfg0.N = 33 from N_0)
  rw [(dats m 0 c).before_out_kept 9 rfl t (by omega) (by
      rw [← Bool.not_eq_true, flush0_9]; dsimp only; omega) live_nw (fun _ _ => rfl), after0_9]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0_0 t) fullShare ((dats m 0 c).after 0 t) from by
    unfold Dat.leavesExact; rw [show cfg0.idle 0 (cfg0.grid.coords t) = false from rfl], after0_0]
  rw [show (dats m 0 c).leavesExact 1 t = owns (c : Thread nD τ) (ms0_1 t) fullShare ((dats m 0 c).after 1 t) from by
    unfold Dat.leavesExact; rw [show cfg0.idle 1 (cfg0.grid.coords t) = false from rfl], after0_1]
  rw [show (dats m 0 c).leavesExact 2 t = owns (c : Thread nD τ) (ms0_2 t) fullShare ((dats m 0 c).after 2 t) from by
    unfold Dat.leavesExact; rw [show cfg0.idle 2 (cfg0.grid.coords t) = false from rfl], after0_2]
  rw [show (dats m 0 c).leavesExact 3 t = owns (c : Thread nD τ) (ms0_3 t) fullShare ((dats m 0 c).after 3 t) from by
    unfold Dat.leavesExact; rw [show cfg0.idle 3 (cfg0.grid.coords t) = false from rfl], after0_3]
  rw [show (dats m 0 c).leavesExact 4 t = owns (c : Thread nD τ) (ms0_4 t) fullShare ((dats m 0 c).after 4 t) from by
    unfold Dat.leavesExact; rw [show cfg0.idle 4 (cfg0.grid.coords t) = false from rfl], after0_4]
  rw [show (dats m 0 c).leavesExact 5 t = owns (c : Thread nD τ) (ms0_5 t) fullShare ((dats m 0 c).after 5 t) from by
    unfold Dat.leavesExact; rw [show cfg0.idle 5 (cfg0.grid.coords t) = false from rfl], after0_5]
  rw [show (dats m 0 c).leavesExact 6 t = owns (c : Thread nD τ) (ms0_6 t) fullShare ((dats m 0 c).after 6 t) from by
    unfold Dat.leavesExact; rw [show cfg0.idle 6 (cfg0.grid.coords t) = false from rfl], after0_6]
  rw [show (dats m 0 c).leavesExact 7 t = owns (c : Thread nD τ) (ms0_7 t) fullShare ((dats m 0 c).after 7 t) from by
    unfold Dat.leavesExact; rw [show cfg0.idle 7 (cfg0.grid.coords t) = false from rfl], after0_7]
  rw [show (dats m 0 c).leavesExact 8 t = owns (c : Thread nD τ) (ms0_8 t) fullShare ((dats m 0 c).after 8 t) from by
    unfold Dat.leavesExact; rw [show cfg0.idle 8 (cfg0.grid.coords t) = false from live_mod _], after0_8]
  rw [show (dats m 0 c).leavesExact 9 t = owns (c : Thread nD τ) (ms0_9 t) fullShare ((dats m 0 c).after 9 t) from by
    unfold Dat.leavesExact; rw [show cfg0.idle 9 (cfg0.grid.coords t) = false from live_nw _], after0_9]
  rw [show (dats m 0 c).leavesExact 10 t = owns (c : Thread nD τ) (ms0_10 t) fullShare ((dats m 0 c).after 10 t) from by
    unfold Dat.leavesExact; rw [show cfg0.idle 10 (cfg0.grid.coords t) = false from rfl], after0_10]
  rw [show (dats m 0 c).leavesExact 11 t = owns (c : Thread nD τ) (ms0_11 t) fullShare ((dats m 0 c).after 11 t) from by
    unfold Dat.leavesExact; rw [show cfg0.idle 11 (cfg0.grid.coords t) = false from rfl], after0_11]
  rw [show (dats m 0 c).leavesExact 12 t = owns (c : Thread nD τ) (ms0_12 t) fullShare ((dats m 0 c).after 12 t) from by
    unfold Dat.leavesExact; rw [show cfg0.idle 12 (cfg0.grid.coords t) = false from rfl], after0_12]
  rw [show (dats m 0 c).leavesExact 13 t = owns (c : Thread nD τ) (ms0_13 t) fullShare ((dats m 0 c).after 13 t) from by
    unfold Dat.leavesExact; rw [show cfg0.idle 13 (cfg0.grid.coords t) = false from rfl], after0_13]
  have hN : t.val < 33 := lt_of_lt_of_eq t.isLt (show cfg0.N = 33 from N_0)
  by_cases h0 : t.val = 0
  · rw [dmodAt_first m c t (by omega), dnwAt_first m c t h0]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (point_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((cond1_iff _).mpr (by rw [coord]; omega)) (fun h => by rw [cond2_iff, coord] at h; omega) ((cond3_iff _).mpr (by rw [coord]; omega)) (fun h => by rw [cond4_iff, coord] at h; omega) (iblk m c 0 t) (iblk m c 5 t) (iblk m c 6 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  have hu : t.val - 1 < cfg0.N := Nat.lt_of_le_of_lt (Nat.sub_le _ _) t.isLt
  by_cases h1 : t.val = 1
  · simp only [before0_9 m c t ⟨t.val - 1, hu⟩ (by omega) rfl]
    rw [dmodAt_first m c t (by omega), dnwAt_next m c t ⟨t.val - 1, hu⟩ (by omega) rfl]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (point_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((cond1_iff _).mpr (by rw [coord]; omega)) (fun h => by rw [cond2_iff, coord] at h; omega) (fun h => by rw [cond3_iff, coord] at h; omega) ((cond4_iff _).mpr (by rw [coord]; omega)) (iblk m c 0 t) (iblk m c 5 t) (iblk m c 6 t) (iblk m c 1 t) (iblk m c 2 t) (iblk m c 3 t) (iblk m c 4 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before0_9 m c t ⟨t.val - 1, hu⟩ (by omega) rfl, before0_8 m c t ⟨t.val - 1, hu⟩ (by omega) rfl]
    rw [dmodAt_next m c t ⟨t.val - 1, hu⟩ (by omega) rfl, dnwAt_next m c t ⟨t.val - 1, hu⟩ (by omega) rfl]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (point_rest c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => by rw [cond1_iff, coord] at h; omega) ((cond2_iff _).mpr (by rw [coord]; omega)) (fun h => by rw [cond3_iff, coord] at h; omega) ((cond4_iff _).mpr (by rw [coord]; omega)) (iblk m c 0 t) (iblk m c 5 t) (iblk m c 6 t) (iblk m c 1 t) (iblk m c 2 t) (iblk m c 3 t) (iblk m c 4 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HP]; · iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = Pipeline.ΦA spec0 c from rfl]

set_option backward.isDefEq.respectTransparency.types false in
/-- Every execution of @main ends, with the arrays the pipeline writes at their computed contents, every other unscoped buffer as the
    region found it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel3Ideal.Run

end
-- ==== Proof.Ffn.Stages.lean ====
/- The reference's results in stages. -/
module

public import proofs.«01_k».proof.Reference3Ideal
public import proofs.«01_k».proof.Proof.Gen.Reference3Ideal
public import proofs.«01_k».proof.Proof.Gen.Reference3Ideal.Run
public import Idealize.ShloMosaic.Lib.Pointwise

@[expose] public section
set_option maxRecDepth 16384

noncomputable section

namespace Cert.Reference3Ideal.Value

open Cert.Reference3Ideal Cert.Reference3Ideal.Gen Idealize.ShloMosaic Idealize.ShloMosaic.TcCoe

def zeroD : FVec Ideal S8448x1024 .f32 := broadcastInDim S8448x1024 ![] bcast_S_S8448x1024 (constant S_ .f32 0x00000000#32)
def zeroF : FVec Ideal S8448x4096 .f32 := broadcastInDim S8448x4096 ![] bcast_S_S8448x4096 (constant S_ .f32 0x00000000#32)

/-- Which rows are the context's. -/
def isCtx : IVec S8448x1024 1 :=
  broadcastInDim S8448x1024 ![0, 1] bcast_S8448x1_S8448x1024_0_1
    (cmpi .slt (broadcastInDim S8448x1 ![0] bcast_S8448_S8448x1_0 (iotaInDim S8448 32 0)) (broadcastInDim S8448x1 ![] bcast_S_S8448x1 (constantI S_ 32 256#32)))

/-- The modulation's rows 3, 4 and 5, each of the context or of the latents. -/
def along (a : FVec Ideal S1x1x1024 .f32) : FVec Ideal S8448x1024 .f32 :=
  broadcastInDim S8448x1024 ![1] bcast_S1024_S8448x1024_1 (shapeCast S1024 a shapeCasts_S1x1x1024_S1024 : FVec Ideal S1024 .f32)
def mod3 (a : FVec Ideal S2x8x1024 .f32) : FVec Ideal S8448x1024 .f32 :=
  select isCtx (along (extractStridedSlice S1x1x1024 ![0, 3, 0] a slices_S2x8x1024_S1x1x1024_0_3_0)) (along (extractStridedSlice S1x1x1024 ![1, 3, 0] a slices_S2x8x1024_S1x1x1024_1_3_0))
def mod4 (a : FVec Ideal S2x8x1024 .f32) : FVec Ideal S8448x1024 .f32 :=
  select isCtx (along (extractStridedSlice S1x1x1024 ![0, 4, 0] a slices_S2x8x1024_S1x1x1024_0_4_0)) (along (extractStridedSlice S1x1x1024 ![1, 4, 0] a slices_S2x8x1024_S1x1x1024_1_4_0))
def mod5 (a : FVec Ideal S2x8x1024 .f32) : FVec Ideal S8448x1024 .f32 :=
  select isCtx (along (extractStridedSlice S1x1x1024 ![0, 5, 0] a slices_S2x8x1024_S1x1x1024_0_5_0)) (along (extractStridedSlice S1x1x1024 ![1, 5, 0] a slices_S2x8x1024_S1x1x1024_1_5_0))

section
variable (x : FVec Ideal S8448x1024 .f32)
/-- The mean square, the inverse root and its derivative. -/
def meanSq : FVec Ideal S8448x1 .f32 :=
  addf (Host.divf (broadcastInDim S8448x1 ![0] bcast_S8448_S8448x1_0 (Host.reduceAdd (mulf x x) (constant S_ .f32 0x00000000#32) reducesTo_S8448x1024_S8448_d1 h_S_))
    (broadcastInDim S8448x1 ![] bcast_S_S8448x1 (constant S_ .f32 0x44800000#32))) (broadcastInDim S8448x1 ![] bcast_S_S8448x1 (constant S_ .f32 0x358637BD#32))
def root : FVec Ideal S8448x1 .f32 := Host.rsqrt (meanSq x)
def slope : FVec Ideal S8448x1 .f32 := mulf (broadcastInDim S8448x1 ![] bcast_S_S8448x1 (constant S_ .f32 0xBF000000#32)) (Host.divf (root x) (meanSq x))
/-- The rows scaled by it. -/
def scaled : FVec Ideal S8448x1024 .f32 := mulf x (broadcastInDim S8448x1024 ![0, 1] bcast_S8448x1_S8448x1024_0_1 (root x))
end

/-- The norm's weights along the rows, and the modulation's scale. -/
def weights (nw : FVec Ideal S1x1024 .f32) : FVec Ideal S8448x1024 .f32 :=
  broadcastInDim S8448x1024 ![0, 1] bcast_S1x1024_S8448x1024_0_1 (broadcastInDim S1x1024 ![1] bcast_S1024_S1x1024_1 (shapeCast S1024 nw shapeCasts_S1x1024_S1024 : FVec Ideal S1024 .f32))
def gain (a : FVec Ideal S2x8x1024 .f32) : FVec Ideal S8448x1024 .f32 :=
  addf (broadcastInDim S8448x1024 ![] bcast_S_S8448x1024 (constant S_ .f32 0x3F800000#32)) (mod4 a)

section
variable (x : FVec Ideal S8448x1024 .f32) (a : FVec Ideal S2x8x1024 .f32) (nw : FVec Ideal S1x1024 .f32) (w1 : FVec Ideal S1024x4096 .f32)
  (w2 : FVec Ideal S4096x1024 .f32) (g : FVec Ideal S8448x1024 .f32)

/-! The forward values. -/
def normed := mulf (scaled x) (weights nw)
def rows := addf (mulf (normed x nw) (gain a)) (mod3 a)
def pre := addf (Host.dotGeneral dot_S8448x1024_S1024x4096_S8448x4096_1_0_0_1_n_n none (rows x a nw) w1) zeroF
def act := maximumf (pre x a nw w1) zeroF
def sq := mulf (act x a nw w1) (act x a nw w1)
def out := addf (Host.dotGeneral dot_S8448x4096_S4096x1024_S8448x1024_1_0_0_1_n_n none (sq x a nw w1) w2) zeroD

/-! The gradients. -/
def grad : FVec Ideal S8448x1024 .f32 := shapeCast S8448x1024 g shapeCasts_S8448x1024_S8448x1024
def dout := mulf (mod5 a) (grad g)
def dsq := Host.dotGeneral dot_S8448x1024_S4096x1024_S8448x4096_1_1_0_0_n_n none (dout a g) w2
def dpre := select (cmpf .ogt (pre x a nw w1) zeroF) (addf (mulf (act x a nw w1) (dsq a w2 g)) (mulf (dsq a w2 g) (act x a nw w1))) zeroF
def drows := Host.dotGeneral dot_S8448x4096_S1024x4096_S8448x1024_1_1_0_0_n_n none (dpre x a nw w1 w2 g) w1
def dnormed := mulf (drows x a nw w1 w2 g) (gain a)
def dscaled := mulf (dnormed x a nw w1 w2 g) (weights nw)
def dmean : FVec Ideal S8448x1 .f32 := Host.divf (mulf (shapeCast S8448x1 (Host.reduceAdd (mulf x (dscaled x a nw w1 w2 g)) (constant S_ .f32 0x00000000#32) reducesTo_S8448x1024_S8448_d1 h_S_) shapeCasts_S8448_S8448x1)
    (slope x)) (broadcastInDim S8448x1 ![] bcast_S_S8448x1 (constant S_ .f32 0x44800000#32))
def dsquare : FVec Ideal S8448x1024 .f32 :=
  broadcastInDim S8448x1024 ![0] bcast_S8448_S8448x1024_0 (Host.reduceAdd (dmean x a nw w1 w2 g) (constant S_ .f32 0x00000000#32) reducesTo_S8448x1_S8448_d1 h_S_)

/-! The results. -/
def dx := addf (addf (addf g (mulf (dscaled x a nw w1 w2 g) (broadcastInDim S8448x1024 ![0, 1] bcast_S8448x1_S8448x1024_0_1 (root x)))) (mulf x (dsquare x a nw w1 w2 g)))
  (mulf (dsquare x a nw w1 w2 g) x)
def dnw : FVec Ideal S1x1024 .f32 :=
  broadcastInDim S1x1024 ![1] bcast_S1024_S1x1024_1 (Host.reduceAdd (shapeCast S1x1024 (Host.reduceAdd (mulf (scaled x) (dnormed x a nw w1 w2 g)) (constant S_ .f32 0x00000000#32)
    reducesTo_S8448x1024_S1024_d0 h_S_) shapeCasts_S1024_S1x1024 : FVec Ideal S1x1024 .f32) (constant S_ .f32 0x00000000#32) reducesTo_S1x1024_S1024_d0 h_S_)

/-- The sums of the latent rows and of the context's rows. -/
def ofLat (y : FVec Ideal S8448x1024 .f32) : FVec Ideal S1x1x1024 .f32 :=
  broadcastInDim S1x1x1024 ![2] bcast_S1024_S1x1x1024_2 (Host.reduceAdd (select isCtx zeroD y) (constant S_ .f32 0x00000000#32) reducesTo_S8448x1024_S1024_d0 h_S_)
def ofCtx (y : FVec Ideal S8448x1024 .f32) : FVec Ideal S1x1x1024 .f32 :=
  broadcastInDim S1x1x1024 ![2] bcast_S1024_S1x1x1024_2 (Host.reduceAdd (select isCtx y zeroD) (constant S_ .f32 0x00000000#32) reducesTo_S8448x1024_S1024_d0 h_S_)
def lat5 (y : FVec Ideal S1x1x1024 .f32) := pad S2x8x1024 ![1, 5, 0] ![0, 2, 0] ![0, 0, 0] y (constant S_ .f32 0x00000000#32) pads_S1x1x1024_S2x8x1024_100_520_000 h_S_
def ctx5 (y : FVec Ideal S1x1x1024 .f32) := pad S2x8x1024 ![0, 5, 0] ![1, 2, 0] ![0, 0, 0] y (constant S_ .f32 0x00000000#32) pads_S1x1x1024_S2x8x1024_010_520_000 h_S_
def lat3 (y : FVec Ideal S1x1x1024 .f32) := pad S2x8x1024 ![1, 3, 0] ![0, 4, 0] ![0, 0, 0] y (constant S_ .f32 0x00000000#32) pads_S1x1x1024_S2x8x1024_100_340_000 h_S_
def ctx3 (y : FVec Ideal S1x1x1024 .f32) := pad S2x8x1024 ![0, 3, 0] ![1, 4, 0] ![0, 0, 0] y (constant S_ .f32 0x00000000#32) pads_S1x1x1024_S2x8x1024_010_340_000 h_S_
def lat4 (y : FVec Ideal S1x1x1024 .f32) := pad S2x8x1024 ![1, 4, 0] ![0, 3, 0] ![0, 0, 0] y (constant S_ .f32 0x00000000#32) pads_S1x1x1024_S2x8x1024_100_430_000 h_S_
def ctx4 (y : FVec Ideal S1x1x1024 .f32) := pad S2x8x1024 ![0, 4, 0] ![1, 3, 0] ![0, 0, 0] y (constant S_ .f32 0x00000000#32) pads_S1x1x1024_S2x8x1024_010_430_000 h_S_

/-- What the gate's, the shift's and the scale's gradients sum. -/
def gated := mulf (grad g) (out x a nw w1 w2)
def shifted := drows x a nw w1 w2 g
def gained := mulf (normed x nw) (drows x a nw w1 w2 g)
def dmod : FVec Ideal S2x8x1024 .f32 :=
  addf (addf (addf (addf (addf (lat5 (ofLat (gated x a nw w1 w2 g))) (ctx5 (ofCtx (gated x a nw w1 w2 g)))) (lat3 (ofLat (shifted x a nw w1 w2 g)))) (ctx3 (ofCtx (shifted x a nw w1 w2 g))))
    (lat4 (ofLat (gained x a nw w1 w2 g)))) (ctx4 (ofCtx (gained x a nw w1 w2 g)))
def dpreB : FVec Ideal S8448x4096 .bf16 := truncf .bf16 (dpre x a nw w1 w2 g) bitsLt_bf16_f32
def doutT : FVec Ideal S1024x8448 .bf16 := truncf .bf16 (transpose S1024x8448 [1, 0] (dout a g) transposes_S8448x1024_S1024x8448_1_0) bitsLt_bf16_f32
def rowsT : FVec Ideal S1024x8448 .bf16 := truncf .bf16 (transpose S1024x8448 [1, 0] (rows x a nw) transposes_S8448x1024_S1024x8448_1_0) bitsLt_bf16_f32
def sqB : FVec Ideal S8448x4096 .bf16 := truncf .bf16 (sq x a nw w1) bitsLt_bf16_f32
end

/-! ## The results are these -/

section
variable (m : (ℓ : Loc nD τ sig) → Buf (Elt Ideal) ℓ) (c : Dev nD)
abbrev in0 : FVec Ideal S8448x1024 .f32 := m (c.tc.loc main_arg0)
abbrev in1 : FVec Ideal S2x8x1024 .f32 := m (c.tc.loc main_arg1)
abbrev in2 : FVec Ideal S1x1024 .f32 := m (c.tc.loc main_arg2)
abbrev in3 : FVec Ideal S1024x4096 .f32 := m (c.tc.loc main_arg3)
abbrev in4 : FVec Ideal S4096x1024 .f32 := m (c.tc.loc main_arg4)
abbrev in5 : FVec Ideal S8448x1024 .f32 := m (c.tc.loc main_arg5)

theorem res0 : res_out0 m c = dx (in0 m c) (in1 m c) (in2 m c) (in3 m c) (in4 m c) (in5 m c) := rfl
theorem res1 : res_out1 m c = dmod (in0 m c) (in1 m c) (in2 m c) (in3 m c) (in4 m c) (in5 m c) := rfl
theorem res2 : res_out2 m c = dnw (in0 m c) (in1 m c) (in2 m c) (in3 m c) (in4 m c) (in5 m c) := rfl
theorem res3 : res_out3 m c = dpreB (in0 m c) (in1 m c) (in2 m c) (in3 m c) (in4 m c) (in5 m c) := rfl
theorem res6 : res_out6 m c = sqB (in0 m c) (in1 m c) (in2 m c) (in3 m c) := rfl

/-- The reference's run, with its results in stages. -/
theorem run_stages (ρ : Dev nD → PrngReg) :
    θ_run defs (onTc (τ := τ) (main (F := Ideal))) ⟨m, fun _ => 0, ρ⟩ fun r => ∀ c : Dev nD,
      r.2.mem (c.tc.loc main_v110) = dx (in0 m c) (in1 m c) (in2 m c) (in3 m c) (in4 m c) (in5 m c)
      ∧ r.2.mem (c.tc.loc main_v89) = dmod (in0 m c) (in1 m c) (in2 m c) (in3 m c) (in4 m c) (in5 m c)
      ∧ r.2.mem (c.tc.loc main_v111) = dnw (in0 m c) (in1 m c) (in2 m c) (in3 m c) (in4 m c) (in5 m c)
      ∧ r.2.mem (c.tc.loc main_v112) = dpreB (in0 m c) (in1 m c) (in2 m c) (in3 m c) (in4 m c) (in5 m c)
      ∧ r.2.mem (c.tc.loc main_v114) = doutT (in1 m c) (in5 m c)
      ∧ r.2.mem (c.tc.loc main_v116) = rowsT (in0 m c) (in1 m c) (in2 m c)
      ∧ r.2.mem (c.tc.loc main_v117) = sqB (in0 m c) (in1 m c) (in2 m c) (in3 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) :=
  (θ_run defs _ _).mono (fun _ h c =>
    let ⟨h0, h1, h2, h3, h4, h5, h6, hr⟩ := h c
    ⟨h0.trans (res0 m c), h1.trans (res1 m c), h2.trans (res2 m c), h3.trans (res3 m c), h4.trans rfl, h5.trans rfl, h6.trans (res6 m c), hr⟩) (run m ρ)
end

end Cert.Reference3Ideal.Value

end
-- ==== Proof.Ffn.Spec.lean ====
/- The FFN's gradient of one row, written over the extended reals. -/
module

public import Idealize.ShloMosaic.Lib.Pointwise

@[expose] public section

noncomputable section

namespace Cert.Ffn

open Idealize.ShloMosaic

/-- The gradient's arguments at one row: the row and its output's gradient, the three modulations of the row (added, scaling, gating), the
    norm's weights and the two matrices. -/
structure Row where
  x : Fin 1024 → EReal
  g : Fin 1024 → EReal
  add : Fin 1024 → EReal
  scl : Fin 1024 → EReal
  gate : Fin 1024 → EReal
  nw : Fin 1024 → EReal
  w1 : Fin 1024 → Fin 4096 → EReal
  w2 : Fin 4096 → Fin 1024 → EReal

namespace Row
variable (R : Row)

/-- The mean square and the small number added to it, its inverse root, and the inverse root's derivative. -/
def ms : EReal := Ideal.div (∑ k, R.x k * R.x k) (Ideal.ofBits .f32 1149239296#32) + Ideal.ofBits .f32 897988541#32
def rs : EReal := Ideal.rsqrt R.ms
def rv : EReal := Ideal.ofBits .f32 3204448256#32 * Ideal.div R.rs R.ms
/-- The row after the norm, and after the modulation. -/
def normed (k : Fin 1024) : EReal := R.x k * R.rs * R.nw k
def h (k : Fin 1024) : EReal := R.normed k * (1 + R.scl k) + R.add k
/-- The hidden row before and after the nonlinearity's first half, its square, and the output. -/
def pre (j : Fin 4096) : EReal := ∑ k, R.h k * R.w1 k j
def act (j : Fin 4096) : EReal := max (R.pre j) 0
def sq (j : Fin 4096) : EReal := R.act j * R.act j
def f (k : Fin 1024) : EReal := ∑ j, R.sq j * R.w2 j k
/-- The gradients of the output, of the square, of the hidden row and of the modulated row. -/
def df (k : Fin 1024) : EReal := R.g k * R.gate k
def dsq (j : Fin 4096) : EReal := ∑ k, R.df k * R.w2 j k
def dpre (j : Fin 4096) : EReal := R.dsq j * (Ideal.ofBits .f32 1073741824#32 * R.act j)
def dh (k : Fin 1024) : EReal := ∑ j, R.dpre j * R.w1 k j
/-- The gradients of the normed row, with the norm's weights and without. -/
def du (k : Fin 1024) : EReal := R.dh k * (1 + R.scl k)
def dn (k : Fin 1024) : EReal := R.du k * R.nw k
/-- The gradient of the mean square, over the number of columns. -/
def q : EReal := ∑ _u : Fin 1, Ideal.div ((∑ k, R.x k * R.dn k) * R.rv) (Ideal.ofBits .f32 1149239296#32)
/-- The gradient of the row. -/
def dx (k : Fin 1024) : EReal := R.g k + (R.dn k * R.rs + R.x k * R.q + R.q * R.x k)
/-- The row's part of the norm's weights' gradient. -/
def dnw (k : Fin 1024) : EReal := R.x k * R.rs * R.du k
/-- The row's part of the modulation's gradient: rows 3, 4 and 5 of eight. -/
def dmod (i : Fin 8) (k : Fin 1024) : EReal :=
  if i.val = 3 then R.dh k else if i.val = 4 then R.normed k * R.dh k else if i.val = 5 then R.g k * R.f k else 0

end Row

/-! ## The derivative of the square of the positive part -/

theorem two : Ideal.ofBits .f32 1073741824#32 = ((2 : ℝ) : EReal) := by
  simp [Ideal.ofBits, Ideal.ieee, -EReal.coe_mul]
  norm_num

theorem one_add_one : ((2 : ℝ) : EReal) = 1 + 1 := by
  rw [← EReal.coe_one, ← EReal.coe_add]
  norm_num

/-- The two summands of the product rule are one product, where the hidden entry is positive; elsewhere both are zero. -/
theorem slope (p d : EReal) : (if 0 < p then max p 0 * d + d * max p 0 else 0) = d * (Ideal.ofBits .f32 1073741824#32 * max p 0) := by
  have hm : (0 : EReal) ≤ max p 0 := le_max_right p 0
  rw [two, one_add_one, EReal.right_distrib_of_nonneg zero_le_one zero_le_one, one_mul, EReal.left_distrib_of_nonneg hm hm]
  split
  · rw [mul_comm (max p 0) d]
  · next h => rw [max_eq_right (not_lt.1 h), mul_zero, add_zero]

end Cert.Ffn

end
-- ==== Proof.Ffn.Reference.lean ====
/- The reference's results at an index, row by row. -/
module

public import proofs.«01_k».proof.Proof.Ffn.Stages
public import proofs.«01_k».proof.Proof.Ffn.Spec
public import proofs.«01_k».proof.Proof.Value.Sums

@[expose] public section
set_option maxRecDepth 16384

noncomputable section

namespace Cert.Reference3Ideal.Value

open Cert.Reference3Ideal Cert.Reference3Ideal.Gen Cert.Ffn Cert.Attention Idealize.ShloMosaic Idealize.ShloMosaic.TcCoe

/-- The part of the modulation that a row takes: 0 for the context's rows, 1 for the latents'. -/
def seg (r : Fin 8448) : Fin 2 := if r.val < 256 then 0 else 1

theorem word_lt (r : Fin 8448) : IntOp.cmpi CmpIPredicate.slt (BitVec.ofNat 32 r.val) 256#32 = if r.val < 256 then 1#1 else 0#1 := by
  have h : ∀ r : Fin 8448, IntOp.cmpi CmpIPredicate.slt (BitVec.ofNat 32 r.val) 256#32 = if r.val < 256 then 1#1 else 0#1 := by decide +kernel
  exact h r

theorem isCtx_at (r : Fin 8448) (k : Fin 1024) : isCtx (ix2 r k) = if r.val < 256 then 1#1 else 0#1 := by
  rw [← word_lt]
  pointwise [isCtx]

/-- A choice by the rows' kind. -/
theorem select_at (p q : FVec Ideal S8448x1024 .f32) (r : Fin 8448) (k : Fin 1024) :
    select isCtx p q (ix2 r k) = if r.val < 256 then p (ix2 r k) else q (ix2 r k) := by
  show Scalar.select (isCtx (ix2 r k)) _ _ = _
  rw [isCtx_at]
  split <;> rfl
theorem along_at (a : FVec Ideal S1x1x1024 .f32) (r : Fin 8448) (k : Fin 1024) : along a (ix2 r k) = a (ix3 0 0 k) := by pointwise [along]

theorem mod3_at (a : FVec Ideal S2x8x1024 .f32) (r : Fin 8448) (k : Fin 1024) : mod3 a (ix2 r k) = a (ix3 (seg r) 3 k) := by
  rw [mod3, select_at, along_at, along_at, seg]
  split <;> pointwise
theorem mod4_at (a : FVec Ideal S2x8x1024 .f32) (r : Fin 8448) (k : Fin 1024) : mod4 a (ix2 r k) = a (ix3 (seg r) 4 k) := by
  rw [mod4, select_at, along_at, along_at, seg]
  split <;> pointwise
theorem mod5_at (a : FVec Ideal S2x8x1024 .f32) (r : Fin 8448) (k : Fin 1024) : mod5 a (ix2 r k) = a (ix3 (seg r) 5 k) := by
  rw [mod5, select_at, along_at, along_at, seg]
  split <;> pointwise

theorem zeroD_at (r : Fin 8448) (k : Fin 1024) : zeroD (ix2 r k) = 0 := by pointwise [zeroD]
theorem zeroF_at (r : Fin 8448) (j : Fin 4096) : zeroF (ix2 r j) = 0 := by pointwise [zeroF]

section
variable (x : FVec Ideal S8448x1024 .f32) (a : FVec Ideal S2x8x1024 .f32) (nw : FVec Ideal S1x1024 .f32) (w1 : FVec Ideal S1024x4096 .f32)
  (w2 : FVec Ideal S4096x1024 .f32) (g : FVec Ideal S8448x1024 .f32)

/-- The arguments at row `r`. -/
def row (r : Fin 8448) : Row where
  x k := x (ix2 r k)
  g k := g (ix2 r k)
  add k := a (ix3 (seg r) 3 k)
  scl k := a (ix3 (seg r) 4 k)
  gate k := a (ix3 (seg r) 5 k)
  nw k := nw (ix2 0 k)
  w1 k j := w1 (ix2 k j)
  w2 j k := w2 (ix2 j k)

local notation "R" => row x a nw w1 w2 g

theorem meanSq_at (r : Fin 8448) (u : Fin 1) : meanSq x (ix2 r u) = (R r).ms := by
  refine Eq.trans ?_ (show _ = (R r).ms from rfl)
  pointwise [meanSq]
  rfl
theorem root_at (r : Fin 8448) (u : Fin 1) : root x (ix2 r u) = (R r).rs := by
  rw [Row.rs, ← meanSq_at x a nw w1 w2 g r u]
  pointwise [root]
theorem slope_at (r : Fin 8448) (u : Fin 1) : slope x (ix2 r u) = (R r).rv := by
  rw [Row.rv, ← meanSq_at x a nw w1 w2 g r u, ← root_at x a nw w1 w2 g r u]
  pointwise [slope]
theorem scaled_at (r : Fin 8448) (k : Fin 1024) : scaled x (ix2 r k) = (R r).x k * (R r).rs := by
  rw [← root_at x a nw w1 w2 g r 0]
  pointwise [scaled]
  rfl
theorem weights_at (r : Fin 8448) (k : Fin 1024) : weights nw (ix2 r k) = nw (ix2 0 k) := by pointwise [weights]
theorem gain_at (r : Fin 8448) (k : Fin 1024) : gain a (ix2 r k) = 1 + a (ix3 (seg r) 4 k) := by
  rw [← mod4_at a r k]
  pointwise [gain]
theorem normed_at (r : Fin 8448) (k : Fin 1024) : normed x nw (ix2 r k) = (R r).normed k := by
  show scaled x (ix2 r k) * weights nw (ix2 r k) = _
  rw [scaled_at x a nw w1 w2 g, weights_at]
  rfl
theorem rows_at (r : Fin 8448) (k : Fin 1024) : rows x a nw (ix2 r k) = (R r).h k := by
  show normed x nw (ix2 r k) * gain a (ix2 r k) + mod3 a (ix2 r k) = _
  rw [normed_at x a nw w1 w2 g, gain_at, mod3_at]
  rfl
theorem pre_at (r : Fin 8448) (j : Fin 4096) : pre x a nw w1 (ix2 r j) = (R r).pre j := by
  have e : pre x a nw w1 (ix2 r j) = (∑ k : Fin 1024, rows x a nw (ix2 r k) * w1 (ix2 k j)) + zeroF (ix2 r j) := by pointwise [pre]
  rw [e, zeroF_at, add_zero]
  exact Finset.sum_congr rfl fun k _ => congrArg (· * _) (rows_at x a nw w1 w2 g r k)
theorem act_at (r : Fin 8448) (j : Fin 4096) : act x a nw w1 (ix2 r j) = (R r).act j := by
  have e : act x a nw w1 (ix2 r j) = max (pre x a nw w1 (ix2 r j)) (zeroF (ix2 r j)) := by pointwise [act]
  rw [e, zeroF_at, pre_at x a nw w1 w2 g]
  rfl
theorem sq_at (r : Fin 8448) (j : Fin 4096) : sq x a nw w1 (ix2 r j) = (R r).sq j := by
  show act x a nw w1 (ix2 r j) * act x a nw w1 (ix2 r j) = _
  rw [act_at x a nw w1 w2 g]
  rfl
theorem out_at (r : Fin 8448) (k : Fin 1024) : out x a nw w1 w2 (ix2 r k) = (R r).f k := by
  have e : out x a nw w1 w2 (ix2 r k) = (∑ j : Fin 4096, sq x a nw w1 (ix2 r j) * w2 (ix2 j k)) + zeroD (ix2 r k) := by pointwise [out]
  rw [e, zeroD_at, add_zero]
  exact Finset.sum_congr rfl fun j _ => congrArg (· * _) (sq_at x a nw w1 w2 g r j)

theorem grad_at (r : Fin 8448) (k : Fin 1024) : grad g (ix2 r k) = g (ix2 r k) := by pointwise [grad]
theorem dout_at (r : Fin 8448) (k : Fin 1024) : dout a g (ix2 r k) = (R r).df k := by
  show mod5 a (ix2 r k) * grad g (ix2 r k) = _
  rw [mod5_at, grad_at, mul_comm]
  rfl
theorem dsq_at (r : Fin 8448) (j : Fin 4096) : dsq a w2 g (ix2 r j) = (R r).dsq j := by
  have e : dsq a w2 g (ix2 r j) = ∑ k : Fin 1024, dout a g (ix2 r k) * w2 (ix2 j k) := by pointwise [dsq]
  rw [e]
  exact Finset.sum_congr rfl fun k _ => congrArg (· * _) (dout_at x a nw w1 w2 g r k)
theorem dpre_at (r : Fin 8448) (j : Fin 4096) : dpre x a nw w1 w2 g (ix2 r j) = (R r).dpre j := by
  have e : dpre x a nw w1 w2 g (ix2 r j) = if zeroF (ix2 r j) < pre x a nw w1 (ix2 r j) then act x a nw w1 (ix2 r j) * dsq a w2 g (ix2 r j) + dsq a w2 g (ix2 r j) * act x a nw w1 (ix2 r j)
      else zeroF (ix2 r j) := by pointwise [dpre]
  rw [e, zeroF_at, pre_at x a nw w1 w2 g, act_at x a nw w1 w2 g, dsq_at x a nw w1 w2 g]
  exact Cert.Ffn.slope _ _
theorem drows_at (r : Fin 8448) (k : Fin 1024) : drows x a nw w1 w2 g (ix2 r k) = (R r).dh k := by
  have e : drows x a nw w1 w2 g (ix2 r k) = ∑ j : Fin 4096, dpre x a nw w1 w2 g (ix2 r j) * w1 (ix2 k j) := by pointwise [drows]
  rw [e]
  exact Finset.sum_congr rfl fun j _ => congrArg (· * _) (dpre_at x a nw w1 w2 g r j)
theorem dnormed_at (r : Fin 8448) (k : Fin 1024) : dnormed x a nw w1 w2 g (ix2 r k) = (R r).du k := by
  show drows x a nw w1 w2 g (ix2 r k) * gain a (ix2 r k) = _
  rw [drows_at, gain_at]
  rfl
theorem dscaled_at (r : Fin 8448) (k : Fin 1024) : dscaled x a nw w1 w2 g (ix2 r k) = (R r).dn k := by
  show dnormed x a nw w1 w2 g (ix2 r k) * weights nw (ix2 r k) = _
  rw [dnormed_at, weights_at]
  rfl
theorem dmean_at (r : Fin 8448) (u : Fin 1) : dmean x a nw w1 w2 g (ix2 r u)
    = Ideal.div ((∑ k, (R r).x k * (R r).dn k) * (R r).rv) (Ideal.ofBits .f32 1149239296#32) := by
  have e : dmean x a nw w1 w2 g (ix2 r u) = Ideal.div ((∑ k, x (ix2 r k) * dscaled x a nw w1 w2 g (ix2 r k)) * slope x (ix2 r u)) (Ideal.ofBits .f32 1149239296#32) := by
    pointwise [dmean]
  rw [e, slope_at x a nw w1 w2 g]
  refine congrArg (fun y => Ideal.div (y * _) _) (Finset.sum_congr rfl fun k _ => ?_)
  rw [dscaled_at]
  rfl
theorem dsquare_at (r : Fin 8448) (k : Fin 1024) : dsquare x a nw w1 w2 g (ix2 r k) = (R r).q := by
  have e : dsquare x a nw w1 w2 g (ix2 r k) = ∑ u : Fin 1, dmean x a nw w1 w2 g (ix2 r u) := by pointwise [dsquare]
  rw [e]
  exact Finset.sum_congr rfl fun u _ => dmean_at x a nw w1 w2 g r u

theorem dx_at (r : Fin 8448) (k : Fin 1024) : dx x a nw w1 w2 g (ix2 r k) = (R r).dx k := by
  have e : dx x a nw w1 w2 g (ix2 r k) = g (ix2 r k) + dscaled x a nw w1 w2 g (ix2 r k) * root x (ix2 r 0) + x (ix2 r k) * dsquare x a nw w1 w2 g (ix2 r k)
      + dsquare x a nw w1 w2 g (ix2 r k) * x (ix2 r k) := by pointwise [dx]
  rw [e, dscaled_at, dsquare_at, root_at x a nw w1 w2 g, add_assoc, add_assoc, ← add_assoc (_ * (R r).rs)]
  rfl
theorem dnw_at (k : Fin 1024) : dnw x a nw w1 w2 g (ix2 0 k) = ∑ r, (R r).dnw k := by
  have e : dnw x a nw w1 w2 g (ix2 0 k) = ∑ r : Fin 8448, scaled x (ix2 r k) * dnormed x a nw w1 w2 g (ix2 r k) := by
    pointwise [dnw]
    try simp
  rw [e]
  refine Finset.sum_congr rfl fun r _ => ?_
  rw [scaled_at x a nw w1 w2 g, dnormed_at]
  rfl

/-- The sums over the latent rows and the context's. -/
theorem ofLat_at (y : FVec Ideal S8448x1024 .f32) (k : Fin 1024) : ofLat y (ix3 0 0 k) = ∑ r : Fin 8192, y (ix2 ⟨256 + r.val, by omega⟩ k) := by
  have e : ofLat y (ix3 0 0 k) = ∑ r : Fin 8448, select isCtx zeroD y (ix2 r k) := by pointwise [ofLat]
  rw [e, sum_cut _ 256 8192 rfl, Finset.sum_eq_zero, zero_add]
  · exact Finset.sum_congr rfl fun r _ => (select_at _ _ _ _).trans (if_neg (by dsimp only; omega))
  · exact fun r _ => (select_at _ _ _ _).trans ((if_pos r.isLt).trans (zeroD_at _ _))
theorem ofCtx_at (y : FVec Ideal S8448x1024 .f32) (k : Fin 1024) : ofCtx y (ix3 0 0 k) = ∑ r : Fin 256, y (ix2 ⟨r.val, by omega⟩ k) := by
  have e : ofCtx y (ix3 0 0 k) = ∑ r : Fin 8448, select isCtx y zeroD (ix2 r k) := by pointwise [ofCtx]
  rw [e, sum_cut _ 256 8192 rfl, add_comm, Finset.sum_eq_zero, zero_add]
  · exact Finset.sum_congr rfl fun r _ => (select_at _ _ _ _).trans (if_pos r.isLt)
  · exact fun r _ => (select_at _ _ _ _).trans ((if_neg (by dsimp only; omega)).trans (zeroD_at _ _))

theorem ctx_seg (r : Fin 256) : seg ⟨r.val, by omega⟩ = 0 := if_pos r.isLt
theorem lat_seg (r : Fin 8192) : seg ⟨256 + r.val, by omega⟩ = 1 := if_neg (by dsimp only; omega)

theorem lat5_at (y : FVec Ideal S1x1x1024 .f32) (s : Fin 2) (i : Fin 8) (k : Fin 1024) : lat5 y (ix3 s i k) = if s.val = 1 ∧ i.val = 5 then y (ix3 0 0 k) else 0 := by
  pointwise [lat5]
  by_cases h : s.val = 1 ∧ i.val = 5
  · rw [if_pos h, dif_pos (by omega)]
    exact congrArg y (congrArg₂ (fun u v => ix3 u v k) (Subsingleton.elim _ _) (Subsingleton.elim _ _))
  · rw [if_neg h, dif_neg (by omega)]
theorem ctx5_at (y : FVec Ideal S1x1x1024 .f32) (s : Fin 2) (i : Fin 8) (k : Fin 1024) : ctx5 y (ix3 s i k) = if s.val = 0 ∧ i.val = 5 then y (ix3 0 0 k) else 0 := by
  pointwise [ctx5]
  by_cases h : s.val = 0 ∧ i.val = 5
  · rw [if_pos h, dif_pos (by omega)]
    exact congrArg y (congrArg₂ (fun u v => ix3 u v k) (Subsingleton.elim _ _) (Subsingleton.elim _ _))
  · rw [if_neg h, dif_neg (by omega)]
theorem lat3_at (y : FVec Ideal S1x1x1024 .f32) (s : Fin 2) (i : Fin 8) (k : Fin 1024) : lat3 y (ix3 s i k) = if s.val = 1 ∧ i.val = 3 then y (ix3 0 0 k) else 0 := by
  pointwise [lat3]
  by_cases h : s.val = 1 ∧ i.val = 3
  · rw [if_pos h, dif_pos (by omega)]
    exact congrArg y (congrArg₂ (fun u v => ix3 u v k) (Subsingleton.elim _ _) (Subsingleton.elim _ _))
  · rw [if_neg h, dif_neg (by omega)]
theorem ctx3_at (y : FVec Ideal S1x1x1024 .f32) (s : Fin 2) (i : Fin 8) (k : Fin 1024) : ctx3 y (ix3 s i k) = if s.val = 0 ∧ i.val = 3 then y (ix3 0 0 k) else 0 := by
  pointwise [ctx3]
  by_cases h : s.val = 0 ∧ i.val = 3
  · rw [if_pos h, dif_pos (by omega)]
    exact congrArg y (congrArg₂ (fun u v => ix3 u v k) (Subsingleton.elim _ _) (Subsingleton.elim _ _))
  · rw [if_neg h, dif_neg (by omega)]
theorem lat4_at (y : FVec Ideal S1x1x1024 .f32) (s : Fin 2) (i : Fin 8) (k : Fin 1024) : lat4 y (ix3 s i k) = if s.val = 1 ∧ i.val = 4 then y (ix3 0 0 k) else 0 := by
  pointwise [lat4]
  by_cases h : s.val = 1 ∧ i.val = 4
  · rw [if_pos h, dif_pos (by omega)]
    exact congrArg y (congrArg₂ (fun u v => ix3 u v k) (Subsingleton.elim _ _) (Subsingleton.elim _ _))
  · rw [if_neg h, dif_neg (by omega)]
theorem ctx4_at (y : FVec Ideal S1x1x1024 .f32) (s : Fin 2) (i : Fin 8) (k : Fin 1024) : ctx4 y (ix3 s i k) = if s.val = 0 ∧ i.val = 4 then y (ix3 0 0 k) else 0 := by
  pointwise [ctx4]
  by_cases h : s.val = 0 ∧ i.val = 4
  · rw [if_pos h, dif_pos (by omega)]
    exact congrArg y (congrArg₂ (fun u v => ix3 u v k) (Subsingleton.elim _ _) (Subsingleton.elim _ _))
  · rw [if_neg h, dif_neg (by omega)]

/-- A row's sums, put at rows 3, 4 and 5. -/
theorem place {N : ℕ} (r : Fin N → Row) (i : Fin 8) (k : Fin 1024) :
    ((if i.val = 5 then ∑ n, (r n).g k * (r n).f k else 0) + (if i.val = 3 then ∑ n, (r n).dh k else 0) + (if i.val = 4 then ∑ n, (r n).normed k * (r n).dh k else 0))
      = ∑ n, (r n).dmod i k := by
  unfold Row.dmod
  by_cases h3 : i.val = 3
  · simp [h3]
  by_cases h4 : i.val = 4
  · simp [h4]
  by_cases h5 : i.val = 5
  · simp [h5]
  simp [h3, h4, h5]

theorem dmod_split (s : Fin 2) (i : Fin 8) (k : Fin 1024) : dmod x a nw w1 w2 g (ix3 s i k)
    = lat5 (ofLat (gated x a nw w1 w2 g)) (ix3 s i k) + ctx5 (ofCtx (gated x a nw w1 w2 g)) (ix3 s i k) + lat3 (ofLat (shifted x a nw w1 w2 g)) (ix3 s i k)
      + ctx3 (ofCtx (shifted x a nw w1 w2 g)) (ix3 s i k) + lat4 (ofLat (gained x a nw w1 w2 g)) (ix3 s i k) + ctx4 (ofCtx (gained x a nw w1 w2 g)) (ix3 s i k) := rfl

theorem dmod_ctx (i : Fin 8) (k : Fin 1024) : dmod x a nw w1 w2 g (ix3 0 i k) = ∑ r : Fin 256, (R ⟨r.val, by omega⟩).dmod i k := by
  have h3 : ofCtx (shifted x a nw w1 w2 g) (ix3 0 0 k) = ∑ r : Fin 256, (R ⟨r.val, by omega⟩).dh k :=
    (ofCtx_at _ k).trans (Finset.sum_congr rfl fun r _ => drows_at x a nw w1 w2 g _ k)
  have h4 : ofCtx (gained x a nw w1 w2 g) (ix3 0 0 k) = ∑ r : Fin 256, (R ⟨r.val, by omega⟩).normed k * (R ⟨r.val, by omega⟩).dh k :=
    (ofCtx_at _ k).trans (Finset.sum_congr rfl fun r _ => congrArg₂ (· * ·) (normed_at x a nw w1 w2 g _ k) (drows_at x a nw w1 w2 g _ k))
  have h5 : ofCtx (gated x a nw w1 w2 g) (ix3 0 0 k) = ∑ r : Fin 256, (R ⟨r.val, by omega⟩).g k * (R ⟨r.val, by omega⟩).f k :=
    (ofCtx_at _ k).trans (Finset.sum_congr rfl fun r _ => congrArg₂ (· * ·) (grad_at g _ k) (out_at x a nw w1 w2 g _ k))
  rw [dmod_split, lat5_at, ctx5_at, lat3_at, ctx3_at, lat4_at, ctx4_at, h3, h4, h5, ← place]
  simp

theorem dmod_lat (i : Fin 8) (k : Fin 1024) : dmod x a nw w1 w2 g (ix3 1 i k) = ∑ r : Fin 8192, (R ⟨256 + r.val, by omega⟩).dmod i k := by
  have h3 : ofLat (shifted x a nw w1 w2 g) (ix3 0 0 k) = ∑ r : Fin 8192, (R ⟨256 + r.val, by omega⟩).dh k :=
    (ofLat_at _ k).trans (Finset.sum_congr rfl fun r _ => drows_at x a nw w1 w2 g _ k)
  have h4 : ofLat (gained x a nw w1 w2 g) (ix3 0 0 k) = ∑ r : Fin 8192, (R ⟨256 + r.val, by omega⟩).normed k * (R ⟨256 + r.val, by omega⟩).dh k :=
    (ofLat_at _ k).trans (Finset.sum_congr rfl fun r _ => congrArg₂ (· * ·) (normed_at x a nw w1 w2 g _ k) (drows_at x a nw w1 w2 g _ k))
  have h5 : ofLat (gated x a nw w1 w2 g) (ix3 0 0 k) = ∑ r : Fin 8192, (R ⟨256 + r.val, by omega⟩).g k * (R ⟨256 + r.val, by omega⟩).f k :=
    (ofLat_at _ k).trans (Finset.sum_congr rfl fun r _ => congrArg₂ (· * ·) (grad_at g _ k) (out_at x a nw w1 w2 g _ k))
  rw [dmod_split, lat5_at, ctx5_at, lat3_at, ctx3_at, lat4_at, ctx4_at, h3, h4, h5, ← place]
  simp

theorem dpreB_at (r : Fin 8448) (j : Fin 4096) : dpreB x a nw w1 w2 g (ix2 r j) = (R r).dpre j := by
  rw [← dpre_at]
  pointwise [dpreB]
theorem sqB_at (r : Fin 8448) (j : Fin 4096) : sqB x a nw w1 (ix2 r j) = (R r).sq j := by
  rw [← sq_at]
  pointwise [sqB]
theorem doutT_at (k : Fin 1024) (r : Fin 8448) : doutT a g (ix2 k r) = (R r).df k := by
  rw [← dout_at]
  pointwise [doutT]
theorem rowsT_at (k : Fin 1024) (r : Fin 8448) : rowsT x a nw (ix2 k r) = (R r).h k := by
  rw [← rows_at]
  pointwise [rowsT]
end

end Cert.Reference3Ideal.Value

end
-- ==== Proof.Ffn.Tile.lean ====
/- One grid point's results at an index, row by row. -/
module

public import proofs.«01_k».proof.Proof.Ffn.Point
public import proofs.«01_k».proof.Proof.Ffn.Spec
public import proofs.«01_k».proof.Proof.Value.Sums
public import Idealize.ShloMosaic.Lib.Pipeline.ValueKit

@[expose] public section
set_option maxRecDepth 16384

noncomputable section

namespace Cert.Kernel3Ideal.Value

open Cert.Kernel3Ideal Cert.Kernel3Ideal.Gen Cert.Kernel3Ideal.Run Cert.Ffn Cert.Attention Idealize.ShloMosaic Idealize.ShloMosaic.TcCoe

/-! ## The chunks -/

/-- Entry `j` of the hidden width's chunk 0, 1, 2 and 3. -/
def c0 (j : Fin 1024) : Fin 4096 := ⟨j.val, by omega⟩
def c1 (j : Fin 1024) : Fin 4096 := ⟨1024 + j.val, by omega⟩
def c2 (j : Fin 1024) : Fin 4096 := ⟨2048 + j.val, by omega⟩
def c3 (j : Fin 1024) : Fin 4096 := ⟨3072 + j.val, by omega⟩

theorem sum_chunks (f : Fin 4096 → EReal) : ∑ j, f j = ∑ j, f (c0 j) + ∑ j, f (c1 j) + ∑ j, f (c2 j) + ∑ j, f (c3 j) := by
  have h3 := sum_extend f 0 3072 1024 (by omega) (by omega)
  have h2 := sum_extend f 0 2048 1024 (by omega) (by omega)
  have h1 := sum_extend f 0 1024 1024 (by omega) (by omega)
  have h0 := sum_extend f 0 0 1024 (by omega) (by omega)
  rw [sum_interval_all f _ (by omega)] at h3
  rw [h3, h2, h1, h0, sum_interval_empty, zero_add]
  refine congrArg₂ (· + ·) (congrArg₂ (· + ·) (congrArg₂ (· + ·) ?_ rfl) rfl) rfl
  exact Finset.sum_congr rfl fun j _ => congrArg f (Fin.ext (Nat.zero_add _))

/-- Every entry is one of a chunk. -/
theorem chunk_cases (j : Fin 4096) : (∃ i, j = c0 i) ∨ (∃ i, j = c1 i) ∨ (∃ i, j = c2 i) ∨ ∃ i, j = c3 i := by
  rcases Nat.lt_or_ge j.val 1024 with h | h
  · exact .inl ⟨⟨j.val, h⟩, rfl⟩
  rcases Nat.lt_or_ge j.val 2048 with h' | h'
  · exact .inr (.inl ⟨⟨j.val - 1024, by omega⟩, Fin.ext (by simp only [c1]; omega)⟩)
  rcases Nat.lt_or_ge j.val 3072 with h'' | h''
  · exact .inr (.inr (.inl ⟨⟨j.val - 2048, by omega⟩, Fin.ext (by simp only [c2]; omega)⟩))
  · exact .inr (.inr (.inr ⟨⟨j.val - 3072, by omega⟩, Fin.ext (by simp only [c3]; omega)⟩))

theorem up0_at (w : Vec Ideal S1024x4096 .bf16) (k j : Fin 1024) : up0 w (ix2 k j) = w (ix2 k (c0 j)) := by
  show w ((Rect.unit (s := S1024x4096) ![0, 0] S1024x1024.size inb_S1024x4096_S1024x1024_0_0).emb (ix2 k j)) = _
  exact congrArg w (by blk_ext [c0])
theorem up1_at (w : Vec Ideal S1024x4096 .bf16) (k j : Fin 1024) : up1 w (ix2 k j) = w (ix2 k (c1 j)) := by
  show w ((Rect.unit (s := S1024x4096) ![0, 1024] S1024x1024.size inb_S1024x4096_S1024x1024_0_1024).emb (ix2 k j)) = _
  exact congrArg w (by blk_ext [c1])
theorem up2_at (w : Vec Ideal S1024x4096 .bf16) (k j : Fin 1024) : up2 w (ix2 k j) = w (ix2 k (c2 j)) := by
  show w ((Rect.unit (s := S1024x4096) ![0, 2048] S1024x1024.size inb_S1024x4096_S1024x1024_0_2048).emb (ix2 k j)) = _
  exact congrArg w (by blk_ext [c2])
theorem up3_at (w : Vec Ideal S1024x4096 .bf16) (k j : Fin 1024) : up3 w (ix2 k j) = w (ix2 k (c3 j)) := by
  show w ((Rect.unit (s := S1024x4096) ![0, 3072] S1024x1024.size inb_S1024x4096_S1024x1024_0_3072).emb (ix2 k j)) = _
  exact congrArg w (by blk_ext [c3])
theorem down0_at (w : Vec Ideal S4096x1024 .bf16) (j k : Fin 1024) : down0 w (ix2 j k) = w (ix2 (c0 j) k) := by
  show w ((Rect.unit (s := S4096x1024) ![0, 0] S1024x1024.size inb_S4096x1024_S1024x1024_0_0).emb (ix2 j k)) = _
  exact congrArg w (by blk_ext [c0])
theorem down1_at (w : Vec Ideal S4096x1024 .bf16) (j k : Fin 1024) : down1 w (ix2 j k) = w (ix2 (c1 j) k) := by
  show w ((Rect.unit (s := S4096x1024) ![1024, 0] S1024x1024.size inb_S4096x1024_S1024x1024_1024_0).emb (ix2 j k)) = _
  exact congrArg w (by blk_ext [c1])
theorem down2_at (w : Vec Ideal S4096x1024 .bf16) (j k : Fin 1024) : down2 w (ix2 j k) = w (ix2 (c2 j) k) := by
  show w ((Rect.unit (s := S4096x1024) ![2048, 0] S1024x1024.size inb_S4096x1024_S1024x1024_2048_0).emb (ix2 j k)) = _
  exact congrArg w (by blk_ext [c2])
theorem down3_at (w : Vec Ideal S4096x1024 .bf16) (j k : Fin 1024) : down3 w (ix2 j k) = w (ix2 (c3 j) k) := by
  show w ((Rect.unit (s := S4096x1024) ![3072, 0] S1024x1024.size inb_S4096x1024_S1024x1024_3072_0).emb (ix2 j k)) = _
  exact congrArg w (by blk_ext [c3])

section
variable (a b c d : Vec Ideal S256x1024 .bf16) (p : Fin 256) (j : Fin 1024)
theorem emb0 : (Rect.unit (s := S256x4096) ![0, 0] S256x1024.size inb_S256x4096_S256x1024_0_0).emb (ix2 p j) = ix2 p (c0 j) := by blk_ext [c0]
theorem emb1 : (Rect.unit (s := S256x4096) ![0, 1024] S256x1024.size inb_S256x4096_S256x1024_0_1024).emb (ix2 p j) = ix2 p (c1 j) := by blk_ext [c1]
theorem emb2 : (Rect.unit (s := S256x4096) ![0, 2048] S256x1024.size inb_S256x4096_S256x1024_0_2048).emb (ix2 p j) = ix2 p (c2 j) := by blk_ext [c2]
theorem emb3 : (Rect.unit (s := S256x4096) ![0, 3072] S256x1024.size inb_S256x4096_S256x1024_0_3072).emb (ix2 p j) = ix2 p (c3 j) := by blk_ext [c3]

theorem wide_c3 : wide a b c d (ix2 p (c3 j)) = d (ix2 p j) := by
  unfold wide chunks
  rw [← emb3]
  exact View.canon_cons_emb _ _ _ _
theorem wide_c2 : wide a b c d (ix2 p (c2 j)) = c (ix2 p j) := by
  unfold wide chunks
  rw [View.canon_cons_of_not_mem _ _ (Rect.not_mem_set_of_axis _ _ (1 : Fin 2) 3072 1024 rfl rfl rfl (.inl (by show 2048 + j.val < 3072; omega))), ← emb2]
  exact View.canon_cons_emb _ _ _ _
theorem wide_c1 : wide a b c d (ix2 p (c1 j)) = b (ix2 p j) := by
  unfold wide chunks
  rw [View.canon_cons_of_not_mem _ _ (Rect.not_mem_set_of_axis _ _ (1 : Fin 2) 3072 1024 rfl rfl rfl (.inl (by show 1024 + j.val < 3072; omega))),
    View.canon_cons_of_not_mem _ _ (Rect.not_mem_set_of_axis _ _ (1 : Fin 2) 2048 1024 rfl rfl rfl (.inl (by show 1024 + j.val < 2048; omega))), ← emb1]
  exact View.canon_cons_emb _ _ _ _
theorem wide_c0 : wide a b c d (ix2 p (c0 j)) = a (ix2 p j) := by
  unfold wide chunks
  rw [View.canon_cons_of_not_mem _ _ (Rect.not_mem_set_of_axis _ _ (1 : Fin 2) 3072 1024 rfl rfl rfl (.inl (by show j.val < 3072; omega))),
    View.canon_cons_of_not_mem _ _ (Rect.not_mem_set_of_axis _ _ (1 : Fin 2) 2048 1024 rfl rfl rfl (.inl (by show j.val < 2048; omega))),
    View.canon_cons_of_not_mem _ _ (Rect.not_mem_set_of_axis _ _ (1 : Fin 2) 1024 1024 rfl rfl rfl (.inl (by show j.val < 1024; omega))), ← emb0]
  exact View.canon_cons_emb _ _ _ _
end

/-- Four chunks side by side hold `f` where each chunk holds its part. -/
theorem wide_at (a b c d : Vec Ideal S256x1024 .bf16) (p : Fin 256) (f : Fin 4096 → EReal) (ha : ∀ j, a (ix2 p j) = f (c0 j)) (hb : ∀ j, b (ix2 p j) = f (c1 j))
    (hc : ∀ j, c (ix2 p j) = f (c2 j)) (hd : ∀ j, d (ix2 p j) = f (c3 j)) (j : Fin 4096) : wide a b c d (ix2 p j) = f j := by
  rcases chunk_cases j with ⟨i, rfl⟩ | ⟨i, rfl⟩ | ⟨i, rfl⟩ | ⟨i, rfl⟩
  · exact (wide_c0 a b c d p i).trans (ha i)
  · exact (wide_c1 a b c d p i).trans (hb i)
  · exact (wide_c2 a b c d p i).trans (hc i)
  · exact (wide_c3 a b c d p i).trans (hd i)

/-! ## A row of the point -/

section
variable (x dx2 fo : Vec Ideal S256x1024 .f32) (mod : Vec Ideal S1x8x1024 .f32) (nw : Vec Ideal S1x1024 .f32) (w1 : Vec Ideal S1024x4096 .bf16) (w2 : Vec Ideal S4096x1024 .bf16)

/-- The point's blocks at row `p`. -/
def tileRow (p : Fin 256) : Row where
  x k := x (ix2 p k)
  g k := dx2 (ix2 p k)
  add k := mod (ix3 0 3 k)
  scl k := mod (ix3 0 4 k)
  gate k := mod (ix3 0 5 k)
  nw k := nw (ix2 0 k)
  w1 k j := w1 (ix2 k j)
  w2 j k := w2 (ix2 j k)

local notation "R" => tileRow x dx2 mod nw w1 w2

theorem hb_at (p : Fin 256) (k : Fin 1024) : hb x mod nw (ix2 p k) = (R p).h k := by
  pointwise [hb, k0_pay10, k0_pay9, k0_pay8, k0_pay7, k0_pay6, k0_pay4, k0_pay3, k0_pay2]
  rfl
theorem gb_at (p : Fin 256) (k : Fin 1024) : gb dx2 mod (ix2 p k) = (R p).df k := by
  pointwise [gb, k0_pay11, k0_pay2]
  rfl

/-- A chunk of the hidden row, its square and the gradient before the nonlinearity. -/
theorem first_at (p : Fin 256) (j : Fin 1024) : first x mod nw w1 (ix2 p j) = (R p).pre (c0 j) := by
  have e : first x mod nw w1 (ix2 p j) = ∑ k : Fin 1024, hb x mod nw (ix2 p k) * up0 w1 (ix2 k j) := by pointwise [first, k0_pay14, hb]
  rw [e]
  exact Finset.sum_congr rfl fun k _ => congrArg₂ (· * ·) (hb_at x dx2 mod nw w1 w2 p k) (up0_at w1 k j)
theorem act0_at (p : Fin 256) (j : Fin 1024) : k0_pay15 (first x mod nw w1) (ix2 p j) = (R p).act (c0 j) := by
  rw [Row.act, ← first_at]
  pointwise [k0_pay15]
theorem act1_at (p : Fin 256) (j : Fin 1024) : k0_pay18 (hb x mod nw) (up1 w1) (ix2 p j) = (R p).act (c1 j) := by
  have e : k0_pay18 (hb x mod nw) (up1 w1) (ix2 p j) = max (∑ k : Fin 1024, hb x mod nw (ix2 p k) * up1 w1 (ix2 k j)) 0 := by pointwise [k0_pay18]
  rw [e]
  exact congrArg (max · 0) (Finset.sum_congr rfl fun k _ => congrArg₂ (· * ·) (hb_at x dx2 mod nw w1 w2 p k) (up1_at w1 k j))
theorem act2_at (p : Fin 256) (j : Fin 1024) : k0_pay22 (hb x mod nw) (up2 w1) (ix2 p j) = (R p).act (c2 j) := by
  have e : k0_pay22 (hb x mod nw) (up2 w1) (ix2 p j) = max (∑ k : Fin 1024, hb x mod nw (ix2 p k) * up2 w1 (ix2 k j)) 0 := by pointwise [k0_pay22]
  rw [e]
  exact congrArg (max · 0) (Finset.sum_congr rfl fun k _ => congrArg₂ (· * ·) (hb_at x dx2 mod nw w1 w2 p k) (up2_at w1 k j))
theorem act3_at (p : Fin 256) (j : Fin 1024) : k0_pay26 (hb x mod nw) (up3 w1) (ix2 p j) = (R p).act (c3 j) := by
  have e : k0_pay26 (hb x mod nw) (up3 w1) (ix2 p j) = max (∑ k : Fin 1024, hb x mod nw (ix2 p k) * up3 w1 (ix2 k j)) 0 := by pointwise [k0_pay26]
  rw [e]
  exact congrArg (max · 0) (Finset.sum_congr rfl fun k _ => congrArg₂ (· * ·) (hb_at x dx2 mod nw w1 w2 p k) (up3_at w1 k j))
theorem sq0_at (p : Fin 256) (j : Fin 1024) : k0_pay16 (first x mod nw w1) (ix2 p j) = (R p).sq (c0 j) := by
  rw [Row.sq, ← act0_at]
  pointwise [k0_pay16]
theorem sq1_at (p : Fin 256) (j : Fin 1024) : k0_pay19 (hb x mod nw) (up1 w1) (ix2 p j) = (R p).sq (c1 j) := by
  rw [Row.sq, ← act1_at]
  pointwise [k0_pay19]
theorem sq2_at (p : Fin 256) (j : Fin 1024) : k0_pay23 (hb x mod nw) (up2 w1) (ix2 p j) = (R p).sq (c2 j) := by
  rw [Row.sq, ← act2_at]
  pointwise [k0_pay23]
theorem sq3_at (p : Fin 256) (j : Fin 1024) : k0_pay27 (hb x mod nw) (up3 w1) (ix2 p j) = (R p).sq (c3 j) := by
  rw [Row.sq, ← act3_at]
  pointwise [k0_pay27]
theorem dpre0_at (p : Fin 256) (j : Fin 1024) : k0_pay17 (gb dx2 mod) (first x mod nw w1) (down0 w2) (ix2 p j) = (R p).dpre (c0 j) := by
  have e : k0_pay17 (gb dx2 mod) (first x mod nw w1) (down0 w2) (ix2 p j)
      = (∑ k : Fin 1024, gb dx2 mod (ix2 p k) * down0 w2 (ix2 j k)) * (Ideal.ofBits .f32 1073741824#32 * k0_pay15 (first x mod nw w1) (ix2 p j)) := by
    pointwise [k0_pay17]
  rw [e, act0_at x dx2 mod nw w1 w2]
  exact congrArg (· * _) (Finset.sum_congr rfl fun k _ => congrArg₂ (· * ·) (gb_at x dx2 mod nw w1 w2 p k) (down0_at w2 j k))
theorem dpre1_at (p : Fin 256) (j : Fin 1024) : k0_pay20 (hb x mod nw) (gb dx2 mod) (up1 w1) (down1 w2) (ix2 p j) = (R p).dpre (c1 j) := by
  have e : k0_pay20 (hb x mod nw) (gb dx2 mod) (up1 w1) (down1 w2) (ix2 p j)
      = (∑ k : Fin 1024, gb dx2 mod (ix2 p k) * down1 w2 (ix2 j k)) * (Ideal.ofBits .f32 1073741824#32 * k0_pay18 (hb x mod nw) (up1 w1) (ix2 p j)) := by
    pointwise [k0_pay20]
  rw [e, act1_at x dx2 mod nw w1 w2]
  exact congrArg (· * _) (Finset.sum_congr rfl fun k _ => congrArg₂ (· * ·) (gb_at x dx2 mod nw w1 w2 p k) (down1_at w2 j k))
theorem dpre2_at (p : Fin 256) (j : Fin 1024) : k0_pay24 (hb x mod nw) (gb dx2 mod) (up2 w1) (down2 w2) (ix2 p j) = (R p).dpre (c2 j) := by
  have e : k0_pay24 (hb x mod nw) (gb dx2 mod) (up2 w1) (down2 w2) (ix2 p j)
      = (∑ k : Fin 1024, gb dx2 mod (ix2 p k) * down2 w2 (ix2 j k)) * (Ideal.ofBits .f32 1073741824#32 * k0_pay22 (hb x mod nw) (up2 w1) (ix2 p j)) := by
    pointwise [k0_pay24]
  rw [e, act2_at x dx2 mod nw w1 w2]
  exact congrArg (· * _) (Finset.sum_congr rfl fun k _ => congrArg₂ (· * ·) (gb_at x dx2 mod nw w1 w2 p k) (down2_at w2 j k))
theorem dpre3_at (p : Fin 256) (j : Fin 1024) : k0_pay29 (gb dx2 mod) (k0_pay26 (hb x mod nw) (up3 w1)) (k0_pay28 (down3 w2)) (ix2 p j) = (R p).dpre (c3 j) := by
  have e : k0_pay29 (gb dx2 mod) (k0_pay26 (hb x mod nw) (up3 w1)) (k0_pay28 (down3 w2)) (ix2 p j)
      = (∑ k : Fin 1024, gb dx2 mod (ix2 p k) * down3 w2 (ix2 j k)) * (Ideal.ofBits .f32 1073741824#32 * k0_pay26 (hb x mod nw) (up3 w1) (ix2 p j)) := by
    pointwise [k0_pay29, k0_pay28]
  rw [e, act3_at x dx2 mod nw w1 w2]
  exact congrArg (· * _) (Finset.sum_congr rfl fun k _ => congrArg₂ (· * ·) (gb_at x dx2 mod nw w1 w2 p k) (down3_at w2 j k))

theorem hidden_at (p : Fin 256) (j : Fin 4096) : hidden x mod nw w1 (ix2 p j) = (R p).sq j :=
  wide_at _ _ _ _ p _ (sq0_at x dx2 mod nw w1 w2 p) (sq1_at x dx2 mod nw w1 w2 p) (sq2_at x dx2 mod nw w1 w2 p) (sq3_at x dx2 mod nw w1 w2 p) j
theorem zpre_at (p : Fin 256) (j : Fin 4096) : zpre x dx2 mod nw w1 w2 (ix2 p j) = (R p).dpre j :=
  wide_at _ _ _ _ p _ (dpre0_at x dx2 mod nw w1 w2 p) (dpre1_at x dx2 mod nw w1 w2 p) (dpre2_at x dx2 mod nw w1 w2 p) (dpre3_at x dx2 mod nw w1 w2 p) j
theorem zf_at (k : Fin 1024) (p : Fin 256) : zf dx2 mod (ix2 k p) = (R p).df k := by
  pointwise [zf, k0_pay31, k0_pay2]
  rfl
theorem rows_at (k : Fin 1024) (p : Fin 256) : rows x mod nw (ix2 k p) = (R p).h k := by
  pointwise [rows, k0_pay32, k0_pay9, k0_pay8, k0_pay7, k0_pay6, k0_pay4, k0_pay3, k0_pay2]
  rfl

/-- The four chunks' sums are the gradient of the modulated row. -/
def dh : FVec Ideal S256x1024 .f32 := k0_pay30 (gb dx2 mod) (dh2three x dx2 mod nw w1 w2) (k0_pay26 (hb x mod nw) (up3 w1)) (k0_pay28 (down3 w2)) (up3 w1)
theorem dh_at (p : Fin 256) (k : Fin 1024) : dh x dx2 mod nw w1 w2 (ix2 p k) = (R p).dh k := by
  have e2 : dh2two x dx2 mod nw w1 w2 (ix2 p k) = 0 + (∑ j : Fin 1024, k0_pay17 (gb dx2 mod) (first x mod nw w1) (down0 w2) (ix2 p j) * up0 w1 (ix2 k j))
      + ∑ j : Fin 1024, k0_pay20 (hb x mod nw) (gb dx2 mod) (up1 w1) (down1 w2) (ix2 p j) * up1 w1 (ix2 k j) := by pointwise [dh2two, k0_pay21, k0_pay13]
  have e3 : dh2three x dx2 mod nw w1 w2 (ix2 p k) = dh2two x dx2 mod nw w1 w2 (ix2 p k)
      + ∑ j : Fin 1024, k0_pay24 (hb x mod nw) (gb dx2 mod) (up2 w1) (down2 w2) (ix2 p j) * up2 w1 (ix2 k j) := by pointwise [dh2three, k0_pay25]
  have e4 : dh x dx2 mod nw w1 w2 (ix2 p k) = dh2three x dx2 mod nw w1 w2 (ix2 p k)
      + ∑ j : Fin 1024, k0_pay29 (gb dx2 mod) (k0_pay26 (hb x mod nw) (up3 w1)) (k0_pay28 (down3 w2)) (ix2 p j) * up3 w1 (ix2 k j) := by pointwise [dh, k0_pay30]
  rw [e4, e3, e2, zero_add, Row.dh, sum_chunks]
  refine congrArg₂ (· + ·) (congrArg₂ (· + ·) (congrArg₂ (· + ·) ?_ ?_) ?_) ?_ <;> refine Finset.sum_congr rfl fun j _ => congrArg₂ (· * ·) ?_ ?_
  · exact dpre0_at x dx2 mod nw w1 w2 p j
  · exact up0_at w1 k j
  · exact dpre1_at x dx2 mod nw w1 w2 p j
  · exact up1_at w1 k j
  · exact dpre2_at x dx2 mod nw w1 w2 p j
  · exact up2_at w1 k j
  · exact dpre3_at x dx2 mod nw w1 w2 p j
  · exact up3_at w1 k j

def du : FVec Ideal S256x1024 .f32 :=
  k0_pay33 (k0_pay8 mod) (gb dx2 mod) (dh2three x dx2 mod nw w1 w2) (k0_pay26 (hb x mod nw) (up3 w1)) (k0_pay28 (down3 w2)) (up3 w1)
theorem du_at (p : Fin 256) (k : Fin 1024) : du x dx2 mod nw w1 w2 (ix2 p k) = (R p).du k := by
  rw [Row.du, ← dh_at]
  pointwise [du, k0_pay33, k0_pay8, k0_pay2, dh]
  rfl
end

end Cert.Kernel3Ideal.Value

end
-- ==== Proof.Ffn.TileSums.lean ====
/- One grid point's gradient of its rows, and what it gives to the sums over rows. -/
module

public import proofs.«01_k».proof.Proof.Ffn.Tile

@[expose] public section
set_option maxRecDepth 16384

noncomputable section

namespace Cert.Kernel3Ideal.Value

open Cert.Kernel3Ideal Cert.Kernel3Ideal.Gen Cert.Kernel3Ideal.Run Cert.Ffn Cert.Attention Idealize.ShloMosaic Idealize.ShloMosaic.TcCoe

variable (x dx2 fo : Vec Ideal S256x1024 .f32) (mod : Vec Ideal S1x8x1024 .f32) (nw : Vec Ideal S1x1024 .f32) (w1 : Vec Ideal S1024x4096 .bf16) (w2 : Vec Ideal S4096x1024 .bf16)

local notation "R" => tileRow x dx2 mod nw w1 w2

theorem root_at (p : Fin 256) (u : Fin 1) : k0_pay4 x (ix2 p u) = (R p).rs := by
  pointwise [k0_pay4, k0_pay3]
  rfl
theorem slope_at (p : Fin 256) (u : Fin 1) : k0_pay5 x (ix2 p u) = (R p).rv := by
  pointwise [k0_pay5, k0_pay4, k0_pay3]
  rfl
theorem normed_at (p : Fin 256) (k : Fin 1024) : k0_pay7 x nw (ix2 p k) = (R p).normed k := by
  pointwise [k0_pay7, k0_pay6, k0_pay4, k0_pay3]
  rfl

theorem dx1_at (p : Fin 256) (k : Fin 1024) : dx1 x dx2 mod nw w1 w2 (ix2 p k) = (R p).dx k := by
  have e : dx1 x dx2 mod nw w1 w2 (ix2 p k) = dx2 (ix2 p k) + (du x dx2 mod nw w1 w2 (ix2 p k) * nw (ix2 0 k) * k0_pay4 x (ix2 p 0)
      + x (ix2 p k) * (∑ u : Fin 1, Ideal.div ((∑ l : Fin 1024, x (ix2 p l) * (du x dx2 mod nw w1 w2 (ix2 p l) * nw (ix2 0 l))) * k0_pay5 x (ix2 p u)) (Ideal.ofBits .f32 1149239296#32))
      + (∑ u : Fin 1, Ideal.div ((∑ l : Fin 1024, x (ix2 p l) * (du x dx2 mod nw w1 w2 (ix2 p l) * nw (ix2 0 l))) * k0_pay5 x (ix2 p u)) (Ideal.ofBits .f32 1149239296#32))
        * x (ix2 p k)) := by pointwise [dx1, k0_pay37, du]
  simp only [du_at, root_at x dx2 mod nw w1 w2, slope_at x dx2 mod nw w1 w2] at e
  exact e

theorem dnw_at (k : Fin 1024) : dnw x dx2 mod nw w1 w2 (ix2 0 k) = ∑ p, (R p).dnw k := by
  have e : dnw x dx2 mod nw w1 w2 (ix2 0 k) = ∑ p : Fin 256, k0_pay6 x (ix2 p k) * du x dx2 mod nw w1 w2 (ix2 p k) := by pointwise [dnw, k0_pay36, k0_pay35, du]
  rw [e]
  refine Finset.sum_congr rfl fun p _ => congrArg₂ (· * ·) ?_ (du_at x dx2 mod nw w1 w2 p k)
  pointwise [k0_pay6, k0_pay4, k0_pay3]
  rfl
theorem dnwAdd_at (s : Vec Ideal S1x1024 .f32) (k : Fin 1024) : dnwAdd x dx2 mod nw w1 w2 s (ix2 0 k) = s (ix2 0 k) + ∑ p, (R p).dnw k := by
  rw [← dnw_at]
  pointwise [dnwAdd, k0_pay1]

theorem word_eq : ∀ i : Fin 8, IntOp.cmpi CmpIPredicate.eq (BitVec.ofNat 32 i.val) 5#32 = if i.val = 5 then 1#1 else 0#1 := by decide +kernel

/-- The point's part of the modulation's gradient, where its rows of the FFN's output are `fo`. -/
theorem part_at (hf : ∀ p k, fo (ix2 p k) = (R p).f k) (i : Fin 8) (k : Fin 1024) :
    k0_pay38 dx2 (k0_pay12 fo) (modHead x dx2 mod nw w1 w2) (ix2 i k) = ∑ p, (R p).dmod i k := by
  have e1 : modHead x dx2 mod nw w1 w2 (ix2 i k) = (if h : i.val < 4 then if h : i.val < 3 then 0 else ∑ p : Fin 256, dh x dx2 mod nw w1 w2 (ix2 p k) else 0)
      + (if h : i.val < 5 then if h : i.val < 4 then 0 else ∑ p : Fin 256, k0_pay7 x nw (ix2 p k) * dh x dx2 mod nw w1 w2 (ix2 p k) else 0) := by pointwise [modHead, k0_pay34, dh]
  have e2 : k0_pay38 dx2 (k0_pay12 fo) (modHead x dx2 mod nw w1 w2) (ix2 i k) = modHead x dx2 mod nw w1 w2 (ix2 i k)
      + Scalar.select (IntOp.cmpi CmpIPredicate.eq (BitVec.ofNat 32 i.val) 5#32) (∑ p : Fin 256, dx2 (ix2 p k) * fo (ix2 p k)) 0 := by pointwise [k0_pay38, k0_pay12]
  have h3 : (∑ p : Fin 256, dh x dx2 mod nw w1 w2 (ix2 p k)) = ∑ p, (R p).dh k := Finset.sum_congr rfl fun p _ => dh_at x dx2 mod nw w1 w2 p k
  have h4 : (∑ p : Fin 256, k0_pay7 x nw (ix2 p k) * dh x dx2 mod nw w1 w2 (ix2 p k)) = ∑ p, (R p).normed k * (R p).dh k :=
    Finset.sum_congr rfl fun p _ => congrArg₂ (· * ·) (normed_at x dx2 mod nw w1 w2 p k) (dh_at x dx2 mod nw w1 w2 p k)
  have h5 : (∑ p : Fin 256, dx2 (ix2 p k) * fo (ix2 p k)) = ∑ p, (R p).g k * (R p).f k := Finset.sum_congr rfl fun p _ => congrArg (_ * ·) (hf p k)
  have e3 : Scalar.select (IntOp.cmpi CmpIPredicate.eq (BitVec.ofNat 32 i.val) 5#32) (∑ p, (R p).g k * (R p).f k) 0 = if i.val = 5 then ∑ p, (R p).g k * (R p).f k else 0 := by
    rw [word_eq]
    split <;> rfl
  rw [e2, e1, h3, h4, h5, e3]
  unfold Row.dmod
  by_cases i3 : i.val = 3
  · simp [i3]
  by_cases i4 : i.val = 4
  · simp [i4]
  by_cases i5 : i.val = 5
  · simp [i5]
  have h : i.val < 3 ∨ 5 < i.val := by omega
  rcases h with h | h
  · simp [i3, i4, i5, h, show i.val < 4 by omega, show i.val < 5 by omega]
  · simp [i3, i4, i5, show ¬i.val < 4 by omega, show ¬i.val < 5 by omega]

theorem dmod_at (hf : ∀ p k, fo (ix2 p k) = (R p).f k) (i : Fin 8) (k : Fin 1024) : dmod x dx2 fo mod nw w1 w2 (ix3 0 i k) = ∑ p, (R p).dmod i k := by
  rw [← part_at x dx2 fo mod nw w1 w2 hf]
  pointwise [dmod, k0_pay39]
theorem dmodAdd_at (hf : ∀ p k, fo (ix2 p k) = (R p).f k) (s : Vec Ideal S1x8x1024 .f32) (i : Fin 8) (k : Fin 1024) :
    dmodAdd x dx2 fo mod nw w1 w2 s (ix3 0 i k) = s (ix3 0 i k) + ∑ p, (R p).dmod i k := by
  rw [← part_at x dx2 fo mod nw w1 w2 hf]
  pointwise [dmodAdd, k0_pay40]

end Cert.Kernel3Ideal.Value

end
-- ==== Proof.Ffn.Host.lean ====
/- What the FFN gradient's call is given. -/
module

public import proofs.«01_k».proof.Proof.Ffn.Launch
public import proofs.«01_k».proof.Proof.Ffn.Reference
public import proofs.«01_k».proof.Proof.Ffn.TileSums
public import Idealize.ShloMosaic.Lib.StableHlo.RunRead

@[expose] public section
set_option maxRecDepth 16384

noncomputable section

namespace Cert.Kernel3Ideal.Value

open Cert.Kernel3Ideal Cert.Kernel3Ideal.Gen Cert.Kernel3Ideal.Run Cert.Ffn Idealize.ShloMosaic Idealize.ShloMosaic.TcCoe Idealize.ShloMosaic.Pipeline

variable (m : (ℓ : Loc nD τ sig) → Buf (Elt Ideal) ℓ) (c : Dev nD)

abbrev in0 : FVec Ideal S8448x1024 .f32 := m (c.tc.loc main_arg0)
abbrev in1 : FVec Ideal S2x8x1024 .f32 := m (c.tc.loc main_arg1)
abbrev in2 : FVec Ideal S1x1024 .f32 := m (c.tc.loc main_arg2)
abbrev in3 : FVec Ideal S1024x4096 .f32 := m (c.tc.loc main_arg3)
abbrev in4 : FVec Ideal S4096x1024 .f32 := m (c.tc.loc main_arg4)
abbrev in5 : FVec Ideal S8448x1024 .f32 := m (c.tc.loc main_arg5)

/-! ## The host's values -/

/-- The FFN's output, by the reference's own lines. -/
def hidden' : FVec Ideal S8448x4096 .f32 :=
  maximumf (Host.dotGeneral (F := Ideal) dot_S8448x1024_S1024x4096_S8448x4096_1_0_0_1_n_n none (Cert.Reference3Ideal.Value.rows (in0 m c) (in1 m c) (in2 m c)) (in3 m c) : FVec Ideal S8448x4096 .f32)
    Cert.Reference3Ideal.Value.zeroF
def output : FVec Ideal S8448x1024 .f32 :=
  Host.dotGeneral (F := Ideal) dot_S8448x4096_S4096x1024_S8448x1024_1_0_0_1_n_n none (mulf (hidden' m c) (hidden' m c)) (in4 m c)

theorem v35_eq : V m c main_v35 = output m c := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_reads_simp
  rfl
theorem v36_eq : V m c main_v36 = (truncf .bf16 (in3 m c) bitsLt_bf16_f32 : FVec Ideal S1024x4096 .bf16) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_reads_simp
theorem v37_eq : V m c main_v37 = (truncf .bf16 (in4 m c) bitsLt_bf16_f32 : FVec Ideal S4096x1024 .bf16) := by
  show StableHlo.after (List.flatten [hostOps0, hostOps0_1, hostOps0_2, hostOps0_3, hostOps0_4, hostOps0_5, hostOps0_6]) (fun b => m (c, b)) _ = _
  simp only [hostOps0, hostOps0_1, hostOps0_2, hostOps0_3, hostOps0_4, hostOps0_5, hostOps0_6, List.flatten_cons, List.flatten_nil, List.append_nil, List.cons_append, List.nil_append]
  after_reads_simp
theorem v36_at (k : Fin 1024) (j : Fin 4096) : V m c main_v36 (ix2 k j) = in3 m c (ix2 k j) := by
  rw [v36_eq]; pointwise
theorem v37_at (j : Fin 4096) (k : Fin 1024) : V m c main_v37 (ix2 j k) = in4 m c (ix2 j k) := by
  rw [v37_eq]; pointwise

/-- The arguments at row `r`. -/
abbrev argRow (r : Fin 8448) : Row := Cert.Reference3Ideal.Value.row (in0 m c) (in1 m c) (in2 m c) (in3 m c) (in4 m c) (in5 m c) r

theorem output_at (r : Fin 8448) (k : Fin 1024) : output m c (ix2 r k) = (argRow m c r).f k := by
  have ea : ∀ j : Fin 4096, hidden' m c (ix2 r j) = (argRow m c r).act j := fun j => by
    have e : hidden' m c (ix2 r j) = max (∑ l : Fin 1024, Cert.Reference3Ideal.Value.rows (in0 m c) (in1 m c) (in2 m c) (ix2 r l) * in3 m c (ix2 l j)) (Cert.Reference3Ideal.Value.zeroF (ix2 r j)) := by
      pointwise [hidden']
    rw [e, Cert.Reference3Ideal.Value.zeroF_at]
    exact congrArg (max · 0) (Finset.sum_congr rfl fun l _ => congrArg (· * _) (Cert.Reference3Ideal.Value.rows_at _ _ _ (in3 m c) (in4 m c) (in5 m c) r l))
  have e : output m c (ix2 r k) = ∑ j : Fin 4096, hidden' m c (ix2 r j) * hidden' m c (ix2 r j) * in4 m c (ix2 j k) := by pointwise [output]
  rw [e]
  exact Finset.sum_congr rfl fun j _ => by rw [ea]; rfl

/-! ## The blocks that a point is given -/

theorem lt_N (t : Fin cfg0.N) : t.val < 33 := lt_of_lt_of_eq t.isLt (show cfg0.N = 33 from N_0)
theorem index0_0 : ∀ t : Fin cfg0.N, win0_0.index t = ![t.val, 0] := by decide +kernel
theorem index0_1 : ∀ t : Fin cfg0.N, win0_1.index t = ![min t.val 1, 0, 0] := by decide +kernel
theorem index0_2 : ∀ t : Fin cfg0.N, win0_2.index t = ![0, 0] := by decide +kernel
theorem index0_3 : ∀ t : Fin cfg0.N, win0_3.index t = ![0, 0] := by decide +kernel
theorem index0_4 : ∀ t : Fin cfg0.N, win0_4.index t = ![0, 0] := by decide +kernel
theorem index0_5 : ∀ t : Fin cfg0.N, win0_5.index t = ![t.val, 0] := by decide +kernel
theorem index0_6 : ∀ t : Fin cfg0.N, win0_6.index t = ![t.val, 0] := by decide +kernel

/-- Row `p` of point `t`, and the point's part of the modulation. -/
def at' (t : Fin cfg0.N) (p : Fin 256) : Fin 8448 := ⟨256 * t.val + p.val, by have := lt_N t; omega⟩
def part (t : Fin cfg0.N) : Fin 2 := ⟨min t.val 1, by omega⟩
theorem seg_at (t : Fin cfg0.N) (p : Fin 256) : Cert.Reference3Ideal.Value.seg (at' t p) = part t := by
  unfold Cert.Reference3Ideal.Value.seg
  by_cases h : t.val = 0
  · rw [if_pos (by simp only [at']; omega)]
    exact Fin.ext (by simp only [part, h]; rfl)
  · rw [if_neg (by simp only [at']; omega)]
    exact Fin.ext (by simp only [part]; show 1 = _; omega)

theorem iblk_0 (t : Fin cfg0.N) (p : Fin 256) (k : Fin 1024) : (iblk m c 0 t : Vec Ideal S256x1024 .f32) (ix2 p k) = in0 m c (ix2 (at' t p) k) := by
  rw [in0, ← V_main_arg0 m c]
  blk_ext [iblk, index0_0 t, at']
theorem iblk_1 (t : Fin cfg0.N) (i : Fin 8) (k : Fin 1024) : (iblk m c 1 t : Vec Ideal S1x8x1024 .f32) (ix3 0 i k) = in1 m c (ix3 (part t) i k) := by
  rw [in1, ← V_main_arg1 m c]
  blk_ext [iblk, index0_1 t, part]
theorem iblk_2 (t : Fin cfg0.N) (k : Fin 1024) : (iblk m c 2 t : Vec Ideal S1x1024 .f32) (ix2 0 k) = in2 m c (ix2 0 k) := by
  rw [in2, ← V_main_arg2 m c]
  blk_ext [iblk, index0_2 t]
theorem iblk_3 (t : Fin cfg0.N) (k : Fin 1024) (j : Fin 4096) : (iblk m c 3 t : Vec Ideal S1024x4096 .bf16) (ix2 k j) = in3 m c (ix2 k j) := by
  rw [← v36_at m c]
  blk_ext [iblk, index0_3 t]
theorem iblk_4 (t : Fin cfg0.N) (j : Fin 4096) (k : Fin 1024) : (iblk m c 4 t : Vec Ideal S4096x1024 .bf16) (ix2 j k) = in4 m c (ix2 j k) := by
  rw [← v37_at m c]
  blk_ext [iblk, index0_4 t]
theorem iblk_5 (t : Fin cfg0.N) (p : Fin 256) (k : Fin 1024) : (iblk m c 5 t : Vec Ideal S256x1024 .f32) (ix2 p k) = in5 m c (ix2 (at' t p) k) := by
  rw [in5, ← V_main_arg5 m c]
  blk_ext [iblk, index0_5 t, at']
theorem iblk_6 (t : Fin cfg0.N) (p : Fin 256) (k : Fin 1024) : (iblk m c 6 t : Vec Ideal S256x1024 .f32) (ix2 p k) = (argRow m c (at' t p)).f k := by
  rw [← output_at, ← v35_eq]
  blk_ext [iblk, index0_6 t, at']

/-- A point's row is the arguments' row. -/
theorem row_eq (t : Fin cfg0.N) (p : Fin 256) :
    tileRow (iblk m c 0 t) (iblk m c 5 t) (iblk m c 1 t) (iblk m c 2 t) (iblk m c 3 t) (iblk m c 4 t) p = argRow m c (at' t p) := by
  unfold tileRow argRow Cert.Reference3Ideal.Value.row
  rw [seg_at]
  simp only [iblk_0, iblk_1, iblk_2, iblk_3, iblk_4, iblk_5]

end Cert.Kernel3Ideal.Value

end
-- ==== Proof.Ffn.Arrays.lean ====
/- The seven arrays that the FFN gradient's call leaves are the reference's results. -/
module

public import proofs.«01_k».proof.Proof.Ffn.Host

@[expose] public section
set_option maxRecDepth 16384

noncomputable section

namespace Cert.Kernel3Ideal.Value

open Cert.Kernel3Ideal Cert.Kernel3Ideal.Gen Cert.Kernel3Ideal.Run Cert.Ffn Cert.Attention Idealize.ShloMosaic Idealize.ShloMosaic.TcCoe Idealize.ShloMosaic.Pipeline

variable (m : (ℓ : Loc nD τ sig) → Buf (Elt Ideal) ℓ) (c : Dev nD)

/-! ## The results, of the arguments -/

def res0 : Vec Ideal S8448x1024 .f32 := Cert.Reference3Ideal.Value.dx (in0 m c) (in1 m c) (in2 m c) (in3 m c) (in4 m c) (in5 m c)
def res1 : Vec Ideal S2x8x1024 .f32 := Cert.Reference3Ideal.Value.dmod (in0 m c) (in1 m c) (in2 m c) (in3 m c) (in4 m c) (in5 m c)
def res2 : Vec Ideal S1x1024 .f32 := Cert.Reference3Ideal.Value.dnw (in0 m c) (in1 m c) (in2 m c) (in3 m c) (in4 m c) (in5 m c)
def res3 : Vec Ideal S8448x4096 .bf16 := Cert.Reference3Ideal.Value.dpreB (in0 m c) (in1 m c) (in2 m c) (in3 m c) (in4 m c) (in5 m c)
def res4 : Vec Ideal S1024x8448 .bf16 := Cert.Reference3Ideal.Value.doutT (in1 m c) (in5 m c)
def res5 : Vec Ideal S1024x8448 .bf16 := Cert.Reference3Ideal.Value.rowsT (in0 m c) (in1 m c) (in2 m c)
def res6 : Vec Ideal S8448x4096 .bf16 := Cert.Reference3Ideal.Value.sqB (in0 m c) (in1 m c) (in2 m c) (in3 m c)

/-! ## Where a point's blocks lie -/

theorem index0_7 : ∀ t : Fin cfg0.N, win0_7.index t = ![t.val, 0] := by decide +kernel
theorem index0_8 : ∀ t : Fin cfg0.N, win0_8.index t = ![min t.val 1, 0, 0] := by decide +kernel
theorem index0_9 : ∀ t : Fin cfg0.N, win0_9.index t = ![0, 0] := by decide +kernel
theorem index0_10 : ∀ t : Fin cfg0.N, win0_10.index t = ![t.val, 0] := by decide +kernel
theorem index0_11 : ∀ t : Fin cfg0.N, win0_11.index t = ![0, t.val] := by decide +kernel
theorem index0_12 : ∀ t : Fin cfg0.N, win0_12.index t = ![0, t.val] := by decide +kernel
theorem index0_13 : ∀ t : Fin cfg0.N, win0_13.index t = ![t.val, 0] := by decide +kernel

section
variable (t : Fin cfg0.N)
theorem emb_7 (p : Fin 256) (k : Fin 1024) : (win0_7.blk t).view.emb (ix2 p k) = ix2 (at' t p) k := by blk_ext [index0_7 t, at']
theorem emb_8 (i : Fin 8) (k : Fin 1024) : (win0_8.blk t).view.emb (ix3 0 i k) = ix3 (part t) i k := by blk_ext [index0_8 t, part]
theorem emb_9 (k : Fin 1024) : (win0_9.blk t).view.emb (ix2 0 k) = ix2 0 k := by blk_ext [index0_9 t]
theorem emb_10 (p : Fin 256) (j : Fin 4096) : (win0_10.blk t).view.emb (ix2 p j) = ix2 (at' t p) j := by blk_ext [index0_10 t, at']
theorem emb_11 (k : Fin 1024) (p : Fin 256) : (win0_11.blk t).view.emb (ix2 k p) = ix2 k (at' t p) := by blk_ext [index0_11 t, at']
theorem emb_12 (k : Fin 1024) (p : Fin 256) : (win0_12.blk t).view.emb (ix2 k p) = ix2 k (at' t p) := by blk_ext [index0_12 t, at']
theorem emb_13 (p : Fin 256) (j : Fin 4096) : (win0_13.blk t).view.emb (ix2 p j) = ix2 (at' t p) j := by blk_ext [index0_13 t, at']
end

/-! ## The blocks that follow rows -/

section
variable (t : Fin cfg0.N)
theorem block_7 (p : Fin 256) (k : Fin 1024) : dx1 (iblk m c 0 t) (iblk m c 5 t) (iblk m c 1 t) (iblk m c 2 t) (iblk m c 3 t) (iblk m c 4 t) (ix2 p k) = res0 m c (ix2 (at' t p) k) := by
  rw [dx1_at, row_eq]
  exact (Cert.Reference3Ideal.Value.dx_at _ _ _ _ _ _ _ _).symm
theorem block_10 (p : Fin 256) (j : Fin 4096) : zpre (iblk m c 0 t) (iblk m c 5 t) (iblk m c 1 t) (iblk m c 2 t) (iblk m c 3 t) (iblk m c 4 t) (ix2 p j) = res3 m c (ix2 (at' t p) j) := by
  rw [zpre_at, row_eq]
  exact (Cert.Reference3Ideal.Value.dpreB_at _ _ _ _ _ _ _ _).symm
theorem block_11 (k : Fin 1024) (p : Fin 256) : zf (iblk m c 5 t) (iblk m c 1 t) (ix2 k p) = res4 m c (ix2 k (at' t p)) := by
  refine (zf_at (iblk m c 0 t) _ _ (iblk m c 2 t) (iblk m c 3 t) (iblk m c 4 t) k p).trans ?_
  rw [row_eq]
  exact (Cert.Reference3Ideal.Value.doutT_at (in0 m c) _ (in2 m c) (in3 m c) (in4 m c) _ _ _).symm
theorem block_12 (k : Fin 1024) (p : Fin 256) : rows (iblk m c 0 t) (iblk m c 1 t) (iblk m c 2 t) (ix2 k p) = res5 m c (ix2 k (at' t p)) := by
  refine (rows_at _ (iblk m c 5 t) _ _ (iblk m c 3 t) (iblk m c 4 t) k p).trans ?_
  rw [row_eq]
  exact (Cert.Reference3Ideal.Value.rowsT_at _ _ _ (in3 m c) (in4 m c) (in5 m c) _ _).symm
theorem block_13 (p : Fin 256) (j : Fin 4096) : hidden (iblk m c 0 t) (iblk m c 1 t) (iblk m c 2 t) (iblk m c 3 t) (ix2 p j) = res6 m c (ix2 (at' t p) j) := by
  refine (hidden_at _ (iblk m c 5 t) _ _ _ (iblk m c 4 t) p j).trans ?_
  rw [row_eq]
  exact (Cert.Reference3Ideal.Value.sqB_at _ _ _ _ (in4 m c) (in5 m c) _ _).symm
end

theorem arr_7 : (dats m 0 c).arrAt 7 cfg0.N = res0 m c := by
  refine (dats m 0 c).arrAt_eq_of_covers 7 _ (by decide +kernel) fun t _ y => ?_
  blk_simp
  rw [after0_7, eq_ix2 y]
  exact (block_7 m c t (y 0) (y 1)).trans (congrArg (res0 m c) (emb_7 t (y 0) (y 1))).symm
theorem arr_10 : (dats m 0 c).arrAt 10 cfg0.N = res3 m c := by
  refine (dats m 0 c).arrAt_eq_of_covers 10 _ (by decide +kernel) fun t _ y => ?_
  blk_simp
  rw [after0_10, eq_ix2 y]
  exact (block_10 m c t (y 0) (y 1)).trans (congrArg (res3 m c) (emb_10 t (y 0) (y 1))).symm
theorem arr_11 : (dats m 0 c).arrAt 11 cfg0.N = res4 m c := by
  refine (dats m 0 c).arrAt_eq_of_covers 11 _ (by decide +kernel) fun t _ y => ?_
  blk_simp
  rw [after0_11, eq_ix2 y]
  exact (block_11 m c t (y 0) (y 1)).trans (congrArg (res4 m c) (emb_11 t (y 0) (y 1))).symm
theorem arr_12 : (dats m 0 c).arrAt 12 cfg0.N = res5 m c := by
  refine (dats m 0 c).arrAt_eq_of_covers 12 _ (by decide +kernel) fun t _ y => ?_
  blk_simp
  rw [after0_12, eq_ix2 y]
  exact (block_12 m c t (y 0) (y 1)).trans (congrArg (res5 m c) (emb_12 t (y 0) (y 1))).symm
theorem arr_13 : (dats m 0 c).arrAt 13 cfg0.N = res6 m c := by
  refine (dats m 0 c).arrAt_eq_of_covers 13 _ (by decide +kernel) fun t _ y => ?_
  blk_simp
  rw [after0_13, eq_ix2 y]
  exact (block_13 m c t (y 0) (y 1)).trans (congrArg (res6 m c) (emb_13 t (y 0) (y 1))).symm

/-! ## The sums over rows -/

/-- After a point the modulation's gradient is the sum over the rows met since its part began. -/
theorem dmodAt_at (i : Fin 8) (k : Fin 1024) : ∀ (n : ℕ) (t : Fin cfg0.N), t.val = n → dmodAt m c t.val t.isLt (ix3 0 i k)
    = ∑ r ∈ Finset.univ.filter (fun r : Fin 8448 => 256 * min t.val 1 ≤ r.val ∧ r.val < 256 * t.val + 256), (argRow m c r).dmod i k := by
  have block : ∀ t : Fin cfg0.N, (∑ p : Fin 256, (tileRow (iblk m c 0 t) (iblk m c 5 t) (iblk m c 1 t) (iblk m c 2 t) (iblk m c 3 t) (iblk m c 4 t) p).dmod i k)
      = ∑ p : Fin 256, (argRow m c ⟨256 * t.val + p.val, by have := lt_N t; omega⟩).dmod i k := fun t => Finset.sum_congr rfl fun p _ => by rw [row_eq]; rfl
  have out : ∀ t : Fin cfg0.N, ∀ (p : Fin 256) (k : Fin 1024), (iblk m c 6 t : Vec Ideal S256x1024 .f32) (ix2 p k)
      = (tileRow (iblk m c 0 t) (iblk m c 5 t) (iblk m c 1 t) (iblk m c 2 t) (iblk m c 3 t) (iblk m c 4 t) p).f k := fun t p k => by rw [row_eq, iblk_6]
  intro n
  induction n with
  | zero =>
    intro t ht
    rw [dmodAt_first m c t (by omega), dmod_at _ _ _ _ _ _ _ (out t), block, sum_extend _ _ _ 256 (by omega) (by have := lt_N t; omega),
      show 256 * min t.val 1 = 256 * t.val by omega, sum_interval_empty, zero_add]
  | succ n ih =>
    intro t ht
    by_cases h1 : t.val ≤ 1
    · rw [dmodAt_first m c t h1, dmod_at _ _ _ _ _ _ _ (out t), block, sum_extend _ _ _ 256 (by omega) (by have := lt_N t; omega),
        show 256 * min t.val 1 = 256 * t.val by omega, sum_interval_empty, zero_add]
    · have hu : n < cfg0.N := by have := t.isLt; omega
      rw [dmodAt_next m c t ⟨n, hu⟩ (by omega) (by dsimp only; omega), dmodAdd_at _ _ _ _ _ _ _ (out t), block, ih ⟨n, hu⟩ rfl,
        sum_extend _ _ (256 * t.val) 256 (by omega) (by have := lt_N t; omega)]
      dsimp only
      rw [show 256 * min n 1 = 256 * min t.val 1 by omega, show 256 * n + 256 = 256 * t.val by omega]

/-- After a point the norm's weights' gradient is the sum over the rows met. -/
theorem dnwAt_at (k : Fin 1024) : ∀ (n : ℕ) (t : Fin cfg0.N), t.val = n → dnwAt m c t.val t.isLt (ix2 0 k)
    = ∑ r ∈ Finset.univ.filter (fun r : Fin 8448 => 0 ≤ r.val ∧ r.val < 256 * t.val + 256), (argRow m c r).dnw k := by
  have block : ∀ t : Fin cfg0.N, (∑ p : Fin 256, (tileRow (iblk m c 0 t) (iblk m c 5 t) (iblk m c 1 t) (iblk m c 2 t) (iblk m c 3 t) (iblk m c 4 t) p).dnw k)
      = ∑ p : Fin 256, (argRow m c ⟨256 * t.val + p.val, by have := lt_N t; omega⟩).dnw k := fun t => Finset.sum_congr rfl fun p _ => by rw [row_eq]; rfl
  intro n
  induction n with
  | zero =>
    intro t ht
    rw [dnwAt_first m c t ht, dnw_at, block, sum_extend _ _ _ 256 (by omega) (by have := lt_N t; omega),
      Finset.sum_eq_zero (s := Finset.univ.filter fun r : Fin 8448 => 0 ≤ r.val ∧ r.val < 256 * t.val) (fun r hr => by have := (Finset.mem_filter.1 hr).2; omega), zero_add]
  | succ n ih =>
    intro t ht
    have hu : n < cfg0.N := by have := t.isLt; omega
    rw [dnwAt_next m c t ⟨n, hu⟩ (by omega) (by dsimp only; omega), dnwAdd_at, block, ih ⟨n, hu⟩ rfl,
      sum_extend _ _ (256 * t.val) 256 (by omega) (by have := lt_N t; omega)]
    dsimp only
    rw [show 256 * n + 256 = 256 * t.val by omega]

theorem block_8 (t : Fin cfg0.N) (hf : t.val = 0 ∨ t.val = 32) (i : Fin 8) (k : Fin 1024) : dmodAt m c t.val t.isLt (ix3 0 i k) = res1 m c (ix3 (part t) i k) := by
  rw [dmodAt_at m c i k t.val t rfl]
  rcases hf with h | h
  · rw [h, show 256 * min 0 1 = 0 from rfl, show 256 * 0 + 256 = 0 + 256 from rfl, sum_extend _ 0 0 256 le_rfl (by omega), sum_interval_empty, zero_add,
      show part t = 0 from Fin.ext (by simp only [part, h]; rfl)]
    refine Eq.trans (Finset.sum_congr rfl fun p _ => ?_) (Cert.Reference3Ideal.Value.dmod_ctx _ _ _ _ _ _ _ _).symm
    exact congrArg (fun r => (argRow m c r).dmod i k) (Fin.ext (Nat.zero_add _))
  · rw [h, show 256 * min 32 1 = 256 from rfl, show 256 * 32 + 256 = 256 + 8192 from rfl, sum_extend _ 256 256 8192 le_rfl (by omega), sum_interval_empty, zero_add,
      show part t = 1 from Fin.ext (by simp only [part, h]; rfl)]
    exact (Cert.Reference3Ideal.Value.dmod_lat _ _ _ _ _ _ _ _).symm
theorem block_9 (t : Fin cfg0.N) (ht : t.val = 32) (k : Fin 1024) : dnwAt m c t.val t.isLt (ix2 0 k) = res2 m c (ix2 0 k) := by
  rw [dnwAt_at m c k t.val t rfl, sum_interval_all _ _ (by omega)]
  exact (Cert.Reference3Ideal.Value.dnw_at _ _ _ _ _ _ _).symm

/-- The first coordinate of a block one deep is zero. -/
theorem deep3 (y : S1x8x1024.Idx) : y = ix3 (0 : Fin 1) (y 1 : Fin 8) (y 2 : Fin 1024) := (eq_ix3 y).trans (congrArg (fun z : Fin 1 => ix3 z (y 1 : Fin 8) (y 2 : Fin 1024)) (@Subsingleton.elim (Fin 1) _ (y 0) 0))
theorem deep2 (y : S1x1024.Idx) : y = ix2 (0 : Fin 1) (y 1 : Fin 1024) := (eq_ix2 y).trans (congrArg (fun z : Fin 1 => ix2 z (y 1 : Fin 1024)) (@Subsingleton.elim (Fin 1) _ (y 0) 0))

theorem arr_8 : (dats m 0 c).arrAt 8 cfg0.N = res1 m c := by
  refine (dats m 0 c).arrAt_eq_of_covers 8 _ (by decide +kernel) fun t hf y => ?_
  blk_simp
  rw [after0_8, deep3 y]
  exact (block_8 m c t ((flush0_8 t).1 hf) (y 1) (y 2)).trans (congrArg (res1 m c) (emb_8 t (y 1) (y 2))).symm
theorem arr_9 : (dats m 0 c).arrAt 9 cfg0.N = res2 m c := by
  refine (dats m 0 c).arrAt_eq_of_covers 9 _ (by decide +kernel) fun t hf y => ?_
  blk_simp
  rw [after0_9, deep2 y]
  exact (block_9 m c t (by have := (flush0_9 t).1 hf; have := lt_N t; omega) (y 1)).trans (congrArg (res2 m c) (emb_9 t (y 1))).symm

end Cert.Kernel3Ideal.Value

end
-- ==== Proof.Ffn.Frame.lean ====
/- The FFN gradient's frame over the bits: both programs have one text, so the run over any float values serves both.
   The two programs' bodies and mains are equal as they stand; the body table is compared label by label. -/
module

public import proofs.«01_k».proof.Defs
public import proofs.«01_k».proof.Proof.Gen.Kernel3
public import proofs.«01_k».proof.Proof.Ffn.Launch

@[expose] public section
set_option maxRecDepth 16384

noncomputable section

namespace Cert.Kernel3Ideal.Run

open Idealize.ShloMosaic Idealize.ShloMosaic.TcCoe

theorem sig_same : Cert.Kernel3.sig = Cert.Kernel3Ideal.sig := rfl

/-- The two programs' pipelines. -/
theorem pcfgs_same : @Cert.Kernel3.pcfgs Bits _ = @Cert.Kernel3Ideal.pcfgs Bits _ := rfl

set_option maxHeartbeats 0 in
/-- The two programs' body tables. -/
theorem bodies_same : Cert.Kernel3.defs₀ (F := Bits) = Cert.Kernel3Ideal.defs₀ (F := Bits) := by
  refine congrArg Defs.onTc (funext fun l => funext fun a => ?_)
  match l, a with
  | 0, (t, s) => rfl
  | ⟨_ + 1, h⟩, _ => exact absurd h (Nat.not_lt.2 (Nat.le_add_left _ _))

set_option maxHeartbeats 0 in
/-- The two programs' mains. -/
theorem main_same : Cert.Kernel3.main (F := Bits) = Cert.Kernel3Ideal.main (F := Bits) := rfl

set_option maxHeartbeats 0 in
theorem run_same : θ_run (Cert.Kernel3.defs (F := Bits)) (onTc (τ := Cert.Kernel3.τ) (Cert.Kernel3.main (F := Bits)))
    = θ_run (Cert.Kernel3Ideal.defs (F := Bits)) (onTc (τ := Cert.Kernel3Ideal.τ) (Cert.Kernel3Ideal.main (F := Bits))) :=
  congrArg₂ (fun d p => θ_run (Pipeline.defs (Cert.Kernel3.pcfgs (F := Bits)) d) (onTc (τ := Cert.Kernel3.τ) p)) bodies_same main_same

set_option maxHeartbeats 0 in
theorem frame_kernel : Cert.quiescent_Kernel3 (hKernel3 := Cert.Kernel3.Gen.facts) := fun m ρ _ => by
  rw [run_same]
  exact frame (F := Bits) m ρ

end Cert.Kernel3Ideal.Run

end
-- ==== Proof.Ffn.Agree.lean ====
/- The FFN gradient's call and the reference agree in all seven results. -/
module

public import proofs.«01_k».proof.Defs
public import proofs.«01_k».proof.Proof.Ffn.Arrays
public import proofs.«01_k».proof.Proof.Ffn.Frame

@[expose] public section
set_option maxRecDepth 16384

noncomputable section

namespace Cert.Kernel3Ideal.Value

open Cert.Kernel3Ideal Cert.Kernel3Ideal.Gen Cert.Kernel3Ideal.Run Idealize.ShloMosaic Idealize.ShloMosaic.TcCoe

variable (m : (ℓ : Loc nD τ sig) → Buf (Elt Ideal) ℓ) (ρ : Dev nD → PrngReg)

/-- The call's run, with its results as the reference states them of the arguments. -/
theorem run : θ_run defs (onTc (τ := τ) (main (F := Ideal))) ⟨m, fun _ => 0, ρ⟩ (fun r => ∀ c : Dev nD,
      r.2.mem ((c.tc : Thread nD τ).loc main_v38_0) = res0 m c
      ∧ r.2.mem ((c.tc : Thread nD τ).loc main_v38_1) = res1 m c
      ∧ r.2.mem ((c.tc : Thread nD τ).loc main_v38_2) = res2 m c
      ∧ r.2.mem ((c.tc : Thread nD τ).loc main_v38_3) = res3 m c
      ∧ r.2.mem ((c.tc : Thread nD τ).loc main_v38_4) = res4 m c
      ∧ r.2.mem ((c.tc : Thread nD τ).loc main_v38_5) = res5 m c
      ∧ r.2.mem ((c.tc : Thread nD τ).loc main_v38_6) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h.2 c).1 7).trans (arr_7 m c), ((h.2 c).1 8).trans (arr_8 m c), ((h.2 c).1 9).trans (arr_9 m c), ((h.2 c).1 10).trans (arr_10 m c),
      ((h.2 c).1 11).trans (arr_11 m c), ((h.2 c).1 12).trans (arr_12 m c), ((h.2 c).1 13).trans (arr_13 m c), h.1 c⟩)
    (θ_run_and (frame_of m ρ (dats m) (A_eq m) (run_main m ρ)) (run_main m ρ))

/-- The call's gradients are the reference's, whatever the arguments. -/
theorem algebraic : Cert.algebraic_Kernel3Ideal_Reference3Ideal (hKernel3Ideal := Cert.Kernel3Ideal.Gen.facts) (hReference3Ideal := Cert.Reference3Ideal.Gen.facts) := by
  intro m g m' g' _ ha
  refine ⟨_, _, _, _, _, _, _, run m g, ?_⟩
  refine (θ_run _ _ _).mono (fun _ h c => ?_) (Cert.Reference3Ideal.Value.run_stages m' g')
  obtain ⟨a0, a1, a2, a3, a4, a5⟩ := ha c
  obtain ⟨r0, r1, r2, r3, r4, r5, r6, hr⟩ := h c
  have e0 : Cert.Reference3Ideal.Value.in0 m' c = in0 m c := a0
  have e1 : Cert.Reference3Ideal.Value.in1 m' c = in1 m c := a1
  have e2 : Cert.Reference3Ideal.Value.in2 m' c = in2 m c := a2
  have e3 : Cert.Reference3Ideal.Value.in3 m' c = in3 m c := a3
  have e4 : Cert.Reference3Ideal.Value.in4 m' c = in4 m c := a4
  have e5 : Cert.Reference3Ideal.Value.in5 m' c = in5 m c := a5
  rw [e0, e1, e2, e3, e4, e5] at r0 r1 r2 r3
  rw [e1, e5] at r4
  rw [e0, e1, e2] at r5
  rw [e0, e1, e2, e3] at r6
  exact ⟨r0, r1, r2, r3, r4, r5, r6, hr⟩

end Cert.Kernel3Ideal.Value

end
-- ==== Proof.Forward.Spec.lean ====
/- One row of the output projection and of the FFN, written over the extended reals. -/
module

public import proofs.«01_k».proof.Proof.Ffn.Spec
public import proofs.«01_k».proof.Proof.Value.Sums

@[expose] public section

noncomputable section

namespace Cert.Forward

open Cert.Attention Idealize.ShloMosaic

/-- Column `d` of head `h`, and the head and the place in it of a column. -/
def col (h : Fin 4) (d : Fin 64) : Fin 256 := ⟨h.val * 64 + d.val, by omega⟩
def head (e : Fin 256) : Fin 4 := ⟨e.val / 64, by omega⟩
def place (e : Fin 256) : Fin 64 := ⟨e.val % 64, by omega⟩
theorem col_head (e : Fin 256) : col (head e) (place e) = e := Fin.ext (by simp only [col, head, place]; omega)

/-- The call's arguments at one row: the row itself, the gated unit's output, the linear attention's output and its gate, the latent attention's
    output, the head norm's weights, the projection, and everything that the FFN reads. -/
structure Row where
  x : Fin 1024 → EReal
  ys : Fin 256 → EReal
  o : Fin 256 → EReal
  gr : Fin 256 → EReal
  ym : Fin 512 → EReal
  gn : Fin 64 → EReal
  w : Fin 1024 → Fin 1024 → EReal
  gate : Fin 1024 → EReal
  add : Fin 1024 → EReal
  scl : Fin 1024 → EReal
  gate' : Fin 1024 → EReal
  nw : Fin 1024 → EReal
  w1 : Fin 1024 → Fin 4096 → EReal
  w2 : Fin 4096 → Fin 1024 → EReal

namespace Row
variable (R : Row)

/-- A head's mean square and the small number added to it. -/
def ms (h : Fin 4) : EReal := Ideal.div (∑ d, R.o (col h d) * R.o (col h d)) (Ideal.ofBits .f32 1115684864#32) + Ideal.ofBits .f32 897988541#32
/-- The linear attention's output after the norm of its head and the gate. -/
def yg (e : Fin 256) : EReal := R.o e * Ideal.rsqrt (R.ms (head e)) * R.gn (place e) * (R.gr e * Ideal.logistic (R.gr e))
/-- The three outputs side by side. -/
def y (k : Fin 1024) : EReal :=
  if h : k.val < 256 then R.ys ⟨k.val, h⟩ else if h' : k.val - 256 < 256 then R.yg ⟨k.val - 256, h'⟩ else R.ym ⟨k.val - 256 - 256, by omega⟩
/-- The row after the output projection. -/
def x1 (k : Fin 1024) : EReal := R.x k + R.gate k * ∑ l, R.y l * R.w l k
/-- The FFN's arguments there; its forward pass reads no gradient. -/
def ffn : Cert.Ffn.Row where
  x := R.x1
  g _ := 0
  add := R.add
  scl := R.scl
  gate := R.gate'
  nw := R.nw
  w1 := R.w1
  w2 := R.w2
/-- The FFN's output, and the row after it. -/
def f (k : Fin 1024) : EReal := R.ffn.f k
def x2 (k : Fin 1024) : EReal := R.x1 k + R.gate' k * R.f k

end Row

/-! ## A head's sum through a mask -/

theorem ofBits64 : Ideal.ofBits .f32 1115684864#32 = ((64 : ℝ) : EReal) := by
  simp [Ideal.ofBits, Ideal.ieee, -EReal.coe_mul]
  norm_num
theorem ofBits_inv64 : Ideal.ofBits .f32 1015021568#32 = ((64⁻¹ : ℝ) : EReal) := by
  simp [Ideal.ofBits, Ideal.ieee, -EReal.coe_mul]
  norm_num
/-- The product with the reciprocal is the quotient. -/
theorem mul_inv64 (s : EReal) : s * Ideal.ofBits .f32 1015021568#32 = Ideal.div s (Ideal.ofBits .f32 1115684864#32) := by
  rw [ofBits64, ofBits_inv64, Ideal.div, if_neg (by exact_mod_cast (by norm_num : (64 : ℝ) ≠ 0)), EReal.coe_inv]

/-- One on the columns of head `h`, zero elsewhere. -/
def mask (h : Fin 4) (e : Fin 256) : EReal := if head e = h then 1 else 0

/-- The sum over all columns is the four heads' sums. -/
theorem sum_heads (f : Fin 256 → EReal) : ∑ e, f e = ∑ h, ∑ d, f (col h d) := by
  have h3 := sum_extend f 0 192 64 (by omega) (by omega)
  have h2 := sum_extend f 0 128 64 (by omega) (by omega)
  have h1 := sum_extend f 0 64 64 (by omega) (by omega)
  have h0 := sum_extend f 0 0 64 (by omega) (by omega)
  rw [sum_interval_all f _ (by omega)] at h3
  rw [h3, h2, h1, h0, sum_interval_empty, zero_add, Fin.sum_univ_four]
  rfl
theorem head_col (h : Fin 4) (d : Fin 64) : head (col h d) = h := Fin.ext (by simp only [col, head]; omega)

/-- The sum of the masked columns is the head's sum. -/
theorem sum_mask (f : Fin 256 → EReal) (h : Fin 4) : ∑ e, f e * mask h e = ∑ d, f (col h d) := by
  rw [sum_heads, Finset.sum_eq_single h]
  · exact Finset.sum_congr rfl fun d _ => by rw [mask, if_pos (head_col h d), mul_one]
  · exact fun i _ hi => Finset.sum_eq_zero fun d _ => by rw [mask, if_neg (by rw [head_col]; exact hi), mul_zero]
  · exact fun hn => absurd (Finset.mem_univ h) hn

/-- Of the four heads' values, masked and added up, a column keeps its head's. -/
theorem masked_sum (g : Fin 4 → EReal) (e : Fin 256) : 0 + mask 0 e * g 0 + mask 1 e * g 1 + mask 2 e * g 2 + mask 3 e * g 3 = g (head e) := by
  have h : ∀ i : Fin 4, head e = i → 0 + mask 0 e * g 0 + mask 1 e * g 1 + mask 2 e * g 2 + mask 3 e * g 3 = g i := by
    intro i hi
    fin_cases i <;> simp [mask, hi]
  exact h _ rfl

end Cert.Forward

end
-- ==== Proof.Forward.Tile.lean ====
/- One grid point's results at an index, row by row. -/
module

public import proofs.«01_k».proof.Proof.Gen.Kernel6Ideal.Frame
public import proofs.«01_k».proof.Proof.Forward.Spec
public import proofs.«01_k».proof.Proof.Ffn.Tile
public import Idealize.ShloMosaic.Lib.Pointwise
public import Idealize.ShloMosaic.Lib.Pipeline.ValueKit

@[expose] public section
set_option maxRecDepth 16384

noncomputable section

namespace Cert.Kernel6Ideal.Value

open Cert.Kernel6Ideal Cert.Kernel6Ideal.Gen Cert.Forward Cert.Attention Idealize.ShloMosaic Idealize.ShloMosaic.TcCoe
open Cert.Kernel3Ideal.Value (c0 c1 c2 c3 sum_chunks)

/-! ## The heads' masks -/

/-- One where a column's number lies from `lo` to below `hi`, zero elsewhere. -/
def lane (lo hi : BitVec 32) : FVec Ideal S1x256 .f32 :=
  sitofp .f32 (extui 32 (andi (cmpi .sge (iota .tc S1x256 32 [1] iota_S1x256_d1_w32) (broadcast S1x256 lo)) (cmpi .slt (iota .tc S1x256 32 [1] iota_S1x256_d1_w32) (broadcast S1x256 hi))) natLt_1_32)

theorem lane_word (lo hi : BitVec 32) (h : Fin 4) (hw : ∀ e : Fin 256, (extui 32 (andi (cmpi .sge (iota .tc S1x256 32 [1] iota_S1x256_d1_w32) (broadcast S1x256 lo))
    (cmpi .slt (iota .tc S1x256 32 [1] iota_S1x256_d1_w32) (broadcast S1x256 hi))) natLt_1_32 : IVec S1x256 32) (ix2 0 e) = if head e = h then 1#32 else 0#32) (e : Fin 256) :
    lane lo hi (ix2 0 e) = mask h e := by
  show (((_ : BitVec 32).toInt : ℝ) : EReal) = _
  rw [hw e, mask]
  split <;> simp
theorem lane0_at : ∀ e : Fin 256, lane 0#32 64#32 (ix2 0 e) = mask 0 e := lane_word _ _ _ (by decide +kernel)
theorem lane1_at : ∀ e : Fin 256, lane 64#32 128#32 (ix2 0 e) = mask 1 e := lane_word _ _ _ (by decide +kernel)
theorem lane2_at : ∀ e : Fin 256, lane 128#32 192#32 (ix2 0 e) = mask 2 e := lane_word _ _ _ (by decide +kernel)
theorem lane3_at : ∀ e : Fin 256, lane 192#32 256#32 (ix2 0 e) = mask 3 e := lane_word _ _ _ (by decide +kernel)

/-- A head's mean square, on the head's columns. -/
def share (o : FVec Ideal S256x256 .f32) (l : FVec Ideal S1x256 .f32) : FVec Ideal S256x256 .f32 :=
  mulf (broadcastTo S256x256 l broadcasts_S1x256_S256x256)
    (broadcastTo S256x256 (mulf (shapeCast S256x1 (multiReduction .add [1] S256 (mulf (mulf o o) (broadcastTo S256x256 l broadcasts_S1x256_S256x256)) 0x00000000#32 reduces_S256x256_S256 (.inl rfl) rfl : FVec Ideal S256 .f32)
      shapeCasts_S256_S256x1 : FVec Ideal S256x1 .f32) (broadcast S256x1 (Scalar.ofBits .f32 0x3C800000#32 : Ideal .f32))) broadcasts_S256x1_S256x256)
theorem share_at (o : FVec Ideal S256x256 .f32) (l : FVec Ideal S1x256 .f32) (h : Fin 4) (hl : ∀ e, l (ix2 0 e) = mask h e) (p e : Fin 256) :
    share o l (ix2 p e) = mask h e * Ideal.div (∑ d, o (ix2 p (col h d)) * o (ix2 p (col h d))) (Ideal.ofBits .f32 1115684864#32) := by
  have e' : share o l (ix2 p e) = l (ix2 0 e) * ((∑ e' : Fin 256, o (ix2 p e') * o (ix2 p e') * l (ix2 0 e')) * Ideal.ofBits .f32 1015021568#32) := by pointwise [share]
  rw [e', hl, mul_inv64, ← sum_mask (fun e => o (ix2 p e) * o (ix2 p e)) h]
  simp only [hl]

/-! ## The projection -/

/-- The linear attention's output after the norm of its heads and the gate. -/
def gated (o ms : FVec Ideal S256x256 .f32) (gn : FVec Ideal S1x256 .f32) (gr : FVec Ideal S256x256 .f32) : FVec Ideal S256x256 .f32 :=
  mulf (mulf (mulf o (rsqrt (addf ms (broadcast S256x256 (Scalar.ofBits .f32 0x358637BD#32 : Ideal .f32))))) (broadcastTo S256x256 gn broadcasts_S1x256_S256x256)) (mulf gr (logistic gr))
def beside (ys yg : FVec Ideal S256x256 .f32) (ym : FVec Ideal S256x512 .f32) : FVec Ideal S256x1024 .f32 :=
  concatenate S256x1024 1 [⟨S256x256, ys⟩, ⟨S256x256, yg⟩, ⟨S256x512, ym⟩] concatenates_S256x256_S256x256_S256x512_S256x1024_d1
def meanSq (o : FVec Ideal S256x256 .f32) : FVec Ideal S256x256 .f32 :=
  addf (addf (addf (addf (broadcast S256x256 (Scalar.ofBits .f32 0x00000000#32 : Ideal .f32)) (share o (lane 0#32 64#32))) (share o (lane 64#32 128#32))) (share o (lane 128#32 192#32)))
    (share o (lane 192#32 256#32))

variable (x0 : Vec Ideal S256x1024 .f32) (x1 : Vec Ideal S1x8x1024 .f32) (x2 x3 x4 x5 : Vec Ideal S256x256 .f32) (x6 : Vec Ideal S256x512 .f32) (x7 : Vec Ideal S1x256 .f32)
  (x8 : Vec Ideal S1024x1024 .bf16) (x9 : Vec Ideal S1x1024 .f32) (x10 : Vec Ideal S1024x4096 .bf16) (x11 : Vec Ideal S4096x1024 .bf16)

def mixed : FVec Ideal S256x1024 .f32 := beside x2 (gated (addf x3 x4) (meanSq (addf x3 x4)) x7 x5) x6
def after1 : FVec Ideal S256x1024 .f32 :=
  addf x0 (mulf (broadcastTo S256x1024 (extractStridedSlice S1x1024 ![2, 0] (shapeCast S8x1024 x1 shapeCasts_S1x8x1024_S8x1024 : FVec Ideal S8x1024 .f32) slices_S8x1024_o2_0_S1x1024 : FVec Ideal S1x1024 .f32)
      broadcasts_S1x1024_S256x1024)
    (matmul (φ₂ := .bf16) dot_S256x1024_S1024x1024_S256x1024_1_0_0_1_n_n none (truncf .bf16 (mixed x2 x3 x4 x5 x6 x7) bitsLt_bf16_f32 : FVec Ideal S256x1024 .bf16) x8 (constant S256x1024 .f32 0x00000000#32)))

theorem origin2 : (![0, 0] : Fin 2 → ℕ) = fun _ => 0 := by funext i; fin_cases i <;> rfl
theorem origin3 : (![0, 0, 0] : Fin 3 → ℕ) = fun _ => 0 := by funext i; fin_cases i <;> rfl

theorem pay29_eq : k0_pay29 x0 x1 x2 x3 x4 x5 x6 x7 x8 x9 x10 x11 = after1 x0 x1 x2 x3 x4 x5 x6 x7 x8 := by
  unfold k0_pay29 k0_pay28 k0_pay27 k0_pay26 k0_pay24 k0_pay23 k0_pay22
  rw [View.ld_unit_zero (S := S256x1024) origin2, View.ld_unit_zero (S := S1x8x1024) origin3, View.ld_unit_zero (S := S256x256) origin2, View.ld_unit_zero (S := S256x256) origin2,
    View.ld_unit_zero (S := S256x256) origin2, View.ld_unit_zero (S := S256x256) origin2, View.ld_unit_zero (S := S256x512) origin2, View.ld_unit_zero (S := S1x256) origin2,
    View.ld_unit_zero (S := S1024x1024) origin2]
  have h8 : k0_pay4 x8 = x8 := by funext i; rw [eq_ix2 i]; pointwise [k0_pay4]
  rw [h8]
  rfl

/-- The point's blocks at row `p`. -/
def tileRow (p : Fin 256) : Row where
  x k := x0 (ix2 p k)
  ys e := x2 (ix2 p e)
  o e := x3 (ix2 p e) + x4 (ix2 p e)
  gr e := x5 (ix2 p e)
  ym e := x6 (ix2 p e)
  gn d := x7 (ix2 0 (col 0 d))
  w l k := x8 (ix2 l k)
  gate k := x1 (ix3 0 2 k)
  add k := x1 (ix3 0 3 k)
  scl k := x1 (ix3 0 4 k)
  gate' k := x1 (ix3 0 5 k)
  nw k := x9 (ix2 0 k)
  w1 k j := x10 (ix2 k j)
  w2 j k := x11 (ix2 j k)

local notation "R" => tileRow x0 x1 x2 x3 x4 x5 x6 x7 x8 x9 x10 x11

theorem meanSq_at (p e : Fin 256) : meanSq (addf x3 x4) (ix2 p e) + Ideal.ofBits .f32 897988541#32 = (R p).ms (head e) := by
  have h : meanSq (addf x3 x4) (ix2 p e) = 0 + share (addf x3 x4) (lane 0#32 64#32) (ix2 p e) + share (addf x3 x4) (lane 64#32 128#32) (ix2 p e)
      + share (addf x3 x4) (lane 128#32 192#32) (ix2 p e) + share (addf x3 x4) (lane 192#32 256#32) (ix2 p e) := by pointwise [meanSq]
  rw [h, share_at _ _ 0 lane0_at, share_at _ _ 1 lane1_at, share_at _ _ 2 lane2_at, share_at _ _ 3 lane3_at,
    masked_sum (fun h => Ideal.div (∑ d, (addf x3 x4 : FVec Ideal S256x256 .f32) (ix2 p (col h d)) * (addf x3 x4 : FVec Ideal S256x256 .f32) (ix2 p (col h d))) (Ideal.ofBits .f32 1115684864#32))]
  rfl

variable (hg : ∀ e : Fin 256, x7 (ix2 0 e) = x7 (ix2 0 (col 0 (place e))))
include hg

theorem gated_at (p e : Fin 256) : gated (addf x3 x4) (meanSq (addf x3 x4)) x7 x5 (ix2 p e) = (R p).yg e := by
  have h : gated (addf x3 x4) (meanSq (addf x3 x4)) x7 x5 (ix2 p e) = (x3 (ix2 p e) + x4 (ix2 p e)) * Ideal.rsqrt (meanSq (addf x3 x4) (ix2 p e) + Ideal.ofBits .f32 897988541#32)
      * x7 (ix2 0 e) * (x5 (ix2 p e) * Ideal.logistic (x5 (ix2 p e))) := by
    pointwise [gated]
  rw [h, meanSq_at x0 x1 x2 x3 x4 x5 x6 x7 x8 x9 x10 x11, hg]
  rfl

theorem mixed_at (p : Fin 256) (k : Fin 1024) : mixed x2 x3 x4 x5 x6 x7 (ix2 p k) = (R p).y k := by
  have h : mixed x2 x3 x4 x5 x6 x7 (ix2 p k) = if h : k.val < 256 then x2 (ix2 p ⟨k.val, h⟩)
      else if h' : k.val - 256 < 256 then gated (addf x3 x4) (meanSq (addf x3 x4)) x7 x5 (ix2 p ⟨k.val - 256, h'⟩) else x6 (ix2 p ⟨k.val - 256 - 256, by omega⟩) := by
    pointwise [mixed, beside]
  rw [h, Row.y]
  simp only [gated_at x0 x1 x2 x3 x4 x5 x6 x7 x8 x9 x10 x11 hg]
  rfl

theorem after1_at (p : Fin 256) (k : Fin 1024) : after1 x0 x1 x2 x3 x4 x5 x6 x7 x8 (ix2 p k) = (R p).x1 k := by
  have h : after1 x0 x1 x2 x3 x4 x5 x6 x7 x8 (ix2 p k) = x0 (ix2 p k) + x1 (ix3 0 2 k) * ∑ l : Fin 1024, mixed x2 x3 x4 x5 x6 x7 (ix2 p l) * x8 (ix2 l k) := by
    pointwise [after1]
  rw [h, Row.x1]
  refine congrArg (fun s => x0 (ix2 p k) + x1 (ix3 0 2 k) * s) (Finset.sum_congr rfl fun l _ => ?_)
  rw [mixed_at x0 x1 x2 x3 x4 x5 x6 x7 x8 x9 x10 x11 hg]
  rfl
/-! ## The FFN -/

omit hg in
theorem up0_at (k j : Fin 1024) : k0_pay5 (View.ld x10 r0_7) (ix2 k j) = x10 (ix2 k (c0 j)) := by
  have e : k0_pay5 (View.ld x10 r0_7) (ix2 k j) = View.ld x10 r0_7 (ix2 k j) := by pointwise [k0_pay5]
  exact e.trans (Cert.Kernel3Ideal.Value.up0_at x10 k j)
omit hg in
theorem up1_at (k j : Fin 1024) : k0_pay6 (View.ld x10 r0_8) (ix2 k j) = x10 (ix2 k (c1 j)) := by
  have e : k0_pay6 (View.ld x10 r0_8) (ix2 k j) = View.ld x10 r0_8 (ix2 k j) := by pointwise [k0_pay6]
  exact e.trans (Cert.Kernel3Ideal.Value.up1_at x10 k j)
omit hg in
theorem up2_at (k j : Fin 1024) : k0_pay7 (View.ld x10 r0_9) (ix2 k j) = x10 (ix2 k (c2 j)) := by
  have e : k0_pay7 (View.ld x10 r0_9) (ix2 k j) = View.ld x10 r0_9 (ix2 k j) := by pointwise [k0_pay7]
  exact e.trans (Cert.Kernel3Ideal.Value.up2_at x10 k j)
omit hg in
theorem up3_at (k j : Fin 1024) : k0_pay8 (View.ld x10 r0_10) (ix2 k j) = x10 (ix2 k (c3 j)) := by
  have e : k0_pay8 (View.ld x10 r0_10) (ix2 k j) = View.ld x10 r0_10 (ix2 k j) := by pointwise [k0_pay8]
  exact e.trans (Cert.Kernel3Ideal.Value.up3_at x10 k j)
omit hg in
theorem down0_at (j k : Fin 1024) : k0_pay9 (View.ld x11 r0_11) (ix2 j k) = x11 (ix2 (c0 j) k) := by
  have e : k0_pay9 (View.ld x11 r0_11) (ix2 j k) = View.ld x11 r0_11 (ix2 j k) := by pointwise [k0_pay9]
  exact e.trans (Cert.Kernel3Ideal.Value.down0_at x11 j k)
omit hg in
theorem down1_at (j k : Fin 1024) : k0_pay10 (View.ld x11 r0_12) (ix2 j k) = x11 (ix2 (c1 j) k) := by
  have e : k0_pay10 (View.ld x11 r0_12) (ix2 j k) = View.ld x11 r0_12 (ix2 j k) := by pointwise [k0_pay10]
  exact e.trans (Cert.Kernel3Ideal.Value.down1_at x11 j k)
omit hg in
theorem down2_at (j k : Fin 1024) : k0_pay11 (View.ld x11 r0_13) (ix2 j k) = x11 (ix2 (c2 j) k) := by
  have e : k0_pay11 (View.ld x11 r0_13) (ix2 j k) = View.ld x11 r0_13 (ix2 j k) := by pointwise [k0_pay11]
  exact e.trans (Cert.Kernel3Ideal.Value.down2_at x11 j k)
omit hg in
theorem down3_at (j k : Fin 1024) : k0_pay12 (View.ld x11 r0_14) (ix2 j k) = x11 (ix2 (c3 j) k) := by
  have e : k0_pay12 (View.ld x11 r0_14) (ix2 j k) = View.ld x11 r0_14 (ix2 j k) := by pointwise [k0_pay12]
  exact e.trans (Cert.Kernel3Ideal.Value.down3_at x11 j k)

/-- The rows that the FFN reads: some rows after the norm and the modulation. -/
def rows (a : FVec Ideal S256x1024 .f32) : FVec Ideal S256x1024 .f32 := k0_pay18 (k0_pay3 x1) x9 a (mulf a a)
omit hg in
theorem rows_at (a : FVec Ideal S256x1024 .f32) (p : Fin 256) (ha : ∀ k, a (ix2 p k) = (R p).x1 k) (k : Fin 1024) : rows x1 x9 a (ix2 p k) = (R p).ffn.h k := by
  have e : rows x1 x9 a (ix2 p k) = a (ix2 p k) * Ideal.rsqrt (Ideal.div (∑ l : Fin 1024, a (ix2 p l) * a (ix2 p l)) (Ideal.ofBits .f32 1149239296#32) + Ideal.ofBits .f32 897988541#32)
      * x9 (ix2 0 k) * (1 + x1 (ix3 0 4 k)) + x1 (ix3 0 3 k) := by
    pointwise [rows, k0_pay18, k0_pay3]
  rw [e]
  simp only [ha]
  rfl

/-- The square of the positive part of a chunk of the hidden row. -/
def square (h : FVec Ideal S256x1024 .f32) (u : FVec Ideal S1024x1024 .bf16) (p : Fin 256) (j : Fin 1024) : EReal :=
  max (∑ l : Fin 1024, h (ix2 p l) * u (ix2 l j)) 0 * max (∑ l : Fin 1024, h (ix2 p l) * u (ix2 l j)) 0
omit hg in
theorem square_at (h : FVec Ideal S256x1024 .f32) (u : FVec Ideal S1024x1024 .bf16) (p : Fin 256) (ch : Fin 1024 → Fin 4096) (hh : ∀ l, h (ix2 p l) = (R p).ffn.h l)
    (hu : ∀ l j, u (ix2 l j) = x10 (ix2 l (ch j))) (j : Fin 1024) : square h u p j = (R p).ffn.sq (ch j) := by
  unfold square
  simp only [hh, hu]
  rfl

/-- The FFN of some rows, chunk by chunk of its hidden width. -/
def ffn (a : FVec Ideal S256x1024 .f32) : FVec Ideal S256x1024 .f32 :=
  k0_pay1 (k0_pay12 (View.ld x11 r0_14)) (k0_pay19 (k0_pay3 x1) x9 (k0_pay5 (View.ld x10 r0_7)) (k0_pay6 (View.ld x10 r0_8)) (k0_pay7 (View.ld x10 r0_9)) (k0_pay9 (View.ld x11 r0_11))
    (k0_pay10 (View.ld x11 r0_12)) (k0_pay11 (View.ld x11 r0_13)) a (mulf a a)) (k0_pay20 (k0_pay3 x1) x9 (k0_pay8 (View.ld x10 r0_10)) a (mulf a a)) (k0_pay21 (F := Ideal))

omit hg in
theorem ffn_at (a : FVec Ideal S256x1024 .f32) (p : Fin 256) (ha : ∀ k, a (ix2 p k) = (R p).x1 k) (k : Fin 1024) : ffn x1 x9 x10 x11 a (ix2 p k) = (R p).f k := by
  have e1 : ∀ (b : FVec Ideal S256x1024 .f32), k0_pay1 (k0_pay12 (View.ld x11 r0_14)) b (k0_pay20 (k0_pay3 x1) x9 (k0_pay8 (View.ld x10 r0_10)) a (mulf a a)) (k0_pay21 (F := Ideal)) (ix2 p k)
      = b (ix2 p k) + ∑ j : Fin 1024, square (rows x1 x9 a) (k0_pay8 (View.ld x10 r0_10)) p j * k0_pay12 (View.ld x11 r0_14) (ix2 j k) := fun b => by
    have e : ∀ j : Fin 1024, k0_pay20 (k0_pay3 x1) x9 (k0_pay8 (View.ld x10 r0_10)) a (mulf a a) (ix2 p j) = ∑ l : Fin 1024, rows x1 x9 a (ix2 p l) * k0_pay8 (View.ld x10 r0_10) (ix2 l j) := fun j => by
      pointwise [k0_pay20, rows]
    have e' : ∀ (v : FVec Ideal S256x1024 .f32) (u : FVec Ideal S1024x1024 .bf16), k0_pay1 u b v (k0_pay21 (F := Ideal)) (ix2 p k)
        = b (ix2 p k) + ∑ j : Fin 1024, max (v (ix2 p j)) 0 * max (v (ix2 p j)) 0 * u (ix2 j k) := fun v u => by pointwise [k0_pay1, k0_pay21]
    rw [e']
    simp only [e]
    rfl
  have e3 : ∀ u0 u1 u2 d0 d1 d2 : FVec Ideal S1024x1024 .bf16, k0_pay19 (k0_pay3 x1) x9 u0 u1 u2 d0 d1 d2 a (mulf a a) (ix2 p k)
      = ∑ j : Fin 1024, square (rows x1 x9 a) u0 p j * d0 (ix2 j k) + ∑ j : Fin 1024, square (rows x1 x9 a) u1 p j * d1 (ix2 j k)
        + ∑ j : Fin 1024, square (rows x1 x9 a) u2 p j * d2 (ix2 j k) := fun u0 u1 u2 d0 d1 d2 => by
    pointwise [k0_pay19, square, rows]
  have q : ∀ k, rows x1 x9 a (ix2 p k) = (R p).ffn.h k := rows_at x0 x1 x2 x3 x4 x5 x6 x7 x8 x9 x10 x11 a p ha
  rw [ffn, e1, e3, Row.f, Cert.Ffn.Row.f, sum_chunks]
  refine congrArg₂ (· + ·) (congrArg₂ (· + ·) (congrArg₂ (· + ·) ?_ ?_) ?_) ?_ <;> refine Finset.sum_congr rfl fun j _ => congrArg₂ (· * ·) ?_ ?_
  · exact square_at x0 x1 x2 x3 x4 x5 x6 x7 x8 x9 x10 x11 _ _ p c0 q (up0_at x10) j
  · exact down0_at x11 j k
  · exact square_at x0 x1 x2 x3 x4 x5 x6 x7 x8 x9 x10 x11 _ _ p c1 q (up1_at x10) j
  · exact down1_at x11 j k
  · exact square_at x0 x1 x2 x3 x4 x5 x6 x7 x8 x9 x10 x11 _ _ p c2 q (up2_at x10) j
  · exact down2_at x11 j k
  · exact square_at x0 x1 x2 x3 x4 x5 x6 x7 x8 x9 x10 x11 _ _ p c3 q (up3_at x10) j
  · exact down3_at x11 j k

/-! ## What the point leaves in its three blocks -/

theorem out12_at (p : Fin 256) (k : Fin 1024) : out0_12 x0 x1 x2 x3 x4 x5 x6 x7 x8 x9 x10 x11 (ix2 p k) = (R p).x1 k := by
  unfold out0_12
  rw [View.canon_unit_zero (S := S256x1024) origin2, pay29_eq]
  exact after1_at x0 x1 x2 x3 x4 x5 x6 x7 x8 x9 x10 x11 hg p k

theorem out14_at (p : Fin 256) (k : Fin 1024) : out0_14 x0 x1 x2 x3 x4 x5 x6 x7 x8 x9 x10 x11 (ix2 p k) = (R p).f k := by
  have e30 : k0_pay30 x0 x1 x2 x3 x4 x5 x6 x7 x8 x9 x10 x11 = mulf (k0_pay29 x0 x1 x2 x3 x4 x5 x6 x7 x8 x9 x10 x11) (k0_pay29 x0 x1 x2 x3 x4 x5 x6 x7 x8 x9 x10 x11) := rfl
  unfold out0_14
  rw [View.canon_unit_zero (S := S256x1024) origin2]
  unfold k0_pay31 k0_pay32 k0_pay33 k0_pay25 k0_pay22
  rw [e30, pay29_eq, View.ld_unit_zero (S := S1x8x1024) origin3, View.ld_unit_zero (S := S1x1024) origin2]
  exact ffn_at x0 x1 x2 x3 x4 x5 x6 x7 x8 x9 x10 x11 _ p (after1_at x0 x1 x2 x3 x4 x5 x6 x7 x8 x9 x10 x11 hg p) k

theorem out13_at (p : Fin 256) (k : Fin 1024) : out0_13 x0 x1 x2 x3 x4 x5 x6 x7 x8 x9 x10 x11 (ix2 p k) = (R p).x2 k := by
  have e2 : ∀ (v2 : Vec Ideal S1x8x1024 .f32) (v27 : FVec Ideal S1024x1024 .bf16) (v121 v164 v166 v167 : FVec Ideal S256x1024 .f32), k0_pay2 (k0_pay3 v2) v27 v121 v164 v166 v167 (ix2 p k)
      = v121 (ix2 p k) + v2 (ix3 0 5 k) * k0_pay1 v27 v164 v166 v167 (ix2 p k) := fun v2 v27 v121 v164 v166 v167 => by pointwise [k0_pay2, k0_pay3]
  have h14 := out14_at x0 x1 x2 x3 x4 x5 x6 x7 x8 x9 x10 x11 hg p k
  unfold out0_14 at h14
  rw [View.canon_unit_zero (S := S256x1024) origin2] at h14
  unfold out0_13
  rw [View.canon_unit_zero (S := S256x1024) origin2]
  conv_lhs => unfold k0_pay22
  rw [e2, h14, pay29_eq, View.ld_unit_zero (S := S1x8x1024) origin3, after1_at x0 x1 x2 x3 x4 x5 x6 x7 x8 x9 x10 x11 hg]
  rfl
end Cert.Kernel6Ideal.Value

end
-- ==== Proof.Forward.Stages.lean ====
/- The forward reference's results in stages. -/
module

public import proofs.«01_k».proof.Reference6Ideal
public import proofs.«01_k».proof.Proof.Gen.Reference6Ideal
public import proofs.«01_k».proof.Proof.Gen.Reference6Ideal.Run
public import proofs.«01_k».proof.Proof.Ffn.Stages

@[expose] public section
set_option maxRecDepth 16384

noncomputable section

namespace Cert.Reference6Ideal.Value

open Cert.Reference6Ideal Cert.Reference6Ideal.Gen Idealize.ShloMosaic Idealize.ShloMosaic.TcCoe

/-- The columns as four heads. -/
def heads (o : FVec Ideal S8448x256 .f32) : FVec Ideal S8448x4x64 .f32 := shapeCast S8448x4x64 o shapeCasts_S8448x256_S8448x4x64

/-- A head's mean square, and the heads after the norm. -/
def meanSq (o : FVec Ideal S8448x4x64 .f32) : FVec Ideal S8448x4x1 .f32 :=
  addf (Host.divf (broadcastInDim S8448x4x1 ![0, 1] bcast_S8448x4_S8448x4x1_0_1 (Host.reduceAdd (mulf o o) (constant S_ .f32 0x00000000#32) reducesTo_S8448x4x64_S8448x4_d2 h_S_))
    (broadcastInDim S8448x4x1 ![] bcast_S_S8448x4x1 (constant S_ .f32 0x42800000#32))) (broadcastInDim S8448x4x1 ![] bcast_S_S8448x4x1 (constant S_ .f32 0x358637BD#32))
def normed (o : FVec Ideal S8448x4x64 .f32) (gn : FVec Ideal S1x64 .f32) : FVec Ideal S8448x4x64 .f32 :=
  mulf (mulf o (broadcastInDim S8448x4x64 ![0, 1, 2] bcast_S8448x4x1_S8448x4x64_0_1_2 (Host.rsqrt (meanSq o))))
    (broadcastInDim S8448x4x64 ![0, 1, 2] bcast_S1x1x64_S8448x4x64_0_1_2 (broadcastInDim S1x1x64 ![2] bcast_S64_S1x1x64_2 (shapeCast S64 gn shapeCasts_S1x64_S64 : FVec Ideal S64 .f32)))

/-- The gate, by its sigmoid written out. -/
def gate (g : FVec Ideal S8448x4x64 .f32) : FVec Ideal S8448x4x64 .f32 :=
  mulf g (Host.divf (broadcastInDim S8448x4x64 ![] bcast_S_S8448x4x64 (constant S_ .f32 0x3F800000#32))
    (addf (broadcastInDim S8448x4x64 ![] bcast_S_S8448x4x64 (constant S_ .f32 0x3F800000#32)) (Host.exp (Host.negf g))))
def gated (o gr : FVec Ideal S8448x256 .f32) (gn : FVec Ideal S1x64 .f32) : FVec Ideal S8448x256 .f32 :=
  shapeCast S8448x256 (mulf (normed (heads o) gn) (gate (heads gr))) shapeCasts_S8448x4x64_S8448x256

/-- The three outputs side by side. -/
def beside (ys yg : FVec Ideal S8448x256 .f32) (ym : FVec Ideal S8448x512 .f32) : FVec Ideal S8448x1024 .f32 :=
  concatenate S8448x1024 1 [⟨S8448x256, ys⟩, ⟨S8448x256, yg⟩, ⟨S8448x512, ym⟩] concatenates_S8448x256_S8448x256_S8448x512_S8448x1024_d1

/-- The modulation's row 2, of the context or of the latents. -/
def mod2 (a : FVec Ideal S2x8x1024 .f32) : FVec Ideal S8448x1024 .f32 :=
  select Cert.Reference3Ideal.Value.isCtx (Cert.Reference3Ideal.Value.along (extractStridedSlice S1x1x1024 ![0, 2, 0] a slices_S2x8x1024_S1x1x1024_0_2_0))
    (Cert.Reference3Ideal.Value.along (extractStridedSlice S1x1x1024 ![1, 2, 0] a slices_S2x8x1024_S1x1x1024_1_2_0))

section
variable (x : FVec Ideal S8448x1024 .f32) (a : FVec Ideal S2x8x1024 .f32) (ys o p gr : FVec Ideal S8448x256 .f32) (ym : FVec Ideal S8448x512 .f32)
  (gn : FVec Ideal S1x64 .f32) (w : FVec Ideal S1024x1024 .f32) (nw : FVec Ideal S1x1024 .f32) (w1 : FVec Ideal S1024x4096 .f32) (w2 : FVec Ideal S4096x1024 .f32)

def mixed := beside ys (gated (addf o p) gr gn) ym
/-- The rows after the output projection. -/
def x1 : FVec Ideal S8448x1024 .f32 :=
  addf x (mulf (mod2 a) (Host.dotGeneral dot_S8448x1024_S1024x1024_S8448x1024_1_0_0_1_n_n none (mixed ys o p gr ym gn) w))

/-- The FFN of some rows. -/
def hidden : FVec Ideal S8448x4096 .f32 :=
  maximumf (Host.dotGeneral dot_S8448x1024_S1024x4096_S8448x4096_1_0_0_1_n_n none (Cert.Reference3Ideal.Value.rows x a nw) w1) Cert.Reference3Ideal.Value.zeroF
def ffn : FVec Ideal S8448x1024 .f32 :=
  Host.dotGeneral dot_S8448x4096_S4096x1024_S8448x1024_1_0_0_1_n_n none (mulf (hidden x a nw w1) (hidden x a nw w1)) w2

/-- Its output, and the rows after it. -/
def f : FVec Ideal S8448x1024 .f32 := ffn (x1 x a ys o p gr ym gn w) a nw w1 w2
def x2 : FVec Ideal S8448x1024 .f32 :=
  addf (x1 x a ys o p gr ym gn w) (mulf (Cert.Reference3Ideal.Value.mod5 a) (f x a ys o p gr ym gn w nw w1 w2))
end

/-! ## The results are these -/

section
variable (m : (ℓ : Loc nD τ sig) → Buf (Elt Ideal) ℓ) (c : Dev nD)
abbrev in0 : FVec Ideal S8448x1024 .f32 := m (c.tc.loc main_arg0)
abbrev in1 : FVec Ideal S2x8x1024 .f32 := m (c.tc.loc main_arg1)
abbrev in2 : FVec Ideal S8448x256 .f32 := m (c.tc.loc main_arg2)
abbrev in3 : FVec Ideal S8448x256 .f32 := m (c.tc.loc main_arg3)
abbrev in4 : FVec Ideal S8448x256 .f32 := m (c.tc.loc main_arg4)
abbrev in5 : FVec Ideal S8448x256 .f32 := m (c.tc.loc main_arg5)
abbrev in6 : FVec Ideal S8448x512 .f32 := m (c.tc.loc main_arg6)
abbrev in7 : FVec Ideal S1x64 .f32 := m (c.tc.loc main_arg7)
abbrev in8 : FVec Ideal S1024x1024 .f32 := m (c.tc.loc main_arg8)
abbrev in9 : FVec Ideal S1x1024 .f32 := m (c.tc.loc main_arg9)
abbrev in10 : FVec Ideal S1024x4096 .f32 := m (c.tc.loc main_arg10)
abbrev in11 : FVec Ideal S4096x1024 .f32 := m (c.tc.loc main_arg11)

theorem res1 : res_out1 m c = x2 (in0 m c) (in1 m c) (in2 m c) (in3 m c) (in4 m c) (in5 m c) (in6 m c) (in7 m c) (in8 m c) (in9 m c) (in10 m c) (in11 m c) := rfl
theorem res2 : res_out2 m c = f (in0 m c) (in1 m c) (in2 m c) (in3 m c) (in4 m c) (in5 m c) (in6 m c) (in7 m c) (in8 m c) (in9 m c) (in10 m c) (in11 m c) := rfl

/-- The reference's run, with its results in stages. -/
theorem run_stages (ρ : Dev nD → PrngReg) :
    θ_run defs (onTc (τ := τ) (main (F := Ideal))) ⟨m, fun _ => 0, ρ⟩ fun r => ∀ c : Dev nD,
      r.2.mem (c.tc.loc main_v32) = x1 (in0 m c) (in1 m c) (in2 m c) (in3 m c) (in4 m c) (in5 m c) (in6 m c) (in7 m c) (in8 m c)
      ∧ r.2.mem (c.tc.loc main_v75) = x2 (in0 m c) (in1 m c) (in2 m c) (in3 m c) (in4 m c) (in5 m c) (in6 m c) (in7 m c) (in8 m c) (in9 m c) (in10 m c) (in11 m c)
      ∧ r.2.mem (c.tc.loc main_v68) = f (in0 m c) (in1 m c) (in2 m c) (in3 m c) (in4 m c) (in5 m c) (in6 m c) (in7 m c) (in8 m c) (in9 m c) (in10 m c) (in11 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11) :=
  (θ_run defs _ _).mono (fun _ h c =>
    let ⟨h0, h1, h2, hr⟩ := h c
    ⟨h0.trans rfl, h1.trans (res1 m c), h2.trans (res2 m c), hr⟩) (run m ρ)
end

end Cert.Reference6Ideal.Value

end
-- ==== Proof.Forward.Reference.lean ====
/- The forward reference's results at an index, row by row. -/
module

public import proofs.«01_k».proof.Proof.Forward.Stages
public import proofs.«01_k».proof.Proof.Forward.Spec
public import proofs.«01_k».proof.Proof.Ffn.Reference

@[expose] public section
set_option maxRecDepth 16384

noncomputable section

namespace Cert.Reference6Ideal.Value

open Cert.Reference6Ideal Cert.Reference6Ideal.Gen Cert.Forward Idealize.ShloMosaic Idealize.ShloMosaic.TcCoe
open Cert.Reference3Ideal.Value (seg select_at along_at mod5_at zeroF_at rows_at)

theorem mod2_at (a : FVec Ideal S2x8x1024 .f32) (r : Fin 8448) (k : Fin 1024) : mod2 a (ix2 r k) = a (ix3 (seg r) 2 k) := by
  rw [mod2, select_at, along_at, along_at, seg]
  split <;> pointwise

theorem heads_at (o : FVec Ideal S8448x256 .f32) (r : Fin 8448) (h : Fin 4) (d : Fin 64) : heads o (ix3 r h d) = o (ix2 r (col h d)) := by
  unfold col
  pointwise [heads]

section
variable (x : FVec Ideal S8448x1024 .f32) (a : FVec Ideal S2x8x1024 .f32) (ys o p gr : FVec Ideal S8448x256 .f32) (ym : FVec Ideal S8448x512 .f32)
  (gn : FVec Ideal S1x64 .f32) (w : FVec Ideal S1024x1024 .f32) (nw : FVec Ideal S1x1024 .f32) (w1 : FVec Ideal S1024x4096 .f32) (w2 : FVec Ideal S4096x1024 .f32)

/-- The arguments at row `r`. -/
def row (r : Fin 8448) : Row where
  x k := x (ix2 r k)
  ys e := ys (ix2 r e)
  o e := o (ix2 r e) + p (ix2 r e)
  gr e := gr (ix2 r e)
  ym e := ym (ix2 r e)
  gn d := gn (ix2 0 d)
  w l k := w (ix2 l k)
  gate k := a (ix3 (seg r) 2 k)
  add k := a (ix3 (seg r) 3 k)
  scl k := a (ix3 (seg r) 4 k)
  gate' k := a (ix3 (seg r) 5 k)
  nw k := nw (ix2 0 k)
  w1 k j := w1 (ix2 k j)
  w2 j k := w2 (ix2 j k)

local notation "R" => row x a ys o p gr ym gn w nw w1 w2

theorem meanSq_at (r : Fin 8448) (h : Fin 4) (u : Fin 1) : meanSq (heads (addf o p)) (ix3 r h u) = (R r).ms h := by
  have e : meanSq (heads (addf o p)) (ix3 r h u) = Ideal.div (∑ d : Fin 64, heads (addf o p) (ix3 r h d) * heads (addf o p) (ix3 r h d)) (Ideal.ofBits .f32 1115684864#32)
      + Ideal.ofBits .f32 897988541#32 := by pointwise [meanSq]
  rw [e, Row.ms]
  refine congrArg (fun s => Ideal.div s _ + _) (Finset.sum_congr rfl fun d _ => ?_)
  rw [heads_at]
  rfl

theorem normed_at (r : Fin 8448) (h : Fin 4) (d : Fin 64) :
    normed (heads (addf o p)) gn (ix3 r h d) = (R r).o (col h d) * Ideal.rsqrt ((R r).ms h) * (R r).gn d := by
  have e : normed (heads (addf o p)) gn (ix3 r h d) = heads (addf o p) (ix3 r h d) * Ideal.rsqrt (meanSq (heads (addf o p)) (ix3 r h 0)) * gn (ix2 0 d) := by pointwise [normed]
  rw [e, meanSq_at x a ys o p gr ym gn w nw w1 w2, heads_at]
  rfl

theorem gate_at (r : Fin 8448) (h : Fin 4) (d : Fin 64) : gate (heads gr) (ix3 r h d) = (R r).gr (col h d) * Ideal.logistic ((R r).gr (col h d)) := by
  have e : gate (heads gr) (ix3 r h d) = heads gr (ix3 r h d) * Ideal.div 1 (1 + Ideal.exp (-heads gr (ix3 r h d))) := by pointwise [gate]
  rw [e, heads_at]
  rfl

theorem gated_at (r : Fin 8448) (e : Fin 256) : gated (addf o p) gr gn (ix2 r e) = (R r).yg e := by
  have h : gated (addf o p) gr gn (ix2 r e) = normed (heads (addf o p)) gn (ix3 r (head e) (place e)) * gate (heads gr) (ix3 r (head e) (place e)) := by
    pointwise [gated]
    rfl
  rw [h, normed_at x a ys o p gr ym gn w nw w1 w2, gate_at x a ys o p gr ym gn w nw w1 w2, col_head]
  rfl

theorem mixed_at (r : Fin 8448) (k : Fin 1024) : mixed ys o p gr ym gn (ix2 r k) = (R r).y k := by
  have e : mixed ys o p gr ym gn (ix2 r k) = if h : k.val < 256 then ys (ix2 r ⟨k.val, h⟩) else if h' : k.val - 256 < 256 then gated (addf o p) gr gn (ix2 r ⟨k.val - 256, h'⟩)
      else ym (ix2 r ⟨k.val - 256 - 256, by omega⟩) := by
    pointwise [mixed, beside]
  rw [e, Row.y]
  simp only [gated_at x a ys o p gr ym gn w nw w1 w2]
  rfl

theorem x1_at (r : Fin 8448) (k : Fin 1024) : x1 x a ys o p gr ym gn w (ix2 r k) = (R r).x1 k := by
  have e : x1 x a ys o p gr ym gn w (ix2 r k) = x (ix2 r k) + mod2 a (ix2 r k) * ∑ l : Fin 1024, mixed ys o p gr ym gn (ix2 r l) * w (ix2 l k) := by pointwise [x1]
  rw [e, mod2_at, Row.x1]
  refine congrArg (fun s => x (ix2 r k) + a (ix3 (seg r) 2 k) * s) (Finset.sum_congr rfl fun l _ => ?_)
  rw [mixed_at x a ys o p gr ym gn w nw w1 w2]
  rfl

/-- The FFN's arguments at the row after the projection. -/
theorem row_ffn (r : Fin 8448) :
    Cert.Reference3Ideal.Value.row (x1 x a ys o p gr ym gn w) a nw w1 w2 (fun _ => 0) r = (R r).ffn := by
  unfold Cert.Reference3Ideal.Value.row Row.ffn
  simp only [x1_at x a ys o p gr ym gn w nw w1 w2]
  rfl

theorem f_at (r : Fin 8448) (k : Fin 1024) : f x a ys o p gr ym gn w nw w1 w2 (ix2 r k) = (R r).f k := by
  have ea : ∀ j : Fin 4096, hidden (x1 x a ys o p gr ym gn w) a nw w1 (ix2 r j) = (R r).ffn.act j := fun j => by
    have e : hidden (x1 x a ys o p gr ym gn w) a nw w1 (ix2 r j)
        = max (∑ l : Fin 1024, Cert.Reference3Ideal.Value.rows (x1 x a ys o p gr ym gn w) a nw (ix2 r l) * w1 (ix2 l j)) (Cert.Reference3Ideal.Value.zeroF (ix2 r j)) := by
      pointwise [hidden]
    rw [e, zeroF_at, ← row_ffn]
    exact congrArg (max · 0) (Finset.sum_congr rfl fun l _ => congrArg (· * _) (rows_at _ _ _ w1 w2 (fun _ => 0) r l))
  have e : f x a ys o p gr ym gn w nw w1 w2 (ix2 r k)
      = ∑ j : Fin 4096, hidden (x1 x a ys o p gr ym gn w) a nw w1 (ix2 r j) * hidden (x1 x a ys o p gr ym gn w) a nw w1 (ix2 r j) * w2 (ix2 j k) := by pointwise [f, ffn]
  rw [e]
  simp only [ea]
  rfl

theorem x2_at (r : Fin 8448) (k : Fin 1024) : x2 x a ys o p gr ym gn w nw w1 w2 (ix2 r k) = (R r).x2 k := by
  show x1 x a ys o p gr ym gn w (ix2 r k) + Cert.Reference3Ideal.Value.mod5 a (ix2 r k) * f x a ys o p gr ym gn w nw w1 w2 (ix2 r k) = _
  rw [x1_at x a ys o p gr ym gn w nw w1 w2, mod5_at, f_at]
  rfl
end

end Cert.Reference6Ideal.Value

end
-- ==== Proof.Forward.Host.lean ====
/- What the forward call is given. -/
module

public import proofs.«01_k».proof.Proof.Gen.Kernel6Ideal.Value
public import proofs.«01_k».proof.Proof.Forward.Tile
public import proofs.«01_k».proof.Proof.Forward.Reference
public import Idealize.ShloMosaic.Lib.StableHlo.RunRead

@[expose] public section
set_option maxRecDepth 16384

noncomputable section

namespace Cert.Kernel6Ideal.Value

open Cert.Kernel6Ideal Cert.Kernel6Ideal.Gen Cert.Forward Idealize.ShloMosaic Idealize.ShloMosaic.TcCoe Idealize.ShloMosaic.Pipeline

variable (m : (ℓ : Loc nD τ sig) → Buf (Elt Ideal) ℓ) (c : Dev nD)

abbrev in0 : FVec Ideal S8448x1024 .f32 := m (c.tc.loc main_arg0)
abbrev in1 : FVec Ideal S2x8x1024 .f32 := m (c.tc.loc main_arg1)
abbrev in2 : FVec Ideal S8448x256 .f32 := m (c.tc.loc main_arg2)
abbrev in3 : FVec Ideal S8448x256 .f32 := m (c.tc.loc main_arg3)
abbrev in4 : FVec Ideal S8448x256 .f32 := m (c.tc.loc main_arg4)
abbrev in5 : FVec Ideal S8448x256 .f32 := m (c.tc.loc main_arg5)
abbrev in6 : FVec Ideal S8448x512 .f32 := m (c.tc.loc main_arg6)
abbrev in7 : FVec Ideal S1x64 .f32 := m (c.tc.loc main_arg7)
abbrev in8 : FVec Ideal S1024x1024 .f32 := m (c.tc.loc main_arg8)
abbrev in9 : FVec Ideal S1x1024 .f32 := m (c.tc.loc main_arg9)
abbrev in10 : FVec Ideal S1024x4096 .f32 := m (c.tc.loc main_arg10)
abbrev in11 : FVec Ideal S4096x1024 .f32 := m (c.tc.loc main_arg11)

/-! ## The host's values -/

/-- The head norm's weights, once for each head. -/
def tiled : FVec Ideal S1x256 .f32 :=
  shapeCast S1x256 (broadcastInDim S1x1x4x64 ![0, 1, 2, 3] bcast_S1x1x1x64_S1x1x4x64_0_1_2_3 (shapeCast S1x1x1x64 (in7 m c) shapeCasts_S1x64_S1x1x1x64 : FVec Ideal S1x1x1x64 .f32) : FVec Ideal S1x1x4x64 .f32)
    shapeCasts_S1x1x4x64_S1x256

theorem v2_eq : V m c main_v2 = tiled m c := by
  show StableHlo.after hostOps0 (fun b => m (c, b)) _ = _
  simp only [hostOps0]
  after_reads_simp
  rfl
theorem v3_eq : V m c main_v3 = (truncf .bf16 (in8 m c) bitsLt_bf16_f32 : FVec Ideal S1024x1024 .bf16) := by
  show StableHlo.after hostOps0 (fun b => m (c, b)) _ = _
  simp only [hostOps0]
  after_reads_simp
theorem v4_eq : V m c main_v4 = (truncf .bf16 (in10 m c) bitsLt_bf16_f32 : FVec Ideal S1024x4096 .bf16) := by
  show StableHlo.after hostOps0 (fun b => m (c, b)) _ = _
  simp only [hostOps0]
  after_reads_simp
theorem v5_eq : V m c main_v5 = (truncf .bf16 (in11 m c) bitsLt_bf16_f32 : FVec Ideal S4096x1024 .bf16) := by
  show StableHlo.after hostOps0 (fun b => m (c, b)) _ = _
  simp only [hostOps0]
  after_reads_simp

theorem v2_at (e : Fin 256) : V m c main_v2 (ix2 0 e) = in7 m c (ix2 0 (place e)) := by
  rw [v2_eq]
  pointwise [tiled]
  rfl
theorem v3_at (l k : Fin 1024) : V m c main_v3 (ix2 l k) = in8 m c (ix2 l k) := by
  rw [v3_eq]; pointwise
theorem v4_at (k : Fin 1024) (j : Fin 4096) : V m c main_v4 (ix2 k j) = in10 m c (ix2 k j) := by
  rw [v4_eq]; pointwise
theorem v5_at (j : Fin 4096) (k : Fin 1024) : V m c main_v5 (ix2 j k) = in11 m c (ix2 j k) := by
  rw [v5_eq]; pointwise

/-- The arguments at row `r`. -/
abbrev argRow (r : Fin 8448) : Row :=
  Cert.Reference6Ideal.Value.row (in0 m c) (in1 m c) (in2 m c) (in3 m c) (in4 m c) (in5 m c) (in6 m c) (in7 m c) (in8 m c) (in9 m c) (in10 m c) (in11 m c) r

/-! ## The blocks that a point is given -/

theorem lt_N (t : Fin cfg0.N) : t.val < 33 := lt_of_lt_of_eq t.isLt (show cfg0.N = 33 from N_0)
theorem index0_0 : ∀ t : Fin cfg0.N, win0_0.index t = ![t.val, 0] := by decide +kernel
theorem index0_1 : ∀ t : Fin cfg0.N, win0_1.index t = ![min t.val 1, 0, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![0, 0] := by decide +kernel
theorem index0_8 : ∀ t : Fin cfg0.N, win0_8.index t = ![0, 0] := by decide +kernel
theorem index0_9 : ∀ t : Fin cfg0.N, win0_9.index t = ![0, 0] := by decide +kernel
theorem index0_10 : ∀ t : Fin cfg0.N, win0_10.index t = ![0, 0] := by decide +kernel
theorem index0_11 : ∀ t : Fin cfg0.N, win0_11.index t = ![0, 0] := by decide +kernel
theorem index0_12 : ∀ t : Fin cfg0.N, win0_12.index t = ![t.val, 0] := by decide +kernel
theorem index0_13 : ∀ t : Fin cfg0.N, win0_13.index t = ![t.val, 0] := by decide +kernel
theorem index0_14 : ∀ t : Fin cfg0.N, win0_14.index t = ![t.val, 0] := by decide +kernel

/-- Row `p` of point `t`, and the point's part of the modulation. -/
def at' (t : Fin cfg0.N) (p : Fin 256) : Fin 8448 := ⟨256 * t.val + p.val, by have := lt_N t; omega⟩
def part (t : Fin cfg0.N) : Fin 2 := ⟨min t.val 1, by omega⟩
theorem seg_at (t : Fin cfg0.N) (p : Fin 256) : Cert.Reference3Ideal.Value.seg (at' t p) = part t := by
  unfold Cert.Reference3Ideal.Value.seg
  by_cases h : t.val = 0
  · rw [if_pos (by simp only [at']; omega)]
    exact Fin.ext (by simp only [part, h]; rfl)
  · rw [if_neg (by simp only [at']; omega)]
    exact Fin.ext (by simp only [part]; show 1 = _; omega)

theorem iblk_0 (t : Fin cfg0.N) (p : Fin 256) (k : Fin 1024) : (iblk m c 0 t : Vec Ideal S256x1024 .f32) (ix2 p k) = in0 m c (ix2 (at' t p) k) := by
  rw [in0, ← V_main_arg0 m c]
  blk_ext [iblk, index0_0 t, at']
theorem iblk_2 (t : Fin cfg0.N) (p : Fin 256) (k : Fin 256) : (iblk m c 2 t : Vec Ideal S256x256 .f32) (ix2 p k) = in2 m c (ix2 (at' t p) k) := by
  rw [in2, ← V_main_arg2 m c]
  blk_ext [iblk, index0_2 t, at']
theorem iblk_3 (t : Fin cfg0.N) (p : Fin 256) (k : Fin 256) : (iblk m c 3 t : Vec Ideal S256x256 .f32) (ix2 p k) = in3 m c (ix2 (at' t p) k) := by
  rw [in3, ← V_main_arg3 m c]
  blk_ext [iblk, index0_3 t, at']
theorem iblk_4 (t : Fin cfg0.N) (p : Fin 256) (k : Fin 256) : (iblk m c 4 t : Vec Ideal S256x256 .f32) (ix2 p k) = in4 m c (ix2 (at' t p) k) := by
  rw [in4, ← V_main_arg4 m c]
  blk_ext [iblk, index0_4 t, at']
theorem iblk_5 (t : Fin cfg0.N) (p : Fin 256) (k : Fin 256) : (iblk m c 5 t : Vec Ideal S256x256 .f32) (ix2 p k) = in5 m c (ix2 (at' t p) k) := by
  rw [in5, ← V_main_arg5 m c]
  blk_ext [iblk, index0_5 t, at']
theorem iblk_6 (t : Fin cfg0.N) (p : Fin 256) (k : Fin 512) : (iblk m c 6 t : Vec Ideal S256x512 .f32) (ix2 p k) = in6 m c (ix2 (at' t p) k) := by
  rw [in6, ← V_main_arg6 m c]
  blk_ext [iblk, index0_6 t, at']
theorem iblk_1 (t : Fin cfg0.N) (i : Fin 8) (k : Fin 1024) : (iblk m c 1 t : Vec Ideal S1x8x1024 .f32) (ix3 0 i k) = in1 m c (ix3 (part t) i k) := by
  rw [in1, ← V_main_arg1 m c]
  blk_ext [iblk, index0_1 t, part]
theorem iblk_7 (t : Fin cfg0.N) (e : Fin 256) : (iblk m c 7 t : Vec Ideal S1x256 .f32) (ix2 0 e) = in7 m c (ix2 0 (place e)) := by
  rw [← v2_at m c]
  blk_ext [iblk, index0_7 t]
theorem iblk_8 (t : Fin cfg0.N) (l k : Fin 1024) : (iblk m c 8 t : Vec Ideal S1024x1024 .bf16) (ix2 l k) = in8 m c (ix2 l k) := by
  rw [← v3_at m c]
  blk_ext [iblk, index0_8 t]
theorem iblk_9 (t : Fin cfg0.N) (k : Fin 1024) : (iblk m c 9 t : Vec Ideal S1x1024 .f32) (ix2 0 k) = in9 m c (ix2 0 k) := by
  rw [in9, ← V_main_arg9 m c]
  blk_ext [iblk, index0_9 t]
theorem iblk_10 (t : Fin cfg0.N) (k : Fin 1024) (j : Fin 4096) : (iblk m c 10 t : Vec Ideal S1024x4096 .bf16) (ix2 k j) = in10 m c (ix2 k j) := by
  rw [← v4_at m c]
  blk_ext [iblk, index0_10 t]
theorem iblk_11 (t : Fin cfg0.N) (j : Fin 4096) (k : Fin 1024) : (iblk m c 11 t : Vec Ideal S4096x1024 .bf16) (ix2 j k) = in11 m c (ix2 j k) := by
  rw [← v5_at m c]
  blk_ext [iblk, index0_11 t]

theorem place_col (d : Fin 64) : place (col 0 d) = d := Fin.ext (by show (0 * 64 + d.val) % 64 = d.val; omega)
/-- The weights are the same for each head. -/
theorem weights_eq (t : Fin cfg0.N) (e : Fin 256) : (iblk m c 7 t : Vec Ideal S1x256 .f32) (ix2 0 e) = (iblk m c 7 t : Vec Ideal S1x256 .f32) (ix2 0 (col 0 (place e))) := by
  rw [iblk_7, iblk_7, place_col]

/-- A point's row is the arguments' row. -/
theorem row_eq (t : Fin cfg0.N) (p : Fin 256) :
    tileRow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p
      = argRow m c (at' t p) := by
  unfold tileRow argRow Cert.Reference6Ideal.Value.row
  rw [seg_at]
  simp only [iblk_0, iblk_1, iblk_2, iblk_3, iblk_4, iblk_5, iblk_6, iblk_7, iblk_8, iblk_9, iblk_10, iblk_11, place_col]

end Cert.Kernel6Ideal.Value

end
-- ==== Proof.Forward.Agree.lean ====
/- The forward call and the reference agree in all three results. -/
module

public import proofs.«01_k».proof.Defs
public import proofs.«01_k».proof.Proof.Forward.Host
public import Idealize.ShloMosaic.Lib.Pipeline.ValueKit

@[expose] public section
set_option maxRecDepth 16384

noncomputable section

namespace Cert.Kernel6Ideal.Value

open Cert.Kernel6Ideal Cert.Kernel6Ideal.Gen Cert.Forward Idealize.ShloMosaic Idealize.ShloMosaic.TcCoe Idealize.ShloMosaic.Pipeline

section
variable (m : (ℓ : Loc nD τ sig) → Buf (Elt Ideal) ℓ) (c : Dev nD)

/-! ## The reference's results of the arguments -/

def res0 : Vec Ideal S8448x1024 .f32 := Cert.Reference6Ideal.Value.x1 (in0 m c) (in1 m c) (in2 m c) (in3 m c) (in4 m c) (in5 m c) (in6 m c) (in7 m c) (in8 m c)
def res1 : Vec Ideal S8448x1024 .f32 := Cert.Reference6Ideal.Value.x2 (in0 m c) (in1 m c) (in2 m c) (in3 m c) (in4 m c) (in5 m c) (in6 m c) (in7 m c) (in8 m c) (in9 m c) (in10 m c) (in11 m c)
def res2 : Vec Ideal S8448x1024 .f32 := Cert.Reference6Ideal.Value.f (in0 m c) (in1 m c) (in2 m c) (in3 m c) (in4 m c) (in5 m c) (in6 m c) (in7 m c) (in8 m c) (in9 m c) (in10 m c) (in11 m c)

/-! ## What the points leave in the arrays -/

variable (t : Fin cfg0.N)

theorem emb_12 (p : Fin 256) (k : Fin 1024) : (win0_12.blk t).view.emb (ix2 p k) = ix2 (at' t p) k := by blk_ext [index0_12 t, at']
theorem emb_13 (p : Fin 256) (k : Fin 1024) : (win0_13.blk t).view.emb (ix2 p k) = ix2 (at' t p) k := by blk_ext [index0_13 t, at']
theorem emb_14 (p : Fin 256) (k : Fin 1024) : (win0_14.blk t).view.emb (ix2 p k) = ix2 (at' t p) k := by blk_ext [index0_14 t, at']

theorem block_12 (p : Fin 256) (k : Fin 1024) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p k) = res0 m c (ix2 (at' t p) k) := by
  rw [out12_at _ _ _ _ _ _ _ _ _ _ _ _ (weights_eq m c t), row_eq]
  exact (Cert.Reference6Ideal.Value.x1_at (in0 m c) (in1 m c) (in2 m c) (in3 m c) (in4 m c) (in5 m c) (in6 m c) (in7 m c) (in8 m c) (in9 m c) (in10 m c) (in11 m c) _ _).symm
theorem block_13 (p : Fin 256) (k : Fin 1024) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p k) = res1 m c (ix2 (at' t p) k) := by
  rw [out13_at _ _ _ _ _ _ _ _ _ _ _ _ (weights_eq m c t), row_eq]
  exact (Cert.Reference6Ideal.Value.x2_at (in0 m c) (in1 m c) (in2 m c) (in3 m c) (in4 m c) (in5 m c) (in6 m c) (in7 m c) (in8 m c) (in9 m c) (in10 m c) (in11 m c) _ _).symm
theorem block_14 (p : Fin 256) (k : Fin 1024) : out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p k) = res2 m c (ix2 (at' t p) k) := by
  rw [out14_at _ _ _ _ _ _ _ _ _ _ _ _ (weights_eq m c t), row_eq]
  exact (Cert.Reference6Ideal.Value.f_at (in0 m c) (in1 m c) (in2 m c) (in3 m c) (in4 m c) (in5 m c) (in6 m c) (in7 m c) (in8 m c) (in9 m c) (in10 m c) (in11 m c) _ _).symm

theorem arr_12 : (dats m 0 c).arrAt 12 cfg0.N = res0 m c := by
  refine (dats m 0 c).arrAt_eq_of_covers 12 _ (by decide +kernel) fun t _ y => ?_
  blk_simp
  rw [after0_12, eq_ix2 y]
  exact (block_12 m c t (y 0) (y 1)).trans (congrArg (res0 m c) (emb_12 t (y 0) (y 1))).symm
theorem arr_13 : (dats m 0 c).arrAt 13 cfg0.N = res1 m c := by
  refine (dats m 0 c).arrAt_eq_of_covers 13 _ (by decide +kernel) fun t _ y => ?_
  blk_simp
  rw [after0_13, eq_ix2 y]
  exact (block_13 m c t (y 0) (y 1)).trans (congrArg (res1 m c) (emb_13 t (y 0) (y 1))).symm
theorem arr_14 : (dats m 0 c).arrAt 14 cfg0.N = res2 m c := by
  refine (dats m 0 c).arrAt_eq_of_covers 14 _ (by decide +kernel) fun t _ y => ?_
  blk_simp
  rw [after0_14, eq_ix2 y]
  exact (block_14 m c t (y 0) (y 1)).trans (congrArg (res2 m c) (emb_14 t (y 0) (y 1))).symm
end

variable (m : (ℓ : Loc nD τ sig) → Buf (Elt Ideal) ℓ) (ρ : Dev nD → PrngReg)

/-- The call's run, with its results as the reference states them of the arguments. -/
theorem run : θ_run defs (onTc (τ := τ) (main (F := Ideal))) ⟨m, fun _ => 0, ρ⟩ (fun r => ∀ c : Dev nD,
      r.2.mem ((c.tc : Thread nD τ).loc main_v6_0) = res0 m c
      ∧ r.2.mem ((c.tc : Thread nD τ).loc main_v6_1) = res1 m c
      ∧ r.2.mem ((c.tc : Thread nD τ).loc main_v6_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    let ⟨h0, h1, h2, hr⟩ := h c
    ⟨h0.trans (arr_12 m c), h1.trans (arr_13 m c), h2.trans (arr_14 m c), hr⟩) (run_blocks m ρ)

/-- The call's results are the reference's, whatever the arguments. -/
theorem algebraic : Cert.algebraic_Kernel6Ideal_Reference6Ideal (hKernel6Ideal := Cert.Kernel6Ideal.Gen.facts) (hReference6Ideal := Cert.Reference6Ideal.Gen.facts) := by
  intro m g m' g' _ ha
  refine ⟨_, _, _, run m g, ?_⟩
  refine (θ_run _ _ _).mono (fun _ h c => ?_) (Cert.Reference6Ideal.Value.run_stages m' g')
  obtain ⟨a0, a1, a2, a3, a4, a5, a6, a7, a8, a9, a10, a11⟩ := ha c
  obtain ⟨r0, r1, r2, hr⟩ := h c
  have e0 : Cert.Reference6Ideal.Value.in0 m' c = in0 m c := a0
  have e1 : Cert.Reference6Ideal.Value.in1 m' c = in1 m c := a1
  have e2 : Cert.Reference6Ideal.Value.in2 m' c = in2 m c := a2
  have e3 : Cert.Reference6Ideal.Value.in3 m' c = in3 m c := a3
  have e4 : Cert.Reference6Ideal.Value.in4 m' c = in4 m c := a4
  have e5 : Cert.Reference6Ideal.Value.in5 m' c = in5 m c := a5
  have e6 : Cert.Reference6Ideal.Value.in6 m' c = in6 m c := a6
  have e7 : Cert.Reference6Ideal.Value.in7 m' c = in7 m c := a7
  have e8 : Cert.Reference6Ideal.Value.in8 m' c = in8 m c := a8
  have e9 : Cert.Reference6Ideal.Value.in9 m' c = in9 m c := a9
  have e10 : Cert.Reference6Ideal.Value.in10 m' c = in10 m c := a10
  have e11 : Cert.Reference6Ideal.Value.in11 m' c = in11 m c := a11
  rw [e0, e1, e2, e3, e4, e5, e6, e7, e8] at r0
  rw [e0, e1, e2, e3, e4, e5, e6, e7, e8, e9, e10, e11] at r1 r2
  exact ⟨r0, r1, r2, hr⟩

end Cert.Kernel6Ideal.Value

end
-- ==== Proof.Optimiser.Spec.lean ====
/- One step of the optimiser, at one entry of a weight and of whole arrays. -/
module

public import Idealize.ShloMosaic.Lib.Pipeline.ValueKit

@[expose] public section

noncomputable section

namespace Cert.Optimiser

open Idealize.ShloMosaic

/-- A constant of the program, as the rational that its word is. -/
abbrev lit (b : BitVec 32) : Ideal .f32 := Ideal.ofBits .f32 b

/-- The running mean of the gradient `g`, from the mean `m` before. -/
def mean (g m : Ideal .f32) : Ideal .f32 := lit 0x3F666666#32 * m + lit 0x3DCCCCCD#32 * g
/-- The running mean of its square. -/
def meanSq (g v : Ideal .f32) : Ideal .f32 := lit 0x3F7FBE77#32 * v + lit 0x3A83126F#32 * (g * g)
/-- The change of the weight `w`: the corrected mean over the root of the corrected mean square, and the weight's decay, times the rate. -/
def change (g w m v : Ideal .f32) : Ideal .f32 :=
  lit 0xBA83126F#32 * (Ideal.div (Ideal.div (mean g m) (lit 0x3F26BD02#32)) (Ideal.sqrt (Ideal.div (meanSq g v) (lit 0x3C231ACC#32)) + lit 0x322BCC77#32)
    + lit 0x3C23D70A#32 * w)

/-- The gradient is the sum of the four parts, in whatever order. -/
theorem parts_sum (f : Fin 4 → Ideal .f32) : f 0 + f 1 + f 2 + f 3 = ∑ s : Fin 4, f s := (Fin.sum_univ_four f).symm
/-- One part is the gradient. -/
theorem part_sum (f : Fin 1 → Ideal .f32) : f 0 = ∑ s : Fin 1, f s := (Fintype.sum_unique f).symm

/-! ## The step of whole arrays, as the host writes it -/

variable {S : Shape} (hS : (⟨0, ![]⟩ : Shape).BroadcastsInDim S ![]) (g w m v : FVec Ideal S .f32)

def lits (b : BitVec 32) : FVec Ideal S .f32 := broadcastInDim S ![] hS (constant ⟨0, ![]⟩ .f32 b)
def newMean : FVec Ideal S .f32 := addf (mulf (lits hS 0x3F666666#32) m) (mulf (lits hS 0x3DCCCCCD#32) g)
def newMeanSq : FVec Ideal S .f32 := addf (mulf (lits hS 0x3F7FBE77#32) v) (mulf (lits hS 0x3A83126F#32) (mulf g g))
def delta : FVec Ideal S .f32 :=
  mulf (lits hS 0xBA83126F#32) (addf (Host.divf (Host.divf (newMean hS g m) (lits hS 0x3F26BD02#32))
    (addf (Host.sqrt (Host.divf (newMeanSq hS g v) (lits hS 0x3C231ACC#32))) (lits hS 0x322BCC77#32))) (mulf (lits hS 0x3C23D70A#32) w))

variable (i : S.Idx)

theorem lits_at (b : BitVec 32) : lits hS b i = lit b := rfl
theorem newMean_at : newMean hS g m i = mean (g i) (m i) := rfl
theorem newMeanSq_at : newMeanSq hS g v i = meanSq (g i) (v i) := rfl
theorem delta_at : delta hS g w m v i = change (g i) (w i) (m i) (v i) := rfl

end Cert.Optimiser

end
-- ==== Proof.Optimiser.First.lean ====
/- The optimiser's step of the first weight of the FFN: the call and the reference agree in all four results. -/
module

public import proofs.«01_k».proof.Defs
public import proofs.«01_k».proof.Proof.Gen.Kernel7Ideal.Value
public import proofs.«01_k».proof.Proof.Gen.Reference7Ideal.Run
public import proofs.«01_k».proof.Proof.Optimiser.Spec
public import Idealize.ShloMosaic.Lib.Pipeline.ValueKit
public import Idealize.ShloMosaic.Lib.StableHlo.RunRead

@[expose] public section
set_option maxRecDepth 16384

noncomputable section

/-! ## The reference's gradient at an entry -/

namespace Cert.Reference7Ideal.Value

open Cert.Reference7Ideal Cert.Reference7Ideal.Gen Cert.Optimiser Idealize.ShloMosaic

variable (a : FVec Ideal S4x2048x512 .bf16)

/-- The gradient: the sum of the parts. -/
def grad : FVec Ideal S2048x512 .f32 := Host.reduceAdd (extf .f32 a bitsLt_bf16_f32) (constant S_ .f32 0x00000000#32) reducesTo_S4x2048x512_S2048x512_d0 h_S_
theorem grad_at (p : Fin 2048) (k : Fin 512) : grad a (ix2 p k) = ∑ s : Fin 4, a (ix3 s p k) := by pointwise [grad]

end Cert.Reference7Ideal.Value

/-! ## The call's -/

namespace Cert.Kernel7Ideal.Value

open Cert.Kernel7Ideal Cert.Kernel7Ideal.Gen Cert.Optimiser Idealize.ShloMosaic Idealize.ShloMosaic.TcCoe Idealize.ShloMosaic.Pipeline

section
variable (x0 : Vec Ideal S4x512x512 .bf16) (x1 x2 x3 : Vec Ideal S512x512 .f32) (p : Fin 512) (k : Fin 512)

theorem origin : (![0, 0] : Fin 2 → ℕ) = fun _ => 0 := by funext i; fin_cases i <;> rfl
/-- The gradient at an entry of the blocks. -/
def total : Ideal .f32 := x0 (ix3 0 p k) + x0 (ix3 1 p k) + x0 (ix3 2 p k) + x0 (ix3 3 p k)

theorem out4_at : out0_4 x0 x1 x2 x3 (ix2 p k) = total x0 p k := by
  unfold out0_4 total
  rw [View.canon_unit_zero (S := S512x512) origin]
  pointwise [k0_pay2]
theorem out5_at : out0_5 x0 x1 x2 x3 (ix2 p k) = change (total x0 p k) (x1 (ix2 p k)) (x2 (ix2 p k)) (x3 (ix2 p k)) := by
  unfold out0_5 change mean meanSq total
  rw [View.canon_unit_zero (S := S512x512) origin, View.ld_unit_zero (S := S512x512) origin, View.ld_unit_zero (S := S512x512) origin, View.ld_unit_zero (S := S512x512) origin]
  pointwise [k0_pay1, k0_pay2, k0_pay3, k0_pay4, k0_pay5, k0_pay6]
theorem out6_at : out0_6 x0 x1 x2 x3 (ix2 p k) = mean (total x0 p k) (x2 (ix2 p k)) := by
  unfold out0_6 mean total
  rw [View.canon_unit_zero (S := S512x512) origin, View.ld_unit_zero (S := S512x512) origin]
  pointwise [k0_pay2, k0_pay3]
theorem out7_at : out0_7 x0 x1 x2 x3 (ix2 p k) = meanSq (total x0 p k) (x3 (ix2 p k)) := by
  unfold out0_7 meanSq total
  rw [View.canon_unit_zero (S := S512x512) origin, View.ld_unit_zero (S := S512x512) origin]
  pointwise [k0_pay2, k0_pay4]
end

section
variable (m : (ℓ : Loc nD τ sig) → Buf (Elt Ideal) ℓ) (c : Dev nD)

abbrev in0 : FVec Ideal S4x2048x512 .bf16 := m (c.tc.loc main_arg0)
abbrev in1 : FVec Ideal S2048x512 .f32 := m (c.tc.loc main_arg1)
abbrev in2 : FVec Ideal S2048x512 .f32 := m (c.tc.loc main_arg2)
abbrev in3 : FVec Ideal S2048x512 .f32 := m (c.tc.loc main_arg3)
def res4 : Vec Ideal S2048x512 .f32 := Cert.Reference7Ideal.Value.grad (in0 m c)
def res5 : Vec Ideal S2048x512 .f32 := delta Cert.Reference7Ideal.Gen.bcast_S_S2048x512 (Cert.Reference7Ideal.Value.grad (in0 m c)) (in1 m c) (in2 m c) (in3 m c)
def res6 : Vec Ideal S2048x512 .f32 := newMean Cert.Reference7Ideal.Gen.bcast_S_S2048x512 (Cert.Reference7Ideal.Value.grad (in0 m c)) (in2 m c)
def res7 : Vec Ideal S2048x512 .f32 := newMeanSq Cert.Reference7Ideal.Gen.bcast_S_S2048x512 (Cert.Reference7Ideal.Value.grad (in0 m c)) (in3 m c)

theorem lt_N (t : Fin cfg0.N) : t.val < 4 := lt_of_lt_of_eq t.isLt (show cfg0.N = 4 from N_0)
theorem index0_0 : ∀ t : Fin cfg0.N, win0_0.index t = ![0, t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![t.val, 0] := by decide +kernel

variable (t : Fin cfg0.N)

/-- Row `p` of point `t`. -/
def at' (p : Fin 512) : Fin 2048 := ⟨512 * t.val + p.val, by have := lt_N t; omega⟩

theorem iblk_0 (s : Fin 4) (p : Fin 512) (k : Fin 512) : (iblk m c 0 t : Vec Ideal S4x512x512 .bf16) (ix3 s p k) = in0 m c (ix3 s (at' t p) k) := by
  rw [in0, ← V_main_arg0 m c]
  blk_ext [iblk, index0_0 t, at']
theorem iblk_1 (p : Fin 512) (k : Fin 512) : (iblk m c 1 t : Vec Ideal S512x512 .f32) (ix2 p k) = in1 m c (ix2 (at' t p) k) := by
  rw [in1, ← V_main_arg1 m c]
  blk_ext [iblk, index0_1 t, at']
theorem iblk_2 (p : Fin 512) (k : Fin 512) : (iblk m c 2 t : Vec Ideal S512x512 .f32) (ix2 p k) = in2 m c (ix2 (at' t p) k) := by
  rw [in2, ← V_main_arg2 m c]
  blk_ext [iblk, index0_2 t, at']
theorem iblk_3 (p : Fin 512) (k : Fin 512) : (iblk m c 3 t : Vec Ideal S512x512 .f32) (ix2 p k) = in3 m c (ix2 (at' t p) k) := by
  rw [in3, ← V_main_arg3 m c]
  blk_ext [iblk, index0_3 t, at']
theorem total_eq (p : Fin 512) (k : Fin 512) : total (iblk m c 0 t) p k = Cert.Reference7Ideal.Value.grad (in0 m c) (ix2 (at' t p) k) := by
  unfold total
  rw [iblk_0, iblk_0, iblk_0, iblk_0, Cert.Reference7Ideal.Value.grad_at]
  exact parts_sum fun s => in0 m c (ix3 s (at' t p) k)

theorem emb_4 (p : Fin 512) (k : Fin 512) : (win0_4.blk t).view.emb (ix2 p k) = ix2 (at' t p) k := by blk_ext [index0_4 t, at']
theorem emb_5 (p : Fin 512) (k : Fin 512) : (win0_5.blk t).view.emb (ix2 p k) = ix2 (at' t p) k := by blk_ext [index0_5 t, at']
theorem emb_6 (p : Fin 512) (k : Fin 512) : (win0_6.blk t).view.emb (ix2 p k) = ix2 (at' t p) k := by blk_ext [index0_6 t, at']
theorem emb_7 (p : Fin 512) (k : Fin 512) : (win0_7.blk t).view.emb (ix2 p k) = ix2 (at' t p) k := by blk_ext [index0_7 t, at']

theorem block_4 (p : Fin 512) (k : Fin 512) : out0_4 (iblk m c 0 t) (iblk m c 1 t) (iblk m c 2 t) (iblk m c 3 t) (ix2 p k) = res4 m c (ix2 (at' t p) k) := by
  rw [out4_at, total_eq]
  rfl
theorem block_5 (p : Fin 512) (k : Fin 512) : out0_5 (iblk m c 0 t) (iblk m c 1 t) (iblk m c 2 t) (iblk m c 3 t) (ix2 p k) = res5 m c (ix2 (at' t p) k) := by
  rw [out5_at, total_eq, iblk_1, iblk_2, iblk_3]
  rfl
theorem block_6 (p : Fin 512) (k : Fin 512) : out0_6 (iblk m c 0 t) (iblk m c 1 t) (iblk m c 2 t) (iblk m c 3 t) (ix2 p k) = res6 m c (ix2 (at' t p) k) := by
  rw [out6_at, total_eq, iblk_2]
  rfl
theorem block_7 (p : Fin 512) (k : Fin 512) : out0_7 (iblk m c 0 t) (iblk m c 1 t) (iblk m c 2 t) (iblk m c 3 t) (ix2 p k) = res7 m c (ix2 (at' t p) k) := by
  rw [out7_at, total_eq, iblk_3]
  rfl

theorem arr_4 : (dats m 0 c).arrAt 4 cfg0.N = res4 m c := by
  refine (dats m 0 c).arrAt_eq_of_covers 4 _ (by decide +kernel) fun t _ y => ?_
  blk_simp
  rw [after0_4, eq_ix2 y]
  exact (block_4 m c t (y 0) (y 1)).trans (congrArg (res4 m c) (emb_4 t (y 0) (y 1))).symm
theorem arr_5 : (dats m 0 c).arrAt 5 cfg0.N = res5 m c := by
  refine (dats m 0 c).arrAt_eq_of_covers 5 _ (by decide +kernel) fun t _ y => ?_
  blk_simp
  rw [after0_5, eq_ix2 y]
  exact (block_5 m c t (y 0) (y 1)).trans (congrArg (res5 m c) (emb_5 t (y 0) (y 1))).symm
theorem arr_6 : (dats m 0 c).arrAt 6 cfg0.N = res6 m c := by
  refine (dats m 0 c).arrAt_eq_of_covers 6 _ (by decide +kernel) fun t _ y => ?_
  blk_simp
  rw [after0_6, eq_ix2 y]
  exact (block_6 m c t (y 0) (y 1)).trans (congrArg (res6 m c) (emb_6 t (y 0) (y 1))).symm
theorem arr_7 : (dats m 0 c).arrAt 7 cfg0.N = res7 m c := by
  refine (dats m 0 c).arrAt_eq_of_covers 7 _ (by decide +kernel) fun t _ y => ?_
  blk_simp
  rw [after0_7, eq_ix2 y]
  exact (block_7 m c t (y 0) (y 1)).trans (congrArg (res7 m c) (emb_7 t (y 0) (y 1))).symm
end

variable (m : (ℓ : Loc nD τ sig) → Buf (Elt Ideal) ℓ) (ρ : Dev nD → PrngReg)

/-- The call's run, with its results as the reference states them of the arguments. -/
theorem run_step : θ_run defs (onTc (τ := τ) (main (F := Ideal))) ⟨m, fun _ => 0, ρ⟩ (fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ r.2.mem ((c.tc : Thread nD τ).loc main_v0_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    let ⟨h4, h5, h6, h7, hr⟩ := h c
    ⟨h4.trans (arr_4 m c), h5.trans (arr_5 m c), h6.trans (arr_6 m c), h7.trans (arr_7 m c), hr⟩) (run_blocks m ρ)

/-- The call's results are the reference's, whatever the arguments. -/
theorem algebraic : Cert.algebraic_Kernel7Ideal_Reference7Ideal (hKernel7Ideal := Cert.Kernel7Ideal.Gen.facts) (hReference7Ideal := Cert.Reference7Ideal.Gen.facts) := by
  intro m g m' g' _ ha
  refine ⟨_, _, _, _, run_step m g, ?_⟩
  refine (θ_run _ _ _).mono (fun _ h c => ?_) (Cert.Reference7Ideal.Value.run m' g')
  obtain ⟨a0, a1, a2, a3⟩ := ha c
  obtain ⟨r0, r1, r2, r3, hr⟩ := h c
  have e0 : m' (c.tc.loc Cert.Reference7Ideal.main_arg0) = in0 m c := a0
  have e1 : m' (c.tc.loc Cert.Reference7Ideal.main_arg1) = in1 m c := a1
  have e2 : m' (c.tc.loc Cert.Reference7Ideal.main_arg2) = in2 m c := a2
  have e3 : m' (c.tc.loc Cert.Reference7Ideal.main_arg3) = in3 m c := a3
  rw [e0] at r0
  rw [e0, e1, e2, e3] at r1
  rw [e0, e2] at r2
  rw [e0, e3] at r3
  exact ⟨r0, r1, r2, r3, hr⟩

end Cert.Kernel7Ideal.Value

end
-- ==== Proof.Optimiser.Second.lean ====
/- The optimiser's step of the second weight of the FFN: the call and the reference agree in all four results. -/
module

public import proofs.«01_k».proof.Defs
public import proofs.«01_k».proof.Proof.Gen.Kernel8Ideal.Value
public import proofs.«01_k».proof.Proof.Gen.Reference8Ideal.Run
public import proofs.«01_k».proof.Proof.Optimiser.Spec
public import Idealize.ShloMosaic.Lib.Pipeline.ValueKit
public import Idealize.ShloMosaic.Lib.StableHlo.RunRead

@[expose] public section
set_option maxRecDepth 16384

noncomputable section

/-! ## The reference's gradient at an entry -/

namespace Cert.Reference8Ideal.Value

open Cert.Reference8Ideal Cert.Reference8Ideal.Gen Cert.Optimiser Idealize.ShloMosaic

variable (a : FVec Ideal S4x1024x1024 .bf16)

/-- The gradient: the sum of the parts. -/
def grad : FVec Ideal S1024x1024 .f32 := Host.reduceAdd (extf .f32 a bitsLt_bf16_f32) (constant S_ .f32 0x00000000#32) reducesTo_S4x1024x1024_S1024x1024_d0 h_S_
theorem grad_at (p : Fin 1024) (k : Fin 1024) : grad a (ix2 p k) = ∑ s : Fin 4, a (ix3 s p k) := by pointwise [grad]

end Cert.Reference8Ideal.Value

/-! ## The call's -/

namespace Cert.Kernel8Ideal.Value

open Cert.Kernel8Ideal Cert.Kernel8Ideal.Gen Cert.Optimiser Idealize.ShloMosaic Idealize.ShloMosaic.TcCoe Idealize.ShloMosaic.Pipeline

section
variable (x0 : Vec Ideal S4x256x1024 .bf16) (x1 x2 x3 : Vec Ideal S256x1024 .f32) (p : Fin 256) (k : Fin 1024)

theorem origin : (![0, 0] : Fin 2 → ℕ) = fun _ => 0 := by funext i; fin_cases i <;> rfl
/-- The gradient at an entry of the blocks. -/
def total : Ideal .f32 := x0 (ix3 0 p k) + x0 (ix3 1 p k) + x0 (ix3 2 p k) + x0 (ix3 3 p k)

theorem out4_at : out0_4 x0 x1 x2 x3 (ix2 p k) = total x0 p k := by
  unfold out0_4 total
  rw [View.canon_unit_zero (S := S256x1024) origin]
  pointwise [k0_pay2]
theorem out5_at : out0_5 x0 x1 x2 x3 (ix2 p k) = change (total x0 p k) (x1 (ix2 p k)) (x2 (ix2 p k)) (x3 (ix2 p k)) := by
  unfold out0_5 change mean meanSq total
  rw [View.canon_unit_zero (S := S256x1024) origin, View.ld_unit_zero (S := S256x1024) origin, View.ld_unit_zero (S := S256x1024) origin, View.ld_unit_zero (S := S256x1024) origin]
  pointwise [k0_pay1, k0_pay2, k0_pay3, k0_pay4, k0_pay5, k0_pay6]
theorem out6_at : out0_6 x0 x1 x2 x3 (ix2 p k) = mean (total x0 p k) (x2 (ix2 p k)) := by
  unfold out0_6 mean total
  rw [View.canon_unit_zero (S := S256x1024) origin, View.ld_unit_zero (S := S256x1024) origin]
  pointwise [k0_pay2, k0_pay3]
theorem out7_at : out0_7 x0 x1 x2 x3 (ix2 p k) = meanSq (total x0 p k) (x3 (ix2 p k)) := by
  unfold out0_7 meanSq total
  rw [View.canon_unit_zero (S := S256x1024) origin, View.ld_unit_zero (S := S256x1024) origin]
  pointwise [k0_pay2, k0_pay4]
end

section
variable (m : (ℓ : Loc nD τ sig) → Buf (Elt Ideal) ℓ) (c : Dev nD)

abbrev in0 : FVec Ideal S4x1024x1024 .bf16 := m (c.tc.loc main_arg0)
abbrev in1 : FVec Ideal S1024x1024 .f32 := m (c.tc.loc main_arg1)
abbrev in2 : FVec Ideal S1024x1024 .f32 := m (c.tc.loc main_arg2)
abbrev in3 : FVec Ideal S1024x1024 .f32 := m (c.tc.loc main_arg3)
def res4 : Vec Ideal S1024x1024 .f32 := Cert.Reference8Ideal.Value.grad (in0 m c)
def res5 : Vec Ideal S1024x1024 .f32 := delta Cert.Reference8Ideal.Gen.bcast_S_S1024x1024 (Cert.Reference8Ideal.Value.grad (in0 m c)) (in1 m c) (in2 m c) (in3 m c)
def res6 : Vec Ideal S1024x1024 .f32 := newMean Cert.Reference8Ideal.Gen.bcast_S_S1024x1024 (Cert.Reference8Ideal.Value.grad (in0 m c)) (in2 m c)
def res7 : Vec Ideal S1024x1024 .f32 := newMeanSq Cert.Reference8Ideal.Gen.bcast_S_S1024x1024 (Cert.Reference8Ideal.Value.grad (in0 m c)) (in3 m c)

theorem lt_N (t : Fin cfg0.N) : t.val < 4 := lt_of_lt_of_eq t.isLt (show cfg0.N = 4 from N_0)
theorem index0_0 : ∀ t : Fin cfg0.N, win0_0.index t = ![0, t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![t.val, 0] := by decide +kernel

variable (t : Fin cfg0.N)

/-- Row `p` of point `t`. -/
def at' (p : Fin 256) : Fin 1024 := ⟨256 * t.val + p.val, by have := lt_N t; omega⟩

theorem iblk_0 (s : Fin 4) (p : Fin 256) (k : Fin 1024) : (iblk m c 0 t : Vec Ideal S4x256x1024 .bf16) (ix3 s p k) = in0 m c (ix3 s (at' t p) k) := by
  rw [in0, ← V_main_arg0 m c]
  blk_ext [iblk, index0_0 t, at']
theorem iblk_1 (p : Fin 256) (k : Fin 1024) : (iblk m c 1 t : Vec Ideal S256x1024 .f32) (ix2 p k) = in1 m c (ix2 (at' t p) k) := by
  rw [in1, ← V_main_arg1 m c]
  blk_ext [iblk, index0_1 t, at']
theorem iblk_2 (p : Fin 256) (k : Fin 1024) : (iblk m c 2 t : Vec Ideal S256x1024 .f32) (ix2 p k) = in2 m c (ix2 (at' t p) k) := by
  rw [in2, ← V_main_arg2 m c]
  blk_ext [iblk, index0_2 t, at']
theorem iblk_3 (p : Fin 256) (k : Fin 1024) : (iblk m c 3 t : Vec Ideal S256x1024 .f32) (ix2 p k) = in3 m c (ix2 (at' t p) k) := by
  rw [in3, ← V_main_arg3 m c]
  blk_ext [iblk, index0_3 t, at']
theorem total_eq (p : Fin 256) (k : Fin 1024) : total (iblk m c 0 t) p k = Cert.Reference8Ideal.Value.grad (in0 m c) (ix2 (at' t p) k) := by
  unfold total
  rw [iblk_0, iblk_0, iblk_0, iblk_0, Cert.Reference8Ideal.Value.grad_at]
  exact parts_sum fun s => in0 m c (ix3 s (at' t p) k)

theorem emb_4 (p : Fin 256) (k : Fin 1024) : (win0_4.blk t).view.emb (ix2 p k) = ix2 (at' t p) k := by blk_ext [index0_4 t, at']
theorem emb_5 (p : Fin 256) (k : Fin 1024) : (win0_5.blk t).view.emb (ix2 p k) = ix2 (at' t p) k := by blk_ext [index0_5 t, at']
theorem emb_6 (p : Fin 256) (k : Fin 1024) : (win0_6.blk t).view.emb (ix2 p k) = ix2 (at' t p) k := by blk_ext [index0_6 t, at']
theorem emb_7 (p : Fin 256) (k : Fin 1024) : (win0_7.blk t).view.emb (ix2 p k) = ix2 (at' t p) k := by blk_ext [index0_7 t, at']

theorem block_4 (p : Fin 256) (k : Fin 1024) : out0_4 (iblk m c 0 t) (iblk m c 1 t) (iblk m c 2 t) (iblk m c 3 t) (ix2 p k) = res4 m c (ix2 (at' t p) k) := by
  rw [out4_at, total_eq]
  rfl
theorem block_5 (p : Fin 256) (k : Fin 1024) : out0_5 (iblk m c 0 t) (iblk m c 1 t) (iblk m c 2 t) (iblk m c 3 t) (ix2 p k) = res5 m c (ix2 (at' t p) k) := by
  rw [out5_at, total_eq, iblk_1, iblk_2, iblk_3]
  rfl
theorem block_6 (p : Fin 256) (k : Fin 1024) : out0_6 (iblk m c 0 t) (iblk m c 1 t) (iblk m c 2 t) (iblk m c 3 t) (ix2 p k) = res6 m c (ix2 (at' t p) k) := by
  rw [out6_at, total_eq, iblk_2]
  rfl
theorem block_7 (p : Fin 256) (k : Fin 1024) : out0_7 (iblk m c 0 t) (iblk m c 1 t) (iblk m c 2 t) (iblk m c 3 t) (ix2 p k) = res7 m c (ix2 (at' t p) k) := by
  rw [out7_at, total_eq, iblk_3]
  rfl

theorem arr_4 : (dats m 0 c).arrAt 4 cfg0.N = res4 m c := by
  refine (dats m 0 c).arrAt_eq_of_covers 4 _ (by decide +kernel) fun t _ y => ?_
  blk_simp
  rw [after0_4, eq_ix2 y]
  exact (block_4 m c t (y 0) (y 1)).trans (congrArg (res4 m c) (emb_4 t (y 0) (y 1))).symm
theorem arr_5 : (dats m 0 c).arrAt 5 cfg0.N = res5 m c := by
  refine (dats m 0 c).arrAt_eq_of_covers 5 _ (by decide +kernel) fun t _ y => ?_
  blk_simp
  rw [after0_5, eq_ix2 y]
  exact (block_5 m c t (y 0) (y 1)).trans (congrArg (res5 m c) (emb_5 t (y 0) (y 1))).symm
theorem arr_6 : (dats m 0 c).arrAt 6 cfg0.N = res6 m c := by
  refine (dats m 0 c).arrAt_eq_of_covers 6 _ (by decide +kernel) fun t _ y => ?_
  blk_simp
  rw [after0_6, eq_ix2 y]
  exact (block_6 m c t (y 0) (y 1)).trans (congrArg (res6 m c) (emb_6 t (y 0) (y 1))).symm
theorem arr_7 : (dats m 0 c).arrAt 7 cfg0.N = res7 m c := by
  refine (dats m 0 c).arrAt_eq_of_covers 7 _ (by decide +kernel) fun t _ y => ?_
  blk_simp
  rw [after0_7, eq_ix2 y]
  exact (block_7 m c t (y 0) (y 1)).trans (congrArg (res7 m c) (emb_7 t (y 0) (y 1))).symm
end

variable (m : (ℓ : Loc nD τ sig) → Buf (Elt Ideal) ℓ) (ρ : Dev nD → PrngReg)

/-- The call's run, with its results as the reference states them of the arguments. -/
theorem run_step : θ_run defs (onTc (τ := τ) (main (F := Ideal))) ⟨m, fun _ => 0, ρ⟩ (fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ r.2.mem ((c.tc : Thread nD τ).loc main_v0_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    let ⟨h4, h5, h6, h7, hr⟩ := h c
    ⟨h4.trans (arr_4 m c), h5.trans (arr_5 m c), h6.trans (arr_6 m c), h7.trans (arr_7 m c), hr⟩) (run_blocks m ρ)

/-- The call's results are the reference's, whatever the arguments. -/
theorem algebraic : Cert.algebraic_Kernel8Ideal_Reference8Ideal (hKernel8Ideal := Cert.Kernel8Ideal.Gen.facts) (hReference8Ideal := Cert.Reference8Ideal.Gen.facts) := by
  intro m g m' g' _ ha
  refine ⟨_, _, _, _, run_step m g, ?_⟩
  refine (θ_run _ _ _).mono (fun _ h c => ?_) (Cert.Reference8Ideal.Value.run m' g')
  obtain ⟨a0, a1, a2, a3⟩ := ha c
  obtain ⟨r0, r1, r2, r3, hr⟩ := h c
  have e0 : m' (c.tc.loc Cert.Reference8Ideal.main_arg0) = in0 m c := a0
  have e1 : m' (c.tc.loc Cert.Reference8Ideal.main_arg1) = in1 m c := a1
  have e2 : m' (c.tc.loc Cert.Reference8Ideal.main_arg2) = in2 m c := a2
  have e3 : m' (c.tc.loc Cert.Reference8Ideal.main_arg3) = in3 m c := a3
  rw [e0] at r0
  rw [e0, e1, e2, e3] at r1
  rw [e0, e2] at r2
  rw [e0, e3] at r3
  exact ⟨r0, r1, r2, r3, hr⟩

end Cert.Kernel8Ideal.Value

end
-- ==== Proof.Optimiser.Out.lean ====
/- The optimiser's step of the weight out of the mixing: the call and the reference agree in all four results. -/
module

public import proofs.«01_k».proof.Defs
public import proofs.«01_k».proof.Proof.Gen.Kernel9Ideal.Value
public import proofs.«01_k».proof.Proof.Gen.Reference9Ideal.Run
public import proofs.«01_k».proof.Proof.Optimiser.Spec
public import Idealize.ShloMosaic.Lib.Pipeline.ValueKit
public import Idealize.ShloMosaic.Lib.StableHlo.RunRead

@[expose] public section
set_option maxRecDepth 16384

noncomputable section

/-! ## The reference's gradient at an entry -/

namespace Cert.Reference9Ideal.Value

open Cert.Reference9Ideal Cert.Reference9Ideal.Gen Cert.Optimiser Idealize.ShloMosaic

variable (a : FVec Ideal S4x256x1024 .bf16)

/-- The gradient: the sum of the parts. -/
def grad : FVec Ideal S256x1024 .f32 := Host.reduceAdd (extf .f32 a bitsLt_bf16_f32) (constant S_ .f32 0x00000000#32) reducesTo_S4x256x1024_S256x1024_d0 h_S_
theorem grad_at (p : Fin 256) (k : Fin 1024) : grad a (ix2 p k) = ∑ s : Fin 4, a (ix3 s p k) := by pointwise [grad]

end Cert.Reference9Ideal.Value

/-! ## The call's -/

namespace Cert.Kernel9Ideal.Value

open Cert.Kernel9Ideal Cert.Kernel9Ideal.Gen Cert.Optimiser Idealize.ShloMosaic Idealize.ShloMosaic.TcCoe Idealize.ShloMosaic.Pipeline

section
variable (x0 : Vec Ideal S4x256x1024 .bf16) (x1 x2 x3 : Vec Ideal S256x1024 .f32) (p : Fin 256) (k : Fin 1024)

theorem origin : (![0, 0] : Fin 2 → ℕ) = fun _ => 0 := by funext i; fin_cases i <;> rfl
/-- The gradient at an entry of the blocks. -/
def total : Ideal .f32 := x0 (ix3 0 p k) + x0 (ix3 1 p k) + x0 (ix3 2 p k) + x0 (ix3 3 p k)

theorem out4_at : out0_4 x0 x1 x2 x3 (ix2 p k) = total x0 p k := by
  unfold out0_4 total
  rw [View.canon_unit_zero (S := S256x1024) origin]
  pointwise [k0_pay2]
theorem out5_at : out0_5 x0 x1 x2 x3 (ix2 p k) = change (total x0 p k) (x1 (ix2 p k)) (x2 (ix2 p k)) (x3 (ix2 p k)) := by
  unfold out0_5 change mean meanSq total
  rw [View.canon_unit_zero (S := S256x1024) origin, View.ld_unit_zero (S := S256x1024) origin, View.ld_unit_zero (S := S256x1024) origin, View.ld_unit_zero (S := S256x1024) origin]
  pointwise [k0_pay1, k0_pay2, k0_pay3, k0_pay4, k0_pay5, k0_pay6]
theorem out6_at : out0_6 x0 x1 x2 x3 (ix2 p k) = mean (total x0 p k) (x2 (ix2 p k)) := by
  unfold out0_6 mean total
  rw [View.canon_unit_zero (S := S256x1024) origin, View.ld_unit_zero (S := S256x1024) origin]
  pointwise [k0_pay2, k0_pay3]
theorem out7_at : out0_7 x0 x1 x2 x3 (ix2 p k) = meanSq (total x0 p k) (x3 (ix2 p k)) := by
  unfold out0_7 meanSq total
  rw [View.canon_unit_zero (S := S256x1024) origin, View.ld_unit_zero (S := S256x1024) origin]
  pointwise [k0_pay2, k0_pay4]
end

section
variable (m : (ℓ : Loc nD τ sig) → Buf (Elt Ideal) ℓ) (c : Dev nD)

abbrev in0 : FVec Ideal S4x256x1024 .bf16 := m (c.tc.loc main_arg0)
abbrev in1 : FVec Ideal S256x1024 .f32 := m (c.tc.loc main_arg1)
abbrev in2 : FVec Ideal S256x1024 .f32 := m (c.tc.loc main_arg2)
abbrev in3 : FVec Ideal S256x1024 .f32 := m (c.tc.loc main_arg3)
def res4 : Vec Ideal S256x1024 .f32 := Cert.Reference9Ideal.Value.grad (in0 m c)
def res5 : Vec Ideal S256x1024 .f32 := delta Cert.Reference9Ideal.Gen.bcast_S_S256x1024 (Cert.Reference9Ideal.Value.grad (in0 m c)) (in1 m c) (in2 m c) (in3 m c)
def res6 : Vec Ideal S256x1024 .f32 := newMean Cert.Reference9Ideal.Gen.bcast_S_S256x1024 (Cert.Reference9Ideal.Value.grad (in0 m c)) (in2 m c)
def res7 : Vec Ideal S256x1024 .f32 := newMeanSq Cert.Reference9Ideal.Gen.bcast_S_S256x1024 (Cert.Reference9Ideal.Value.grad (in0 m c)) (in3 m c)

theorem lt_N (t : Fin cfg0.N) : t.val < 1 := lt_of_lt_of_eq t.isLt (show cfg0.N = 1 from N_0)
theorem index0_0 : ∀ t : Fin cfg0.N, win0_0.index t = ![0, t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![t.val, 0] := by decide +kernel

variable (t : Fin cfg0.N)

/-- Row `p` of point `t`. -/
def at' (p : Fin 256) : Fin 256 := ⟨256 * t.val + p.val, by have := lt_N t; omega⟩

theorem iblk_0 (s : Fin 4) (p : Fin 256) (k : Fin 1024) : (iblk m c 0 t : Vec Ideal S4x256x1024 .bf16) (ix3 s p k) = in0 m c (ix3 s (at' t p) k) := by
  rw [in0, ← V_main_arg0 m c]
  blk_ext [iblk, index0_0 t, at']
theorem iblk_1 (p : Fin 256) (k : Fin 1024) : (iblk m c 1 t : Vec Ideal S256x1024 .f32) (ix2 p k) = in1 m c (ix2 (at' t p) k) := by
  rw [in1, ← V_main_arg1 m c]
  blk_ext [iblk, index0_1 t, at']
theorem iblk_2 (p : Fin 256) (k : Fin 1024) : (iblk m c 2 t : Vec Ideal S256x1024 .f32) (ix2 p k) = in2 m c (ix2 (at' t p) k) := by
  rw [in2, ← V_main_arg2 m c]
  blk_ext [iblk, index0_2 t, at']
theorem iblk_3 (p : Fin 256) (k : Fin 1024) : (iblk m c 3 t : Vec Ideal S256x1024 .f32) (ix2 p k) = in3 m c (ix2 (at' t p) k) := by
  rw [in3, ← V_main_arg3 m c]
  blk_ext [iblk, index0_3 t, at']
theorem total_eq (p : Fin 256) (k : Fin 1024) : total (iblk m c 0 t) p k = Cert.Reference9Ideal.Value.grad (in0 m c) (ix2 (at' t p) k) := by
  unfold total
  rw [iblk_0, iblk_0, iblk_0, iblk_0, Cert.Reference9Ideal.Value.grad_at]
  exact parts_sum fun s => in0 m c (ix3 s (at' t p) k)

theorem emb_4 (p : Fin 256) (k : Fin 1024) : (win0_4.blk t).view.emb (ix2 p k) = ix2 (at' t p) k := by blk_ext [index0_4 t, at']
theorem emb_5 (p : Fin 256) (k : Fin 1024) : (win0_5.blk t).view.emb (ix2 p k) = ix2 (at' t p) k := by blk_ext [index0_5 t, at']
theorem emb_6 (p : Fin 256) (k : Fin 1024) : (win0_6.blk t).view.emb (ix2 p k) = ix2 (at' t p) k := by blk_ext [index0_6 t, at']
theorem emb_7 (p : Fin 256) (k : Fin 1024) : (win0_7.blk t).view.emb (ix2 p k) = ix2 (at' t p) k := by blk_ext [index0_7 t, at']

theorem block_4 (p : Fin 256) (k : Fin 1024) : out0_4 (iblk m c 0 t) (iblk m c 1 t) (iblk m c 2 t) (iblk m c 3 t) (ix2 p k) = res4 m c (ix2 (at' t p) k) := by
  rw [out4_at, total_eq]
  rfl
theorem block_5 (p : Fin 256) (k : Fin 1024) : out0_5 (iblk m c 0 t) (iblk m c 1 t) (iblk m c 2 t) (iblk m c 3 t) (ix2 p k) = res5 m c (ix2 (at' t p) k) := by
  rw [out5_at, total_eq, iblk_1, iblk_2, iblk_3]
  rfl
theorem block_6 (p : Fin 256) (k : Fin 1024) : out0_6 (iblk m c 0 t) (iblk m c 1 t) (iblk m c 2 t) (iblk m c 3 t) (ix2 p k) = res6 m c (ix2 (at' t p) k) := by
  rw [out6_at, total_eq, iblk_2]
  rfl
theorem block_7 (p : Fin 256) (k : Fin 1024) : out0_7 (iblk m c 0 t) (iblk m c 1 t) (iblk m c 2 t) (iblk m c 3 t) (ix2 p k) = res7 m c (ix2 (at' t p) k) := by
  rw [out7_at, total_eq, iblk_3]
  rfl

theorem arr_4 : (dats m 0 c).arrAt 4 cfg0.N = res4 m c := by
  refine (dats m 0 c).arrAt_eq_of_covers 4 _ (by decide +kernel) fun t _ y => ?_
  blk_simp
  rw [after0_4, eq_ix2 y]
  exact (block_4 m c t (y 0) (y 1)).trans (congrArg (res4 m c) (emb_4 t (y 0) (y 1))).symm
theorem arr_5 : (dats m 0 c).arrAt 5 cfg0.N = res5 m c := by
  refine (dats m 0 c).arrAt_eq_of_covers 5 _ (by decide +kernel) fun t _ y => ?_
  blk_simp
  rw [after0_5, eq_ix2 y]
  exact (block_5 m c t (y 0) (y 1)).trans (congrArg (res5 m c) (emb_5 t (y 0) (y 1))).symm
theorem arr_6 : (dats m 0 c).arrAt 6 cfg0.N = res6 m c := by
  refine (dats m 0 c).arrAt_eq_of_covers 6 _ (by decide +kernel) fun t _ y => ?_
  blk_simp
  rw [after0_6, eq_ix2 y]
  exact (block_6 m c t (y 0) (y 1)).trans (congrArg (res6 m c) (emb_6 t (y 0) (y 1))).symm
theorem arr_7 : (dats m 0 c).arrAt 7 cfg0.N = res7 m c := by
  refine (dats m 0 c).arrAt_eq_of_covers 7 _ (by decide +kernel) fun t _ y => ?_
  blk_simp
  rw [after0_7, eq_ix2 y]
  exact (block_7 m c t (y 0) (y 1)).trans (congrArg (res7 m c) (emb_7 t (y 0) (y 1))).symm
end

variable (m : (ℓ : Loc nD τ sig) → Buf (Elt Ideal) ℓ) (ρ : Dev nD → PrngReg)

/-- The call's run, with its results as the reference states them of the arguments. -/
theorem run_step : θ_run defs (onTc (τ := τ) (main (F := Ideal))) ⟨m, fun _ => 0, ρ⟩ (fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ r.2.mem ((c.tc : Thread nD τ).loc main_v0_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    let ⟨h4, h5, h6, h7, hr⟩ := h c
    ⟨h4.trans (arr_4 m c), h5.trans (arr_5 m c), h6.trans (arr_6 m c), h7.trans (arr_7 m c), hr⟩) (run_blocks m ρ)

/-- The call's results are the reference's, whatever the arguments. -/
theorem algebraic : Cert.algebraic_Kernel9Ideal_Reference9Ideal (hKernel9Ideal := Cert.Kernel9Ideal.Gen.facts) (hReference9Ideal := Cert.Reference9Ideal.Gen.facts) := by
  intro m g m' g' _ ha
  refine ⟨_, _, _, _, run_step m g, ?_⟩
  refine (θ_run _ _ _).mono (fun _ h c => ?_) (Cert.Reference9Ideal.Value.run m' g')
  obtain ⟨a0, a1, a2, a3⟩ := ha c
  obtain ⟨r0, r1, r2, r3, hr⟩ := h c
  have e0 : m' (c.tc.loc Cert.Reference9Ideal.main_arg0) = in0 m c := a0
  have e1 : m' (c.tc.loc Cert.Reference9Ideal.main_arg1) = in1 m c := a1
  have e2 : m' (c.tc.loc Cert.Reference9Ideal.main_arg2) = in2 m c := a2
  have e3 : m' (c.tc.loc Cert.Reference9Ideal.main_arg3) = in3 m c := a3
  rw [e0] at r0
  rw [e0, e1, e2, e3] at r1
  rw [e0, e2] at r2
  rw [e0, e3] at r3
  exact ⟨r0, r1, r2, r3, hr⟩

end Cert.Kernel9Ideal.Value

end
-- ==== Proof.Optimiser.In.lean ====
/- The optimiser's step of the weight into the mixing: the call and the reference agree in all four results. -/
module

public import proofs.«01_k».proof.Defs
public import proofs.«01_k».proof.Proof.Gen.Kernel10Ideal.Value
public import proofs.«01_k».proof.Proof.Gen.Reference10Ideal.Run
public import proofs.«01_k».proof.Proof.Optimiser.Spec
public import Idealize.ShloMosaic.Lib.Pipeline.ValueKit
public import Idealize.ShloMosaic.Lib.StableHlo.RunRead

@[expose] public section
set_option maxRecDepth 16384

noncomputable section

/-! ## The reference's gradient at an entry -/

namespace Cert.Reference10Ideal.Value

open Cert.Reference10Ideal Cert.Reference10Ideal.Gen Cert.Optimiser Idealize.ShloMosaic

variable (a : FVec Ideal S4x2048x236 .bf16)

/-- The gradient: the sum of the parts. -/
def grad : FVec Ideal S2048x236 .f32 := Host.reduceAdd (extf .f32 a bitsLt_bf16_f32) (constant S_ .f32 0x00000000#32) reducesTo_S4x2048x236_S2048x236_d0 h_S_
theorem grad_at (p : Fin 2048) (k : Fin 236) : grad a (ix2 p k) = ∑ s : Fin 4, a (ix3 s p k) := by pointwise [grad]

end Cert.Reference10Ideal.Value

/-! ## The call's -/

namespace Cert.Kernel10Ideal.Value

open Cert.Kernel10Ideal Cert.Kernel10Ideal.Gen Cert.Optimiser Idealize.ShloMosaic Idealize.ShloMosaic.TcCoe Idealize.ShloMosaic.Pipeline

section
variable (x0 : Vec Ideal S4x1024x236 .bf16) (x1 x2 x3 : Vec Ideal S1024x236 .f32) (p : Fin 1024) (k : Fin 236)

theorem origin : (![0, 0] : Fin 2 → ℕ) = fun _ => 0 := by funext i; fin_cases i <;> rfl
/-- The gradient at an entry of the blocks. -/
def total : Ideal .f32 := x0 (ix3 0 p k) + x0 (ix3 1 p k) + x0 (ix3 2 p k) + x0 (ix3 3 p k)

theorem out4_at : out0_4 x0 x1 x2 x3 (ix2 p k) = total x0 p k := by
  unfold out0_4 total
  rw [View.canon_unit_zero (S := S1024x236) origin]
  pointwise [k0_pay2]
theorem out5_at : out0_5 x0 x1 x2 x3 (ix2 p k) = change (total x0 p k) (x1 (ix2 p k)) (x2 (ix2 p k)) (x3 (ix2 p k)) := by
  unfold out0_5 change mean meanSq total
  rw [View.canon_unit_zero (S := S1024x236) origin, View.ld_unit_zero (S := S1024x236) origin, View.ld_unit_zero (S := S1024x236) origin, View.ld_unit_zero (S := S1024x236) origin]
  pointwise [k0_pay1, k0_pay2, k0_pay3, k0_pay4, k0_pay5, k0_pay6]
theorem out6_at : out0_6 x0 x1 x2 x3 (ix2 p k) = mean (total x0 p k) (x2 (ix2 p k)) := by
  unfold out0_6 mean total
  rw [View.canon_unit_zero (S := S1024x236) origin, View.ld_unit_zero (S := S1024x236) origin]
  pointwise [k0_pay2, k0_pay3]
theorem out7_at : out0_7 x0 x1 x2 x3 (ix2 p k) = meanSq (total x0 p k) (x3 (ix2 p k)) := by
  unfold out0_7 meanSq total
  rw [View.canon_unit_zero (S := S1024x236) origin, View.ld_unit_zero (S := S1024x236) origin]
  pointwise [k0_pay2, k0_pay4]
end

section
variable (m : (ℓ : Loc nD τ sig) → Buf (Elt Ideal) ℓ) (c : Dev nD)

abbrev in0 : FVec Ideal S4x2048x236 .bf16 := m (c.tc.loc main_arg0)
abbrev in1 : FVec Ideal S2048x236 .f32 := m (c.tc.loc main_arg1)
abbrev in2 : FVec Ideal S2048x236 .f32 := m (c.tc.loc main_arg2)
abbrev in3 : FVec Ideal S2048x236 .f32 := m (c.tc.loc main_arg3)
def res4 : Vec Ideal S2048x236 .f32 := Cert.Reference10Ideal.Value.grad (in0 m c)
def res5 : Vec Ideal S2048x236 .f32 := delta Cert.Reference10Ideal.Gen.bcast_S_S2048x236 (Cert.Reference10Ideal.Value.grad (in0 m c)) (in1 m c) (in2 m c) (in3 m c)
def res6 : Vec Ideal S2048x236 .f32 := newMean Cert.Reference10Ideal.Gen.bcast_S_S2048x236 (Cert.Reference10Ideal.Value.grad (in0 m c)) (in2 m c)
def res7 : Vec Ideal S2048x236 .f32 := newMeanSq Cert.Reference10Ideal.Gen.bcast_S_S2048x236 (Cert.Reference10Ideal.Value.grad (in0 m c)) (in3 m c)

theorem lt_N (t : Fin cfg0.N) : t.val < 2 := lt_of_lt_of_eq t.isLt (show cfg0.N = 2 from N_0)
theorem index0_0 : ∀ t : Fin cfg0.N, win0_0.index t = ![0, t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![t.val, 0] := by decide +kernel

variable (t : Fin cfg0.N)

/-- Row `p` of point `t`. -/
def at' (p : Fin 1024) : Fin 2048 := ⟨1024 * t.val + p.val, by have := lt_N t; omega⟩

theorem iblk_0 (s : Fin 4) (p : Fin 1024) (k : Fin 236) : (iblk m c 0 t : Vec Ideal S4x1024x236 .bf16) (ix3 s p k) = in0 m c (ix3 s (at' t p) k) := by
  rw [in0, ← V_main_arg0 m c]
  blk_ext [iblk, index0_0 t, at']
theorem iblk_1 (p : Fin 1024) (k : Fin 236) : (iblk m c 1 t : Vec Ideal S1024x236 .f32) (ix2 p k) = in1 m c (ix2 (at' t p) k) := by
  rw [in1, ← V_main_arg1 m c]
  blk_ext [iblk, index0_1 t, at']
theorem iblk_2 (p : Fin 1024) (k : Fin 236) : (iblk m c 2 t : Vec Ideal S1024x236 .f32) (ix2 p k) = in2 m c (ix2 (at' t p) k) := by
  rw [in2, ← V_main_arg2 m c]
  blk_ext [iblk, index0_2 t, at']
theorem iblk_3 (p : Fin 1024) (k : Fin 236) : (iblk m c 3 t : Vec Ideal S1024x236 .f32) (ix2 p k) = in3 m c (ix2 (at' t p) k) := by
  rw [in3, ← V_main_arg3 m c]
  blk_ext [iblk, index0_3 t, at']
theorem total_eq (p : Fin 1024) (k : Fin 236) : total (iblk m c 0 t) p k = Cert.Reference10Ideal.Value.grad (in0 m c) (ix2 (at' t p) k) := by
  unfold total
  rw [iblk_0, iblk_0, iblk_0, iblk_0, Cert.Reference10Ideal.Value.grad_at]
  exact parts_sum fun s => in0 m c (ix3 s (at' t p) k)

theorem emb_4 (p : Fin 1024) (k : Fin 236) : (win0_4.blk t).view.emb (ix2 p k) = ix2 (at' t p) k := by blk_ext [index0_4 t, at']
theorem emb_5 (p : Fin 1024) (k : Fin 236) : (win0_5.blk t).view.emb (ix2 p k) = ix2 (at' t p) k := by blk_ext [index0_5 t, at']
theorem emb_6 (p : Fin 1024) (k : Fin 236) : (win0_6.blk t).view.emb (ix2 p k) = ix2 (at' t p) k := by blk_ext [index0_6 t, at']
theorem emb_7 (p : Fin 1024) (k : Fin 236) : (win0_7.blk t).view.emb (ix2 p k) = ix2 (at' t p) k := by blk_ext [index0_7 t, at']

theorem block_4 (p : Fin 1024) (k : Fin 236) : out0_4 (iblk m c 0 t) (iblk m c 1 t) (iblk m c 2 t) (iblk m c 3 t) (ix2 p k) = res4 m c (ix2 (at' t p) k) := by
  rw [out4_at, total_eq]
  rfl
theorem block_5 (p : Fin 1024) (k : Fin 236) : out0_5 (iblk m c 0 t) (iblk m c 1 t) (iblk m c 2 t) (iblk m c 3 t) (ix2 p k) = res5 m c (ix2 (at' t p) k) := by
  rw [out5_at, total_eq, iblk_1, iblk_2, iblk_3]
  rfl
theorem block_6 (p : Fin 1024) (k : Fin 236) : out0_6 (iblk m c 0 t) (iblk m c 1 t) (iblk m c 2 t) (iblk m c 3 t) (ix2 p k) = res6 m c (ix2 (at' t p) k) := by
  rw [out6_at, total_eq, iblk_2]
  rfl
theorem block_7 (p : Fin 1024) (k : Fin 236) : out0_7 (iblk m c 0 t) (iblk m c 1 t) (iblk m c 2 t) (iblk m c 3 t) (ix2 p k) = res7 m c (ix2 (at' t p) k) := by
  rw [out7_at, total_eq, iblk_3]
  rfl

theorem arr_4 : (dats m 0 c).arrAt 4 cfg0.N = res4 m c := by
  refine (dats m 0 c).arrAt_eq_of_covers 4 _ (by decide +kernel) fun t _ y => ?_
  blk_simp
  rw [after0_4, eq_ix2 y]
  exact (block_4 m c t (y 0) (y 1)).trans (congrArg (res4 m c) (emb_4 t (y 0) (y 1))).symm
theorem arr_5 : (dats m 0 c).arrAt 5 cfg0.N = res5 m c := by
  refine (dats m 0 c).arrAt_eq_of_covers 5 _ (by decide +kernel) fun t _ y => ?_
  blk_simp
  rw [after0_5, eq_ix2 y]
  exact (block_5 m c t (y 0) (y 1)).trans (congrArg (res5 m c) (emb_5 t (y 0) (y 1))).symm
theorem arr_6 : (dats m 0 c).arrAt 6 cfg0.N = res6 m c := by
  refine (dats m 0 c).arrAt_eq_of_covers 6 _ (by decide +kernel) fun t _ y => ?_
  blk_simp
  rw [after0_6, eq_ix2 y]
  exact (block_6 m c t (y 0) (y 1)).trans (congrArg (res6 m c) (emb_6 t (y 0) (y 1))).symm
theorem arr_7 : (dats m 0 c).arrAt 7 cfg0.N = res7 m c := by
  refine (dats m 0 c).arrAt_eq_of_covers 7 _ (by decide +kernel) fun t _ y => ?_
  blk_simp
  rw [after0_7, eq_ix2 y]
  exact (block_7 m c t (y 0) (y 1)).trans (congrArg (res7 m c) (emb_7 t (y 0) (y 1))).symm
end

variable (m : (ℓ : Loc nD τ sig) → Buf (Elt Ideal) ℓ) (ρ : Dev nD → PrngReg)

/-- The call's run, with its results as the reference states them of the arguments. -/
theorem run_step : θ_run defs (onTc (τ := τ) (main (F := Ideal))) ⟨m, fun _ => 0, ρ⟩ (fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ r.2.mem ((c.tc : Thread nD τ).loc main_v0_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    let ⟨h4, h5, h6, h7, hr⟩ := h c
    ⟨h4.trans (arr_4 m c), h5.trans (arr_5 m c), h6.trans (arr_6 m c), h7.trans (arr_7 m c), hr⟩) (run_blocks m ρ)

/-- The call's results are the reference's, whatever the arguments. -/
theorem algebraic : Cert.algebraic_Kernel10Ideal_Reference10Ideal (hKernel10Ideal := Cert.Kernel10Ideal.Gen.facts) (hReference10Ideal := Cert.Reference10Ideal.Gen.facts) := by
  intro m g m' g' _ ha
  refine ⟨_, _, _, _, run_step m g, ?_⟩
  refine (θ_run _ _ _).mono (fun _ h c => ?_) (Cert.Reference10Ideal.Value.run m' g')
  obtain ⟨a0, a1, a2, a3⟩ := ha c
  obtain ⟨r0, r1, r2, r3, hr⟩ := h c
  have e0 : m' (c.tc.loc Cert.Reference10Ideal.main_arg0) = in0 m c := a0
  have e1 : m' (c.tc.loc Cert.Reference10Ideal.main_arg1) = in1 m c := a1
  have e2 : m' (c.tc.loc Cert.Reference10Ideal.main_arg2) = in2 m c := a2
  have e3 : m' (c.tc.loc Cert.Reference10Ideal.main_arg3) = in3 m c := a3
  rw [e0] at r0
  rw [e0, e1, e2, e3] at r1
  rw [e0, e2] at r2
  rw [e0, e3] at r3
  exact ⟨r0, r1, r2, r3, hr⟩

end Cert.Kernel10Ideal.Value

end
-- ==== Proof.Optimiser.Query.lean ====
/- The optimiser's step of the query projection of the attention: the call and the reference agree in all four results. -/
module

public import proofs.«01_k».proof.Defs
public import proofs.«01_k».proof.Proof.Gen.Kernel11Ideal.Value
public import proofs.«01_k».proof.Proof.Gen.Reference11Ideal.Run
public import proofs.«01_k».proof.Proof.Optimiser.Spec
public import Idealize.ShloMosaic.Lib.Pipeline.ValueKit
public import Idealize.ShloMosaic.Lib.StableHlo.RunRead

@[expose] public section
set_option maxRecDepth 16384

noncomputable section

/-! ## The reference's gradient at an entry -/

namespace Cert.Reference11Ideal.Value

open Cert.Reference11Ideal Cert.Reference11Ideal.Gen Cert.Optimiser Idealize.ShloMosaic

variable (a : FVec Ideal S4x512x96 .bf16)

/-- The gradient: the sum of the parts. -/
def grad : FVec Ideal S512x96 .f32 := Host.reduceAdd (extf .f32 a bitsLt_bf16_f32) (constant S_ .f32 0x00000000#32) reducesTo_S4x512x96_S512x96_d0 h_S_
theorem grad_at (p : Fin 512) (k : Fin 96) : grad a (ix2 p k) = ∑ s : Fin 4, a (ix3 s p k) := by pointwise [grad]

end Cert.Reference11Ideal.Value

/-! ## The call's -/

namespace Cert.Kernel11Ideal.Value

open Cert.Kernel11Ideal Cert.Kernel11Ideal.Gen Cert.Optimiser Idealize.ShloMosaic Idealize.ShloMosaic.TcCoe Idealize.ShloMosaic.Pipeline

section
variable (x0 : Vec Ideal S4x512x96 .bf16) (x1 x2 x3 : Vec Ideal S512x96 .f32) (p : Fin 512) (k : Fin 96)

theorem origin : (![0, 0] : Fin 2 → ℕ) = fun _ => 0 := by funext i; fin_cases i <;> rfl
/-- The gradient at an entry of the blocks. -/
def total : Ideal .f32 := x0 (ix3 0 p k) + x0 (ix3 1 p k) + x0 (ix3 2 p k) + x0 (ix3 3 p k)

theorem out4_at : out0_4 x0 x1 x2 x3 (ix2 p k) = total x0 p k := by
  unfold out0_4 total
  rw [View.canon_unit_zero (S := S512x96) origin]
  pointwise [k0_pay2]
theorem out5_at : out0_5 x0 x1 x2 x3 (ix2 p k) = change (total x0 p k) (x1 (ix2 p k)) (x2 (ix2 p k)) (x3 (ix2 p k)) := by
  unfold out0_5 change mean meanSq total
  rw [View.canon_unit_zero (S := S512x96) origin, View.ld_unit_zero (S := S512x96) origin, View.ld_unit_zero (S := S512x96) origin, View.ld_unit_zero (S := S512x96) origin]
  pointwise [k0_pay1, k0_pay2, k0_pay3, k0_pay4, k0_pay5, k0_pay6]
theorem out6_at : out0_6 x0 x1 x2 x3 (ix2 p k) = mean (total x0 p k) (x2 (ix2 p k)) := by
  unfold out0_6 mean total
  rw [View.canon_unit_zero (S := S512x96) origin, View.ld_unit_zero (S := S512x96) origin]
  pointwise [k0_pay2, k0_pay3]
theorem out7_at : out0_7 x0 x1 x2 x3 (ix2 p k) = meanSq (total x0 p k) (x3 (ix2 p k)) := by
  unfold out0_7 meanSq total
  rw [View.canon_unit_zero (S := S512x96) origin, View.ld_unit_zero (S := S512x96) origin]
  pointwise [k0_pay2, k0_pay4]
end

section
variable (m : (ℓ : Loc nD τ sig) → Buf (Elt Ideal) ℓ) (c : Dev nD)

abbrev in0 : FVec Ideal S4x512x96 .bf16 := m (c.tc.loc main_arg0)
abbrev in1 : FVec Ideal S512x96 .f32 := m (c.tc.loc main_arg1)
abbrev in2 : FVec Ideal S512x96 .f32 := m (c.tc.loc main_arg2)
abbrev in3 : FVec Ideal S512x96 .f32 := m (c.tc.loc main_arg3)
def res4 : Vec Ideal S512x96 .f32 := Cert.Reference11Ideal.Value.grad (in0 m c)
def res5 : Vec Ideal S512x96 .f32 := delta Cert.Reference11Ideal.Gen.bcast_S_S512x96 (Cert.Reference11Ideal.Value.grad (in0 m c)) (in1 m c) (in2 m c) (in3 m c)
def res6 : Vec Ideal S512x96 .f32 := newMean Cert.Reference11Ideal.Gen.bcast_S_S512x96 (Cert.Reference11Ideal.Value.grad (in0 m c)) (in2 m c)
def res7 : Vec Ideal S512x96 .f32 := newMeanSq Cert.Reference11Ideal.Gen.bcast_S_S512x96 (Cert.Reference11Ideal.Value.grad (in0 m c)) (in3 m c)

theorem lt_N (t : Fin cfg0.N) : t.val < 1 := lt_of_lt_of_eq t.isLt (show cfg0.N = 1 from N_0)
theorem index0_0 : ∀ t : Fin cfg0.N, win0_0.index t = ![0, t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![t.val, 0] := by decide +kernel

variable (t : Fin cfg0.N)

/-- Row `p` of point `t`. -/
def at' (p : Fin 512) : Fin 512 := ⟨512 * t.val + p.val, by have := lt_N t; omega⟩

theorem iblk_0 (s : Fin 4) (p : Fin 512) (k : Fin 96) : (iblk m c 0 t : Vec Ideal S4x512x96 .bf16) (ix3 s p k) = in0 m c (ix3 s (at' t p) k) := by
  rw [in0, ← V_main_arg0 m c]
  blk_ext [iblk, index0_0 t, at']
theorem iblk_1 (p : Fin 512) (k : Fin 96) : (iblk m c 1 t : Vec Ideal S512x96 .f32) (ix2 p k) = in1 m c (ix2 (at' t p) k) := by
  rw [in1, ← V_main_arg1 m c]
  blk_ext [iblk, index0_1 t, at']
theorem iblk_2 (p : Fin 512) (k : Fin 96) : (iblk m c 2 t : Vec Ideal S512x96 .f32) (ix2 p k) = in2 m c (ix2 (at' t p) k) := by
  rw [in2, ← V_main_arg2 m c]
  blk_ext [iblk, index0_2 t, at']
theorem iblk_3 (p : Fin 512) (k : Fin 96) : (iblk m c 3 t : Vec Ideal S512x96 .f32) (ix2 p k) = in3 m c (ix2 (at' t p) k) := by
  rw [in3, ← V_main_arg3 m c]
  blk_ext [iblk, index0_3 t, at']
theorem total_eq (p : Fin 512) (k : Fin 96) : total (iblk m c 0 t) p k = Cert.Reference11Ideal.Value.grad (in0 m c) (ix2 (at' t p) k) := by
  unfold total
  rw [iblk_0, iblk_0, iblk_0, iblk_0, Cert.Reference11Ideal.Value.grad_at]
  exact parts_sum fun s => in0 m c (ix3 s (at' t p) k)

theorem emb_4 (p : Fin 512) (k : Fin 96) : (win0_4.blk t).view.emb (ix2 p k) = ix2 (at' t p) k := by blk_ext [index0_4 t, at']
theorem emb_5 (p : Fin 512) (k : Fin 96) : (win0_5.blk t).view.emb (ix2 p k) = ix2 (at' t p) k := by blk_ext [index0_5 t, at']
theorem emb_6 (p : Fin 512) (k : Fin 96) : (win0_6.blk t).view.emb (ix2 p k) = ix2 (at' t p) k := by blk_ext [index0_6 t, at']
theorem emb_7 (p : Fin 512) (k : Fin 96) : (win0_7.blk t).view.emb (ix2 p k) = ix2 (at' t p) k := by blk_ext [index0_7 t, at']

theorem block_4 (p : Fin 512) (k : Fin 96) : out0_4 (iblk m c 0 t) (iblk m c 1 t) (iblk m c 2 t) (iblk m c 3 t) (ix2 p k) = res4 m c (ix2 (at' t p) k) := by
  rw [out4_at, total_eq]
  rfl
theorem block_5 (p : Fin 512) (k : Fin 96) : out0_5 (iblk m c 0 t) (iblk m c 1 t) (iblk m c 2 t) (iblk m c 3 t) (ix2 p k) = res5 m c (ix2 (at' t p) k) := by
  rw [out5_at, total_eq, iblk_1, iblk_2, iblk_3]
  rfl
theorem block_6 (p : Fin 512) (k : Fin 96) : out0_6 (iblk m c 0 t) (iblk m c 1 t) (iblk m c 2 t) (iblk m c 3 t) (ix2 p k) = res6 m c (ix2 (at' t p) k) := by
  rw [out6_at, total_eq, iblk_2]
  rfl
theorem block_7 (p : Fin 512) (k : Fin 96) : out0_7 (iblk m c 0 t) (iblk m c 1 t) (iblk m c 2 t) (iblk m c 3 t) (ix2 p k) = res7 m c (ix2 (at' t p) k) := by
  rw [out7_at, total_eq, iblk_3]
  rfl

theorem arr_4 : (dats m 0 c).arrAt 4 cfg0.N = res4 m c := by
  refine (dats m 0 c).arrAt_eq_of_covers 4 _ (by decide +kernel) fun t _ y => ?_
  blk_simp
  rw [after0_4, eq_ix2 y]
  exact (block_4 m c t (y 0) (y 1)).trans (congrArg (res4 m c) (emb_4 t (y 0) (y 1))).symm
theorem arr_5 : (dats m 0 c).arrAt 5 cfg0.N = res5 m c := by
  refine (dats m 0 c).arrAt_eq_of_covers 5 _ (by decide +kernel) fun t _ y => ?_
  blk_simp
  rw [after0_5, eq_ix2 y]
  exact (block_5 m c t (y 0) (y 1)).trans (congrArg (res5 m c) (emb_5 t (y 0) (y 1))).symm
theorem arr_6 : (dats m 0 c).arrAt 6 cfg0.N = res6 m c := by
  refine (dats m 0 c).arrAt_eq_of_covers 6 _ (by decide +kernel) fun t _ y => ?_
  blk_simp
  rw [after0_6, eq_ix2 y]
  exact (block_6 m c t (y 0) (y 1)).trans (congrArg (res6 m c) (emb_6 t (y 0) (y 1))).symm
theorem arr_7 : (dats m 0 c).arrAt 7 cfg0.N = res7 m c := by
  refine (dats m 0 c).arrAt_eq_of_covers 7 _ (by decide +kernel) fun t _ y => ?_
  blk_simp
  rw [after0_7, eq_ix2 y]
  exact (block_7 m c t (y 0) (y 1)).trans (congrArg (res7 m c) (emb_7 t (y 0) (y 1))).symm
end

variable (m : (ℓ : Loc nD τ sig) → Buf (Elt Ideal) ℓ) (ρ : Dev nD → PrngReg)

/-- The call's run, with its results as the reference states them of the arguments. -/
theorem run_step : θ_run defs (onTc (τ := τ) (main (F := Ideal))) ⟨m, fun _ => 0, ρ⟩ (fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ r.2.mem ((c.tc : Thread nD τ).loc main_v0_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    let ⟨h4, h5, h6, h7, hr⟩ := h c
    ⟨h4.trans (arr_4 m c), h5.trans (arr_5 m c), h6.trans (arr_6 m c), h7.trans (arr_7 m c), hr⟩) (run_blocks m ρ)

/-- The call's results are the reference's, whatever the arguments. -/
theorem algebraic : Cert.algebraic_Kernel11Ideal_Reference11Ideal (hKernel11Ideal := Cert.Kernel11Ideal.Gen.facts) (hReference11Ideal := Cert.Reference11Ideal.Gen.facts) := by
  intro m g m' g' _ ha
  refine ⟨_, _, _, _, run_step m g, ?_⟩
  refine (θ_run _ _ _).mono (fun _ h c => ?_) (Cert.Reference11Ideal.Value.run m' g')
  obtain ⟨a0, a1, a2, a3⟩ := ha c
  obtain ⟨r0, r1, r2, r3, hr⟩ := h c
  have e0 : m' (c.tc.loc Cert.Reference11Ideal.main_arg0) = in0 m c := a0
  have e1 : m' (c.tc.loc Cert.Reference11Ideal.main_arg1) = in1 m c := a1
  have e2 : m' (c.tc.loc Cert.Reference11Ideal.main_arg2) = in2 m c := a2
  have e3 : m' (c.tc.loc Cert.Reference11Ideal.main_arg3) = in3 m c := a3
  rw [e0] at r0
  rw [e0, e1, e2, e3] at r1
  rw [e0, e2] at r2
  rw [e0, e3] at r3
  exact ⟨r0, r1, r2, r3, hr⟩

end Cert.Kernel11Ideal.Value

end
-- ==== Proof.Optimiser.KeyValue.lean ====
/- The optimiser's step of the key and value projection of the attention: the call and the reference agree in all four results. -/
module

public import proofs.«01_k».proof.Defs
public import proofs.«01_k».proof.Proof.Gen.Kernel12Ideal.Value
public import proofs.«01_k».proof.Proof.Gen.Reference12Ideal.Run
public import proofs.«01_k».proof.Proof.Optimiser.Spec
public import Idealize.ShloMosaic.Lib.Pipeline.ValueKit
public import Idealize.ShloMosaic.Lib.StableHlo.RunRead

@[expose] public section
set_option maxRecDepth 16384

noncomputable section

/-! ## The reference's gradient at an entry -/

namespace Cert.Reference12Ideal.Value

open Cert.Reference12Ideal Cert.Reference12Ideal.Gen Cert.Optimiser Idealize.ShloMosaic

variable (a : FVec Ideal S4x512x128 .bf16)

/-- The gradient: the sum of the parts. -/
def grad : FVec Ideal S512x128 .f32 := Host.reduceAdd (extf .f32 a bitsLt_bf16_f32) (constant S_ .f32 0x00000000#32) reducesTo_S4x512x128_S512x128_d0 h_S_
theorem grad_at (p : Fin 512) (k : Fin 128) : grad a (ix2 p k) = ∑ s : Fin 4, a (ix3 s p k) := by pointwise [grad]

end Cert.Reference12Ideal.Value

/-! ## The call's -/

namespace Cert.Kernel12Ideal.Value

open Cert.Kernel12Ideal Cert.Kernel12Ideal.Gen Cert.Optimiser Idealize.ShloMosaic Idealize.ShloMosaic.TcCoe Idealize.ShloMosaic.Pipeline

section
variable (x0 : Vec Ideal S4x512x128 .bf16) (x1 x2 x3 : Vec Ideal S512x128 .f32) (p : Fin 512) (k : Fin 128)

theorem origin : (![0, 0] : Fin 2 → ℕ) = fun _ => 0 := by funext i; fin_cases i <;> rfl
/-- The gradient at an entry of the blocks. -/
def total : Ideal .f32 := x0 (ix3 0 p k) + x0 (ix3 1 p k) + x0 (ix3 2 p k) + x0 (ix3 3 p k)

theorem out4_at : out0_4 x0 x1 x2 x3 (ix2 p k) = total x0 p k := by
  unfold out0_4 total
  rw [View.canon_unit_zero (S := S512x128) origin]
  pointwise [k0_pay2]
theorem out5_at : out0_5 x0 x1 x2 x3 (ix2 p k) = change (total x0 p k) (x1 (ix2 p k)) (x2 (ix2 p k)) (x3 (ix2 p k)) := by
  unfold out0_5 change mean meanSq total
  rw [View.canon_unit_zero (S := S512x128) origin, View.ld_unit_zero (S := S512x128) origin, View.ld_unit_zero (S := S512x128) origin, View.ld_unit_zero (S := S512x128) origin]
  pointwise [k0_pay1, k0_pay2, k0_pay3, k0_pay4, k0_pay5, k0_pay6]
theorem out6_at : out0_6 x0 x1 x2 x3 (ix2 p k) = mean (total x0 p k) (x2 (ix2 p k)) := by
  unfold out0_6 mean total
  rw [View.canon_unit_zero (S := S512x128) origin, View.ld_unit_zero (S := S512x128) origin]
  pointwise [k0_pay2, k0_pay3]
theorem out7_at : out0_7 x0 x1 x2 x3 (ix2 p k) = meanSq (total x0 p k) (x3 (ix2 p k)) := by
  unfold out0_7 meanSq total
  rw [View.canon_unit_zero (S := S512x128) origin, View.ld_unit_zero (S := S512x128) origin]
  pointwise [k0_pay2, k0_pay4]
end

section
variable (m : (ℓ : Loc nD τ sig) → Buf (Elt Ideal) ℓ) (c : Dev nD)

abbrev in0 : FVec Ideal S4x512x128 .bf16 := m (c.tc.loc main_arg0)
abbrev in1 : FVec Ideal S512x128 .f32 := m (c.tc.loc main_arg1)
abbrev in2 : FVec Ideal S512x128 .f32 := m (c.tc.loc main_arg2)
abbrev in3 : FVec Ideal S512x128 .f32 := m (c.tc.loc main_arg3)
def res4 : Vec Ideal S512x128 .f32 := Cert.Reference12Ideal.Value.grad (in0 m c)
def res5 : Vec Ideal S512x128 .f32 := delta Cert.Reference12Ideal.Gen.bcast_S_S512x128 (Cert.Reference12Ideal.Value.grad (in0 m c)) (in1 m c) (in2 m c) (in3 m c)
def res6 : Vec Ideal S512x128 .f32 := newMean Cert.Reference12Ideal.Gen.bcast_S_S512x128 (Cert.Reference12Ideal.Value.grad (in0 m c)) (in2 m c)
def res7 : Vec Ideal S512x128 .f32 := newMeanSq Cert.Reference12Ideal.Gen.bcast_S_S512x128 (Cert.Reference12Ideal.Value.grad (in0 m c)) (in3 m c)

theorem lt_N (t : Fin cfg0.N) : t.val < 1 := lt_of_lt_of_eq t.isLt (show cfg0.N = 1 from N_0)
theorem index0_0 : ∀ t : Fin cfg0.N, win0_0.index t = ![0, t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![t.val, 0] := by decide +kernel

variable (t : Fin cfg0.N)

/-- Row `p` of point `t`. -/
def at' (p : Fin 512) : Fin 512 := ⟨512 * t.val + p.val, by have := lt_N t; omega⟩

theorem iblk_0 (s : Fin 4) (p : Fin 512) (k : Fin 128) : (iblk m c 0 t : Vec Ideal S4x512x128 .bf16) (ix3 s p k) = in0 m c (ix3 s (at' t p) k) := by
  rw [in0, ← V_main_arg0 m c]
  blk_ext [iblk, index0_0 t, at']
theorem iblk_1 (p : Fin 512) (k : Fin 128) : (iblk m c 1 t : Vec Ideal S512x128 .f32) (ix2 p k) = in1 m c (ix2 (at' t p) k) := by
  rw [in1, ← V_main_arg1 m c]
  blk_ext [iblk, index0_1 t, at']
theorem iblk_2 (p : Fin 512) (k : Fin 128) : (iblk m c 2 t : Vec Ideal S512x128 .f32) (ix2 p k) = in2 m c (ix2 (at' t p) k) := by
  rw [in2, ← V_main_arg2 m c]
  blk_ext [iblk, index0_2 t, at']
theorem iblk_3 (p : Fin 512) (k : Fin 128) : (iblk m c 3 t : Vec Ideal S512x128 .f32) (ix2 p k) = in3 m c (ix2 (at' t p) k) := by
  rw [in3, ← V_main_arg3 m c]
  blk_ext [iblk, index0_3 t, at']
theorem total_eq (p : Fin 512) (k : Fin 128) : total (iblk m c 0 t) p k = Cert.Reference12Ideal.Value.grad (in0 m c) (ix2 (at' t p) k) := by
  unfold total
  rw [iblk_0, iblk_0, iblk_0, iblk_0, Cert.Reference12Ideal.Value.grad_at]
  exact parts_sum fun s => in0 m c (ix3 s (at' t p) k)

theorem emb_4 (p : Fin 512) (k : Fin 128) : (win0_4.blk t).view.emb (ix2 p k) = ix2 (at' t p) k := by blk_ext [index0_4 t, at']
theorem emb_5 (p : Fin 512) (k : Fin 128) : (win0_5.blk t).view.emb (ix2 p k) = ix2 (at' t p) k := by blk_ext [index0_5 t, at']
theorem emb_6 (p : Fin 512) (k : Fin 128) : (win0_6.blk t).view.emb (ix2 p k) = ix2 (at' t p) k := by blk_ext [index0_6 t, at']
theorem emb_7 (p : Fin 512) (k : Fin 128) : (win0_7.blk t).view.emb (ix2 p k) = ix2 (at' t p) k := by blk_ext [index0_7 t, at']

theorem block_4 (p : Fin 512) (k : Fin 128) : out0_4 (iblk m c 0 t) (iblk m c 1 t) (iblk m c 2 t) (iblk m c 3 t) (ix2 p k) = res4 m c (ix2 (at' t p) k) := by
  rw [out4_at, total_eq]
  rfl
theorem block_5 (p : Fin 512) (k : Fin 128) : out0_5 (iblk m c 0 t) (iblk m c 1 t) (iblk m c 2 t) (iblk m c 3 t) (ix2 p k) = res5 m c (ix2 (at' t p) k) := by
  rw [out5_at, total_eq, iblk_1, iblk_2, iblk_3]
  rfl
theorem block_6 (p : Fin 512) (k : Fin 128) : out0_6 (iblk m c 0 t) (iblk m c 1 t) (iblk m c 2 t) (iblk m c 3 t) (ix2 p k) = res6 m c (ix2 (at' t p) k) := by
  rw [out6_at, total_eq, iblk_2]
  rfl
theorem block_7 (p : Fin 512) (k : Fin 128) : out0_7 (iblk m c 0 t) (iblk m c 1 t) (iblk m c 2 t) (iblk m c 3 t) (ix2 p k) = res7 m c (ix2 (at' t p) k) := by
  rw [out7_at, total_eq, iblk_3]
  rfl

theorem arr_4 : (dats m 0 c).arrAt 4 cfg0.N = res4 m c := by
  refine (dats m 0 c).arrAt_eq_of_covers 4 _ (by decide +kernel) fun t _ y => ?_
  blk_simp
  rw [after0_4, eq_ix2 y]
  exact (block_4 m c t (y 0) (y 1)).trans (congrArg (res4 m c) (emb_4 t (y 0) (y 1))).symm
theorem arr_5 : (dats m 0 c).arrAt 5 cfg0.N = res5 m c := by
  refine (dats m 0 c).arrAt_eq_of_covers 5 _ (by decide +kernel) fun t _ y => ?_
  blk_simp
  rw [after0_5, eq_ix2 y]
  exact (block_5 m c t (y 0) (y 1)).trans (congrArg (res5 m c) (emb_5 t (y 0) (y 1))).symm
theorem arr_6 : (dats m 0 c).arrAt 6 cfg0.N = res6 m c := by
  refine (dats m 0 c).arrAt_eq_of_covers 6 _ (by decide +kernel) fun t _ y => ?_
  blk_simp
  rw [after0_6, eq_ix2 y]
  exact (block_6 m c t (y 0) (y 1)).trans (congrArg (res6 m c) (emb_6 t (y 0) (y 1))).symm
theorem arr_7 : (dats m 0 c).arrAt 7 cfg0.N = res7 m c := by
  refine (dats m 0 c).arrAt_eq_of_covers 7 _ (by decide +kernel) fun t _ y => ?_
  blk_simp
  rw [after0_7, eq_ix2 y]
  exact (block_7 m c t (y 0) (y 1)).trans (congrArg (res7 m c) (emb_7 t (y 0) (y 1))).symm
end

variable (m : (ℓ : Loc nD τ sig) → Buf (Elt Ideal) ℓ) (ρ : Dev nD → PrngReg)

/-- The call's run, with its results as the reference states them of the arguments. -/
theorem run_step : θ_run defs (onTc (τ := τ) (main (F := Ideal))) ⟨m, fun _ => 0, ρ⟩ (fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ r.2.mem ((c.tc : Thread nD τ).loc main_v0_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    let ⟨h4, h5, h6, h7, hr⟩ := h c
    ⟨h4.trans (arr_4 m c), h5.trans (arr_5 m c), h6.trans (arr_6 m c), h7.trans (arr_7 m c), hr⟩) (run_blocks m ρ)

/-- The call's results are the reference's, whatever the arguments. -/
theorem algebraic : Cert.algebraic_Kernel12Ideal_Reference12Ideal (hKernel12Ideal := Cert.Kernel12Ideal.Gen.facts) (hReference12Ideal := Cert.Reference12Ideal.Gen.facts) := by
  intro m g m' g' _ ha
  refine ⟨_, _, _, _, run_step m g, ?_⟩
  refine (θ_run _ _ _).mono (fun _ h c => ?_) (Cert.Reference12Ideal.Value.run m' g')
  obtain ⟨a0, a1, a2, a3⟩ := ha c
  obtain ⟨r0, r1, r2, r3, hr⟩ := h c
  have e0 : m' (c.tc.loc Cert.Reference12Ideal.main_arg0) = in0 m c := a0
  have e1 : m' (c.tc.loc Cert.Reference12Ideal.main_arg1) = in1 m c := a1
  have e2 : m' (c.tc.loc Cert.Reference12Ideal.main_arg2) = in2 m c := a2
  have e3 : m' (c.tc.loc Cert.Reference12Ideal.main_arg3) = in3 m c := a3
  rw [e0] at r0
  rw [e0, e1, e2, e3] at r1
  rw [e0, e2] at r2
  rw [e0, e3] at r3
  exact ⟨r0, r1, r2, r3, hr⟩

end Cert.Kernel12Ideal.Value

end
-- ==== Proof.Optimiser.Modulation.lean ====
/- The optimiser's step of the modulation: the call and the reference agree in all four results. -/
module

public import proofs.«01_k».proof.Defs
public import proofs.«01_k».proof.Proof.Gen.Kernel13Ideal.Value
public import proofs.«01_k».proof.Proof.Gen.Reference13Ideal.Run
public import proofs.«01_k».proof.Proof.Optimiser.Spec
public import Idealize.ShloMosaic.Lib.Pipeline.ValueKit
public import Idealize.ShloMosaic.Lib.StableHlo.RunRead

@[expose] public section
set_option maxRecDepth 16384

noncomputable section

/-! ## The reference's gradient at an entry -/

namespace Cert.Reference13Ideal.Value

open Cert.Reference13Ideal Cert.Reference13Ideal.Gen Cert.Optimiser Idealize.ShloMosaic

variable (a : FVec Ideal S1x2048x768 .f32)

/-- The gradient: the sum of the parts. -/
def grad : FVec Ideal S2048x768 .f32 := Host.reduceAdd a (constant S_ .f32 0x00000000#32) reducesTo_S1x2048x768_S2048x768_d0 h_S_
theorem grad_at (p : Fin 2048) (k : Fin 768) : grad a (ix2 p k) = ∑ s : Fin 1, a (ix3 s p k) := by pointwise [grad]

end Cert.Reference13Ideal.Value

/-! ## The call's -/

namespace Cert.Kernel13Ideal.Value

open Cert.Kernel13Ideal Cert.Kernel13Ideal.Gen Cert.Optimiser Idealize.ShloMosaic Idealize.ShloMosaic.TcCoe Idealize.ShloMosaic.Pipeline

section
variable (x0 : Vec Ideal S1x256x768 .f32) (x1 x2 x3 : Vec Ideal S256x768 .f32) (p : Fin 256) (k : Fin 768)

theorem origin : (![0, 0] : Fin 2 → ℕ) = fun _ => 0 := by funext i; fin_cases i <;> rfl
/-- The gradient at an entry of the blocks. -/
def total : Ideal .f32 := x0 (ix3 0 p k)

theorem out4_at : out0_4 x0 x1 x2 x3 (ix2 p k) = total x0 p k := by
  unfold out0_4 total
  rw [View.canon_unit_zero (S := S256x768) origin]
  pointwise [k0_pay1]
theorem out5_at : out0_5 x0 x1 x2 x3 (ix2 p k) = change (total x0 p k) (x1 (ix2 p k)) (x2 (ix2 p k)) (x3 (ix2 p k)) := by
  unfold out0_5 change mean meanSq total
  rw [View.canon_unit_zero (S := S256x768) origin, View.ld_unit_zero (S := S256x768) origin, View.ld_unit_zero (S := S256x768) origin, View.ld_unit_zero (S := S256x768) origin]
  pointwise [k0_pay1, k0_pay2, k0_pay3, k0_pay4]
theorem out6_at : out0_6 x0 x1 x2 x3 (ix2 p k) = mean (total x0 p k) (x2 (ix2 p k)) := by
  unfold out0_6 mean total
  rw [View.canon_unit_zero (S := S256x768) origin, View.ld_unit_zero (S := S256x768) origin]
  pointwise [k0_pay1, k0_pay2]
theorem out7_at : out0_7 x0 x1 x2 x3 (ix2 p k) = meanSq (total x0 p k) (x3 (ix2 p k)) := by
  unfold out0_7 meanSq total
  rw [View.canon_unit_zero (S := S256x768) origin, View.ld_unit_zero (S := S256x768) origin]
  pointwise [k0_pay1, k0_pay3]
end

section
variable (m : (ℓ : Loc nD τ sig) → Buf (Elt Ideal) ℓ) (c : Dev nD)

abbrev in0 : FVec Ideal S1x2048x768 .f32 := m (c.tc.loc main_arg0)
abbrev in1 : FVec Ideal S2048x768 .f32 := m (c.tc.loc main_arg1)
abbrev in2 : FVec Ideal S2048x768 .f32 := m (c.tc.loc main_arg2)
abbrev in3 : FVec Ideal S2048x768 .f32 := m (c.tc.loc main_arg3)
def res4 : Vec Ideal S2048x768 .f32 := Cert.Reference13Ideal.Value.grad (in0 m c)
def res5 : Vec Ideal S2048x768 .f32 := delta Cert.Reference13Ideal.Gen.bcast_S_S2048x768 (Cert.Reference13Ideal.Value.grad (in0 m c)) (in1 m c) (in2 m c) (in3 m c)
def res6 : Vec Ideal S2048x768 .f32 := newMean Cert.Reference13Ideal.Gen.bcast_S_S2048x768 (Cert.Reference13Ideal.Value.grad (in0 m c)) (in2 m c)
def res7 : Vec Ideal S2048x768 .f32 := newMeanSq Cert.Reference13Ideal.Gen.bcast_S_S2048x768 (Cert.Reference13Ideal.Value.grad (in0 m c)) (in3 m c)

theorem lt_N (t : Fin cfg0.N) : t.val < 8 := lt_of_lt_of_eq t.isLt (show cfg0.N = 8 from N_0)
theorem index0_0 : ∀ t : Fin cfg0.N, win0_0.index t = ![0, t.val, 0] := by decide +kernel
theorem index0_1 : ∀ t : Fin cfg0.N, win0_1.index t = ![t.val, 0] := by decide +kernel
theorem index0_2 : ∀ t : Fin cfg0.N, win0_2.index t = ![t.val, 0] := by decide +kernel
theorem index0_3 : ∀ t : Fin cfg0.N, win0_3.index t = ![t.val, 0] := by decide +kernel
theorem index0_4 : ∀ t : Fin cfg0.N, win0_4.index t = ![t.val, 0] := by decide +kernel
theorem index0_5 : ∀ t : Fin cfg0.N, win0_5.index t = ![t.val, 0] := by decide +kernel
theorem index0_6 : ∀ t : Fin cfg0.N, win0_6.index t = ![t.val, 0] := by decide +kernel
theorem index0_7 : ∀ t : Fin cfg0.N, win0_7.index t = ![t.val, 0] := by decide +kernel

variable (t : Fin cfg0.N)

/-- Row `p` of point `t`. -/
def at' (p : Fin 256) : Fin 2048 := ⟨256 * t.val + p.val, by have := lt_N t; omega⟩

theorem iblk_0 (s : Fin 1) (p : Fin 256) (k : Fin 768) : (iblk m c 0 t : Vec Ideal S1x256x768 .f32) (ix3 s p k) = in0 m c (ix3 s (at' t p) k) := by
  rw [in0, ← V_main_arg0 m c]
  blk_ext [iblk, index0_0 t, at']
theorem iblk_1 (p : Fin 256) (k : Fin 768) : (iblk m c 1 t : Vec Ideal S256x768 .f32) (ix2 p k) = in1 m c (ix2 (at' t p) k) := by
  rw [in1, ← V_main_arg1 m c]
  blk_ext [iblk, index0_1 t, at']
theorem iblk_2 (p : Fin 256) (k : Fin 768) : (iblk m c 2 t : Vec Ideal S256x768 .f32) (ix2 p k) = in2 m c (ix2 (at' t p) k) := by
  rw [in2, ← V_main_arg2 m c]
  blk_ext [iblk, index0_2 t, at']
theorem iblk_3 (p : Fin 256) (k : Fin 768) : (iblk m c 3 t : Vec Ideal S256x768 .f32) (ix2 p k) = in3 m c (ix2 (at' t p) k) := by
  rw [in3, ← V_main_arg3 m c]
  blk_ext [iblk, index0_3 t, at']
theorem total_eq (p : Fin 256) (k : Fin 768) : total (iblk m c 0 t) p k = Cert.Reference13Ideal.Value.grad (in0 m c) (ix2 (at' t p) k) := by
  unfold total
  rw [iblk_0, Cert.Reference13Ideal.Value.grad_at]
  exact part_sum fun s => in0 m c (ix3 s (at' t p) k)

theorem emb_4 (p : Fin 256) (k : Fin 768) : (win0_4.blk t).view.emb (ix2 p k) = ix2 (at' t p) k := by blk_ext [index0_4 t, at']
theorem emb_5 (p : Fin 256) (k : Fin 768) : (win0_5.blk t).view.emb (ix2 p k) = ix2 (at' t p) k := by blk_ext [index0_5 t, at']
theorem emb_6 (p : Fin 256) (k : Fin 768) : (win0_6.blk t).view.emb (ix2 p k) = ix2 (at' t p) k := by blk_ext [index0_6 t, at']
theorem emb_7 (p : Fin 256) (k : Fin 768) : (win0_7.blk t).view.emb (ix2 p k) = ix2 (at' t p) k := by blk_ext [index0_7 t, at']

theorem block_4 (p : Fin 256) (k : Fin 768) : out0_4 (iblk m c 0 t) (iblk m c 1 t) (iblk m c 2 t) (iblk m c 3 t) (ix2 p k) = res4 m c (ix2 (at' t p) k) := by
  rw [out4_at, total_eq]
  rfl
theorem block_5 (p : Fin 256) (k : Fin 768) : out0_5 (iblk m c 0 t) (iblk m c 1 t) (iblk m c 2 t) (iblk m c 3 t) (ix2 p k) = res5 m c (ix2 (at' t p) k) := by
  rw [out5_at, total_eq, iblk_1, iblk_2, iblk_3]
  rfl
theorem block_6 (p : Fin 256) (k : Fin 768) : out0_6 (iblk m c 0 t) (iblk m c 1 t) (iblk m c 2 t) (iblk m c 3 t) (ix2 p k) = res6 m c (ix2 (at' t p) k) := by
  rw [out6_at, total_eq, iblk_2]
  rfl
theorem block_7 (p : Fin 256) (k : Fin 768) : out0_7 (iblk m c 0 t) (iblk m c 1 t) (iblk m c 2 t) (iblk m c 3 t) (ix2 p k) = res7 m c (ix2 (at' t p) k) := by
  rw [out7_at, total_eq, iblk_3]
  rfl

theorem arr_4 : (dats m 0 c).arrAt 4 cfg0.N = res4 m c := by
  refine (dats m 0 c).arrAt_eq_of_covers 4 _ (by decide +kernel) fun t _ y => ?_
  blk_simp
  rw [after0_4, eq_ix2 y]
  exact (block_4 m c t (y 0) (y 1)).trans (congrArg (res4 m c) (emb_4 t (y 0) (y 1))).symm
theorem arr_5 : (dats m 0 c).arrAt 5 cfg0.N = res5 m c := by
  refine (dats m 0 c).arrAt_eq_of_covers 5 _ (by decide +kernel) fun t _ y => ?_
  blk_simp
  rw [after0_5, eq_ix2 y]
  exact (block_5 m c t (y 0) (y 1)).trans (congrArg (res5 m c) (emb_5 t (y 0) (y 1))).symm
theorem arr_6 : (dats m 0 c).arrAt 6 cfg0.N = res6 m c := by
  refine (dats m 0 c).arrAt_eq_of_covers 6 _ (by decide +kernel) fun t _ y => ?_
  blk_simp
  rw [after0_6, eq_ix2 y]
  exact (block_6 m c t (y 0) (y 1)).trans (congrArg (res6 m c) (emb_6 t (y 0) (y 1))).symm
theorem arr_7 : (dats m 0 c).arrAt 7 cfg0.N = res7 m c := by
  refine (dats m 0 c).arrAt_eq_of_covers 7 _ (by decide +kernel) fun t _ y => ?_
  blk_simp
  rw [after0_7, eq_ix2 y]
  exact (block_7 m c t (y 0) (y 1)).trans (congrArg (res7 m c) (emb_7 t (y 0) (y 1))).symm
end

variable (m : (ℓ : Loc nD τ sig) → Buf (Elt Ideal) ℓ) (ρ : Dev nD → PrngReg)

/-- The call's run, with its results as the reference states them of the arguments. -/
theorem run_step : θ_run defs (onTc (τ := τ) (main (F := Ideal))) ⟨m, fun _ => 0, ρ⟩ (fun r => ∀ c : Dev nD,
      r.2.mem ((c.tc : Thread nD τ).loc main_v0_0) = res4 m c
      ∧ r.2.mem ((c.tc : Thread nD τ).loc main_v0_1) = res5 m c
      ∧ r.2.mem ((c.tc : Thread nD τ).loc main_v0_2) = res6 m c
      ∧ r.2.mem ((c.tc : Thread nD τ).loc main_v0_3) = res7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    let ⟨h4, h5, h6, h7, hr⟩ := h c
    ⟨h4.trans (arr_4 m c), h5.trans (arr_5 m c), h6.trans (arr_6 m c), h7.trans (arr_7 m c), hr⟩) (run_blocks m ρ)

/-- The call's results are the reference's, whatever the arguments. -/
theorem algebraic : Cert.algebraic_Kernel13Ideal_Reference13Ideal (hKernel13Ideal := Cert.Kernel13Ideal.Gen.facts) (hReference13Ideal := Cert.Reference13Ideal.Gen.facts) := by
  intro m g m' g' _ ha
  refine ⟨_, _, _, _, run_step m g, ?_⟩
  refine (θ_run _ _ _).mono (fun _ h c => ?_) (Cert.Reference13Ideal.Value.run m' g')
  obtain ⟨a0, a1, a2, a3⟩ := ha c
  obtain ⟨r0, r1, r2, r3, hr⟩ := h c
  have e0 : m' (c.tc.loc Cert.Reference13Ideal.main_arg0) = in0 m c := a0
  have e1 : m' (c.tc.loc Cert.Reference13Ideal.main_arg1) = in1 m c := a1
  have e2 : m' (c.tc.loc Cert.Reference13Ideal.main_arg2) = in2 m c := a2
  have e3 : m' (c.tc.loc Cert.Reference13Ideal.main_arg3) = in3 m c := a3
  rw [e0] at r0
  rw [e0, e1, e2, e3] at r1
  rw [e0, e2] at r2
  rw [e0, e3] at r3
  exact ⟨r0, r1, r2, r3, hr⟩

end Cert.Kernel13Ideal.Value

end
-- ==== Proof.lean ====
/- The claims: each program runs, leaves its arguments unchanged and its semaphores at zero; the idealized kernel is the kernel with its
   one named constant read as log 2; and from finite arguments it computes the reference's gradients. The runs are in Proof/Run and
   Proof/RunKernel, one text at two programs that differ in that constant; the values are in Proof/Value. Programs 2, 4 and 5 are the
   weights' gradients, with values in Proof/Product; program 3 is the FFN's gradient, in Proof/Ffn; program 6 is the forward call of the
   output projection and the FFN, in Proof/Forward; programs 7 to 13 are the optimiser's steps of the large weights, in Proof/Optimiser. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Run.Launch
public import proofs.«01_k».proof.Proof.RunKernel.Launch
public import proofs.«01_k».proof.Proof.Gen.ReferenceIdeal
public import proofs.«01_k».proof.Proof.Gen.ReferenceIdeal.Run
public import proofs.«01_k».proof.Proof.Value.Agree
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Product.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Product.ValueIn
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Product.ValueOut
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Ffn.Agree
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Forward.Agree
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Optimiser.First
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Optimiser.Second
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Optimiser.Out
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Optimiser.In
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Optimiser.Query
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Optimiser.KeyValue
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Optimiser.Modulation
public import Idealize.ShloMosaic.Adequacy
public import Idealize.ShloMosaic.Init

@[expose] public section

noncomputable section

namespace Cert.Proof

open Idealize.ShloMosaic Idealize.SL.Sem

/-- The reference's frame: it has no semaphores, and its lines write only their own results. -/
theorem frame_reference {F : FTy → Type} [FloatOps F] [Named F] (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3)
        ∧ r.2.mem (c.tc.loc Cert.ReferenceIdeal.main_arg4) = m (c.tc.loc Cert.ReferenceIdeal.main_arg4)
        ∧ r.2.mem (c.tc.loc Cert.ReferenceIdeal.main_arg5) = m (c.tc.loc Cert.ReferenceIdeal.main_arg5)) ∧ r.2.sem = fun _ => 0) :=
  (θ_run _ _ _).mono (fun _ h => ⟨fun c => (h c).2.2.2.2.2, sem_eq_zero_of_no_sems (by decide) _⟩) (Cert.ReferenceIdeal.Value.run m ρ)

theorem frame_reference2 {F : FTy → Type} [FloatOps F] (m : (ℓ : Loc Cert.Reference2Ideal.nD Cert.Reference2Ideal.τ Cert.Reference2Ideal.sig) → Buf (Elt F) ℓ)
    (ρ : Dev Cert.Reference2Ideal.nD → PrngReg) :
    θ_run (Cert.Reference2Ideal.defs (F := F)) (onTc (τ := Cert.Reference2Ideal.τ) (Cert.Reference2Ideal.main (F := F))) ⟨m, fun _ => 0, ρ⟩
      (fun r => (∀ c : Dev Cert.Reference2Ideal.nD,
        r.2.mem (c.tc.loc Cert.Reference2Ideal.main_arg0) = m (c.tc.loc Cert.Reference2Ideal.main_arg0)
        ∧ r.2.mem (c.tc.loc Cert.Reference2Ideal.main_arg1) = m (c.tc.loc Cert.Reference2Ideal.main_arg1)) ∧ r.2.sem = fun _ => 0) :=
  (θ_run _ _ _).mono (fun _ h => ⟨fun c => (h c).2, sem_eq_zero_of_no_sems (by decide) _⟩) (Cert.Reference2Ideal.Value.run m ρ)

theorem frame_reference4 {F : FTy → Type} [FloatOps F] (m : (ℓ : Loc Cert.Reference4Ideal.nD Cert.Reference4Ideal.τ Cert.Reference4Ideal.sig) → Buf (Elt F) ℓ)
    (ρ : Dev Cert.Reference4Ideal.nD → PrngReg) :
    θ_run (Cert.Reference4Ideal.defs (F := F)) (onTc (τ := Cert.Reference4Ideal.τ) (Cert.Reference4Ideal.main (F := F))) ⟨m, fun _ => 0, ρ⟩
      (fun r => (∀ c : Dev Cert.Reference4Ideal.nD,
        r.2.mem (c.tc.loc Cert.Reference4Ideal.main_arg0) = m (c.tc.loc Cert.Reference4Ideal.main_arg0)
        ∧ r.2.mem (c.tc.loc Cert.Reference4Ideal.main_arg1) = m (c.tc.loc Cert.Reference4Ideal.main_arg1)) ∧ r.2.sem = fun _ => 0) :=
  (θ_run _ _ _).mono (fun _ h => ⟨fun c => (h c).2, sem_eq_zero_of_no_sems (by decide) _⟩) (Cert.Reference4Ideal.Value.run m ρ)

theorem frame_reference5 {F : FTy → Type} [FloatOps F] (m : (ℓ : Loc Cert.Reference5Ideal.nD Cert.Reference5Ideal.τ Cert.Reference5Ideal.sig) → Buf (Elt F) ℓ)
    (ρ : Dev Cert.Reference5Ideal.nD → PrngReg) :
    θ_run (Cert.Reference5Ideal.defs (F := F)) (onTc (τ := Cert.Reference5Ideal.τ) (Cert.Reference5Ideal.main (F := F))) ⟨m, fun _ => 0, ρ⟩
      (fun r => (∀ c : Dev Cert.Reference5Ideal.nD,
        r.2.mem (c.tc.loc Cert.Reference5Ideal.main_arg0) = m (c.tc.loc Cert.Reference5Ideal.main_arg0)
        ∧ r.2.mem (c.tc.loc Cert.Reference5Ideal.main_arg1) = m (c.tc.loc Cert.Reference5Ideal.main_arg1)) ∧ r.2.sem = fun _ => 0) :=
  (θ_run _ _ _).mono (fun _ h => ⟨fun c => (h c).2, sem_eq_zero_of_no_sems (by decide) _⟩) (Cert.Reference5Ideal.Value.run m ρ)

theorem frame_reference3 {F : FTy → Type} [FloatOps F] (m : (ℓ : Loc Cert.Reference3Ideal.nD Cert.Reference3Ideal.τ Cert.Reference3Ideal.sig) → Buf (Elt F) ℓ)
    (ρ : Dev Cert.Reference3Ideal.nD → PrngReg) :
    θ_run (Cert.Reference3Ideal.defs (F := F)) (onTc (τ := Cert.Reference3Ideal.τ) (Cert.Reference3Ideal.main (F := F))) ⟨m, fun _ => 0, ρ⟩
      (fun r => (∀ c : Dev Cert.Reference3Ideal.nD,
        r.2.mem (c.tc.loc Cert.Reference3Ideal.main_arg0) = m (c.tc.loc Cert.Reference3Ideal.main_arg0)
        ∧ r.2.mem (c.tc.loc Cert.Reference3Ideal.main_arg1) = m (c.tc.loc Cert.Reference3Ideal.main_arg1)
        ∧ r.2.mem (c.tc.loc Cert.Reference3Ideal.main_arg2) = m (c.tc.loc Cert.Reference3Ideal.main_arg2)
        ∧ r.2.mem (c.tc.loc Cert.Reference3Ideal.main_arg3) = m (c.tc.loc Cert.Reference3Ideal.main_arg3)
        ∧ r.2.mem (c.tc.loc Cert.Reference3Ideal.main_arg4) = m (c.tc.loc Cert.Reference3Ideal.main_arg4)
        ∧ r.2.mem (c.tc.loc Cert.Reference3Ideal.main_arg5) = m (c.tc.loc Cert.Reference3Ideal.main_arg5)) ∧ r.2.sem = fun _ => 0) :=
  (θ_run _ _ _).mono (fun _ h => ⟨fun c => (h c).2.2.2.2.2.2.2, sem_eq_zero_of_no_sems (by decide) _⟩) (Cert.Reference3Ideal.Value.run m ρ)

theorem frame_reference6 {F : FTy → Type} [FloatOps F] (m : (ℓ : Loc Cert.Reference6Ideal.nD Cert.Reference6Ideal.τ Cert.Reference6Ideal.sig) → Buf (Elt F) ℓ)
    (ρ : Dev Cert.Reference6Ideal.nD → PrngReg) :
    θ_run (Cert.Reference6Ideal.defs (F := F)) (onTc (τ := Cert.Reference6Ideal.τ) (Cert.Reference6Ideal.main (F := F))) ⟨m, fun _ => 0, ρ⟩
      (fun r => (∀ c : Dev Cert.Reference6Ideal.nD,
        r.2.mem (c.tc.loc Cert.Reference6Ideal.main_arg0) = m (c.tc.loc Cert.Reference6Ideal.main_arg0)
        ∧ r.2.mem (c.tc.loc Cert.Reference6Ideal.main_arg1) = m (c.tc.loc Cert.Reference6Ideal.main_arg1)
        ∧ r.2.mem (c.tc.loc Cert.Reference6Ideal.main_arg2) = m (c.tc.loc Cert.Reference6Ideal.main_arg2)
        ∧ r.2.mem (c.tc.loc Cert.Reference6Ideal.main_arg3) = m (c.tc.loc Cert.Reference6Ideal.main_arg3)
        ∧ r.2.mem (c.tc.loc Cert.Reference6Ideal.main_arg4) = m (c.tc.loc Cert.Reference6Ideal.main_arg4)
        ∧ r.2.mem (c.tc.loc Cert.Reference6Ideal.main_arg5) = m (c.tc.loc Cert.Reference6Ideal.main_arg5)
        ∧ r.2.mem (c.tc.loc Cert.Reference6Ideal.main_arg6) = m (c.tc.loc Cert.Reference6Ideal.main_arg6)
        ∧ r.2.mem (c.tc.loc Cert.Reference6Ideal.main_arg7) = m (c.tc.loc Cert.Reference6Ideal.main_arg7)
        ∧ r.2.mem (c.tc.loc Cert.Reference6Ideal.main_arg8) = m (c.tc.loc Cert.Reference6Ideal.main_arg8)
        ∧ r.2.mem (c.tc.loc Cert.Reference6Ideal.main_arg9) = m (c.tc.loc Cert.Reference6Ideal.main_arg9)
        ∧ r.2.mem (c.tc.loc Cert.Reference6Ideal.main_arg10) = m (c.tc.loc Cert.Reference6Ideal.main_arg10)
        ∧ r.2.mem (c.tc.loc Cert.Reference6Ideal.main_arg11) = m (c.tc.loc Cert.Reference6Ideal.main_arg11)) ∧ r.2.sem = fun _ => 0) :=
  (θ_run _ _ _).mono (fun _ h => ⟨fun c => (h c).2.2.2, sem_eq_zero_of_no_sems (by decide) _⟩) (Cert.Reference6Ideal.Value.run m ρ)

theorem frame_reference7 {F : FTy → Type} [FloatOps F] (m : (ℓ : Loc Cert.Reference7Ideal.nD Cert.Reference7Ideal.τ Cert.Reference7Ideal.sig) → Buf (Elt F) ℓ)
    (ρ : Dev Cert.Reference7Ideal.nD → PrngReg) :
    θ_run (Cert.Reference7Ideal.defs (F := F)) (onTc (τ := Cert.Reference7Ideal.τ) (Cert.Reference7Ideal.main (F := F))) ⟨m, fun _ => 0, ρ⟩
      (fun r => (∀ c : Dev Cert.Reference7Ideal.nD,
        r.2.mem (c.tc.loc Cert.Reference7Ideal.main_arg0) = m (c.tc.loc Cert.Reference7Ideal.main_arg0)
        ∧ r.2.mem (c.tc.loc Cert.Reference7Ideal.main_arg1) = m (c.tc.loc Cert.Reference7Ideal.main_arg1)
        ∧ r.2.mem (c.tc.loc Cert.Reference7Ideal.main_arg2) = m (c.tc.loc Cert.Reference7Ideal.main_arg2)
        ∧ r.2.mem (c.tc.loc Cert.Reference7Ideal.main_arg3) = m (c.tc.loc Cert.Reference7Ideal.main_arg3)) ∧ r.2.sem = fun _ => 0) :=
  (θ_run _ _ _).mono (fun _ h => ⟨fun c => (h c).2.2.2.2, sem_eq_zero_of_no_sems (by decide) _⟩) (Cert.Reference7Ideal.Value.run m ρ)

theorem frame_reference8 {F : FTy → Type} [FloatOps F] (m : (ℓ : Loc Cert.Reference8Ideal.nD Cert.Reference8Ideal.τ Cert.Reference8Ideal.sig) → Buf (Elt F) ℓ)
    (ρ : Dev Cert.Reference8Ideal.nD → PrngReg) :
    θ_run (Cert.Reference8Ideal.defs (F := F)) (onTc (τ := Cert.Reference8Ideal.τ) (Cert.Reference8Ideal.main (F := F))) ⟨m, fun _ => 0, ρ⟩
      (fun r => (∀ c : Dev Cert.Reference8Ideal.nD,
        r.2.mem (c.tc.loc Cert.Reference8Ideal.main_arg0) = m (c.tc.loc Cert.Reference8Ideal.main_arg0)
        ∧ r.2.mem (c.tc.loc Cert.Reference8Ideal.main_arg1) = m (c.tc.loc Cert.Reference8Ideal.main_arg1)
        ∧ r.2.mem (c.tc.loc Cert.Reference8Ideal.main_arg2) = m (c.tc.loc Cert.Reference8Ideal.main_arg2)
        ∧ r.2.mem (c.tc.loc Cert.Reference8Ideal.main_arg3) = m (c.tc.loc Cert.Reference8Ideal.main_arg3)) ∧ r.2.sem = fun _ => 0) :=
  (θ_run _ _ _).mono (fun _ h => ⟨fun c => (h c).2.2.2.2, sem_eq_zero_of_no_sems (by decide) _⟩) (Cert.Reference8Ideal.Value.run m ρ)

theorem frame_reference9 {F : FTy → Type} [FloatOps F] (m : (ℓ : Loc Cert.Reference9Ideal.nD Cert.Reference9Ideal.τ Cert.Reference9Ideal.sig) → Buf (Elt F) ℓ)
    (ρ : Dev Cert.Reference9Ideal.nD → PrngReg) :
    θ_run (Cert.Reference9Ideal.defs (F := F)) (onTc (τ := Cert.Reference9Ideal.τ) (Cert.Reference9Ideal.main (F := F))) ⟨m, fun _ => 0, ρ⟩
      (fun r => (∀ c : Dev Cert.Reference9Ideal.nD,
        r.2.mem (c.tc.loc Cert.Reference9Ideal.main_arg0) = m (c.tc.loc Cert.Reference9Ideal.main_arg0)
        ∧ r.2.mem (c.tc.loc Cert.Reference9Ideal.main_arg1) = m (c.tc.loc Cert.Reference9Ideal.main_arg1)
        ∧ r.2.mem (c.tc.loc Cert.Reference9Ideal.main_arg2) = m (c.tc.loc Cert.Reference9Ideal.main_arg2)
        ∧ r.2.mem (c.tc.loc Cert.Reference9Ideal.main_arg3) = m (c.tc.loc Cert.Reference9Ideal.main_arg3)) ∧ r.2.sem = fun _ => 0) :=
  (θ_run _ _ _).mono (fun _ h => ⟨fun c => (h c).2.2.2.2, sem_eq_zero_of_no_sems (by decide) _⟩) (Cert.Reference9Ideal.Value.run m ρ)

theorem frame_reference10 {F : FTy → Type} [FloatOps F] (m : (ℓ : Loc Cert.Reference10Ideal.nD Cert.Reference10Ideal.τ Cert.Reference10Ideal.sig) → Buf (Elt F) ℓ)
    (ρ : Dev Cert.Reference10Ideal.nD → PrngReg) :
    θ_run (Cert.Reference10Ideal.defs (F := F)) (onTc (τ := Cert.Reference10Ideal.τ) (Cert.Reference10Ideal.main (F := F))) ⟨m, fun _ => 0, ρ⟩
      (fun r => (∀ c : Dev Cert.Reference10Ideal.nD,
        r.2.mem (c.tc.loc Cert.Reference10Ideal.main_arg0) = m (c.tc.loc Cert.Reference10Ideal.main_arg0)
        ∧ r.2.mem (c.tc.loc Cert.Reference10Ideal.main_arg1) = m (c.tc.loc Cert.Reference10Ideal.main_arg1)
        ∧ r.2.mem (c.tc.loc Cert.Reference10Ideal.main_arg2) = m (c.tc.loc Cert.Reference10Ideal.main_arg2)
        ∧ r.2.mem (c.tc.loc Cert.Reference10Ideal.main_arg3) = m (c.tc.loc Cert.Reference10Ideal.main_arg3)) ∧ r.2.sem = fun _ => 0) :=
  (θ_run _ _ _).mono (fun _ h => ⟨fun c => (h c).2.2.2.2, sem_eq_zero_of_no_sems (by decide) _⟩) (Cert.Reference10Ideal.Value.run m ρ)

theorem frame_reference11 {F : FTy → Type} [FloatOps F] (m : (ℓ : Loc Cert.Reference11Ideal.nD Cert.Reference11Ideal.τ Cert.Reference11Ideal.sig) → Buf (Elt F) ℓ)
    (ρ : Dev Cert.Reference11Ideal.nD → PrngReg) :
    θ_run (Cert.Reference11Ideal.defs (F := F)) (onTc (τ := Cert.Reference11Ideal.τ) (Cert.Reference11Ideal.main (F := F))) ⟨m, fun _ => 0, ρ⟩
      (fun r => (∀ c : Dev Cert.Reference11Ideal.nD,
        r.2.mem (c.tc.loc Cert.Reference11Ideal.main_arg0) = m (c.tc.loc Cert.Reference11Ideal.main_arg0)
        ∧ r.2.mem (c.tc.loc Cert.Reference11Ideal.main_arg1) = m (c.tc.loc Cert.Reference11Ideal.main_arg1)
        ∧ r.2.mem (c.tc.loc Cert.Reference11Ideal.main_arg2) = m (c.tc.loc Cert.Reference11Ideal.main_arg2)
        ∧ r.2.mem (c.tc.loc Cert.Reference11Ideal.main_arg3) = m (c.tc.loc Cert.Reference11Ideal.main_arg3)) ∧ r.2.sem = fun _ => 0) :=
  (θ_run _ _ _).mono (fun _ h => ⟨fun c => (h c).2.2.2.2, sem_eq_zero_of_no_sems (by decide) _⟩) (Cert.Reference11Ideal.Value.run m ρ)

theorem frame_reference12 {F : FTy → Type} [FloatOps F] (m : (ℓ : Loc Cert.Reference12Ideal.nD Cert.Reference12Ideal.τ Cert.Reference12Ideal.sig) → Buf (Elt F) ℓ)
    (ρ : Dev Cert.Reference12Ideal.nD → PrngReg) :
    θ_run (Cert.Reference12Ideal.defs (F := F)) (onTc (τ := Cert.Reference12Ideal.τ) (Cert.Reference12Ideal.main (F := F))) ⟨m, fun _ => 0, ρ⟩
      (fun r => (∀ c : Dev Cert.Reference12Ideal.nD,
        r.2.mem (c.tc.loc Cert.Reference12Ideal.main_arg0) = m (c.tc.loc Cert.Reference12Ideal.main_arg0)
        ∧ r.2.mem (c.tc.loc Cert.Reference12Ideal.main_arg1) = m (c.tc.loc Cert.Reference12Ideal.main_arg1)
        ∧ r.2.mem (c.tc.loc Cert.Reference12Ideal.main_arg2) = m (c.tc.loc Cert.Reference12Ideal.main_arg2)
        ∧ r.2.mem (c.tc.loc Cert.Reference12Ideal.main_arg3) = m (c.tc.loc Cert.Reference12Ideal.main_arg3)) ∧ r.2.sem = fun _ => 0) :=
  (θ_run _ _ _).mono (fun _ h => ⟨fun c => (h c).2.2.2.2, sem_eq_zero_of_no_sems (by decide) _⟩) (Cert.Reference12Ideal.Value.run m ρ)

theorem frame_reference13 {F : FTy → Type} [FloatOps F] (m : (ℓ : Loc Cert.Reference13Ideal.nD Cert.Reference13Ideal.τ Cert.Reference13Ideal.sig) → Buf (Elt F) ℓ)
    (ρ : Dev Cert.Reference13Ideal.nD → PrngReg) :
    θ_run (Cert.Reference13Ideal.defs (F := F)) (onTc (τ := Cert.Reference13Ideal.τ) (Cert.Reference13Ideal.main (F := F))) ⟨m, fun _ => 0, ρ⟩
      (fun r => (∀ c : Dev Cert.Reference13Ideal.nD,
        r.2.mem (c.tc.loc Cert.Reference13Ideal.main_arg0) = m (c.tc.loc Cert.Reference13Ideal.main_arg0)
        ∧ r.2.mem (c.tc.loc Cert.Reference13Ideal.main_arg1) = m (c.tc.loc Cert.Reference13Ideal.main_arg1)
        ∧ r.2.mem (c.tc.loc Cert.Reference13Ideal.main_arg2) = m (c.tc.loc Cert.Reference13Ideal.main_arg2)
        ∧ r.2.mem (c.tc.loc Cert.Reference13Ideal.main_arg3) = m (c.tc.loc Cert.Reference13Ideal.main_arg3)) ∧ r.2.sem = fun _ => 0) :=
  (θ_run _ _ _).mono (fun _ h => ⟨fun c => (h c).2.2.2.2, sem_eq_zero_of_no_sems (by decide) _⟩) (Cert.Reference13Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel3.Gen.facts, Cert.Kernel3Ideal.Gen.facts, Cert.Reference3Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts,
  Cert.KernelIdeal.Value.pre_facts,
  fun m ρ _ => Cert.Kernel.Run.frame m ρ, fun m ρ _ => Cert.KernelIdeal.Run.frame m ρ, fun m ρ _ => Cert.KernelIdeal.Run.frame m ρ,
  fun m ρ _ => frame_reference m ρ, fun m ρ _ => frame_reference m ρ,
  fun m ρ _ => Cert.Kernel2.Gen.frame m ρ, fun m ρ _ => Cert.Kernel2Ideal.Gen.frame m ρ, fun m ρ _ => frame_reference2 m ρ,
  fun m ρ _ => Cert.Kernel4.Gen.frame m ρ, fun m ρ _ => Cert.Kernel4Ideal.Gen.frame m ρ, fun m ρ _ => frame_reference4 m ρ,
  fun m ρ _ => Cert.Kernel5.Gen.frame m ρ, fun m ρ _ => Cert.Kernel5Ideal.Gen.frame m ρ, fun m ρ _ => frame_reference5 m ρ,
  Cert.Kernel3Ideal.Run.frame_kernel, fun m ρ _ => Cert.Kernel3Ideal.Run.frame m ρ, fun m ρ _ => frame_reference3 m ρ,
  fun m ρ _ => Cert.Kernel6.Gen.frame m ρ, fun m ρ _ => Cert.Kernel6Ideal.Gen.frame m ρ, fun m ρ _ => frame_reference6 m ρ,
  fun m ρ _ => Cert.Kernel7.Gen.frame m ρ, fun m ρ _ => Cert.Kernel7Ideal.Gen.frame m ρ, fun m ρ _ => frame_reference7 m ρ,
  fun m ρ _ => Cert.Kernel8.Gen.frame m ρ, fun m ρ _ => Cert.Kernel8Ideal.Gen.frame m ρ, fun m ρ _ => frame_reference8 m ρ,
  fun m ρ _ => Cert.Kernel9.Gen.frame m ρ, fun m ρ _ => Cert.Kernel9Ideal.Gen.frame m ρ, fun m ρ _ => frame_reference9 m ρ,
  fun m ρ _ => Cert.Kernel10.Gen.frame m ρ, fun m ρ _ => Cert.Kernel10Ideal.Gen.frame m ρ, fun m ρ _ => frame_reference10 m ρ,
  fun m ρ _ => Cert.Kernel11.Gen.frame m ρ, fun m ρ _ => Cert.Kernel11Ideal.Gen.frame m ρ, fun m ρ _ => frame_reference11 m ρ,
  fun m ρ _ => Cert.Kernel12.Gen.frame m ρ, fun m ρ _ => Cert.Kernel12Ideal.Gen.frame m ρ, fun m ρ _ => frame_reference12 m ρ,
  fun m ρ _ => Cert.Kernel13.Gen.frame m ρ, fun m ρ _ => Cert.Kernel13Ideal.Gen.frame m ρ, fun m ρ _ => frame_reference13 m ρ,
  IdealRules.named_const.statement Cert.KernelIdeal.κ "ln2" .f32 0x3F317218#32 ((Real.log 2 : ℝ) : EReal) rfl, Cert.KernelIdeal.Value.algebraic,
  trivial, Cert.Kernel2Ideal.Value.algebraic,
  trivial, Cert.Kernel4Ideal.Value.algebraic,
  trivial, Cert.Kernel5Ideal.Value.algebraic,
  trivial, Cert.Kernel3Ideal.Value.algebraic,
  trivial, Cert.Kernel6Ideal.Value.algebraic,
  trivial, Cert.Kernel7Ideal.Value.algebraic,
  trivial, Cert.Kernel8Ideal.Value.algebraic,
  trivial, Cert.Kernel9Ideal.Value.algebraic,
  trivial, Cert.Kernel10Ideal.Value.algebraic,
  trivial, Cert.Kernel11Ideal.Value.algebraic,
  trivial, Cert.Kernel12Ideal.Value.algebraic,
  trivial, Cert.Kernel13Ideal.Value.algebraic⟩

end Cert.Proof

end
